-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9)) (v1 : (c : Dev Cert.Kernel9Ideal.nD) → Buf (Elt Ideal) ((c.tc : Thread Cert.Kernel9Ideal.nD Cert.Kernel9Ideal.τ).loc Cert.Kernel9Ideal.main_v12)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_v12) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v67) = v0 c
          ∧ r.2.mem ((c.tc : Thread Cert.Reference9Ideal.nD Cert.Reference9Ideal.τ).loc Cert.Reference9Ideal.main_v64) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v3_0)) (v2 : (c : Dev Cert.Kernel10Ideal.nD) → Buf (Elt Ideal) ((c.tc : Thread Cert.Kernel10Ideal.nD Cert.Kernel10Ideal.τ).loc Cert.Kernel10Ideal.main_v4_0)) (v3 : (c : Dev Cert.Kernel10Ideal.nD) → Buf (Elt Ideal) ((c.tc : Thread Cert.Kernel10Ideal.nD Cert.Kernel10Ideal.τ).loc Cert.Kernel10Ideal.main_v5)) (v4 : (c : Dev Cert.Kernel10Ideal.nD) → Buf (Elt Ideal) ((c.tc : Thread Cert.Kernel10Ideal.nD Cert.Kernel10Ideal.τ).loc Cert.Kernel10Ideal.main_v8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v3_0) = v1 c
          ∧ r.2.mem ((c.tc : Thread Cert.Kernel10Ideal.nD Cert.Kernel10Ideal.τ).loc Cert.Kernel10Ideal.main_v4_0) = v2 c
          ∧ r.2.mem ((c.tc : Thread Cert.Kernel10Ideal.nD Cert.Kernel10Ideal.τ).loc Cert.Kernel10Ideal.main_v5) = v3 c
          ∧ r.2.mem ((c.tc : Thread Cert.Kernel10Ideal.nD Cert.Kernel10Ideal.τ).loc Cert.Kernel10Ideal.main_v8) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v56) = v0 c
          ∧ r.2.mem ((c.tc : Thread Cert.Reference10Ideal.nD Cert.Reference10Ideal.τ).loc Cert.Reference10Ideal.main_v92) = v1 c
          ∧ r.2.mem ((c.tc : Thread Cert.Reference10Ideal.nD Cert.Reference10Ideal.τ).loc Cert.Reference10Ideal.main_v90) = v2 c
          ∧ r.2.mem ((c.tc : Thread Cert.Reference10Ideal.nD Cert.Reference10Ideal.τ).loc Cert.Reference10Ideal.main_v93) = v3 c
          ∧ r.2.mem ((c.tc : Thread Cert.Reference10Ideal.nD Cert.Reference10Ideal.τ).loc Cert.Reference10Ideal.main_v84) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S2048x1024 : Shape := ⟨2, ![2048, 1024]⟩
abbrev S8x32x64x64 : Shape := ⟨4, ![8, 32, 64, 64]⟩
abbrev S8x32x1x128 : Shape := ⟨4, ![8, 32, 1, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x32x64x64 : S_.BroadcastsInDim S8x32x64x64 (![] : Fin 0 → Fin S8x32x64x64.rank)
  reducesTo_S8x32x64x64_S_d0_1_2_3 : S8x32x64x64.ReducesTo [0, 1, 2, 3] S_
  bcast_S_S8x32x1x128 : S_.BroadcastsInDim S8x32x1x128 (![] : Fin 0 → Fin S8x32x1x128.rank)
  reducesTo_S8x32x1x128_S_d0_1_2_3 : S8x32x1x128.ReducesTo [0, 1, 2, 3] S_

variable [Facts]

def fn_part1 {F : FTy → Type} [FloatOps F] (main_arg4 : FVec F S2048x1024 .f32) (main_arg5 : FVec F S8x32x1x128 .f32) (main_arg6 : FVec F S2048x1024 .f32) (main_v3 : IVec S_ 1) (main_v7 : IVec S_ 1) (main_v11 : IVec S_ 1) (main_v15 : IVec S_ 1) : IVec S_ 1 :=
  let main_v16 : FVec F S2048x1024 .f32 := Host.absf main_arg4
  let main_cst_6 : FVec F S_ .f32 := constant S_ .f32 0x7F800000#32
  let main_v17 : FVec F S2048x1024 .f32 := broadcastInDim S2048x1024 ![] bcast_S_S2048x1024 main_cst_6
  let main_v18 : IVec S2048x1024 1 := cmpf .olt main_v16 main_v17
  let main_c_7 : IVec S_ 1 := constantI S_ 1 1#1
  let main_v19 : IVec S_ 1 := (fun x v => Host.reduce IntOp.andi x v reducesTo_S2048x1024_S_d0_1 h_S_) main_v18 main_c_7
  let main_v20 : FVec F S8x32x1x128 .f32 := Host.absf main_arg5
  let main_cst_8 : FVec F S_ .f32 := constant S_ .f32 0x7F800000#32
  let main_v21 : FVec F S8x32x1x128 .f32 := broadcastInDim S8x32x1x128 ![] bcast_S_S8x32x1x128 main_cst_8
  let main_v22 : IVec S8x32x1x128 1 := cmpf .olt main_v20 main_v21
  let main_c_9 : IVec S_ 1 := constantI S_ 1 1#1
  let main_v23 : IVec S_ 1 := (fun x v => Host.reduce IntOp.andi x v reducesTo_S8x32x1x128_S_d0_1_2_3 h_S_) main_v22 main_c_9
  let main_v24 : FVec F S2048x1024 .f32 := Host.absf main_arg6
  let main_cst_10 : FVec F S_ .f32 := constant S_ .f32 0x7F800000#32
  let main_v25 : FVec F S2048x1024 .f32 := broadcastInDim S2048x1024 ![] bcast_S_S2048x1024 main_cst_10
  let main_v26 : IVec S2048x1024 1 := cmpf .olt main_v24 main_v25
  let main_c_11 : IVec S_ 1 := constantI S_ 1 1#1
  let main_v27 : IVec S_ 1 := (fun x v => Host.reduce IntOp.andi x v reducesTo_S2048x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x1024 .f32) (main_arg1 : FVec F S2048x1024 .f32) (main_arg2 : FVec F S2048x1024 .f32) (main_arg3 : FVec F S8x32x64x64 .f32) (main_arg4 : FVec F S2048x1024 .f32) (main_arg5 : FVec F S8x32x1x128 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S8x32x64x64 .f32 := Host.absf main_arg3
  let main_cst_4 : FVec F S_ .f32 := constant S_ .f32 0x7F800000#32
  let main_v13 : FVec F S8x32x64x64 .f32 := broadcastInDim S8x32x64x64 ![] bcast_S_S8x32x64x64 main_cst_4
  let main_v14 : IVec S8x32x64x64 1 := cmpf .olt main_v12 main_v13
  let main_c_5 : IVec S_ 1 := constantI S_ 1 1#1
  let main_v15 : IVec S_ 1 := (fun x v => Host.reduce IntOp.andi x v reducesTo_S8x32x64x64_S_d0_1_2_3 h_S_) main_v14 main_c_5
  fn_part1 (F := F) main_arg4 main_arg5 main_arg6 main_v3 main_v7 main_v11 main_v15
-- ==== Pre_finite10.lean ====
abbrev S2048x1024 : Shape := ⟨2, ![2048, 1024]⟩
abbrev S2048x3200 : Shape := ⟨2, ![2048, 3200]⟩
abbrev S8x2048 : Shape := ⟨2, ![8, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x3200 : S_.BroadcastsInDim S2048x3200 (![] : Fin 0 → Fin S2048x3200.rank)
  reducesTo_S2048x3200_S_d0_1 : S2048x3200.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S2048x1024 .f32) (main_v4 : IVec S_ 1) (main_v9 : IVec S_ 1) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : FVec F S2048x1024 .f32 := Host.absf main_arg4
  let main_cst_6 : FVec F S_ .f32 := constant S_ .f32 0x7F800000#32
  let main_v19 : FVec F S2048x1024 .f32 := broadcastInDim S2048x1024 ![] bcast_S_S2048x1024 main_cst_6
  let main_v20 : IVec S2048x1024 1 := cmpf .olt main_v18 main_v19
  let main_c_7 : IVec S_ 1 := constantI S_ 1 1#1
  let main_v21 : IVec S_ 1 := (fun x v => Host.reduce IntOp.andi x v reducesTo_S2048x1024_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S2048x1024 .bf16) (main_arg1 : FVec F S2048x1024 .bf16) (main_arg2 : FVec F S2048x3200 .f32) (main_arg3 : FVec F S8x2048 .f32) (main_arg4 : FVec F S2048x1024 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : FVec F S2048x3200 .f32 := Host.absf main_arg2
  let main_cst_2 : FVec F S_ .f32 := constant S_ .f32 0x7F800000#32
  let main_v11 : FVec F S2048x3200 .f32 := broadcastInDim S2048x3200 ![] bcast_S_S2048x3200 main_cst_2
  let main_v12 : IVec S2048x3200 1 := cmpf .olt main_v10 main_v11
  let main_c_3 : IVec S_ 1 := constantI S_ 1 1#1
  let main_v13 : IVec S_ 1 := (fun x v => Host.reduce IntOp.andi x v reducesTo_S2048x3200_S_d0_1 h_S_) main_v12 main_c_3
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_v4 main_v9 main_v13 main_v16
-- ==== Kernel.lean ====
abbrev S2048x1024 : Shape := ⟨2, ![2048, 1024]⟩
abbrev S8x32x64x64 : Shape := ⟨4, ![8, 32, 64, 64]⟩
abbrev S8x32x1x128 : Shape := ⟨4, ![8, 32, 1, 128]⟩
abbrev S8x32x128x128 : Shape := ⟨4, ![8, 32, 128, 128]⟩
abbrev S2048x256 : Shape := ⟨2, ![2048, 256]⟩
abbrev S2x32x64x64 : Shape := ⟨4, ![2, 32, 64, 64]⟩
abbrev S2x32x1x128 : Shape := ⟨4, ![2, 32, 1, 128]⟩
abbrev S2x32x128x128 : Shape := ⟨4, ![2, 32, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x1x128 : Shape := ⟨4, ![1, 1, 1, 128]⟩
abbrev S1x128 : Shape := ⟨2, ![1, 128]⟩
abbrev S128 : Shape := ⟨1, ![128]⟩

abbrev nBuf : Space → Nat
  | .hbm => 15
  | .vmem => 44
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x32x64x64, .f32⟩
  | .hbm, ⟨4, _⟩ => ⟨S2048x1024, .f32⟩
  | .hbm, ⟨5, _⟩ => ⟨S8x32x1x128, .f32⟩
  | .hbm, ⟨6, _⟩ => ⟨S2048x1024, .f32⟩
  | .hbm, ⟨7, _⟩ => ⟨S2048x1024, .f32⟩
  | .hbm, ⟨8, _⟩ => ⟨S8x32x128x128, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S8x32x64x64, .f32⟩
  | .hbm, ⟨13, _⟩ => ⟨S2048x1024, .f32⟩
  | .hbm, ⟨14, _⟩ => ⟨S8x32x1x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2x32x64x64, .f32⟩
  | .local _ .vmem, ⟨7, _⟩ => ⟨S2x32x64x64, .f32⟩
  | .local _ .vmem, ⟨8, _⟩ => ⟨S2048x256, .f32⟩
  | .local _ .vmem, ⟨9, _⟩ => ⟨S2048x256, .f32⟩
  | .local _ .vmem, ⟨10, _⟩ => ⟨S2x32x1x128, .f32⟩
  | .local _ .vmem, ⟨11, _⟩ => ⟨S2x32x1x128, .f32⟩
  | .local _ .vmem, ⟨12, _⟩ => ⟨S2048x256, .f32⟩
  | .local _ .vmem, ⟨13, _⟩ => ⟨S2048x256, .f32⟩
  | .local _ .vmem, ⟨14, _⟩ => ⟨S2x32x128x128, .f32⟩
  | .local _ .vmem, ⟨15, _⟩ => ⟨S2x32x128x128, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2x32x64x64, .f32⟩
  | .local _ .vmem, ⟨23, _⟩ => ⟨S2x32x64x64, .f32⟩
  | .local _ .vmem, ⟨24, _⟩ => ⟨S2048x256, .f32⟩
  | .local _ .vmem, ⟨25, _⟩ => ⟨S2048x256, .f32⟩
  | .local _ .vmem, ⟨26, _⟩ => ⟨S2x32x1x128, .f32⟩
  | .local _ .vmem, ⟨27, _⟩ => ⟨S2x32x1x128, .f32⟩
  | .local _ .vmem, ⟨28, _⟩ => ⟨S2x32x128x128, .f32⟩
  | .local _ .vmem, ⟨29, _⟩ => ⟨S2x32x128x128, .f32⟩
  | .local _ .vmem, ⟨30, _⟩ => ⟨S2048x256, .f32⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S2048x256, .f32⟩
  | .local _ .vmem, ⟨35, _⟩ => ⟨S2048x256, .f32⟩
  | .local _ .vmem, ⟨36, _⟩ => ⟨S2048x256, .f32⟩
  | .local _ .vmem, ⟨37, _⟩ => ⟨S2048x256, .f32⟩
  | .local _ .vmem, ⟨38, _⟩ => ⟨S2x32x64x64, .f32⟩
  | .local _ .vmem, ⟨39, _⟩ => ⟨S2x32x64x64, .f32⟩
  | .local _ .vmem, ⟨40, _⟩ => ⟨S2048x256, .f32⟩
  | .local _ .vmem, ⟨41, _⟩ => ⟨S2048x256, .f32⟩
  | .local _ .vmem, ⟨42, _⟩ => ⟨S2x32x1x128, .f32⟩
  | .local _ .vmem, ⟨43, _⟩ => ⟨S2x32x1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32 : BitVec 32 := 64#32
  let v3 : BitVec 32 := Scalar.muli arg9 c64_i32
  v3
def k0_off1 (k0_t1 : Fin k0_t1_loop.trips) : Fin 4 → Nat :=
  let c0 : Index := 0#32
  let c0_i32 : BitVec 32 := 0#32
  let c1_i32 : BitVec 32 := 1#32
  let arg9 : BitVec 32 := Scf.iv c0_i32 c1_i32 k0_t1
  let v5 : Index := Scalar.indexCast arg9
  let c0_1 : Index := 0#32
  let c0_2 : Index := 0#32
  ![0, v5.toNat, 0, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v3 : BitVec 32 := Scalar.muli arg9 c64_i32
  let v4 : BitVec 32 := v3
  let v9 : Index := Scalar.indexCast v4
  let c0_3 : Index := 0#32
  ![v9.toNat, 0]
def k0_off3 (k0_t1 : Fin k0_t1_loop.trips) : Fin 4 → Nat :=
  let c0_8 : Index := 0#32
  let c0_i32 : BitVec 32 := 0#32
  let c1_i32 : BitVec 32 := 1#32
  let arg9 : BitVec 32 := Scf.iv c0_i32 c1_i32 k0_t1
  let v22 : Index := Scalar.indexCast arg9
  let c0_9 : Index := 0#32
  let c0_10 : Index := 0#32
  ![0, v22.toNat, 0, 0]
def k0_off4 (k0_t1 : Fin k0_t1_loop.trips) : Fin 4 → Nat :=
  let c0_13 : Index := 0#32
  let c0_i32 : BitVec 32 := 0#32
  let c1_i32 : BitVec 32 := 1#32
  let arg9 : BitVec 32 := Scf.iv c0_i32 c1_i32 k0_t1
  let v31 : Index := Scalar.indexCast arg9
  let c0_14 : Index := 0#32
  let c0_15 : Index := 0#32
  ![0, v31.toNat, 0, 0]
def k0_off5 (k0_t1 : Fin k0_t1_loop.trips) : Fin 4 → Nat :=
  let c1 : Index := 1#32
  let c0_i32 : BitVec 32 := 0#32
  let c1_i32 : BitVec 32 := 1#32
  let arg9 : BitVec 32 := Scf.iv c0_i32 c1_i32 k0_t1
  let v42 : Index := Scalar.indexCast arg9
  let c0_18 : Index := 0#32
  let c0_19 : Index := 0#32
  ![1, v42.toNat, 0, 0]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v3 : BitVec 32 := Scalar.muli arg9 c64_i32
  let v4 : BitVec 32 := v3
  let v46 : Index := Scalar.indexCast v4
  let c128 : Index := 128#32
  ![v46.toNat, 128]
def k0_off7 (k0_t1 : Fin k0_t1_loop.trips) : Fin 4 → Nat :=
  let c1_24 : Index := 1#32
  let c0_i32 : BitVec 32 := 0#32
  let c1_i32 : BitVec 32 := 1#32
  let arg9 : BitVec 32 := Scf.iv c0_i32 c1_i32 k0_t1
  let v59 : Index := Scalar.indexCast arg9
  let c0_25 : Index := 0#32
  let c0_26 : Index := 0#32
  ![1, v59.toNat, 0, 0]
def k0_off8 (k0_t1 : Fin k0_t1_loop.trips) : Fin 4 → Nat :=
  let c1_29 : Index := 1#32
  let c0_i32 : BitVec 32 := 0#32
  let c1_i32 : BitVec 32 := 1#32
  let arg9 : BitVec 32 := Scf.iv c0_i32 c1_i32 k0_t1
  let v68 : Index := Scalar.indexCast arg9
  let c0_30 : Index := 0#32
  let c0_31 : Index := 0#32
  ![1, v68.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x32x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x32x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

@[reducible] def k1_t1_loop : Scf.Loop 32 :=
  let c0_i32 : BitVec 32 := 0#32
  let c32_i32 : BitVec 32 := 32#32
  let v1 : BitVec 32 := Scalar.addi c0_i32 c32_i32
  let c1_i32 : BitVec 32 := 1#32
  ⟨c0_i32, v1, c1_i32⟩
def k1_mult1 (k1_t1 : Fin k1_t1_loop.trips) : BitVec 32 :=
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let c64_i32 : BitVec 32 := 64#32
  let v4 : BitVec 32 := Scalar.muli v3 c64_i32
  v4
def k1_off1 (k1_t1 : Fin k1_t1_loop.trips) : Fin 4 → Nat :=
  let c0 : Index := 0#32
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let v6 : Index := Scalar.indexCast v3
  let c0_1 : Index := 0#32
  let c0_2 : Index := 0#32
  ![0, v6.toNat, 0, 0]
def k1_off2 (k1_t1 : Fin k1_t1_loop.trips) : Fin 2 → Nat :=
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let c64_i32 : BitVec 32 := 64#32
  let v4 : BitVec 32 := Scalar.muli v3 c64_i32
  let v5 : BitVec 32 := v4
  let v9 : Index := Scalar.indexCast v5
  let c0_3 : Index := 0#32
  ![v9.toNat, 0]
def k1_off3 (k1_t1 : Fin k1_t1_loop.trips) : Fin 4 → Nat :=
  let c0_7 : Index := 0#32
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let v19 : Index := Scalar.indexCast v3
  let c0_8 : Index := 0#32
  let c0_9 : Index := 0#32
  ![0, v19.toNat, 0, 0]
def k1_off4 (k1_t1 : Fin k1_t1_loop.trips) : Fin 4 → Nat :=
  let c0_26 : Index := 0#32
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let v60 : Index := Scalar.indexCast v3
  let c0_27 : Index := 0#32
  let c0_28 : Index := 0#32
  ![0, v60.toNat, 0, 0]
def k1_off5 (k1_t1 : Fin k1_t1_loop.trips) : Fin 4 → Nat :=
  let c1 : Index := 1#32
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let v79 : Index := Scalar.indexCast v3
  let c0_35 : Index := 0#32
  let c0_36 : Index := 0#32
  ![1, v79.toNat, 0, 0]
def k1_off6 (k1_t1 : Fin k1_t1_loop.trips) : Fin 2 → Nat :=
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let c64_i32 : BitVec 32 := 64#32
  let v4 : BitVec 32 := Scalar.muli v3 c64_i32
  let v5 : BitVec 32 := v4
  let v82 : Index := Scalar.indexCast v5
  let c128 : Index := 128#32
  ![v82.toNat, 128]
def k1_off7 (k1_t1 : Fin k1_t1_loop.trips) : Fin 4 → Nat :=
  let c1_40 : Index := 1#32
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let v92 : Index := Scalar.indexCast v3
  let c0_41 : Index := 0#32
  let c0_42 : Index := 0#32
  ![1, v92.toNat, 0, 0]
def k1_off8 (k1_t1 : Fin k1_t1_loop.trips) : Fin 4 → Nat :=
  let c1_59 : Index := 1#32
  let c31_i32 : BitVec 32 := 31#32
  let c0_i32 : BitVec 32 := 0#32
  let c1_i32 : BitVec 32 := 1#32
  let arg15 : BitVec 32 := Scf.iv c0_i32 c1_i32 k1_t1
  let v3 : BitVec 32 := Scalar.subi c31_i32 arg15
  let v133 : Index := Scalar.indexCast v3
  let c0_60 : Index := 0#32
  let c0_61 : Index := 0#32
  ![1, v133.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x32x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x32x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x32x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2048x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2x32x64x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2048x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2x32x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S2048x1024 : Shape := ⟨2, ![2048, 1024]⟩
abbrev S8x32x64x64 : Shape := ⟨4, ![8, 32, 64, 64]⟩
abbrev S8x32x1x128 : Shape := ⟨4, ![8, 32, 1, 128]⟩
abbrev S32x64x8x128 : Shape := ⟨4, ![32, 64, 8, 128]⟩
abbrev S32x8x64x128 : Shape := ⟨4, ![32, 8, 64, 128]⟩
abbrev S32x8x64x64 : Shape := ⟨4, ![32, 8, 64, 64]⟩
abbrev S32x8x1x128 : Shape := ⟨4, ![32, 8, 1, 128]⟩
abbrev S_ : Shape := ⟨0, ![]⟩
abbrev S8x128x128 : Shape := ⟨3, ![8, 128, 128]⟩
abbrev S32x8x128x128 : Shape := ⟨4, ![32, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8x1x128 : Shape := ⟨4, ![1, 8, 1, 128]⟩
abbrev S8x1x128 : Shape := ⟨3, ![8, 1, 128]⟩
abbrev S1x8x128x128 : Shape := ⟨4, ![1, 8, 128, 128]⟩
abbrev S8x128x64 : Shape := ⟨3, ![8, 128, 64]⟩
abbrev S8x128 : Shape := ⟨2, ![8, 128]⟩

abbrev nBuf : Space → Nat
  | .hbm => 243
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S8x32x64x64, .f32⟩
  | 4 => ⟨S2048x1024, .f32⟩
  | 5 => ⟨S8x32x1x128, .f32⟩
  | 6 => ⟨S2048x1024, .f32⟩
  | 7 => ⟨S32x64x8x128, .f32⟩
  | 8 => ⟨S32x8x64x128, .f32⟩
  | 9 => ⟨S32x64x8x128, .f32⟩
  | 10 => ⟨S32x8x64x128, .f32⟩
  | 11 => ⟨S32x64x8x128, .f32⟩
  | 12 => ⟨S32x8x64x128, .f32⟩
  | 13 => ⟨S32x8x64x64, .f32⟩
  | 14 => ⟨S32x64x8x128, .f32⟩
  | 15 => ⟨S32x8x64x128, .f32⟩
  | 16 => ⟨S32x8x1x128, .f32⟩
  | 17 => ⟨S_, .f32⟩
  | 18 => ⟨S8x128x128, .f32⟩
  | 19 => ⟨S_, .f32⟩
  | 20 => ⟨S32x8x64x128, .f32⟩
  | 21 => ⟨S_, .f32⟩
  | 22 => ⟨S32x8x128x128, .f32⟩
  | 23 => ⟨S_, .f32⟩
  | 24 => ⟨S32x8x64x128, .f32⟩
  | 25 => ⟨S_, .i32⟩
  | 26 => ⟨S32x8x64x128, .f32⟩
  | 27 => ⟨S32x8x64x128, .f32⟩
  | 28 => ⟨S32x8x64x128, .f32⟩
  | 29 => ⟨S32x8x64x64, .f32⟩
  | 30 => ⟨S32x8x64x128, .f32⟩
  | 31 => ⟨S32x8x1x128, .f32⟩
  | 32 => ⟨S_, .i32⟩
  | 33 => ⟨S8x128x128, .f32⟩
  | 34 => ⟨S32x8x64x128, .f32⟩
  | 35 => ⟨S32x8x128x128, .f32⟩
  | 36 => ⟨S32x8x64x128, .f32⟩
  | 37 => ⟨S_, .i32⟩
  | 38 => ⟨S_, .i1⟩
  | 39 => ⟨S_, .i32⟩
  | 40 => ⟨S_, .i32⟩
  | 41 => ⟨S_, .i32⟩
  | 42 => ⟨S1x8x64x128, .f32⟩
  | 43 => ⟨S8x64x128, .f32⟩
  | 44 => ⟨S_, .i32⟩
  | 45 => ⟨S_, .i32⟩
  | 46 => ⟨S_, .i32⟩
  | 47 => ⟨S1x8x64x128, .f32⟩
  | 48 => ⟨S8x64x128, .f32⟩
  | 49 => ⟨S_, .i32⟩
  | 50 => ⟨S_, .i32⟩
  | 51 => ⟨S_, .i32⟩
  | 52 => ⟨S1x8x64x128, .f32⟩
  | 53 => ⟨S8x64x128, .f32⟩
  | 54 => ⟨S_, .i32⟩
  | 55 => ⟨S_, .i32⟩
  | 56 => ⟨S_, .i32⟩
  | 57 => ⟨S1x8x64x64, .f32⟩
  | 58 => ⟨S8x64x64, .f32⟩
  | 59 => ⟨S_, .i32⟩
  | 60 => ⟨S_, .i32⟩
  | 61 => ⟨S_, .i32⟩
  | 62 => ⟨S1x8x64x128, .f32⟩
  | 63 => ⟨S8x64x128, .f32⟩
  | 64 => ⟨S_, .i32⟩
  | 65 => ⟨S_, .i32⟩
  | 66 => ⟨S_, .i32⟩
  | 67 => ⟨S1x8x1x128, .f32⟩
  | 68 => ⟨S8x1x128, .f32⟩
  | 69 => ⟨S8x64x128, .f32⟩
  | 70 => ⟨S8x64x128, .f32⟩
  | 71 => ⟨S8x64x128, .f32⟩
  | 72 => ⟨S8x64x128, .f32⟩
  | 73 => ⟨S8x64x128, .f32⟩
  | 74 => ⟨S8x128x128, .f32⟩
  | 75 => ⟨S8x128x128, .f32⟩
  | 76 => ⟨S8x128x128, .f32⟩
  | 77 => ⟨S8x128x128, .f32⟩
  | 78 => ⟨S1x8x64x128, .f32⟩
  | 79 => ⟨S_, .i32⟩
  | 80 => ⟨S_, .i32⟩
  | 81 => ⟨S_, .i32⟩
  | 82 => ⟨S32x8x64x128, .f32⟩
  | 83 => ⟨S1x8x128x128, .f32⟩
  | 84 => ⟨S_, .i32⟩
  | 85 => ⟨S_, .i32⟩
  | 86 => ⟨S_, .i32⟩
  | 87 => ⟨S32x8x128x128, .f32⟩
  | 88 => ⟨S1x8x64x128, .f32⟩
  | 89 => ⟨S_, .i32⟩
  | 90 => ⟨S_, .i32⟩
  | 91 => ⟨S_, .i32⟩
  | 92 => ⟨S32x8x64x128, .f32⟩
  | 93 => ⟨S_, .i32⟩
  | 94 => ⟨S_, .i32⟩
  | 95 => ⟨S32x64x8x128, .f32⟩
  | 96 => ⟨S2048x1024, .f32⟩
  | 97 => ⟨S_, .f32⟩
  | 98 => ⟨S8x128x128, .f32⟩
  | 99 => ⟨S32x64x8x128, .f32⟩
  | 100 => ⟨S32x8x64x128, .f32⟩
  | 101 => ⟨S_, .f32⟩
  | 102 => ⟨S8x128x128, .f32⟩
  | 103 => ⟨S_, .f32⟩
  | 104 => ⟨S32x8x64x128, .f32⟩
  | 105 => ⟨S_, .f32⟩
  | 106 => ⟨S32x8x64x128, .f32⟩
  | 107 => ⟨S_, .f32⟩
  | 108 => ⟨S32x8x64x128, .f32⟩
  | 109 => ⟨S_, .f32⟩
  | 110 => ⟨S32x8x64x64, .f32⟩
  | 111 => ⟨S_, .f32⟩
  | 112 => ⟨S32x8x64x128, .f32⟩
  | 113 => ⟨S_, .f32⟩
  | 114 => ⟨S32x8x1x128, .f32⟩
  | 115 => ⟨S_, .i32⟩
  | 116 => ⟨S32x8x64x128, .f32⟩
  | 117 => ⟨S32x8x128x128, .f32⟩
  | 118 => ⟨S32x8x64x128, .f32⟩
  | 119 => ⟨S32x8x64x128, .f32⟩
  | 120 => ⟨S32x8x64x128, .f32⟩
  | 121 => ⟨S32x8x64x64, .f32⟩
  | 122 => ⟨S32x8x1x128, .f32⟩
  | 123 => ⟨S32x8x64x128, .f32⟩
  | 124 => ⟨S_, .i32⟩
  | 125 => ⟨S8x128x128, .f32⟩
  | 126 => ⟨S32x8x64x128, .f32⟩
  | 127 => ⟨S32x8x64x128, .f32⟩
  | _ => ⟨S2048x1024, .f32⟩

abbrev hbmTy0_1 (i : Nat) : BufTy := match i % 128 with
  | 0 => ⟨S32x8x64x128, .f32⟩
  | 1 => ⟨S32x8x64x64, .f32⟩
  | 2 => ⟨S32x8x64x128, .f32⟩
  | 3 => ⟨S32x8x1x128, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x8x64x128, .f32⟩
  | 14 => ⟨S8x64x128, .f32⟩
  | 15 => ⟨S_, .i32⟩
  | 16 => ⟨S_, .i32⟩
  | 17 => ⟨S_, .i32⟩
  | 18 => ⟨S1x8x128x128, .f32⟩
  | 19 => ⟨S8x128x128, .f32⟩
  | 20 => ⟨S_, .i32⟩
  | 21 => ⟨S_, .i32⟩
  | 22 => ⟨S_, .i32⟩
  | 23 => ⟨S1x8x64x128, .f32⟩
  | 24 => ⟨S8x64x128, .f32⟩
  | 25 => ⟨S_, .i32⟩
  | 26 => ⟨S_, .i32⟩
  | 27 => ⟨S_, .i32⟩
  | 28 => ⟨S1x8x64x128, .f32⟩
  | 29 => ⟨S8x64x128, .f32⟩
  | 30 => ⟨S_, .i32⟩
  | 31 => ⟨S_, .i32⟩
  | 32 => ⟨S_, .i32⟩
  | 33 => ⟨S1x8x64x128, .f32⟩
  | 34 => ⟨S8x64x128, .f32⟩
  | 35 => ⟨S_, .i32⟩
  | 36 => ⟨S_, .i32⟩
  | 37 => ⟨S_, .i32⟩
  | 38 => ⟨S1x8x64x64, .f32⟩
  | 39 => ⟨S8x64x64, .f32⟩
  | 40 => ⟨S_, .i32⟩
  | 41 => ⟨S_, .i32⟩
  | 42 => ⟨S_, .i32⟩
  | 43 => ⟨S1x8x1x128, .f32⟩
  | 44 => ⟨S8x1x128, .f32⟩
  | 45 => ⟨S_, .i32⟩
  | 46 => ⟨S_, .i32⟩
  | 47 => ⟨S_, .i32⟩
  | 48 => ⟨S1x8x64x128, .f32⟩
  | 49 => ⟨S8x64x128, .f32⟩
  | 50 => ⟨S8x128x64, .f32⟩
  | 51 => ⟨S8x64x128, .f32⟩
  | 52 => ⟨S8x128x64, .f32⟩
  | 53 => ⟨S8x64x128, .f32⟩
  | 54 => ⟨S8x128x128, .f32⟩
  | 55 => ⟨S_, .f32⟩
  | 56 => ⟨S8x128, .f32⟩
  | 57 => ⟨S8x1x128, .f32⟩
  | 58 => ⟨S8x128x128, .f32⟩
  | 59 => ⟨S8x128x128, .f32⟩
  | 60 => ⟨S8x128x64, .f32⟩
  | 61 => ⟨S8x64x128, .f32⟩
  | 62 => ⟨S8x64x128, .f32⟩
  | 63 => ⟨S8x64x64, .f32⟩
  | 64 => ⟨S8x128x128, .f32⟩
  | 65 => ⟨S8x128x128, .f32⟩
  | 66 => ⟨S8x128x128, .f32⟩
  | 67 => ⟨S8x64x128, .f32⟩
  | 68 => ⟨S8x64x128, .f32⟩
  | 69 => ⟨S8x128x128, .f32⟩
  | 70 => ⟨S8x128x128, .f32⟩
  | 71 => ⟨S8x128x128, .f32⟩
  | 72 => ⟨S8x64x128, .f32⟩
  | 73 => ⟨S1x8x64x128, .f32⟩
  | 74 => ⟨S_, .i32⟩
  | 75 => ⟨S_, .i32⟩
  | 76 => ⟨S_, .i32⟩
  | 77 => ⟨S32x8x64x128, .f32⟩
  | 78 => ⟨S1x8x64x128, .f32⟩
  | 79 => ⟨S_, .i32⟩
  | 80 => ⟨S_, .i32⟩
  | 81 => ⟨S_, .i32⟩
  | 82 => ⟨S32x8x64x128, .f32⟩
  | 83 => ⟨S1x8x64x128, .f32⟩
  | 84 => ⟨S_, .i32⟩
  | 85 => ⟨S_, .i32⟩
  | 86 => ⟨S_, .i32⟩
  | 87 => ⟨S32x8x64x128, .f32⟩
  | 88 => ⟨S1x8x64x64, .f32⟩
  | 89 => ⟨S_, .i32⟩
  | 90 => ⟨S_, .i32⟩
  | 91 => ⟨S_, .i32⟩
  | 92 => ⟨S32x8x64x64, .f32⟩
  | 93 => ⟨S1x8x64x128, .f32⟩
  | 94 => ⟨S_, .i32⟩
  | 95 => ⟨S_, .i32⟩
  | 96 => ⟨S_, .i32⟩
  | 97 => ⟨S32x8x64x128, .f32⟩
  | 98 => ⟨S1x8x1x128, .f32⟩
  | 99 => ⟨S_, .i32⟩
  | 100 => ⟨S_, .i32⟩
  | 101 => ⟨S_, .i32⟩
  | 102 => ⟨S32x8x1x128, .f32⟩
  | 103 => ⟨S_, .i32⟩
  | 104 => ⟨S_, .i32⟩
  | 105 => ⟨S8x32x1x128, .f32⟩
  | 106 => ⟨S32x64x8x128, .f32⟩
  | 107 => ⟨S2048x1024, .f32⟩
  | 108 => ⟨S8x32x64x64, .f32⟩
  | 109 => ⟨S32x64x8x128, .f32⟩
  | 110 => ⟨S2048x1024, .f32⟩
  | 111 => ⟨S32x64x8x128, .f32⟩
  | 112 => ⟨S2048x1024, .f32⟩
  | 113 => ⟨S32x64x8x128, .f32⟩
  | 114 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_v14_8 : Ref sig .tc := ⟨.hbm, 34, rfl⟩
abbrev main_v14_9 : Ref sig .tc := ⟨.hbm, 35, rfl⟩
abbrev main_v14_10 : Ref sig .tc := ⟨.hbm, 36, rfl⟩
abbrev main_while0c_c_22 : Ref sig .tc := ⟨.hbm, 37, rfl⟩
abbrev main_while0c_v38 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v38 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v39 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v40 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v41 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v42 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_call5_v0 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_call6_v0 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_v53 : Ref sig .tc := ⟨.hbm, 82, rfl⟩
abbrev main_while0b_call7_v0 : Ref sig .tc := ⟨.hbm, 83, rfl⟩
abbrev main_while0b_call7_c : Ref sig .tc := ⟨.hbm, 84, rfl⟩
abbrev main_while0b_call7_c_0 : Ref sig .tc := ⟨.hbm, 85, rfl⟩
abbrev main_while0b_call7_c_1 : Ref sig .tc := ⟨.hbm, 86, rfl⟩
abbrev main_while0b_v54 : Ref sig .tc := ⟨.hbm, 87, rfl⟩
abbrev main_while0b_call8_v0 : Ref sig .tc := ⟨.hbm, 88, rfl⟩
abbrev main_while0b_call8_c : Ref sig .tc := ⟨.hbm, 89, rfl⟩
abbrev main_while0b_call8_c_0 : Ref sig .tc := ⟨.hbm, 90, rfl⟩
abbrev main_while0b_call8_c_1 : Ref sig .tc := ⟨.hbm, 91, rfl⟩
abbrev main_while0b_v55 : Ref sig .tc := ⟨.hbm, 92, rfl⟩
abbrev main_while0b_c_22 : Ref sig .tc := ⟨.hbm, 93, rfl⟩
abbrev main_while0b_v56 : Ref sig .tc := ⟨.hbm, 94, rfl⟩
abbrev main_v15 : Ref sig .tc := ⟨.hbm, 95, rfl⟩
abbrev main_v16 : Ref sig .tc := ⟨.hbm, 96, rfl⟩
abbrev main_cst_3 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst_4 : Ref sig .tc := ⟨.hbm, 101, rfl⟩
abbrev main_v20 : Ref sig .tc := ⟨.hbm, 102, rfl⟩
abbrev main_cst_5 : Ref sig .tc := ⟨.hbm, 103, rfl⟩
abbrev main_v21 : Ref sig .tc := ⟨.hbm, 104, rfl⟩
abbrev main_cst_6 : Ref sig .tc := ⟨.hbm, 105, rfl⟩
abbrev main_v22 : Ref sig .tc := ⟨.hbm, 106, rfl⟩
abbrev main_cst_7 : Ref sig .tc := ⟨.hbm, 107, rfl⟩
abbrev main_v23 : Ref sig .tc := ⟨.hbm, 108, rfl⟩
abbrev main_cst_8 : Ref sig .tc := ⟨.hbm, 109, rfl⟩
abbrev main_v24 : Ref sig .tc := ⟨.hbm, 110, rfl⟩
abbrev main_cst_9 : Ref sig .tc := ⟨.hbm, 111, rfl⟩
abbrev main_v25 : Ref sig .tc := ⟨.hbm, 112, rfl⟩
abbrev main_cst_10 : Ref sig .tc := ⟨.hbm, 113, rfl⟩
abbrev main_v26 : Ref sig .tc := ⟨.hbm, 114, rfl⟩
abbrev main_c_11 : Ref sig .tc := ⟨.hbm, 115, rfl⟩
abbrev main_v27_0 : Ref sig .tc := ⟨.hbm, 116, rfl⟩
abbrev main_v27_1 : Ref sig .tc := ⟨.hbm, 117, rfl⟩
abbrev main_v27_2 : Ref sig .tc := ⟨.hbm, 118, rfl⟩
abbrev main_v27_3 : Ref sig .tc := ⟨.hbm, 119, rfl⟩
abbrev main_v27_4 : Ref sig .tc := ⟨.hbm, 120, rfl⟩
abbrev main_v27_5 : Ref sig .tc := ⟨.hbm, 121, rfl⟩
abbrev main_v27_6 : Ref sig .tc := ⟨.hbm, 122, rfl⟩
abbrev main_v27_7 : Ref sig .tc := ⟨.hbm, 123, rfl⟩
abbrev main_v27_8 : Ref sig .tc := ⟨.hbm, 124, rfl⟩
abbrev main_v27_9 : Ref sig .tc := ⟨.hbm, 125, rfl⟩
abbrev main_v27_10 : Ref sig .tc := ⟨.hbm, 126, rfl⟩
abbrev main_v27_11 : Ref sig .tc := ⟨.hbm, 127, rfl⟩
abbrev main_v27_12 : Ref sig .tc := ⟨.hbm, 128, rfl⟩
abbrev main_v27_13 : Ref sig .tc := ⟨.hbm, 129, rfl⟩
abbrev main_v27_14 : Ref sig .tc := ⟨.hbm, 130, rfl⟩
abbrev main_v27_15 : Ref sig .tc := ⟨.hbm, 131, rfl⟩
abbrev main_while1c_c_27 : Ref sig .tc := ⟨.hbm, 132, rfl⟩
abbrev main_while1c_v38 : Ref sig .tc := ⟨.hbm, 133, rfl⟩
abbrev main_while1b_c_27 : Ref sig .tc := ⟨.hbm, 134, rfl⟩
abbrev main_while1b_v38 : Ref sig .tc := ⟨.hbm, 135, rfl⟩
abbrev main_while1b_c_28 : Ref sig .tc := ⟨.hbm, 136, rfl⟩
abbrev main_while1b_v39 : Ref sig .tc := ⟨.hbm, 137, rfl⟩
abbrev main_while1b_call9_c : Ref sig .tc := ⟨.hbm, 138, rfl⟩
abbrev main_while1b_call9_c_0 : Ref sig .tc := ⟨.hbm, 139, rfl⟩
abbrev main_while1b_call9_c_1 : Ref sig .tc := ⟨.hbm, 140, rfl⟩
abbrev main_while1b_call9_v0 : Ref sig .tc := ⟨.hbm, 141, rfl⟩
abbrev main_while1b_v40 : Ref sig .tc := ⟨.hbm, 142, rfl⟩
abbrev main_while1b_call10_c : Ref sig .tc := ⟨.hbm, 143, rfl⟩
abbrev main_while1b_call10_c_0 : Ref sig .tc := ⟨.hbm, 144, rfl⟩
abbrev main_while1b_call10_c_1 : Ref sig .tc := ⟨.hbm, 145, rfl⟩
abbrev main_while1b_call10_v0 : Ref sig .tc := ⟨.hbm, 146, rfl⟩
abbrev main_while1b_v41 : Ref sig .tc := ⟨.hbm, 147, rfl⟩
abbrev main_while1b_call11_c : Ref sig .tc := ⟨.hbm, 148, rfl⟩
abbrev main_while1b_call11_c_0 : Ref sig .tc := ⟨.hbm, 149, rfl⟩
abbrev main_while1b_call11_c_1 : Ref sig .tc := ⟨.hbm, 150, rfl⟩
abbrev main_while1b_call11_v0 : Ref sig .tc := ⟨.hbm, 151, rfl⟩
abbrev main_while1b_v42 : Ref sig .tc := ⟨.hbm, 152, rfl⟩
abbrev main_while1b_call12_c : Ref sig .tc := ⟨.hbm, 153, rfl⟩
abbrev main_while1b_call12_c_0 : Ref sig .tc := ⟨.hbm, 154, rfl⟩
abbrev main_while1b_call12_c_1 : Ref sig .tc := ⟨.hbm, 155, rfl⟩
abbrev main_while1b_call12_v0 : Ref sig .tc := ⟨.hbm, 156, rfl⟩
abbrev main_while1b_v43 : Ref sig .tc := ⟨.hbm, 157, rfl⟩
abbrev main_while1b_call13_c : Ref sig .tc := ⟨.hbm, 158, rfl⟩
abbrev main_while1b_call13_c_0 : Ref sig .tc := ⟨.hbm, 159, rfl⟩
abbrev main_while1b_call13_c_1 : Ref sig .tc := ⟨.hbm, 160, rfl⟩
abbrev main_while1b_call13_v0 : Ref sig .tc := ⟨.hbm, 161, rfl⟩
abbrev main_while1b_v44 : Ref sig .tc := ⟨.hbm, 162, rfl⟩
abbrev main_while1b_call14_c : Ref sig .tc := ⟨.hbm, 163, rfl⟩
abbrev main_while1b_call14_c_0 : Ref sig .tc := ⟨.hbm, 164, rfl⟩
abbrev main_while1b_call14_c_1 : Ref sig .tc := ⟨.hbm, 165, rfl⟩
abbrev main_while1b_call14_v0 : Ref sig .tc := ⟨.hbm, 166, rfl⟩
abbrev main_while1b_v45 : Ref sig .tc := ⟨.hbm, 167, rfl⟩
abbrev main_while1b_call15_c : Ref sig .tc := ⟨.hbm, 168, rfl⟩
abbrev main_while1b_call15_c_0 : Ref sig .tc := ⟨.hbm, 169, rfl⟩
abbrev main_while1b_call15_c_1 : Ref sig .tc := ⟨.hbm, 170, rfl⟩
abbrev main_while1b_call15_v0 : Ref sig .tc := ⟨.hbm, 171, rfl⟩
abbrev main_while1b_v46 : Ref sig .tc := ⟨.hbm, 172, rfl⟩
abbrev main_while1b_call16_c : Ref sig .tc := ⟨.hbm, 173, rfl⟩
abbrev main_while1b_call16_c_0 : Ref sig .tc := ⟨.hbm, 174, rfl⟩
abbrev main_while1b_call16_c_1 : Ref sig .tc := ⟨.hbm, 175, rfl⟩
abbrev main_while1b_call16_v0 : Ref sig .tc := ⟨.hbm, 176, rfl⟩
abbrev main_while1b_v47 : Ref sig .tc := ⟨.hbm, 177, rfl⟩
abbrev main_while1b_v48 : Ref sig .tc := ⟨.hbm, 178, rfl⟩
abbrev main_while1b_v49 : Ref sig .tc := ⟨.hbm, 179, rfl⟩
abbrev main_while1b_v50 : Ref sig .tc := ⟨.hbm, 180, rfl⟩
abbrev main_while1b_v51 : Ref sig .tc := ⟨.hbm, 181, rfl⟩
abbrev main_while1b_v52 : Ref sig .tc := ⟨.hbm, 182, rfl⟩
abbrev main_while1b_cst_29 : Ref sig .tc := ⟨.hbm, 183, rfl⟩
abbrev main_while1b_v53 : Ref sig .tc := ⟨.hbm, 184, rfl⟩
abbrev main_while1b_v54 : Ref sig .tc := ⟨.hbm, 185, rfl⟩
abbrev main_while1b_v55 : Ref sig .tc := ⟨.hbm, 186, rfl⟩
abbrev main_while1b_v56 : Ref sig .tc := ⟨.hbm, 187, rfl⟩
abbrev main_while1b_v57 : Ref sig .tc := ⟨.hbm, 188, rfl⟩
abbrev main_while1b_v58 : Ref sig .tc := ⟨.hbm, 189, rfl⟩
abbrev main_while1b_v59 : Ref sig .tc := ⟨.hbm, 190, rfl⟩
abbrev main_while1b_v60 : Ref sig .tc := ⟨.hbm, 191, rfl⟩
abbrev main_while1b_v61 : Ref sig .tc := ⟨.hbm, 192, rfl⟩
abbrev main_while1b_v62 : Ref sig .tc := ⟨.hbm, 193, rfl⟩
abbrev main_while1b_v63 : Ref sig .tc := ⟨.hbm, 194, rfl⟩
abbrev main_while1b_v64 : Ref sig .tc := ⟨.hbm, 195, rfl⟩
abbrev main_while1b_v65 : Ref sig .tc := ⟨.hbm, 196, rfl⟩
abbrev main_while1b_v66 : Ref sig .tc := ⟨.hbm, 197, rfl⟩
abbrev main_while1b_v67 : Ref sig .tc := ⟨.hbm, 198, rfl⟩
abbrev main_while1b_v68 : Ref sig .tc := ⟨.hbm, 199, rfl⟩
abbrev main_while1b_v69 : Ref sig .tc := ⟨.hbm, 200, rfl⟩
abbrev main_while1b_call17_v0 : Ref sig .tc := ⟨.hbm, 201, rfl⟩
abbrev main_while1b_call17_c : Ref sig .tc := ⟨.hbm, 202, rfl⟩
abbrev main_while1b_call17_c_0 : Ref sig .tc := ⟨.hbm, 203, rfl⟩
abbrev main_while1b_call17_c_1 : Ref sig .tc := ⟨.hbm, 204, rfl⟩
abbrev main_while1b_v70 : Ref sig .tc := ⟨.hbm, 205, rfl⟩
abbrev main_while1b_call18_v0 : Ref sig .tc := ⟨.hbm, 206, rfl⟩
abbrev main_while1b_call18_c : Ref sig .tc := ⟨.hbm, 207, rfl⟩
abbrev main_while1b_call18_c_0 : Ref sig .tc := ⟨.hbm, 208, rfl⟩
abbrev main_while1b_call18_c_1 : Ref sig .tc := ⟨.hbm, 209, rfl⟩
abbrev main_while1b_v71 : Ref sig .tc := ⟨.hbm, 210, rfl⟩
abbrev main_while1b_call19_v0 : Ref sig .tc := ⟨.hbm, 211, rfl⟩
abbrev main_while1b_call19_c : Ref sig .tc := ⟨.hbm, 212, rfl⟩
abbrev main_while1b_call19_c_0 : Ref sig .tc := ⟨.hbm, 213, rfl⟩
abbrev main_while1b_call19_c_1 : Ref sig .tc := ⟨.hbm, 214, rfl⟩
abbrev main_while1b_v72 : Ref sig .tc := ⟨.hbm, 215, rfl⟩
abbrev main_while1b_call20_v0 : Ref sig .tc := ⟨.hbm, 216, rfl⟩
abbrev main_while1b_call20_c : Ref sig .tc := ⟨.hbm, 217, rfl⟩
abbrev main_while1b_call20_c_0 : Ref sig .tc := ⟨.hbm, 218, rfl⟩
abbrev main_while1b_call20_c_1 : Ref sig .tc := ⟨.hbm, 219, rfl⟩
abbrev main_while1b_v73 : Ref sig .tc := ⟨.hbm, 220, rfl⟩
abbrev main_while1b_call21_v0 : Ref sig .tc := ⟨.hbm, 221, rfl⟩
abbrev main_while1b_call21_c : Ref sig .tc := ⟨.hbm, 222, rfl⟩
abbrev main_while1b_call21_c_0 : Ref sig .tc := ⟨.hbm, 223, rfl⟩
abbrev main_while1b_call21_c_1 : Ref sig .tc := ⟨.hbm, 224, rfl⟩
abbrev main_while1b_v74 : Ref sig .tc := ⟨.hbm, 225, rfl⟩
abbrev main_while1b_call22_v0 : Ref sig .tc := ⟨.hbm, 226, rfl⟩
abbrev main_while1b_call22_c : Ref sig .tc := ⟨.hbm, 227, rfl⟩
abbrev main_while1b_call22_c_0 : Ref sig .tc := ⟨.hbm, 228, rfl⟩
abbrev main_while1b_call22_c_1 : Ref sig .tc := ⟨.hbm, 229, rfl⟩
abbrev main_while1b_v75 : Ref sig .tc := ⟨.hbm, 230, rfl⟩
abbrev main_while1b_c_30 : Ref sig .tc := ⟨.hbm, 231, rfl⟩
abbrev main_while1b_v76 : Ref sig .tc := ⟨.hbm, 232, rfl⟩
abbrev main_v28 : Ref sig .tc := ⟨.hbm, 233, rfl⟩
abbrev main_v29 : Ref sig .tc := ⟨.hbm, 234, rfl⟩
abbrev main_v30 : Ref sig .tc := ⟨.hbm, 235, rfl⟩
abbrev main_v31 : Ref sig .tc := ⟨.hbm, 236, rfl⟩
abbrev main_v32 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x1024 : Shape := ⟨2, ![2048, 1024]⟩
abbrev S1024x5632 : Shape := ⟨2, ![1024, 5632]⟩
abbrev S2048x5632 : Shape := ⟨2, ![2048, 5632]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2048x1024, .f32⟩
  | .hbm, ⟨10, _⟩ => ⟨S1024x5632, .bf16⟩
  | .hbm, ⟨11, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .bf16⟩
  | .hbm, ⟨3, _⟩ => ⟨S2048x1024, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S2048x1024, .f32⟩
  | .hbm, ⟨10, _⟩ => ⟨S1024x5632, .bf16⟩
  | .hbm, ⟨11, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x2816 : Shape := ⟨2, ![2048, 2816]⟩
abbrev S2816x1024 : Shape := ⟨2, ![2816, 1024]⟩
abbrev S2048x1024 : Shape := ⟨2, ![2048, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2048x2816, .f32⟩
  | .hbm, ⟨9, _⟩ => ⟨S2816x1024, .bf16⟩
  | .hbm, ⟨10, _⟩ => ⟨S2048x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x1024 : Shape := ⟨2, ![2048, 1024]⟩
abbrev S2048x2816 : Shape := ⟨2, ![2048, 2816]⟩
abbrev S2816x1024 : Shape := ⟨2, ![2816, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .bf16⟩
  | .hbm, ⟨3, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2048x1024 : Shape := ⟨2, ![2048, 1024]⟩
abbrev S2048x2816 : Shape := ⟨2, ![2048, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .bf16⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2048x2816 : Shape := ⟨2, ![2048, 2816]⟩
abbrev S2816x1024 : Shape := ⟨2, ![2816, 1024]⟩
abbrev S2048x1024 : Shape := ⟨2, ![2048, 1024]⟩
abbrev S1024x1024 : Shape := ⟨2, ![1024, 1024]⟩
abbrev S1024x2816 : Shape := ⟨2, ![1024, 2816]⟩

abbrev nBuf : Space → Nat
  | .hbm => 4
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2048x2816, .f32⟩
  | .hbm, ⟨9, _⟩ => ⟨S2816x1024, .bf16⟩
  | .hbm, ⟨10, _⟩ => ⟨S2048x2816, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x5632 : Shape := ⟨2, ![2048, 5632]⟩
abbrev S3x5632 : Shape := ⟨2, ![3, 5632]⟩
abbrev S2048x2x11x256 : Shape := ⟨4, ![2048, 2, 11, 256]⟩
abbrev S2048x11x2x256 : Shape := ⟨4, ![2048, 11, 2, 256]⟩
abbrev S3x2x11x256 : Shape := ⟨4, ![3, 2, 11, 256]⟩
abbrev S3x11x2x256 : Shape := ⟨4, ![3, 11, 2, 256]⟩
abbrev S2048x2816 : Shape := ⟨2, ![2048, 2816]⟩
abbrev S2048x512 : Shape := ⟨2, ![2048, 512]⟩
abbrev S3x512 : Shape := ⟨2, ![3, 512]⟩
abbrev S2048x256 : Shape := ⟨2, ![2048, 256]⟩
abbrev S3x256 : Shape := ⟨2, ![3, 256]⟩
abbrev S32x256 : Shape := ⟨2, ![32, 256]⟩
abbrev S2080x256 : Shape := ⟨2, ![2080, 256]⟩
abbrev S256 : Shape := ⟨1, ![256]⟩
abbrev S1x256 : Shape := ⟨2, ![1, 256]⟩

abbrev nBuf : Space → Nat
  | .hbm => 9
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2048x2x11x256, .f32⟩
  | .hbm, ⟨3, _⟩ => ⟨S2048x11x2x256, .f32⟩
  | .hbm, ⟨4, _⟩ => ⟨S2048x5632, .f32⟩
  | .hbm, ⟨5, _⟩ => ⟨S3x2x11x256, .f32⟩
  | .hbm, ⟨6, _⟩ => ⟨S3x11x2x256, .f32⟩
  | .hbm, ⟨7, _⟩ => ⟨S3x5632, .f32⟩
  | .hbm, ⟨8, _⟩ => ⟨S2048x2816, .bf16⟩
  | .local _ .vmem, ⟨0, _⟩ => ⟨S2048x512, .f32⟩
  | .local _ .vmem, ⟨1, _⟩ => ⟨S2048x512, .f32⟩
  | .local _ .vmem, ⟨2, _⟩ => ⟨S3x512, .f32⟩
  | .local _ .vmem, ⟨3, _⟩ => ⟨S3x512, .f32⟩
  | .local _ .vmem, ⟨4, _⟩ => ⟨S2048x256, .bf16⟩
  | .local _ .vmem, ⟨5, _⟩ => ⟨S2048x256, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2048x5632 : Shape := ⟨2, ![2048, 5632]⟩
abbrev S3x5632 : Shape := ⟨2, ![3, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩
abbrev S2048x2816 : Shape := ⟨2, ![2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S_, .f32⟩
  | .hbm, ⟨3, _⟩ => ⟨S2x5632, .f32⟩
  | .hbm, ⟨4, _⟩ => ⟨S2050x5632, .f32⟩
  | .hbm, ⟨5, _⟩ => ⟨S1x5632, .f32⟩
  | .hbm, ⟨6, _⟩ => ⟨S5632, .f32⟩
  | .hbm, ⟨7, _⟩ => ⟨S2048x5632, .f32⟩
  | .hbm, ⟨8, _⟩ => ⟨S1x5632, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S1x5632, .f32⟩
  | .hbm, ⟨15, _⟩ => ⟨S5632, .f32⟩
  | .hbm, ⟨16, _⟩ => ⟨S2048x5632, .f32⟩
  | .hbm, ⟨17, _⟩ => ⟨S1x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S1x5632, .f32⟩
  | .hbm, ⟨22, _⟩ => ⟨S5632, .f32⟩
  | .hbm, ⟨23, _⟩ => ⟨S2048x5632, .f32⟩
  | .hbm, ⟨24, _⟩ => ⟨S1x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel9.lean ====
abbrev S2048x5632 : Shape := ⟨2, ![2048, 5632]⟩
abbrev S3x5632 : Shape := ⟨2, ![3, 5632]⟩
abbrev S2048x2816 : Shape := ⟨2, ![2048, 2816]⟩
abbrev S2048x2x11x256 : Shape := ⟨4, ![2048, 2, 11, 256]⟩
abbrev S2048x11x2x256 : Shape := ⟨4, ![2048, 11, 2, 256]⟩
abbrev S3x2x11x256 : Shape := ⟨4, ![3, 2, 11, 256]⟩
abbrev S3x11x2x256 : Shape := ⟨4, ![3, 11, 2, 256]⟩
abbrev S2048x512 : Shape := ⟨2, ![2048, 512]⟩
abbrev S3x512 : Shape := ⟨2, ![3, 512]⟩
abbrev S2048x256 : Shape := ⟨2, ![2048, 256]⟩
abbrev S3x256 : Shape := ⟨2, ![3, 256]⟩
abbrev S32x256 : Shape := ⟨2, ![32, 256]⟩
abbrev S2080x256 : Shape := ⟨2, ![2080, 256]⟩
abbrev S256 : Shape := ⟨1, ![256]⟩
abbrev S1x256 : Shape := ⟨2, ![1, 256]⟩

abbrev nBuf : Space → Nat
  | .hbm => 17
  | .vmem => 10
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2048x2816, .bf16⟩
  | .hbm, ⟨3, _⟩ => ⟨S2048x2x11x256, .f32⟩
  | .hbm, ⟨4, _⟩ => ⟨S2048x11x2x256, .f32⟩
  | .hbm, ⟨5, _⟩ => ⟨S2048x5632, .f32⟩
  | .hbm, ⟨6, _⟩ => ⟨S3x2x11x256, .f32⟩
  | .hbm, ⟨7, _⟩ => ⟨S3x11x2x256, .f32⟩
  | .hbm, ⟨8, _⟩ => ⟨S3x5632, .f32⟩
  | .hbm, ⟨9, _⟩ => ⟨S2048x5632, .bf16⟩
  | .hbm, ⟨10, _⟩ => ⟨S3x5632, .f32⟩
  | .hbm, ⟨11, _⟩ => ⟨S2048x11x2x256, .bf16⟩
  | .hbm, ⟨12, _⟩ => ⟨S2048x2x11x256, .bf16⟩
  | .hbm, ⟨13, _⟩ => ⟨S2048x5632, .bf16⟩
  | .hbm, ⟨14, _⟩ => ⟨S3x11x2x256, .f32⟩
  | .hbm, ⟨15, _⟩ => ⟨S3x2x11x256, .f32⟩
  | .hbm, ⟨16, _⟩ => ⟨S3x5632, .f32⟩
  | .local _ .vmem, ⟨0, _⟩ => ⟨S2048x512, .f32⟩
  | .local _ .vmem, ⟨1, _⟩ => ⟨S2048x512, .f32⟩
  | .local _ .vmem, ⟨2, _⟩ => ⟨S3x512, .f32⟩
  | .local _ .vmem, ⟨3, _⟩ => ⟨S3x512, .f32⟩
  | .local _ .vmem, ⟨4, _⟩ => ⟨S2048x256, .bf16⟩
  | .local _ .vmem, ⟨5, _⟩ => ⟨S2048x256, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32_78 : BitVec 32 := 0#32
  let v244 : BitVec 1 := Scalar.cmpi .eq arg1 c0_i32_78
  let v247 : BitVec 32 := Scalar.extui v244
  let c0_i32_81 : BitVec 32 := 0#32
  let v248 : BitVec 1 := Scalar.cmpi .ne v247 c0_i32_81
  v248

def k0_cond2 (i : grid0.Coords) : BitVec 1 :=
  let arg1 : BitVec 32 := BitVec.ofNat 32 (i 1).val
  let c0_i32_78 : BitVec 32 := 0#32
  let v244 : BitVec 1 := Scalar.cmpi .eq arg1 c0_i32_78
  let v_true : BitVec 1 := 1#1
  let v249 : BitVec 1 := Scalar.xori v244 v_true
  let v250 : BitVec 32 := Scalar.extui v249
  let c0_i32_82 : BitVec 32 := 0#32
  let v251 : BitVec 1 := Scalar.cmpi .ne v250 c0_i32_82
  v251

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S2048x5632 : Shape := ⟨2, ![2048, 5632]⟩
abbrev S3x5632 : Shape := ⟨2, ![3, 5632]⟩
abbrev S2048x2816 : Shape := ⟨2, ![2048, 2816]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩

abbrev nBuf : Space → Nat
  | .hbm => 101
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2048x2816, .bf16⟩
  | .hbm, ⟨3, _⟩ => ⟨S_, .f32⟩
  | .hbm, ⟨4, _⟩ => ⟨S2x5632, .f32⟩
  | .hbm, ⟨5, _⟩ => ⟨S2050x5632, .f32⟩
  | .hbm, ⟨6, _⟩ => ⟨S_, .f32⟩
  | .hbm, ⟨7, _⟩ => ⟨S2x5632, .f32⟩
  | .hbm, ⟨8, _⟩ => ⟨S1x5632, .f32⟩
  | .hbm, ⟨9, _⟩ => ⟨S5632, .f32⟩
  | .hbm, ⟨10, _⟩ => ⟨S2048x5632, .f32⟩
  | .hbm, ⟨11, _⟩ => ⟨S1x5632, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S1x5632, .f32⟩
  | .hbm, ⟨18, _⟩ => ⟨S5632, .f32⟩
  | .hbm, ⟨19, _⟩ => ⟨S2048x5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S1x5632, .f32⟩
  | .hbm, ⟨25, _⟩ => ⟨S5632, .f32⟩
  | .hbm, ⟨26, _⟩ => ⟨S2048x5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S_, .f32⟩
  | .hbm, ⟨62, _⟩ => ⟨S5632, .f32⟩
  | .hbm, ⟨63, _⟩ => ⟨S_, .f32⟩
  | .hbm, ⟨64, _⟩ => ⟨S2050x5632, .f32⟩
  | .hbm, ⟨65, _⟩ => ⟨S1x5632, .f32⟩
  | .hbm, ⟨66, _⟩ => ⟨S_, .f32⟩
  | .hbm, ⟨67, _⟩ => ⟨S3x5632, .f32⟩
  | .hbm, ⟨68, _⟩ => ⟨S2048x5632, .f32⟩
  | .hbm, ⟨69, _⟩ => ⟨S2048x5632, .f32⟩
  | .hbm, ⟨70, _⟩ => ⟨S2048x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S5632, .f32⟩
  | .hbm, ⟨76, _⟩ => ⟨S_, .f32⟩
  | .hbm, ⟨77, _⟩ => ⟨S2050x5632, .f32⟩
  | .hbm, ⟨78, _⟩ => ⟨S2050x5632, .f32⟩
  | .hbm, ⟨79, _⟩ => ⟨S1x5632, .f32⟩
  | .hbm, ⟨80, _⟩ => ⟨S_, .f32⟩
  | .hbm, ⟨81, _⟩ => ⟨S3x5632, .f32⟩
  | .hbm, ⟨82, _⟩ => ⟨S3x5632, .f32⟩
  | .hbm, ⟨83, _⟩ => ⟨S2048x5632, .f32⟩
  | .hbm, ⟨84, _⟩ => ⟨S2048x5632, .f32⟩
  | .hbm, ⟨85, _⟩ => ⟨S2048x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S5632, .f32⟩
  | .hbm, ⟨91, _⟩ => ⟨S_, .f32⟩
  | .hbm, ⟨92, _⟩ => ⟨S2050x5632, .f32⟩
  | .hbm, ⟨93, _⟩ => ⟨S2050x5632, .f32⟩
  | .hbm, ⟨94, _⟩ => ⟨S1x5632, .f32⟩
  | .hbm, ⟨95, _⟩ => ⟨S_, .f32⟩
  | .hbm, ⟨96, _⟩ => ⟨S3x5632, .f32⟩
  | .hbm, ⟨97, _⟩ => ⟨S3x5632, .f32⟩
  | .hbm, ⟨98, _⟩ => ⟨S2x5632, .f32⟩
  | .hbm, ⟨99, _⟩ => ⟨S2048x5632, .f32⟩
  | .hbm, ⟨100, _⟩ => ⟨S2048x5632, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== Kernel10.lean ====
abbrev S2048x1024 : Shape := ⟨2, ![2048, 1024]⟩
abbrev S2048x3200 : Shape := ⟨2, ![2048, 3200]⟩
abbrev S8x2048 : Shape := ⟨2, ![8, 2048]⟩
abbrev S8x2048x1 : Shape := ⟨3, ![8, 2048, 1]⟩
abbrev S8x2x1x1024 : Shape := ⟨4, ![8, 2, 1, 1024]⟩
abbrev S1024x128 : Shape := ⟨2, ![1024, 128]⟩
abbrev S2048x128 : Shape := ⟨2, ![2048, 128]⟩
abbrev S1x1024x1 : Shape := ⟨3, ![1, 1024, 1]⟩
abbrev S1x2x1x1024 : Shape := ⟨4, ![1, 2, 1, 1024]⟩
abbrev S1024x1 : Shape := ⟨2, ![1024, 1]⟩
abbrev S1x1x1x1024 : Shape := ⟨4, ![1, 1, 1, 1024]⟩
abbrev S1x1024 : Shape := ⟨2, ![1, 1024]⟩
abbrev S1024x1024 : Shape := ⟨2, ![1024, 1024]⟩
abbrev S1024 : Shape := ⟨1, ![1024]⟩
abbrev S1x2048x1 : Shape := ⟨3, ![1, 2048, 1]⟩

abbrev nBuf : Space → Nat
  | .hbm => 19
  | .vmem => 58
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x3200, .f32⟩
  | .hbm, ⟨3, _⟩ => ⟨S8x2048, .f32⟩
  | .hbm, ⟨4, _⟩ => ⟨S2048x1024, .f32⟩
  | .hbm, ⟨5, _⟩ => ⟨S8x2048x1, .f32⟩
  | .hbm, ⟨6, _⟩ => ⟨S8x2x1x1024, .f32⟩
  | .hbm, ⟨7, _⟩ => ⟨S2048x1024, .f32⟩
  | .hbm, ⟨8, _⟩ => ⟨S8x2048x1, .f32⟩
  | .hbm, ⟨9, _⟩ => ⟨S2048x1024, .f32⟩
  | .hbm, ⟨10, _⟩ => ⟨S8x2048x1, .f32⟩
  | .hbm, ⟨11, _⟩ => ⟨S8x2048x1, .f32⟩
  | .hbm, ⟨12, _⟩ => ⟨S2048x1024, .f32⟩
  | .hbm, ⟨13, _⟩ => ⟨S2048x3200, .bf16⟩
  | .hbm, ⟨14, _⟩ => ⟨S8x2x1x1024, .f32⟩
  | .hbm, ⟨15, _⟩ => ⟨S2048x1024, .bf16⟩
  | .hbm, ⟨16, _⟩ => ⟨S8x2048, .f32⟩
  | .hbm, ⟨17, _⟩ => ⟨S8x2048, .f32⟩
  | .hbm, ⟨18, _⟩ => ⟨S8x2048, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S1x1024x1, .f32⟩
  | .local _ .vmem, ⟨7, _⟩ => ⟨S1x1024x1, .f32⟩
  | .local _ .vmem, ⟨8, _⟩ => ⟨S1x2x1x1024, .f32⟩
  | .local _ .vmem, ⟨9, _⟩ => ⟨S1x2x1x1024, .f32⟩
  | .local _ .vmem, ⟨10, _⟩ => ⟨S1024x128, .f32⟩
  | .local _ .vmem, ⟨11, _⟩ => ⟨S1024x128, .f32⟩
  | .local _ .vmem, ⟨12, _⟩ => ⟨S1x1024x1, .f32⟩
  | .local _ .vmem, ⟨13, _⟩ => ⟨S1x1024x1, .f32⟩
  | .local _ .vmem, ⟨14, _⟩ => ⟨S1024x128, .bf16⟩
  | .local _ .vmem, ⟨15, _⟩ => ⟨S1024x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S1x1024x1, .f32⟩
  | .local _ .vmem, ⟨21, _⟩ => ⟨S1x1024x1, .f32⟩
  | .local _ .vmem, ⟨22, _⟩ => ⟨S1x2x1x1024, .f32⟩
  | .local _ .vmem, ⟨23, _⟩ => ⟨S1x2x1x1024, .f32⟩
  | .local _ .vmem, ⟨24, _⟩ => ⟨S1024x128, .f32⟩
  | .local _ .vmem, ⟨25, _⟩ => ⟨S1024x128, .f32⟩
  | .local _ .vmem, ⟨26, _⟩ => ⟨S1x1024x1, .f32⟩
  | .local _ .vmem, ⟨27, _⟩ => ⟨S1x1024x1, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1x1024x1, .f32⟩
  | .local _ .vmem, ⟨33, _⟩ => ⟨S1x1024x1, .f32⟩
  | .local _ .vmem, ⟨34, _⟩ => ⟨S1x1024x1, .f32⟩
  | .local _ .vmem, ⟨35, _⟩ => ⟨S1x1024x1, .f32⟩
  | .local _ .vmem, ⟨36, _⟩ => ⟨S2048x128, .bf16⟩
  | .local _ .vmem, ⟨37, _⟩ => ⟨S2048x128, .bf16⟩
  | .local _ .vmem, ⟨38, _⟩ => ⟨S1024x128, .bf16⟩
  | .local _ .vmem, ⟨39, _⟩ => ⟨S1024x128, .bf16⟩
  | .local _ .vmem, ⟨40, _⟩ => ⟨S1024x128, .f32⟩
  | .local _ .vmem, ⟨41, _⟩ => ⟨S1024x128, .f32⟩
  | .local _ .vmem, ⟨42, _⟩ => ⟨S1x2048x1, .f32⟩
  | .local _ .vmem, ⟨43, _⟩ => ⟨S1x2048x1, .f32⟩
  | .local _ .vmem, ⟨44, _⟩ => ⟨S1x1x1x1024, .f32⟩
  | .local _ .vmem, ⟨45, _⟩ => ⟨S1x1x1x1024, .f32⟩
  | .local _ .vmem, ⟨46, _⟩ => ⟨S1x2048x1, .f32⟩
  | .local _ .vmem, ⟨47, _⟩ => ⟨S1x2048x1, .f32⟩
  | .local _ .vmem, ⟨48, _⟩ => ⟨S1x2048x1, .f32⟩
  | .local _ .vmem, ⟨49, _⟩ => ⟨S1x2048x1, .f32⟩
  | .local _ .vmem, ⟨50, _⟩ => ⟨S2048x128, .f32⟩
  | .local _ .vmem, ⟨51, _⟩ => ⟨S2048x128, .f32⟩
  | .local _ .vmem, ⟨52, _⟩ => ⟨S1024x128, .f32⟩
  | .local _ .vmem, ⟨53, _⟩ => ⟨S1024x128, .f32⟩
  | .local _ .vmem, ⟨54, _⟩ => ⟨S1024x128, .bf16⟩
  | .local _ .vmem, ⟨55, _⟩ => ⟨S1024x128, .bf16⟩
  | .local _ .vmem, ⟨56, _⟩ => ⟨S1x1x1x1024, .f32⟩
  | .local _ .vmem, ⟨57, _⟩ => ⟨S1x1x1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc2_stg9_0 : Ref sig .tc := ⟨.vmem, 54, rfl⟩
abbrev cc2_stg9_1 : Ref sig .tc := ⟨.vmem, 55, rfl⟩
abbrev cc2_stg10_0 : Ref sig .tc := ⟨.vmem, 56, rfl⟩
abbrev cc2_stg10_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc2_sem9_0 : DmaSem sig := 54
abbrev cc2_sem9_1 : DmaSem sig := 55
abbrev cc2_sem10_0 : DmaSem sig := 56
abbrev cc2_sem10_1 : DmaSem sig := 57

abbrev nD : Nat := 1
abbrev τ : Topo := Topo.v7x

variable {F : FTy → Type} [FloatOps F]

abbrev grid0 : Pipeline.Grid := ⟨2, ![8, 2], ![false, false]⟩

@[reducible] def k0_t1_loop (i : grid0.Coords) : Scf.Loop 32 :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  ⟨c0_i32, v10, c1_i32_6⟩
def k0_mult1 (i : grid0.Coords) (k0_t1 : Fin (k0_t1_loop i).trips) : BitVec 32 :=
  let c0_i32 : BitVec 32 := 0#32
  let c1_i32_6 : BitVec 32 := 1#32
  let arg9 : BitVec 32 := Scf.iv c0_i32 c1_i32_6 k0_t1
  let c1024_i32_24 : BitVec 32 := 1024#32
  let v60 : BitVec 32 := Scalar.muli arg9 c1024_i32_24
  v60
def k0_off1 (i : grid0.Coords) (k0_t1 : Fin (k0_t1_loop i).trips) : Fin 2 → Nat :=
  let c0_i32 : BitVec 32 := 0#32
  let c1_i32_6 : BitVec 32 := 1#32
  let arg9 : BitVec 32 := Scf.iv c0_i32 c1_i32_6 k0_t1
  let c1024_i32_24 : BitVec 32 := 1024#32
  let v60 : BitVec 32 := Scalar.muli arg9 c1024_i32_24
  let v61 : BitVec 32 := v60
  let v62 : Index := Scalar.indexCast v61
  let c0_25 : Index := 0#32
  ![v62.toNat, 0]
def k0_off2 (i : grid0.Coords) (k0_t1 : Fin (k0_t1_loop i).trips) : Fin 4 → Nat :=
  let c0_26 : Index := 0#32
  let c0_i32 : BitVec 32 := 0#32
  let c1_i32_6 : BitVec 32 := 1#32
  let arg9 : BitVec 32 := Scf.iv c0_i32 c1_i32_6 k0_t1
  let v64 : Index := Scalar.indexCast arg9
  let c0_27 : Index := 0#32
  let c0_28 : Index := 0#32
  ![0, v64.toNat, 0, 0]
@[reducible] def k0_t2_loop (i : grid0.Coords) : Scf.Loop 32 :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_7 : BitVec 32 := 1#32
  ⟨v10, v7, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_7 : BitVec 32 := 1#32
  let arg9 : BitVec 32 := Scf.iv v10 c1_i32_7 k0_t2
  let c1024_i32_24 : BitVec 32 := 1024#32
  let v60 : BitVec 32 := Scalar.muli arg9 c1024_i32_24
  v60
def k0_off3 (i : grid0.Coords) (k0_t2 : Fin (k0_t2_loop i).trips) : Fin 2 → Nat :=
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_7 : BitVec 32 := 1#32
  let arg9 : BitVec 32 := Scf.iv v10 c1_i32_7 k0_t2
  let c1024_i32_24 : BitVec 32 := 1024#32
  let v60 : BitVec 32 := Scalar.muli arg9 c1024_i32_24
  let v61 : BitVec 32 := v60
  let v62 : Index := Scalar.indexCast v61
  let c0_25 : Index := 0#32
  ![v62.toNat, 0]
def k0_off4 (i : grid0.Coords) (k0_t2 : Fin (k0_t2_loop i).trips) : Fin 4 → Nat :=
  let c0_26 : Index := 0#32
  let c0_i32 : BitVec 32 := 0#32
  let arg1 : BitVec 32 := BitVec.ofNat 32 (i 1).val
  let v6 : BitVec 32 := Scalar.subi arg1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_7 : BitVec 32 := 1#32
  let arg9 : BitVec 32 := Scf.iv v10 c1_i32_7 k0_t2
  let v64 : Index := Scalar.indexCast arg9
  let c0_27 : Index := 0#32
  let c0_28 : Index := 0#32
  ![0, v64.toNat, 0, 0]
def k0_mult3 (i : grid0.Coords) : BitVec 32 :=
  let arg1 : BitVec 32 := BitVec.ofNat 32 (i 1).val
  let c1024_i32 : BitVec 32 := 1024#32
  let v13 : BitVec 32 := Scalar.muli arg1 c1024_i32
  v13
def k0_off5 (i : grid0.Coords) : Fin 2 → Nat :=
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  let c0_8 : Index := 0#32
  ![v15.toNat, 0]
def k0_off6 (i : grid0.Coords) : Fin 4 → Nat :=
  let c0_9 : Index := 0#32
  let arg1 : BitVec 32 := BitVec.ofNat 32 (i 1).val
  let v17 : Index := Scalar.indexCast arg1
  let c0_10 : Index := 0#32
  let c0_11 : Index := 0#32
  ![0, v17.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 2], ![false, false]⟩

@[reducible] def k1_t1_loop (i : grid1.Coords) : Scf.Loop 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_13 : BitVec 32 := 1#32
  ⟨c0_i32, v17, c1_i32_13⟩
def k1_mult1 (i : grid1.Coords) (k1_t1 : Fin (k1_t1_loop i).trips) : BitVec 32 :=
  let c0_i32 : BitVec 32 := 0#32
  let c1_i32_13 : BitVec 32 := 1#32
  let arg13 : BitVec 32 := Scf.iv c0_i32 c1_i32_13 k1_t1
  let c1024_i32_35 : BitVec 32 := 1024#32
  let v65 : BitVec 32 := Scalar.muli arg13 c1024_i32_35
  v65
def k1_off1 (i : grid1.Coords) (k1_t1 : Fin (k1_t1_loop i).trips) : Fin 2 → Nat :=
  let c0_i32 : BitVec 32 := 0#32
  let c1_i32_13 : BitVec 32 := 1#32
  let arg13 : BitVec 32 := Scf.iv c0_i32 c1_i32_13 k1_t1
  let c1024_i32_35 : BitVec 32 := 1024#32
  let v65 : BitVec 32 := Scalar.muli arg13 c1024_i32_35
  let v66 : BitVec 32 := v65
  let v67 : Index := Scalar.indexCast v66
  let c0_36 : Index := 0#32
  ![v67.toNat, 0]
def k1_off2 (i : grid1.Coords) (k1_t1 : Fin (k1_t1_loop i).trips) : Fin 4 → Nat :=
  let c0_37 : Index := 0#32
  let c0_i32 : BitVec 32 := 0#32
  let c1_i32_13 : BitVec 32 := 1#32
  let arg13 : BitVec 32 := Scf.iv c0_i32 c1_i32_13 k1_t1
  let v69 : Index := Scalar.indexCast arg13
  let c0_38 : Index := 0#32
  let c0_39 : Index := 0#32
  ![0, v69.toNat, 0, 0]
@[reducible] def k1_t2_loop (i : grid1.Coords) : Scf.Loop 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let v14 : BitVec 32 := Scalar.addi c0_i32 v13
  let c1_i32_14 : BitVec 32 := 1#32
  ⟨v17, v14, c1_i32_14⟩
def k1_mult2 (i : grid1.Coords) (k1_t2 : Fin (k1_t2_loop i).trips) : BitVec 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_14 : BitVec 32 := 1#32
  let arg13 : BitVec 32 := Scf.iv v17 c1_i32_14 k1_t2
  let c1024_i32_35 : BitVec 32 := 1024#32
  let v65 : BitVec 32 := Scalar.muli arg13 c1024_i32_35
  v65
def k1_off3 (i : grid1.Coords) (k1_t2 : Fin (k1_t2_loop i).trips) : Fin 2 → Nat :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_14 : BitVec 32 := 1#32
  let arg13 : BitVec 32 := Scf.iv v17 c1_i32_14 k1_t2
  let c1024_i32_35 : BitVec 32 := 1024#32
  let v65 : BitVec 32 := Scalar.muli arg13 c1024_i32_35
  let v66 : BitVec 32 := v65
  let v67 : Index := Scalar.indexCast v66
  let c0_36 : Index := 0#32
  ![v67.toNat, 0]
def k1_off4 (i : grid1.Coords) (k1_t2 : Fin (k1_t2_loop i).trips) : Fin 4 → Nat :=
  let c0_37 : Index := 0#32
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_14 : BitVec 32 := 1#32
  let arg13 : BitVec 32 := Scf.iv v17 c1_i32_14 k1_t2
  let v69 : Index := Scalar.indexCast arg13
  let c0_38 : Index := 0#32
  let c0_39 : Index := 0#32
  ![0, v69.toNat, 0, 0]
def k1_mult3 (i : grid1.Coords) : BitVec 32 :=
  let arg1 : BitVec 32 := BitVec.ofNat 32 (i 1).val
  let c1024_i32 : BitVec 32 := 1024#32
  let v20 : BitVec 32 := Scalar.muli arg1 c1024_i32
  v20
def k1_off5 (i : grid1.Coords) : Fin 2 → Nat :=
  let arg1 : BitVec 32 := BitVec.ofNat 32 (i 1).val
  let c1024_i32 : BitVec 32 := 1024#32
  let v20 : BitVec 32 := Scalar.muli arg1 c1024_i32
  let v21 : BitVec 32 := v20
  let v22 : Index := Scalar.indexCast v21
  let c0_15 : Index := 0#32
  ![v22.toNat, 0]
def k1_off6 (i : grid1.Coords) : Fin 4 → Nat :=
  let c0_16 : Index := 0#32
  let arg1 : BitVec 32 := BitVec.ofNat 32 (i 1).val
  let v24 : Index := Scalar.indexCast arg1
  let c0_17 : Index := 0#32
  let c0_18 : Index := 0#32
  ![0, v24.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1024x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev grid2 : Pipeline.Grid := ⟨2, ![8, 2], ![false, false]⟩

def k2_mult1 (i : grid2.Coords) : BitVec 32 :=
  let arg1 : BitVec 32 := BitVec.ofNat 32 (i 1).val
  let c1024_i32 : BitVec 32 := 1024#32
  let v8 : BitVec 32 := Scalar.muli arg1 c1024_i32
  v8
def k2_off1 (i : grid2.Coords) : Fin 2 → Nat :=
  let arg1 : BitVec 32 := BitVec.ofNat 32 (i 1).val
  let c1024_i32 : BitVec 32 := 1024#32
  let v8 : BitVec 32 := Scalar.muli arg1 c1024_i32
  let v9 : BitVec 32 := v8
  let v10 : Index := Scalar.indexCast v9
  let c0_9 : Index := 0#32
  ![v10.toNat, 0]
def k2_off2 (i : grid2.Coords) : Fin 3 → Nat :=
  let c0_11 : Index := 0#32
  let arg1 : BitVec 32 := BitVec.ofNat 32 (i 1).val
  let c1024_i32 : BitVec 32 := 1024#32
  let v8 : BitVec 32 := Scalar.muli arg1 c1024_i32
  let v9 : BitVec 32 := v8
  let v14 : Index := Scalar.indexCast v9
  let c0_12 : Index := 0#32
  ![0, v14.toNat, 0]
@[reducible] def k2_t1_loop (i : grid2.Coords) : Scf.Loop 32 :=
  let arg1 : BitVec 32 := BitVec.ofNat 32 (i 1).val
  let c1_i32 : BitVec 32 := 1#32
  let v7 : BitVec 32 := Scalar.addi arg1 c1_i32
  let c2_i32 : BitVec 32 := 2#32
  let v54 : BitVec 32 := Scalar.subi c2_i32 v7
  let c1_i32_24 : BitVec 32 := 1#32
  let v56 : BitVec 32 := Scalar.divsi v54 c1_i32_24
  let v57 : BitVec 32 := Scalar.muli v56 c1_i32_24
  let v58 : BitVec 32 := Scalar.addi v7 v57
  let c1_i32_25 : BitVec 32 := 1#32
  ⟨v7, v58, c1_i32_25⟩
def k2_mult2 (i : grid2.Coords) (k2_t1 : Fin (k2_t1_loop i).trips) : BitVec 32 :=
  let arg1 : BitVec 32 := BitVec.ofNat 32 (i 1).val
  let c1_i32 : BitVec 32 := 1#32
  let v7 : BitVec 32 := Scalar.addi arg1 c1_i32
  let c1_i32_25 : BitVec 32 := 1#32
  let arg13 : BitVec 32 := Scf.iv v7 c1_i32_25 k2_t1
  let c1024_i32_36 : BitVec 32 := 1024#32
  let v69 : BitVec 32 := Scalar.muli arg13 c1024_i32_36
  v69
def k2_off3 (i : grid2.Coords) (k2_t1 : Fin (k2_t1_loop i).trips) : Fin 2 → Nat :=
  let arg1 : BitVec 32 := BitVec.ofNat 32 (i 1).val
  let c1_i32 : BitVec 32 := 1#32
  let v7 : BitVec 32 := Scalar.addi arg1 c1_i32
  let c1_i32_25 : BitVec 32 := 1#32
  let arg13 : BitVec 32 := Scf.iv v7 c1_i32_25 k2_t1
  let c1024_i32_36 : BitVec 32 := 1024#32
  let v69 : BitVec 32 := Scalar.muli arg13 c1024_i32_36
  let v70 : BitVec 32 := v69
  let v71 : Index := Scalar.indexCast v70
  let c0_37 : Index := 0#32
  ![v71.toNat, 0]
def k2_off4 (i : grid2.Coords) (k2_t1 : Fin (k2_t1_loop i).trips) : Fin 3 → Nat :=
  let c0_39 : Index := 0#32
  let arg1 : BitVec 32 := BitVec.ofNat 32 (i 1).val
  let c1_i32 : BitVec 32 := 1#32
  let v7 : BitVec 32 := Scalar.addi arg1 c1_i32
  let c1_i32_25 : BitVec 32 := 1#32
  let arg13 : BitVec 32 := Scf.iv v7 c1_i32_25 k2_t1
  let c1024_i32_36 : BitVec 32 := 1024#32
  let v69 : BitVec 32 := Scalar.muli arg13 c1024_i32_36
  let v70 : BitVec 32 := v69
  let v75 : Index := Scalar.indexCast v70
  let c0_40 : Index := 0#32
  ![0, v75.toNat, 0]
@[reducible] def k2_t2_loop (i : grid2.Coords) : Scf.Loop 32 :=
  let arg1 : BitVec 32 := BitVec.ofNat 32 (i 1).val
  let c1_i32 : BitVec 32 := 1#32
  let v7 : BitVec 32 := Scalar.addi arg1 c1_i32
  let c2_i32 : BitVec 32 := 2#32
  let v54 : BitVec 32 := Scalar.subi c2_i32 v7
  let c1_i32_24 : BitVec 32 := 1#32
  let v56 : BitVec 32 := Scalar.divsi v54 c1_i32_24
  let v57 : BitVec 32 := Scalar.muli v56 c1_i32_24
  let v58 : BitVec 32 := Scalar.addi v7 v57
  let v55 : BitVec 32 := Scalar.addi v7 v54
  let c1_i32_26 : BitVec 32 := 1#32
  ⟨v58, v55, c1_i32_26⟩
def k2_mult3 (i : grid2.Coords) (k2_t2 : Fin (k2_t2_loop i).trips) : BitVec 32 :=
  let arg1 : BitVec 32 := BitVec.ofNat 32 (i 1).val
  let c1_i32 : BitVec 32 := 1#32
  let v7 : BitVec 32 := Scalar.addi arg1 c1_i32
  let c2_i32 : BitVec 32 := 2#32
  let v54 : BitVec 32 := Scalar.subi c2_i32 v7
  let c1_i32_24 : BitVec 32 := 1#32
  let v56 : BitVec 32 := Scalar.divsi v54 c1_i32_24
  let v57 : BitVec 32 := Scalar.muli v56 c1_i32_24
  let v58 : BitVec 32 := Scalar.addi v7 v57
  let c1_i32_26 : BitVec 32 := 1#32
  let arg13 : BitVec 32 := Scf.iv v58 c1_i32_26 k2_t2
  let c1024_i32_36 : BitVec 32 := 1024#32
  let v69 : BitVec 32 := Scalar.muli arg13 c1024_i32_36
  v69
def k2_off5 (i : grid2.Coords) (k2_t2 : Fin (k2_t2_loop i).trips) : Fin 2 → Nat :=
  let arg1 : BitVec 32 := BitVec.ofNat 32 (i 1).val
  let c1_i32 : BitVec 32 := 1#32
  let v7 : BitVec 32 := Scalar.addi arg1 c1_i32
  let c2_i32 : BitVec 32 := 2#32
  let v54 : BitVec 32 := Scalar.subi c2_i32 v7
  let c1_i32_24 : BitVec 32 := 1#32
  let v56 : BitVec 32 := Scalar.divsi v54 c1_i32_24
  let v57 : BitVec 32 := Scalar.muli v56 c1_i32_24
  let v58 : BitVec 32 := Scalar.addi v7 v57
  let c1_i32_26 : BitVec 32 := 1#32
  let arg13 : BitVec 32 := Scf.iv v58 c1_i32_26 k2_t2
  let c1024_i32_36 : BitVec 32 := 1024#32
  let v69 : BitVec 32 := Scalar.muli arg13 c1024_i32_36
  let v70 : BitVec 32 := v69
  let v71 : Index := Scalar.indexCast v70
  let c0_37 : Index := 0#32
  ![v71.toNat, 0]
def k2_off6 (i : grid2.Coords) (k2_t2 : Fin (k2_t2_loop i).trips) : Fin 3 → Nat :=
  let c0_39 : Index := 0#32
  let arg1 : BitVec 32 := BitVec.ofNat 32 (i 1).val
  let c1_i32 : BitVec 32 := 1#32
  let v7 : BitVec 32 := Scalar.addi arg1 c1_i32
  let c2_i32 : BitVec 32 := 2#32
  let v54 : BitVec 32 := Scalar.subi c2_i32 v7
  let c1_i32_24 : BitVec 32 := 1#32
  let v56 : BitVec 32 := Scalar.divsi v54 c1_i32_24
  let v57 : BitVec 32 := Scalar.muli v56 c1_i32_24
  let v58 : BitVec 32 := Scalar.addi v7 v57
  let c1_i32_26 : BitVec 32 := 1#32
  let arg13 : BitVec 32 := Scf.iv v58 c1_i32_26 k2_t2
  let c1024_i32_36 : BitVec 32 := 1024#32
  let v69 : BitVec 32 := Scalar.muli arg13 c1024_i32_36
  let v70 : BitVec 32 := v69
  let v75 : Index := Scalar.indexCast v70
  let c0_40 : Index := 0#32
  ![0, v75.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x2048x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S2048x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1024x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1024x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x1x1x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== Reference10Ideal.lean ====
abbrev S2048x1024 : Shape := ⟨2, ![2048, 1024]⟩
abbrev S2048x3200 : Shape := ⟨2, ![2048, 3200]⟩
abbrev S8x2048 : Shape := ⟨2, ![8, 2048]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x3200, .f32⟩
  | .hbm, ⟨3, _⟩ => ⟨S8x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x8x128, .f32⟩
  | .hbm, ⟨9, _⟩ => ⟨S8x2048x128, .f32⟩
  | .hbm, ⟨10, _⟩ => ⟨S2048x8x128, .f32⟩
  | .hbm, ⟨11, _⟩ => ⟨S8x2048x128, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S1x2048, .i32⟩
  | .hbm, ⟨24, _⟩ => ⟨S2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S8x2048x2048, .i1⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .i1⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S8x2048, .i1⟩
  | .hbm, ⟨50, _⟩ => ⟨S_, .f32⟩
  | .hbm, ⟨51, _⟩ => ⟨S8x2048, .f32⟩
  | .hbm, ⟨52, _⟩ => ⟨S8x2048, .i1⟩
  | .hbm, ⟨53, _⟩ => ⟨S_, .f32⟩
  | .hbm, ⟨54, _⟩ => ⟨S8x2048, .f32⟩
  | .hbm, ⟨55, _⟩ => ⟨S_, .f32⟩
  | .hbm, ⟨56, _⟩ => ⟨S8x2048, .f32⟩
  | .hbm, ⟨57, _⟩ => ⟨S_, .f32⟩
  | .hbm, ⟨58, _⟩ => ⟨S8x2048, .f32⟩
  | .hbm, ⟨59, _⟩ => ⟨S8x2048, .f32⟩
  | .hbm, ⟨60, _⟩ => ⟨S8x2048, .f32⟩
  | .hbm, ⟨61, _⟩ => ⟨S8x2048x1, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S8x2048x2048, .f32⟩
  | .hbm, ⟨69, _⟩ => ⟨S8x2048x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S2048x8x128, .f32⟩
  | .hbm, ⟨75, _⟩ => ⟨S8x2048x128, .f32⟩
  | .hbm, ⟨76, _⟩ => ⟨S8x2048x128, .f32⟩
  | .hbm, ⟨77, _⟩ => ⟨S2048x8x128, .f32⟩
  | .hbm, ⟨78, _⟩ => ⟨S2048x1024, .f32⟩
  | .hbm, ⟨79, _⟩ => ⟨S2048x8x128, .f32⟩
  | .hbm, ⟨80, _⟩ => ⟨S8x2048x128, .f32⟩
  | .hbm, ⟨81, _⟩ => ⟨S8x128x2048, .f32⟩
  | .hbm, ⟨82, _⟩ => ⟨S8x2048x128, .f32⟩
  | .hbm, ⟨83, _⟩ => ⟨S8x2048x2048, .f32⟩
  | .hbm, ⟨84, _⟩ => ⟨S2048x8x128, .f32⟩
  | .hbm, ⟨85, _⟩ => ⟨S2048x1024, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S_, .f32⟩
  | .hbm, ⟨90, _⟩ => ⟨S8x2048, .f32⟩
  | .hbm, ⟨91, _⟩ => ⟨S8x2048x1, .f32⟩
  | .hbm, ⟨92, _⟩ => ⟨S8x2048x1, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048, .f32⟩
  | .hbm, ⟨97, _⟩ => ⟨S8x2048x2048, .f32⟩
  | .hbm, ⟨98, _⟩ => ⟨S8x2048x2048, .f32⟩
  | .hbm, ⟨99, _⟩ => ⟨S8x2048x2048, .f32⟩
  | .hbm, ⟨100, _⟩ => ⟨S_, .f32⟩
  | .hbm, ⟨101, _⟩ => ⟨S8x2048x2048, .f32⟩
  | .hbm, ⟨102, _⟩ => ⟨S8x2048x2048, .f32⟩
  | .hbm, ⟨103, _⟩ => ⟨S8x2048x2048, .f32⟩
  | .hbm, ⟨104, _⟩ => ⟨S_, .f32⟩
  | .hbm, ⟨105, _⟩ => ⟨S8x2048, .f32⟩
  | .hbm, ⟨106, _⟩ => ⟨S8x1x2048, .f32⟩
  | .hbm, ⟨107, _⟩ => ⟨S_, .f32⟩
  | .hbm, ⟨108, _⟩ => ⟨S8x2048, .f32⟩
  | .hbm, ⟨109, _⟩ => ⟨S_, .f32⟩
  | .hbm, ⟨110, _⟩ => ⟨S8x2048, .f32⟩
  | .hbm, ⟨111, _⟩ => ⟨S8x2048x1, .f32⟩
  | .hbm, ⟨112, _⟩ => ⟨S_, .f32⟩
  | .hbm, ⟨113, _⟩ => ⟨S8x2048, .f32⟩
  | .hbm, ⟨114, _⟩ => ⟨S8x2048, .f32⟩
  | .hbm, ⟨115, _⟩ => ⟨S_, .f32⟩
  | .hbm, ⟨116, _⟩ => ⟨S8x2048x2048, .f32⟩
  | .hbm, ⟨117, _⟩ => ⟨S8x2048x2048, .f32⟩
  | .hbm, ⟨118, _⟩ => ⟨S8x2048x128, .f32⟩
  | .hbm, ⟨119, _⟩ => ⟨S8x2048x128, .f32⟩
  | .hbm, ⟨120, _⟩ => ⟨S2048x8x128, .f32⟩
  | .hbm, ⟨121, _⟩ => ⟨S2048x1024, .f32⟩
  | .hbm, ⟨122, _⟩ => ⟨S2048x8x128, .f32⟩
  | .hbm, ⟨123, _⟩ => ⟨S2048x1024, .f32⟩
  | .hbm, ⟨124, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Proof.RefOps.lean ====
/-
  The reference program's operations, stretch by stretch: `main` is three stretches of host operations with a counted loop after
  each of the first two, and each loop's body is a list of stretches. For every stretch: it touches TensorCore references only,
  allocates nothing, and leaves every buffer that it does not write as it was.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Hand

open Cert.ReferenceIdeal Cert.ReferenceIdeal.Gen
open Idealize.ShloMosaic Idealize.ShloMosaic.TcCoe
open Idealize.ShloMosaic.StableHlo (after)
open Idealize.SL Idealize.SL.RA Idealize.SL.BI
open scoped Idealize.SL.BI
open Idealize.SL.BI.BIBase Idealize.SL.Sem

variable {F : FTy → Type} [FloatOps F]

/-- 30 host operations of @main, in order. -/
abbrev hostOps0 : List (HloOp τ sig (Elt F)) :=
  [ StableHlo.reshape main_arg0 main_v0 (rfl : (.f32 : EltTy) = .f32) shapeCasts_S2048x1024_S32x64x8x128,
    StableHlo.unary main_v0 main_v1 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg1 main_v2 (rfl : (.f32 : EltTy) = .f32) shapeCasts_S2048x1024_S32x64x8x128,
    StableHlo.unary main_v2 main_v3 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg2 main_v4 (rfl : (.f32 : EltTy) = .f32) shapeCasts_S2048x1024_S32x64x8x128,
    StableHlo.unary main_v4 main_v5 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.unary main_arg3 main_v6 ((transpose S32x8x64x64 [1, 0, 2, 3] · transposes_S8x32x64x64_S32x8x64x64_1_0_2_3) : (⟨S8x32x64x64, .f32⟩ : BufTy).Contents (Elt F) → (⟨S32x8x64x64, .f32⟩ : BufTy).Contents (Elt F)),
    StableHlo.reshape main_arg4 main_v7 (rfl : (.f32 : EltTy) = .f32) shapeCasts_S2048x1024_S32x64x8x128,
    StableHlo.unary main_v7 main_v8 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.unary main_arg5 main_v9 ((transpose S32x8x1x128 [1, 0, 2, 3] · transposes_S8x32x1x128_S32x8x1x128_1_0_2_3) : (⟨S8x32x1x128, .f32⟩ : BufTy).Contents (Elt F) → (⟨S32x8x1x128, .f32⟩ : BufTy).Contents (Elt F)),
    StableHlo.nullary main_cst (constant S_ .f32 0x00000000#32),
    StableHlo.unary main_cst main_v10 (broadcastInDim S8x128x128 ![] bcast_S_S8x128x128 : (⟨S_, .f32⟩ : BufTy).Contents (Elt F) → (⟨S8x128x128, .f32⟩ : BufTy).Contents (Elt F)),
    StableHlo.nullary main_cst_0 (constant S_ .f32 0x00000000#32),
    StableHlo.unary main_cst_0 main_v11 (broadcastInDim S32x8x64x128 ![] bcast_S_S32x8x64x128 : (⟨S_, .f32⟩ : BufTy).Contents (Elt F) → (⟨S32x8x64x128, .f32⟩ : BufTy).Contents (Elt F)),
    StableHlo.nullary main_cst_1 (constant S_ .f32 0x00000000#32),
    StableHlo.unary main_cst_1 main_v12 (broadcastInDim S32x8x128x128 ![] bcast_S_S32x8x128x128 : (⟨S_, .f32⟩ : BufTy).Contents (Elt F) → (⟨S32x8x128x128, .f32⟩ : BufTy).Contents (Elt F)),
    StableHlo.nullary main_cst_2 (constant S_ .f32 0x00000000#32),
    StableHlo.unary main_cst_2 main_v13 (broadcastInDim S32x8x64x128 ![] bcast_S_S32x8x64x128 : (⟨S_, .f32⟩ : BufTy).Contents (Elt F) → (⟨S32x8x64x128, .f32⟩ : BufTy).Contents (Elt F)),
    StableHlo.nullary main_c (constantI S_ 32 0#32),
    StableHlo.unary main_v1 main_v14_0 id,
    StableHlo.unary main_v3 main_v14_1 id,
    StableHlo.unary main_v5 main_v14_2 id,
    StableHlo.unary main_v6 main_v14_3 id,
    StableHlo.unary main_v8 main_v14_4 id,
    StableHlo.unary main_v9 main_v14_5 id,
    StableHlo.unary main_c main_v14_6 id,
    StableHlo.unary main_v10 main_v14_7 id,
    StableHlo.unary main_v11 main_v14_8 id,
    StableHlo.unary main_v12 main_v14_9 id,
    StableHlo.unary main_v13 main_v14_10 id ]
theorem hostOps0_sub : (hostOps0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 37 host operations of @main, in order. -/
abbrev hostOps0_1 : List (HloOp τ sig (Elt F)) :=
  ( StableHlo.unary main_v14_8 main_v15 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F))
  :: StableHlo.reshape main_v15 main_v16 (rfl : (.f32 : EltTy) = .f32) shapeCasts_S32x64x8x128_S2048x1024
  :: StableHlo.nullary main_cst_3 (constant S_ .f32 0x00000000#32)
  :: StableHlo.unary main_cst_3 main_v17 (broadcastInDim S8x128x128 ![] bcast_S_S8x128x128 : (⟨S_, .f32⟩ : BufTy).Contents (Elt F) → (⟨S8x128x128, .f32⟩ : BufTy).Contents (Elt F))
  :: StableHlo.reshape main_arg6 main_v18 (rfl : (.f32 : EltTy) = .f32) shapeCasts_S2048x1024_S32x64x8x128
  :: StableHlo.unary main_v18 main_v19 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F))
  :: StableHlo.nullary main_cst_4 (constant S_ .f32 0x00000000#32)
  :: StableHlo.unary main_cst_4 main_v20 (broadcastInDim S8x128x128 ![] bcast_S_S8x128x128 : (⟨S_, .f32⟩ : BufTy).Contents (Elt F) → (⟨S8x128x128, .f32⟩ : BufTy).Contents (Elt F))
  :: StableHlo.nullary main_cst_5 (constant S_ .f32 0x00000000#32)
  :: StableHlo.unary main_cst_5 main_v21 (broadcastInDim S32x8x64x128 ![] bcast_S_S32x8x64x128 : (⟨S_, .f32⟩ : BufTy).Contents (Elt F) → (⟨S32x8x64x128, .f32⟩ : BufTy).Contents (Elt F))
  :: StableHlo.nullary main_cst_6 (constant S_ .f32 0x00000000#32)
  :: StableHlo.unary main_cst_6 main_v22 (broadcastInDim S32x8x64x128 ![] bcast_S_S32x8x64x128 : (⟨S_, .f32⟩ : BufTy).Contents (Elt F) → (⟨S32x8x64x128, .f32⟩ : BufTy).Contents (Elt F))
  :: StableHlo.nullary main_cst_7 (constant S_ .f32 0x00000000#32)
  :: StableHlo.unary main_cst_7 main_v23 (broadcastInDim S32x8x64x128 ![] bcast_S_S32x8x64x128 : (⟨S_, .f32⟩ : BufTy).Contents (Elt F) → (⟨S32x8x64x128, .f32⟩ : BufTy).Contents (Elt F))
  :: StableHlo.nullary main_cst_8 (constant S_ .f32 0x00000000#32)
  :: StableHlo.unary main_cst_8 main_v24 (broadcastInDim S32x8x64x64 ![] bcast_S_S32x8x64x64 : (⟨S_, .f32⟩ : BufTy).Contents (Elt F) → (⟨S32x8x64x64, .f32⟩ : BufTy).Contents (Elt F))
  :: StableHlo.nullary main_cst_9 (constant S_ .f32 0x00000000#32)
  :: StableHlo.unary main_cst_9 main_v25 (broadcastInDim S32x8x64x128 ![] bcast_S_S32x8x64x128 : (⟨S_, .f32⟩ : BufTy).Contents (Elt F) → (⟨S32x8x64x128, .f32⟩ : BufTy).Contents (Elt F))
  :: StableHlo.nullary main_cst_10 (constant S_ .f32 0x00000000#32)
  :: StableHlo.unary main_cst_10 main_v26 (broadcastInDim S32x8x1x128 ![] bcast_S_S32x8x1x128 : (⟨S_, .f32⟩ : BufTy).Contents (Elt F) → (⟨S32x8x1x128, .f32⟩ : BufTy).Contents (Elt F))
  :: StableHlo.nullary main_c_11 (constantI S_ 32 0#32)
  :: StableHlo.unary main_v19 main_v27_0 id
  :: StableHlo.unary main_v14_9 main_v27_1 id
  :: StableHlo.unary main_v3 main_v27_2 id
  :: StableHlo.unary main_v5 main_v27_3 id
  :: StableHlo.unary main_v14_10 main_v27_4 id
  :: StableHlo.unary main_v6 main_v27_5 id
  :: StableHlo.unary main_v9 main_v27_6 id
  :: StableHlo.unary main_v8 main_v27_7 id
  :: StableHlo.unary main_c_11 main_v27_8 id
  :: StableHlo.unary main_v20 main_v27_9 id
  :: StableHlo.unary main_v21 main_v27_10 id
  :: StableHlo.unary main_v22 main_v27_11 id
  :: StableHlo.unary main_v23 main_v27_12 id
  :: StableHlo.unary main_v24 main_v27_13 id
  :: StableHlo.unary main_v25 main_v27_14 id
  :: StableHlo.unary main_v26 main_v27_15 id
  :: [] )
theorem hostOps0_1_sub : (hostOps0_1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 10 host operations of @main, in order. -/
abbrev hostOps0_2 : List (HloOp τ sig (Elt F)) :=
  [ StableHlo.unary main_v27_15 main_v28 ((transpose S8x32x1x128 [1, 0, 2, 3] · transposes_S32x8x1x128_S8x32x1x128_1_0_2_3) : (⟨S32x8x1x128, .f32⟩ : BufTy).Contents (Elt F) → (⟨S8x32x1x128, .f32⟩ : BufTy).Contents (Elt F)),
    StableHlo.unary main_v27_14 main_v29 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v29 main_v30 (rfl : (.f32 : EltTy) = .f32) shapeCasts_S32x64x8x128_S2048x1024,
    StableHlo.unary main_v27_13 main_v31 ((transpose S8x32x64x64 [1, 0, 2, 3] · transposes_S32x8x64x64_S8x32x64x64_1_0_2_3) : (⟨S32x8x64x64, .f32⟩ : BufTy).Contents (Elt F) → (⟨S8x32x64x64, .f32⟩ : BufTy).Contents (Elt F)),
    StableHlo.unary main_v27_12 main_v32 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v32 main_v33 (rfl : (.f32 : EltTy) = .f32) shapeCasts_S32x64x8x128_S2048x1024,
    StableHlo.unary main_v27_11 main_v34 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v34 main_v35 (rfl : (.f32 : EltTy) = .f32) shapeCasts_S32x64x8x128_S2048x1024,
    StableHlo.unary main_v27_10 main_v36 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v36 main_v37 (rfl : (.f32 : EltTy) = .f32) shapeCasts_S32x64x8x128_S2048x1024 ]
theorem hostOps0_2_sub : (hostOps0_2 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub ..⟩
/-- 30 host operations of @main, window 0 (statements 1 … 60), in order. -/
abbrev main_part0_ops0 : List (HloOp τ sig (Elt F)) :=
  [ StableHlo.reshape main_arg0 main_v0 (rfl : (.f32 : EltTy) = .f32) shapeCasts_S2048x1024_S32x64x8x128,
    StableHlo.unary main_v0 main_v1 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg1 main_v2 (rfl : (.f32 : EltTy) = .f32) shapeCasts_S2048x1024_S32x64x8x128,
    StableHlo.unary main_v2 main_v3 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg2 main_v4 (rfl : (.f32 : EltTy) = .f32) shapeCasts_S2048x1024_S32x64x8x128,
    StableHlo.unary main_v4 main_v5 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.unary main_arg3 main_v6 ((transpose S32x8x64x64 [1, 0, 2, 3] · transposes_S8x32x64x64_S32x8x64x64_1_0_2_3) : (⟨S8x32x64x64, .f32⟩ : BufTy).Contents (Elt F) → (⟨S32x8x64x64, .f32⟩ : BufTy).Contents (Elt F)),
    StableHlo.reshape main_arg4 main_v7 (rfl : (.f32 : EltTy) = .f32) shapeCasts_S2048x1024_S32x64x8x128,
    StableHlo.unary main_v7 main_v8 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.unary main_arg5 main_v9 ((transpose S32x8x1x128 [1, 0, 2, 3] · transposes_S8x32x1x128_S32x8x1x128_1_0_2_3) : (⟨S8x32x1x128, .f32⟩ : BufTy).Contents (Elt F) → (⟨S32x8x1x128, .f32⟩ : BufTy).Contents (Elt F)),
    StableHlo.nullary main_cst (constant S_ .f32 0x00000000#32),
    StableHlo.unary main_cst main_v10 (broadcastInDim S8x128x128 ![] bcast_S_S8x128x128 : (⟨S_, .f32⟩ : BufTy).Contents (Elt F) → (⟨S8x128x128, .f32⟩ : BufTy).Contents (Elt F)),
    StableHlo.nullary main_cst_0 (constant S_ .f32 0x00000000#32),
    StableHlo.unary main_cst_0 main_v11 (broadcastInDim S32x8x64x128 ![] bcast_S_S32x8x64x128 : (⟨S_, .f32⟩ : BufTy).Contents (Elt F) → (⟨S32x8x64x128, .f32⟩ : BufTy).Contents (Elt F)),
    StableHlo.nullary main_cst_1 (constant S_ .f32 0x00000000#32),
    StableHlo.unary main_cst_1 main_v12 (broadcastInDim S32x8x128x128 ![] bcast_S_S32x8x128x128 : (⟨S_, .f32⟩ : BufTy).Contents (Elt F) → (⟨S32x8x128x128, .f32⟩ : BufTy).Contents (Elt F)),
    StableHlo.nullary main_cst_2 (constant S_ .f32 0x00000000#32),
    StableHlo.unary main_cst_2 main_v13 (broadcastInDim S32x8x64x128 ![] bcast_S_S32x8x64x128 : (⟨S_, .f32⟩ : BufTy).Contents (Elt F) → (⟨S32x8x64x128, .f32⟩ : BufTy).Contents (Elt F)),
    StableHlo.nullary main_c (constantI S_ 32 0#32),
    StableHlo.unary main_v1 main_v14_0 id,
    StableHlo.unary main_v3 main_v14_1 id,
    StableHlo.unary main_v5 main_v14_2 id,
    StableHlo.unary main_v6 main_v14_3 id,
    StableHlo.unary main_v8 main_v14_4 id,
    StableHlo.unary main_v9 main_v14_5 id,
    StableHlo.unary main_c main_v14_6 id,
    StableHlo.unary main_v10 main_v14_7 id,
    StableHlo.unary main_v11 main_v14_8 id,
    StableHlo.unary main_v12 main_v14_9 id,
    StableHlo.unary main_v13 main_v14_10 id ]
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 29 host operations of @main, window 0 (statements 1 … 60), in order. -/
abbrev main_part0_ops1 : List (HloOp τ sig (Elt F)) :=
  [ StableHlo.unary main_v14_8 main_v15 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v15 main_v16 (rfl : (.f32 : EltTy) = .f32) shapeCasts_S32x64x8x128_S2048x1024,
    StableHlo.nullary main_cst_3 (constant S_ .f32 0x00000000#32),
    StableHlo.unary main_cst_3 main_v17 (broadcastInDim S8x128x128 ![] bcast_S_S8x128x128 : (⟨S_, .f32⟩ : BufTy).Contents (Elt F) → (⟨S8x128x128, .f32⟩ : BufTy).Contents (Elt F)),
    StableHlo.reshape main_arg6 main_v18 (rfl : (.f32 : EltTy) = .f32) shapeCasts_S2048x1024_S32x64x8x128,
    StableHlo.unary main_v18 main_v19 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.nullary main_cst_4 (constant S_ .f32 0x00000000#32),
    StableHlo.unary main_cst_4 main_v20 (broadcastInDim S8x128x128 ![] bcast_S_S8x128x128 : (⟨S_, .f32⟩ : BufTy).Contents (Elt F) → (⟨S8x128x128, .f32⟩ : BufTy).Contents (Elt F)),
    StableHlo.nullary main_cst_5 (constant S_ .f32 0x00000000#32),
    StableHlo.unary main_cst_5 main_v21 (broadcastInDim S32x8x64x128 ![] bcast_S_S32x8x64x128 : (⟨S_, .f32⟩ : BufTy).Contents (Elt F) → (⟨S32x8x64x128, .f32⟩ : BufTy).Contents (Elt F)),
    StableHlo.nullary main_cst_6 (constant S_ .f32 0x00000000#32),
    StableHlo.unary main_cst_6 main_v22 (broadcastInDim S32x8x64x128 ![] bcast_S_S32x8x64x128 : (⟨S_, .f32⟩ : BufTy).Contents (Elt F) → (⟨S32x8x64x128, .f32⟩ : BufTy).Contents (Elt F)),
    StableHlo.nullary main_cst_7 (constant S_ .f32 0x00000000#32),
    StableHlo.unary main_cst_7 main_v23 (broadcastInDim S32x8x64x128 ![] bcast_S_S32x8x64x128 : (⟨S_, .f32⟩ : BufTy).Contents (Elt F) → (⟨S32x8x64x128, .f32⟩ : BufTy).Contents (Elt F)),
    StableHlo.nullary main_cst_8 (constant S_ .f32 0x00000000#32),
    StableHlo.unary main_cst_8 main_v24 (broadcastInDim S32x8x64x64 ![] bcast_S_S32x8x64x64 : (⟨S_, .f32⟩ : BufTy).Contents (Elt F) → (⟨S32x8x64x64, .f32⟩ : BufTy).Contents (Elt F)),
    StableHlo.nullary main_cst_9 (constant S_ .f32 0x00000000#32),
    StableHlo.unary main_cst_9 main_v25 (broadcastInDim S32x8x64x128 ![] bcast_S_S32x8x64x128 : (⟨S_, .f32⟩ : BufTy).Contents (Elt F) → (⟨S32x8x64x128, .f32⟩ : BufTy).Contents (Elt F)),
    StableHlo.nullary main_cst_10 (constant S_ .f32 0x00000000#32),
    StableHlo.unary main_cst_10 main_v26 (broadcastInDim S32x8x1x128 ![] bcast_S_S32x8x1x128 : (⟨S_, .f32⟩ : BufTy).Contents (Elt F) → (⟨S32x8x1x128, .f32⟩ : BufTy).Contents (Elt F)),
    StableHlo.nullary main_c_11 (constantI S_ 32 0#32),
    StableHlo.unary main_v19 main_v27_0 id,
    StableHlo.unary main_v14_9 main_v27_1 id,
    StableHlo.unary main_v3 main_v27_2 id,
    StableHlo.unary main_v5 main_v27_3 id,
    StableHlo.unary main_v14_10 main_v27_4 id,
    StableHlo.unary main_v6 main_v27_5 id,
    StableHlo.unary main_v9 main_v27_6 id,
    StableHlo.unary main_v8 main_v27_7 id ]
theorem main_part0_ops1_sub : (main_part0_ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The first window of `main` is the chain of its items. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

/-- 8 host operations of @main, window 1 (statements 61 … 80), in order. -/
abbrev main_part1_ops0 : List (HloOp τ sig (Elt F)) :=
  [ StableHlo.unary main_c_11 main_v27_8 id,
    StableHlo.unary main_v20 main_v27_9 id,
    StableHlo.unary main_v21 main_v27_10 id,
    StableHlo.unary main_v22 main_v27_11 id,
    StableHlo.unary main_v23 main_v27_12 id,
    StableHlo.unary main_v24 main_v27_13 id,
    StableHlo.unary main_v25 main_v27_14 id,
    StableHlo.unary main_v26 main_v27_15 id ]
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 10 host operations of @main, window 1 (statements 61 … 80), in order. -/
abbrev main_part1_ops1 : List (HloOp τ sig (Elt F)) :=
  [ StableHlo.unary main_v27_15 main_v28 ((transpose S8x32x1x128 [1, 0, 2, 3] · transposes_S32x8x1x128_S8x32x1x128_1_0_2_3) : (⟨S32x8x1x128, .f32⟩ : BufTy).Contents (Elt F) → (⟨S8x32x1x128, .f32⟩ : BufTy).Contents (Elt F)),
    StableHlo.unary main_v27_14 main_v29 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v29 main_v30 (rfl : (.f32 : EltTy) = .f32) shapeCasts_S32x64x8x128_S2048x1024,
    StableHlo.unary main_v27_13 main_v31 ((transpose S8x32x64x64 [1, 0, 2, 3] · transposes_S32x8x64x64_S8x32x64x64_1_0_2_3) : (⟨S32x8x64x64, .f32⟩ : BufTy).Contents (Elt F) → (⟨S8x32x64x64, .f32⟩ : BufTy).Contents (Elt F)),
    StableHlo.unary main_v27_12 main_v32 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v32 main_v33 (rfl : (.f32 : EltTy) = .f32) shapeCasts_S32x64x8x128_S2048x1024,
    StableHlo.unary main_v27_11 main_v34 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v34 main_v35 (rfl : (.f32 : EltTy) = .f32) shapeCasts_S32x64x8x128_S2048x1024,
    StableHlo.unary main_v27_10 main_v36 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v36 main_v37 (rfl : (.f32 : EltTy) = .f32) shapeCasts_S32x64x8x128_S2048x1024 ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub ..⟩
/-- The last window of `main` is the chain of its items. -/
theorem main_part1_chain (c : Dev nD) : main_part1 (F := F) c = (Pipeline.chain
  [ StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its windows' items. -/
theorem main_chain_windows (c : Dev nD) : main (F := F) c = (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each with the pieces that its windows cut it into. -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

/-- The windows' items are the cut groups. -/
theorem main_chain_cut (c : Dev nD) : (Pipeline.chain
  [ StableHlo.seq main_part0_ops0,
    HostLoop.enter 0,
    StableHlo.seq main_part0_ops1,
    StableHlo.seq main_part1_ops0,
    HostLoop.enter 1,
    StableHlo.seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- The groups joined are `main`'s items. -/
theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- `main` is three stretches of operations with a loop after each of the first two. -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 5 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v14_0 : StableHlo.TRef sig ⟨S32x8x64x128, .f32⟩) ![(.of main_v14_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call0_v0 : StableHlo.TRef sig ⟨S1x8x64x128, .f32⟩) (.of main_while0b_v38 : StableHlo.TRef sig ⟨S8x64x128, .f32⟩) (rfl : (.f32 : EltTy) = .f32) shapeCasts_S1x8x64x128_S8x64x128 ]
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v14_1 : StableHlo.TRef sig ⟨S32x8x64x128, .f32⟩) ![(.of main_v14_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call1_v0 : StableHlo.TRef sig ⟨S1x8x64x128, .f32⟩) (.of main_while0b_v39 : StableHlo.TRef sig ⟨S8x64x128, .f32⟩) (rfl : (.f32 : EltTy) = .f32) shapeCasts_S1x8x64x128_S8x64x128 ]
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call2), in order. -/
abbrev while0Ops0_2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v14_2 : StableHlo.TRef sig ⟨S32x8x64x128, .f32⟩) ![(.of main_v14_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call2_v0 : StableHlo.TRef sig ⟨S1x8x64x128, .f32⟩) (.of main_while0b_v40 : StableHlo.TRef sig ⟨S8x64x128, .f32⟩) (rfl : (.f32 : EltTy) = .f32) shapeCasts_S1x8x64x128_S8x64x128 ]
theorem while0Ops0_2_sub : (while0Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_0 (main_while0b_call3), in order. -/
abbrev while0Ops0_3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v14_3 : StableHlo.TRef sig ⟨S32x8x64x64, .f32⟩) ![(.of main_v14_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x8x64x64, .f32⟩) (fun x i => Host.dynamicSlice S1x8x64x64 x (fun k => (i k (Shape.Idx.first h_S_)).toInt) sliceFits_S32x8x64x64_S1x8x64x64),
    StableHlo.TRef.reshape (.of main_while0b_call3_v0 : StableHlo.TRef sig ⟨S1x8x64x64, .f32⟩) (.of main_while0b_v41 : StableHlo.TRef sig ⟨S8x64x64, .f32⟩) (rfl : (.f32 : EltTy) = .f32) shapeCasts_S1x8x64x64_S8x64x64 ]
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while0b_call4), in order. -/
abbrev while0Ops0_4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v14_4 : StableHlo.TRef sig ⟨S32x8x64x128, .f32⟩) ![(.of main_v14_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while0b_call4_v0 : StableHlo.TRef sig ⟨S1x8x64x128, .f32⟩) (.of main_while0b_v42 : StableHlo.TRef sig ⟨S8x64x128, .f32⟩) (rfl : (.f32 : EltTy) = .f32) shapeCasts_S1x8x64x128_S8x64x128 ]
theorem while0Ops0_4_sub : (while0Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_1 (main_while0b_call5), in order. -/
abbrev while0Ops0_5 : List (HloOp τ sig (Elt F)) :=
  [ StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.nullary (.of main_while0b_call5_c_1 : StableHlo.TRef sig ⟨S_, .i32⟩) (constantI S_ 32 0#32),
    StableHlo.TRef.unaryIndexed (.of main_v14_5 : StableHlo.TRef sig ⟨S32x8x1x128, .f32⟩) ![(.of main_v14_6 : StableHlo.TRef sig ⟨S_, .i32⟩), (.of main_while0b_call5_c : StableHlo.TRef sig ⟨S_, .i32⟩), (.of main_while0b_call5_c_0 : StableHlo.TRef sig ⟨S_, .i32⟩), (.of main_while0b_call5_c_1 : StableHlo.TRef sig ⟨S_, .i32⟩)] (.of main_while0b_call5_v0 : StableHlo.TRef sig ⟨S1x8x1x128, .f32⟩) (fun x i => Host.dynamicSlice S1x8x1x128 x (fun k => (i k (Shape.Idx.first h_S_)).toInt) sliceFits_S32x8x1x128_S1x8x1x128),
    StableHlo.TRef.reshape (.of main_while0b_call5_v0 : StableHlo.TRef sig ⟨S1x8x1x128, .f32⟩) (.of main_while0b_v43 : StableHlo.TRef sig ⟨S8x1x128, .f32⟩) (rfl : (.f32 : EltTy) = .f32) shapeCasts_S1x8x1x128_S8x1x128 ]
theorem while0Ops0_5_sub : (while0Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 9 host operations of host loop 0's body region, in order. -/
abbrev while0Ops0_6 : List (HloOp τ sig (Elt F)) :=
  [ StableHlo.binary main_while0b_v39 main_v14_7 main_while0b_v44 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v38 main_while0b_v44 main_while0b_v45 (subf : (⟨S8x64x128, .f32⟩ : BufTy).Contents (Elt F) → (⟨S8x64x128, .f32⟩ : BufTy).Contents (Elt F) → (⟨S8x64x128, .f32⟩ : BufTy).Contents (Elt F)),
    StableHlo.binary main_while0b_v40 main_v14_7 main_while0b_v46 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v41 main_while0b_v45 main_while0b_v47 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    StableHlo.binary main_while0b_v46 main_while0b_v47 main_while0b_v48 (addf : (⟨S8x64x128, .f32⟩ : BufTy).Contents (Elt F) → (⟨S8x64x128, .f32⟩ : BufTy).Contents (Elt F) → (⟨S8x64x128, .f32⟩ : BufTy).Contents (Elt F)),
    StableHlo.unary main_while0b_v43 main_while0b_v49 (broadcastInDim S8x128x128 ![0, 1, 2] bcast_S8x1x128_S8x128x128_0_1_2 : (⟨S8x1x128, .f32⟩ : BufTy).Contents (Elt F) → (⟨S8x128x128, .f32⟩ : BufTy).Contents (Elt F)),
    StableHlo.binary main_v14_7 main_while0b_v49 main_while0b_v50 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v42 main_while0b_v45 main_while0b_v51 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.binary main_while0b_v50 main_while0b_v51 main_while0b_v52 (addf : (⟨S8x128x128, .f32⟩ : BufTy).Contents (Elt F) → (⟨S8x128x128, .f32⟩ : BufTy).Contents (Elt F) → (⟨S8x128x128, .f32⟩ : BufTy).Contents (Elt F)) ]
theorem while0Ops0_6_sub : (while0Ops0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.binary_bufs_sub ..⟩
/-- 5 host operations of @dynamic_update_index_in_dim (main_while0b_call6), in order. -/
abbrev while0Ops0_7 : List (HloOp τ sig (Elt F)) :=
  [ StableHlo.TRef.unary (.of main_while0b_v48 : StableHlo.TRef sig ⟨S8x64x128, .f32⟩) (.of main_while0b_call6_v0 : StableHlo.TRef sig ⟨S1x8x64x128, .f32⟩) (broadcastInDim S1x8x64x128 ![1, 2, 3] bcast_S8x64x128_S1x8x64x128_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v14_8 : StableHlo.TRef sig ⟨S32x8x64x128, .f32⟩) (.of main_while0b_call6_v0 : StableHlo.TRef sig ⟨S1x8x64x128, .f32⟩) ![(.of main_v14_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v53 : StableHlo.TRef sig ⟨S32x8x64x128, .f32⟩) (fun x u i => Host.dynamicUpdateSlice x u (fun k => (i k (Shape.Idx.first h_S_)).toInt) updateFits_S32x8x64x128_S1x8x64x128) ]
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_2 (main_while0b_call7), in order. -/
abbrev while0Ops0_8 : List (HloOp τ sig (Elt F)) :=
  [ StableHlo.TRef.unary (.of main_v14_7 : StableHlo.TRef sig ⟨S8x128x128, .f32⟩) (.of main_while0b_call7_v0 : StableHlo.TRef sig ⟨S1x8x128x128, .f32⟩) (broadcastInDim S1x8x128x128 ![1, 2, 3] bcast_S8x128x128_S1x8x128x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v14_9 : StableHlo.TRef sig ⟨S32x8x128x128, .f32⟩) (.of main_while0b_call7_v0 : StableHlo.TRef sig ⟨S1x8x128x128, .f32⟩) ![(.of main_v14_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v54 : StableHlo.TRef sig ⟨S32x8x128x128, .f32⟩) (fun x u i => Host.dynamicUpdateSlice x u (fun k => (i k (Shape.Idx.first h_S_)).toInt) updateFits_S32x8x128x128_S1x8x128x128) ]
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while0b_call8), in order. -/
abbrev while0Ops0_9 : List (HloOp τ sig (Elt F)) :=
  [ StableHlo.TRef.unary (.of main_while0b_v45 : StableHlo.TRef sig ⟨S8x64x128, .f32⟩) (.of main_while0b_call8_v0 : StableHlo.TRef sig ⟨S1x8x64x128, .f32⟩) (broadcastInDim S1x8x64x128 ![1, 2, 3] bcast_S8x64x128_S1x8x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v14_10 : StableHlo.TRef sig ⟨S32x8x64x128, .f32⟩) (.of main_while0b_call8_v0 : StableHlo.TRef sig ⟨S1x8x64x128, .f32⟩) ![(.of main_v14_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v55 : StableHlo.TRef sig ⟨S32x8x64x128, .f32⟩) (fun x u i => Host.dynamicUpdateSlice x u (fun k => (i k (Shape.Idx.first h_S_)).toInt) updateFits_S32x8x64x128_S1x8x64x128) ]
theorem while0Ops0_9_sub : (while0Ops0_9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 7 host operations of host loop 0's body region, in order. -/
abbrev while0Ops0_10 : List (HloOp τ sig (Elt F)) :=
  [ StableHlo.nullary main_while0b_c_22 (constantI S_ 32 1#32),
    StableHlo.binary main_v14_6 main_while0b_c_22 main_while0b_v56 (addi : (⟨S_, .i32⟩ : BufTy).Contents (Elt F) → (⟨S_, .i32⟩ : BufTy).Contents (Elt F) → (⟨S_, .i32⟩ : BufTy).Contents (Elt F)),
    StableHlo.unary main_while0b_v56 main_v14_6 id,
    StableHlo.unary main_while0b_v52 main_v14_7 id,
    StableHlo.unary main_while0b_v53 main_v14_8 id,
    StableHlo.unary main_while0b_v54 main_v14_9 id,
    StableHlo.unary main_while0b_v55 main_v14_10 id ]
theorem while0Ops0_10_sub : (while0Ops0_10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The loop's body is the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, StableHlo.chain_seq_cons]
  chain_rfl

/-- 4 host operations of host loop 1's body region, in order. -/
abbrev while1Ops0 : List (HloOp τ sig (Elt F)) :=
  [ StableHlo.nullary main_while1b_c_27 (constantI S_ 32 32#32),
    StableHlo.binary main_while1b_c_27 main_v27_8 main_while1b_v38 (subi : (⟨S_, .i32⟩ : BufTy).Contents (Elt F) → (⟨S_, .i32⟩ : BufTy).Contents (Elt F) → (⟨S_, .i32⟩ : BufTy).Contents (Elt F)),
    StableHlo.nullary main_while1b_c_28 (constantI S_ 32 1#32),
    StableHlo.binary main_while1b_v38 main_while1b_c_28 main_while1b_v39 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
/-- 5 host operations of @dynamic_index_in_dim (main_while1b_call9), in order. -/
abbrev while1Ops0_1 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.nullary (.of main_while1b_call9_c_1 : StableHlo.TRef sig ⟨S_, .i32⟩) (constantI S_ 32 0#32),
    StableHlo.TRef.unaryIndexed (.of main_v27_0 : StableHlo.TRef sig ⟨S32x8x64x128, .f32⟩) ![(.of main_while1b_v39 : StableHlo.TRef sig ⟨S_, .i32⟩), (.of main_while1b_call9_c : StableHlo.TRef sig ⟨S_, .i32⟩), (.of main_while1b_call9_c_0 : StableHlo.TRef sig ⟨S_, .i32⟩), (.of main_while1b_call9_c_1 : StableHlo.TRef sig ⟨S_, .i32⟩)] (.of main_while1b_call9_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call9_v0 : StableHlo.TRef sig ⟨S1x8x64x128, .f32⟩) (.of main_while1b_v40 : StableHlo.TRef sig ⟨S8x64x128, .f32⟩) (rfl : (.f32 : EltTy) = .f32) shapeCasts_S1x8x64x128_S8x64x128 ]
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_3 (main_while1b_call10), in order. -/
abbrev while1Ops0_2 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v27_1 : StableHlo.TRef sig ⟨S32x8x128x128, .f32⟩) ![(.of main_while1b_v39 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x8x128x128, .f32⟩) (fun x i => Host.dynamicSlice S1x8x128x128 x (fun k => (i k (Shape.Idx.first h_S_)).toInt) sliceFits_S32x8x128x128_S1x8x128x128),
    StableHlo.TRef.reshape (.of main_while1b_call10_v0 : StableHlo.TRef sig ⟨S1x8x128x128, .f32⟩) (.of main_while1b_v41 : StableHlo.TRef sig ⟨S8x128x128, .f32⟩) (rfl : (.f32 : EltTy) = .f32) shapeCasts_S1x8x128x128_S8x128x128 ]
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call11), in order. -/
abbrev while1Ops0_3 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v27_2 : StableHlo.TRef sig ⟨S32x8x64x128, .f32⟩) ![(.of main_while1b_v39 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call11_v0 : StableHlo.TRef sig ⟨S1x8x64x128, .f32⟩) (.of main_while1b_v42 : StableHlo.TRef sig ⟨S8x64x128, .f32⟩) (rfl : (.f32 : EltTy) = .f32) shapeCasts_S1x8x64x128_S8x64x128 ]
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call12), in order. -/
abbrev while1Ops0_4 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v27_3 : StableHlo.TRef sig ⟨S32x8x64x128, .f32⟩) ![(.of main_while1b_v39 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call12_v0 : StableHlo.TRef sig ⟨S1x8x64x128, .f32⟩) (.of main_while1b_v43 : StableHlo.TRef sig ⟨S8x64x128, .f32⟩) (rfl : (.f32 : EltTy) = .f32) shapeCasts_S1x8x64x128_S8x64x128 ]
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call13), in order. -/
abbrev while1Ops0_5 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v27_4 : StableHlo.TRef sig ⟨S32x8x64x128, .f32⟩) ![(.of main_while1b_v39 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call13_v0 : StableHlo.TRef sig ⟨S1x8x64x128, .f32⟩) (.of main_while1b_v44 : StableHlo.TRef sig ⟨S8x64x128, .f32⟩) (rfl : (.f32 : EltTy) = .f32) shapeCasts_S1x8x64x128_S8x64x128 ]
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_0 (main_while1b_call14), in order. -/
abbrev while1Ops0_6 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v27_5 : StableHlo.TRef sig ⟨S32x8x64x64, .f32⟩) ![(.of main_while1b_v39 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x8x64x64, .f32⟩) (fun x i => Host.dynamicSlice S1x8x64x64 x (fun k => (i k (Shape.Idx.first h_S_)).toInt) sliceFits_S32x8x64x64_S1x8x64x64),
    StableHlo.TRef.reshape (.of main_while1b_call14_v0 : StableHlo.TRef sig ⟨S1x8x64x64, .f32⟩) (.of main_while1b_v45 : StableHlo.TRef sig ⟨S8x64x64, .f32⟩) (rfl : (.f32 : EltTy) = .f32) shapeCasts_S1x8x64x64_S8x64x64 ]
theorem while1Ops0_6_sub : (while1Ops0_6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim_1 (main_while1b_call15), in order. -/
abbrev while1Ops0_7 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v27_6 : StableHlo.TRef sig ⟨S32x8x1x128, .f32⟩) ![(.of main_while1b_v39 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x8x1x128, .f32⟩) (fun x i => Host.dynamicSlice S1x8x1x128 x (fun k => (i k (Shape.Idx.first h_S_)).toInt) sliceFits_S32x8x1x128_S1x8x1x128),
    StableHlo.TRef.reshape (.of main_while1b_call15_v0 : StableHlo.TRef sig ⟨S1x8x1x128, .f32⟩) (.of main_while1b_v46 : StableHlo.TRef sig ⟨S8x1x128, .f32⟩) (rfl : (.f32 : EltTy) = .f32) shapeCasts_S1x8x1x128_S8x1x128 ]
theorem while1Ops0_7_sub : (while1Ops0_7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 5 host operations of @dynamic_index_in_dim (main_while1b_call16), in order. -/
abbrev while1Ops0_8 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v27_7 : StableHlo.TRef sig ⟨S32x8x64x128, .f32⟩) ![(.of main_while1b_v39 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x8x64x128, .f32⟩) (fun x i => Host.dynamicSlice S1x8x64x128 x (fun k => (i k (Shape.Idx.first h_S_)).toInt) sliceFits_S32x8x64x128_S1x8x64x128),
    StableHlo.TRef.reshape (.of main_while1b_call16_v0 : StableHlo.TRef sig ⟨S1x8x64x128, .f32⟩) (.of main_while1b_v47 : StableHlo.TRef sig ⟨S8x64x128, .f32⟩) (rfl : (.f32 : EltTy) = .f32) shapeCasts_S1x8x64x128_S8x64x128 ]
theorem while1Ops0_8_sub : (while1Ops0_8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 23 host operations of host loop 1's body region, in order. -/
abbrev while1Ops0_9 : List (HloOp τ sig (Elt F)) :=
  [ StableHlo.binary main_v27_9 main_while1b_v47 main_while1b_v48 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v48 main_while1b_v49 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_v27_9 main_while1b_v44 main_while1b_v50 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v50 main_while1b_v51 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v41 main_v27_9 main_while1b_v52 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_29 (constant S_ .f32 0x00000000#32),
    StableHlo.binary main_while1b_v52 main_while1b_cst_29 main_while1b_v53 ((fun x v => Host.reduceAdd x v reducesTo_S8x128x128_S8x128_d1 h_S_) : (⟨S8x128x128, .f32⟩ : BufTy).Contents (Elt F) → (⟨S_, .f32⟩ : BufTy).Contents (Elt F) → (⟨S8x128, .f32⟩ : BufTy).Contents (Elt F)),
    StableHlo.reshape main_while1b_v53 main_while1b_v54 (rfl : (.f32 : EltTy) = .f32) shapeCasts_S8x128_S8x1x128,
    StableHlo.unary main_while1b_v46 main_while1b_v55 (broadcastInDim S8x128x128 ![0, 1, 2] bcast_S8x1x128_S8x128x128_0_1_2 : (⟨S8x1x128, .f32⟩ : BufTy).Contents (Elt F) → (⟨S8x128x128, .f32⟩ : BufTy).Contents (Elt F)),
    StableHlo.binary main_v27_9 main_while1b_v55 main_while1b_v56 (mulf : (⟨S8x128x128, .f32⟩ : BufTy).Contents (Elt F) → (⟨S8x128x128, .f32⟩ : BufTy).Contents (Elt F) → (⟨S8x128x128, .f32⟩ : BufTy).Contents (Elt F)),
    StableHlo.binary main_while1b_v40 main_while1b_v45 main_while1b_v57 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    StableHlo.unary main_while1b_v57 main_while1b_v58 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v49 main_while1b_v58 main_while1b_v59 (addf : (⟨S8x64x128, .f32⟩ : BufTy).Contents (Elt F) → (⟨S8x64x128, .f32⟩ : BufTy).Contents (Elt F) → (⟨S8x64x128, .f32⟩ : BufTy).Contents (Elt F)),
    StableHlo.binary main_while1b_v40 main_while1b_v44 main_while1b_v60 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    StableHlo.binary main_while1b_v40 main_while1b_v43 main_while1b_v61 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v61 main_while1b_v62 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v56 main_while1b_v62 main_while1b_v63 (addf : (⟨S8x128x128, .f32⟩ : BufTy).Contents (Elt F) → (⟨S8x128x128, .f32⟩ : BufTy).Contents (Elt F) → (⟨S8x128x128, .f32⟩ : BufTy).Contents (Elt F)),
    StableHlo.binary main_while1b_v40 main_while1b_v41 main_while1b_v64 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    StableHlo.unary main_while1b_v59 main_while1b_v65 (Host.negf : (⟨S8x64x128, .f32⟩ : BufTy).Contents (Elt F) → (⟨S8x64x128, .f32⟩ : BufTy).Contents (Elt F)),
    StableHlo.binary main_while1b_v65 main_while1b_v42 main_while1b_v66 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v66 main_while1b_v67 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v63 main_while1b_v67 main_while1b_v68 (addf : (⟨S8x128x128, .f32⟩ : BufTy).Contents (Elt F) → (⟨S8x128x128, .f32⟩ : BufTy).Contents (Elt F) → (⟨S8x128x128, .f32⟩ : BufTy).Contents (Elt F)),
    StableHlo.binary main_while1b_v65 main_while1b_v41 main_while1b_v69 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]
theorem while1Ops0_9_sub : (while1Ops0_9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩
/-- 5 host operations of @dynamic_update_index_in_dim (main_while1b_call17), in order. -/
abbrev while1Ops0_10 : List (HloOp τ sig (Elt F)) :=
  [ StableHlo.TRef.unary (.of main_while1b_v59 : StableHlo.TRef sig ⟨S8x64x128, .f32⟩) (.of main_while1b_call17_v0 : StableHlo.TRef sig ⟨S1x8x64x128, .f32⟩) (broadcastInDim S1x8x64x128 ![1, 2, 3] bcast_S8x64x128_S1x8x64x128_1_2_3),
    StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.binaryIndexed (.of main_v27_10 : StableHlo.TRef sig ⟨S32x8x64x128, .f32⟩) (.of main_while1b_call17_v0 : StableHlo.TRef sig ⟨S1x8x64x128, .f32⟩) ![(.of main_while1b_v39 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_v70 : StableHlo.TRef sig ⟨S32x8x64x128, .f32⟩) (fun x u i => Host.dynamicUpdateSlice x u (fun k => (i k (Shape.Idx.first h_S_)).toInt) updateFits_S32x8x64x128_S1x8x64x128) ]
theorem while1Ops0_10_sub : (while1Ops0_10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while1b_call18), in order. -/
abbrev while1Ops0_11 : List (HloOp τ sig (Elt F)) :=
  [ StableHlo.TRef.unary (.of main_while1b_v69 : StableHlo.TRef sig ⟨S8x64x128, .f32⟩) (.of main_while1b_call18_v0 : StableHlo.TRef sig ⟨S1x8x64x128, .f32⟩) (broadcastInDim S1x8x64x128 ![1, 2, 3] bcast_S8x64x128_S1x8x64x128_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v27_11 : StableHlo.TRef sig ⟨S32x8x64x128, .f32⟩) (.of main_while1b_call18_v0 : StableHlo.TRef sig ⟨S1x8x64x128, .f32⟩) ![(.of main_while1b_v39 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v71 : StableHlo.TRef sig ⟨S32x8x64x128, .f32⟩) (fun x u i => Host.dynamicUpdateSlice x u (fun k => (i k (Shape.Idx.first h_S_)).toInt) updateFits_S32x8x64x128_S1x8x64x128) ]
theorem while1Ops0_11_sub : (while1Ops0_11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while1b_call19), in order. -/
abbrev while1Ops0_12 : List (HloOp τ sig (Elt F)) :=
  [ StableHlo.TRef.unary (.of main_while1b_v64 : StableHlo.TRef sig ⟨S8x64x128, .f32⟩) (.of main_while1b_call19_v0 : StableHlo.TRef sig ⟨S1x8x64x128, .f32⟩) (broadcastInDim S1x8x64x128 ![1, 2, 3] bcast_S8x64x128_S1x8x64x128_1_2_3),
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.binaryIndexed (.of main_v27_12 : StableHlo.TRef sig ⟨S32x8x64x128, .f32⟩) (.of main_while1b_call19_v0 : StableHlo.TRef sig ⟨S1x8x64x128, .f32⟩) ![(.of main_while1b_v39 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v72 : StableHlo.TRef sig ⟨S32x8x64x128, .f32⟩) (fun x u i => Host.dynamicUpdateSlice x u (fun k => (i k (Shape.Idx.first h_S_)).toInt) updateFits_S32x8x64x128_S1x8x64x128) ]
theorem while1Ops0_12_sub : (while1Ops0_12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_4 (main_while1b_call20), in order. -/
abbrev while1Ops0_13 : List (HloOp τ sig (Elt F)) :=
  [ StableHlo.TRef.unary (.of main_while1b_v60 : StableHlo.TRef sig ⟨S8x64x64, .f32⟩) (.of main_while1b_call20_v0 : StableHlo.TRef sig ⟨S1x8x64x64, .f32⟩) (broadcastInDim S1x8x64x64 ![1, 2, 3] bcast_S8x64x64_S1x8x64x64_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v27_13 : StableHlo.TRef sig ⟨S32x8x64x64, .f32⟩) (.of main_while1b_call20_v0 : StableHlo.TRef sig ⟨S1x8x64x64, .f32⟩) ![(.of main_while1b_v39 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v73 : StableHlo.TRef sig ⟨S32x8x64x64, .f32⟩) (fun x u i => Host.dynamicUpdateSlice x u (fun k => (i k (Shape.Idx.first h_S_)).toInt) updateFits_S32x8x64x64_S1x8x64x64) ]
theorem while1Ops0_13_sub : (while1Ops0_13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim (main_while1b_call21), in order. -/
abbrev while1Ops0_14 : List (HloOp τ sig (Elt F)) :=
  [ StableHlo.TRef.unary (.of main_while1b_v51 : StableHlo.TRef sig ⟨S8x64x128, .f32⟩) (.of main_while1b_call21_v0 : StableHlo.TRef sig ⟨S1x8x64x128, .f32⟩) (broadcastInDim S1x8x64x128 ![1, 2, 3] bcast_S8x64x128_S1x8x64x128_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v27_14 : StableHlo.TRef sig ⟨S32x8x64x128, .f32⟩) (.of main_while1b_call21_v0 : StableHlo.TRef sig ⟨S1x8x64x128, .f32⟩) ![(.of main_while1b_v39 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v74 : StableHlo.TRef sig ⟨S32x8x64x128, .f32⟩) (fun x u i => Host.dynamicUpdateSlice x u (fun k => (i k (Shape.Idx.first h_S_)).toInt) updateFits_S32x8x64x128_S1x8x64x128) ]
theorem while1Ops0_14_sub : (while1Ops0_14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 5 host operations of @dynamic_update_index_in_dim_5 (main_while1b_call22), in order. -/
abbrev while1Ops0_15 : List (HloOp τ sig (Elt F)) :=
  [ StableHlo.TRef.unary (.of main_while1b_v54 : StableHlo.TRef sig ⟨S8x1x128, .f32⟩) (.of main_while1b_call22_v0 : StableHlo.TRef sig ⟨S1x8x1x128, .f32⟩) (broadcastInDim S1x8x1x128 ![1, 2, 3] bcast_S8x1x128_S1x8x1x128_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v27_15 : StableHlo.TRef sig ⟨S32x8x1x128, .f32⟩) (.of main_while1b_call22_v0 : StableHlo.TRef sig ⟨S1x8x1x128, .f32⟩) ![(.of main_while1b_v39 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v75 : StableHlo.TRef sig ⟨S32x8x1x128, .f32⟩) (fun x u i => Host.dynamicUpdateSlice x u (fun k => (i k (Shape.Idx.first h_S_)).toInt) updateFits_S32x8x1x128_S1x8x1x128) ]
theorem while1Ops0_15_sub : (while1Ops0_15 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
/-- 10 host operations of host loop 1's body region, in order. -/
abbrev while1Ops0_16 : List (HloOp τ sig (Elt F)) :=
  [ StableHlo.nullary main_while1b_c_30 (constantI S_ 32 1#32),
    StableHlo.binary main_v27_8 main_while1b_c_30 main_while1b_v76 (addi : (⟨S_, .i32⟩ : BufTy).Contents (Elt F) → (⟨S_, .i32⟩ : BufTy).Contents (Elt F) → (⟨S_, .i32⟩ : BufTy).Contents (Elt F)),
    StableHlo.unary main_while1b_v76 main_v27_8 id,
    StableHlo.unary main_while1b_v68 main_v27_9 id,
    StableHlo.unary main_while1b_v70 main_v27_10 id,
    StableHlo.unary main_while1b_v71 main_v27_11 id,
    StableHlo.unary main_while1b_v72 main_v27_12 id,
    StableHlo.unary main_while1b_v73 main_v27_13 id,
    StableHlo.unary main_while1b_v74 main_v27_14 id,
    StableHlo.unary main_while1b_v75 main_v27_15 id ]
theorem while1Ops0_16_sub : (while1Ops0_16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- The loop's body is the chain of its stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

theorem hostOps0_fresh : (hostOps0 : List (HloOp τ sig (Elt F))).Forall fun op => op.fresh = ∅ :=
  StableHlo.forall_fresh_of_map rfl
/-- The references that `hostOps0` writes, in order. -/
abbrev hostOps0_W : List (Ref sig .tc) := [main_v0, main_v1, main_v2, main_v3, main_v4, main_v5, main_v6, main_v7, main_v8, main_v9, main_cst, main_v10, main_cst_0, main_v11, main_cst_1, main_v12, main_cst_2, main_v13, main_c, main_v14_0, main_v14_1, main_v14_2, main_v14_3, main_v14_4, main_v14_5, main_v14_6, main_v14_7, main_v14_8, main_v14_9, main_v14_10]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` leaves every other buffer as it was. -/
theorem hostOps0_keep (V : Valuation τ sig (Elt F)) {b : Ref sig .tc} (h : b ∉ hostOps0_W) :
    after hostOps0 V (Proc.devRef .tc b) = V (Proc.devRef .tc b) :=
  StableHlo.after_of_writes_sub hostOps0 V hostOps0_writes h
theorem hostOps0_1_fresh : (hostOps0_1 : List (HloOp τ sig (Elt F))).Forall fun op => op.fresh = ∅ :=
  StableHlo.forall_fresh_of_map rfl
/-- The references that `hostOps0_1` writes, in order. -/
abbrev hostOps0_1_W : List (Ref sig .tc) := [main_v15, main_v16, main_cst_3, main_v17, main_v18, main_v19, main_cst_4, main_v20, main_cst_5, main_v21, main_cst_6, main_v22, main_cst_7, main_v23, main_cst_8, main_v24, main_cst_9, main_v25, main_cst_10, main_v26, main_c_11, main_v27_0, main_v27_1, main_v27_2, main_v27_3, main_v27_4, main_v27_5, main_v27_6, main_v27_7, main_v27_8, main_v27_9, main_v27_10, main_v27_11, main_v27_12, main_v27_13, main_v27_14, main_v27_15]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` leaves every other buffer as it was. -/
theorem hostOps0_1_keep (V : Valuation τ sig (Elt F)) {b : Ref sig .tc} (h : b ∉ hostOps0_1_W) :
    after hostOps0_1 V (Proc.devRef .tc b) = V (Proc.devRef .tc b) :=
  StableHlo.after_of_writes_sub hostOps0_1 V hostOps0_1_writes h
theorem hostOps0_2_fresh : (hostOps0_2 : List (HloOp τ sig (Elt F))).Forall fun op => op.fresh = ∅ :=
  StableHlo.forall_fresh_of_map rfl
/-- The references that `hostOps0_2` writes, in order. -/
abbrev hostOps0_2_W : List (Ref sig .tc) := [main_v28, main_v29, main_v30, main_v31, main_v32, main_v33, main_v34, main_v35, main_v36, main_v37]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` leaves every other buffer as it was. -/
theorem hostOps0_2_keep (V : Valuation τ sig (Elt F)) {b : Ref sig .tc} (h : b ∉ hostOps0_2_W) :
    after hostOps0_2 V (Proc.devRef .tc b) = V (Proc.devRef .tc b) :=
  StableHlo.after_of_writes_sub hostOps0_2 V hostOps0_2_writes h
theorem while0Ops0_fresh : (while0Ops0 : List (HloOp τ sig (Elt F))).Forall fun op => op.fresh = ∅ :=
  StableHlo.forall_fresh_of_map rfl
/-- The references that `while0Ops0` writes, in order. -/
abbrev while0Ops0_W : List (Ref sig .tc) := [main_while0b_call0_c, main_while0b_call0_c_0, main_while0b_call0_c_1, main_while0b_call0_v0, main_while0b_v38]
theorem while0Ops0_writes : (while0Ops0 : List (HloOp τ sig (Elt F))).Forall fun op => op.writes ⊆ (while0Ops0_W.map (Proc.devRef (τ := τ) .tc)).toFinset :=
  StableHlo.forall_writes_sub_of_map rfl
/-- `while0Ops0` leaves every other buffer as it was. -/
theorem while0Ops0_keep (V : Valuation τ sig (Elt F)) {b : Ref sig .tc} (h : b ∉ while0Ops0_W) :
    after while0Ops0 V (Proc.devRef .tc b) = V (Proc.devRef .tc b) :=
  StableHlo.after_of_writes_sub while0Ops0 V while0Ops0_writes h
theorem while0Ops0_1_fresh : (while0Ops0_1 : List (HloOp τ sig (Elt F))).Forall fun op => op.fresh = ∅ :=
  StableHlo.forall_fresh_of_map rfl
/-- The references that `while0Ops0_1` writes, in order. -/
abbrev while0Ops0_1_W : List (Ref sig .tc) := [main_while0b_call1_c, main_while0b_call1_c_0, main_while0b_call1_c_1, main_while0b_call1_v0, main_while0b_v39]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- `while0Ops0_1` leaves every other buffer as it was. -/
theorem while0Ops0_1_keep (V : Valuation τ sig (Elt F)) {b : Ref sig .tc} (h : b ∉ while0Ops0_1_W) :
    after while0Ops0_1 V (Proc.devRef .tc b) = V (Proc.devRef .tc b) :=
  StableHlo.after_of_writes_sub while0Ops0_1 V while0Ops0_1_writes h
theorem while0Ops0_2_fresh : (while0Ops0_2 : List (HloOp τ sig (Elt F))).Forall fun op => op.fresh = ∅ :=
  StableHlo.forall_fresh_of_map rfl
/-- The references that `while0Ops0_2` writes, in order. -/
abbrev while0Ops0_2_W : List (Ref sig .tc) := [main_while0b_call2_c, main_while0b_call2_c_0, main_while0b_call2_c_1, main_while0b_call2_v0, main_while0b_v40]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- `while0Ops0_2` leaves every other buffer as it was. -/
theorem while0Ops0_2_keep (V : Valuation τ sig (Elt F)) {b : Ref sig .tc} (h : b ∉ while0Ops0_2_W) :
    after while0Ops0_2 V (Proc.devRef .tc b) = V (Proc.devRef .tc b) :=
  StableHlo.after_of_writes_sub while0Ops0_2 V while0Ops0_2_writes h
theorem while0Ops0_3_fresh : (while0Ops0_3 : List (HloOp τ sig (Elt F))).Forall fun op => op.fresh = ∅ :=
  StableHlo.forall_fresh_of_map rfl
/-- The references that `while0Ops0_3` writes, in order. -/
abbrev while0Ops0_3_W : List (Ref sig .tc) := [main_while0b_call3_c, main_while0b_call3_c_0, main_while0b_call3_c_1, main_while0b_call3_v0, main_while0b_v41]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- `while0Ops0_3` leaves every other buffer as it was. -/
theorem while0Ops0_3_keep (V : Valuation τ sig (Elt F)) {b : Ref sig .tc} (h : b ∉ while0Ops0_3_W) :
    after while0Ops0_3 V (Proc.devRef .tc b) = V (Proc.devRef .tc b) :=
  StableHlo.after_of_writes_sub while0Ops0_3 V while0Ops0_3_writes h
theorem while0Ops0_4_fresh : (while0Ops0_4 : List (HloOp τ sig (Elt F))).Forall fun op => op.fresh = ∅ :=
  StableHlo.forall_fresh_of_map rfl
/-- The references that `while0Ops0_4` writes, in order. -/
abbrev while0Ops0_4_W : List (Ref sig .tc) := [main_while0b_call4_c, main_while0b_call4_c_0, main_while0b_call4_c_1, main_while0b_call4_v0, main_while0b_v42]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- `while0Ops0_4` leaves every other buffer as it was. -/
theorem while0Ops0_4_keep (V : Valuation τ sig (Elt F)) {b : Ref sig .tc} (h : b ∉ while0Ops0_4_W) :
    after while0Ops0_4 V (Proc.devRef .tc b) = V (Proc.devRef .tc b) :=
  StableHlo.after_of_writes_sub while0Ops0_4 V while0Ops0_4_writes h
theorem while0Ops0_5_fresh : (while0Ops0_5 : List (HloOp τ sig (Elt F))).Forall fun op => op.fresh = ∅ :=
  StableHlo.forall_fresh_of_map rfl
/-- The references that `while0Ops0_5` writes, in order. -/
abbrev while0Ops0_5_W : List (Ref sig .tc) := [main_while0b_call5_c, main_while0b_call5_c_0, main_while0b_call5_c_1, main_while0b_call5_v0, main_while0b_v43]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- `while0Ops0_5` leaves every other buffer as it was. -/
theorem while0Ops0_5_keep (V : Valuation τ sig (Elt F)) {b : Ref sig .tc} (h : b ∉ while0Ops0_5_W) :
    after while0Ops0_5 V (Proc.devRef .tc b) = V (Proc.devRef .tc b) :=
  StableHlo.after_of_writes_sub while0Ops0_5 V while0Ops0_5_writes h
theorem while0Ops0_6_fresh : (while0Ops0_6 : List (HloOp τ sig (Elt F))).Forall fun op => op.fresh = ∅ :=
  StableHlo.forall_fresh_of_map rfl
/-- The references that `while0Ops0_6` writes, in order. -/
abbrev while0Ops0_6_W : List (Ref sig .tc) := [main_while0b_v44, main_while0b_v45, main_while0b_v46, main_while0b_v47, main_while0b_v48, main_while0b_v49, main_while0b_v50, main_while0b_v51, main_while0b_v52]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- `while0Ops0_6` leaves every other buffer as it was. -/
theorem while0Ops0_6_keep (V : Valuation τ sig (Elt F)) {b : Ref sig .tc} (h : b ∉ while0Ops0_6_W) :
    after while0Ops0_6 V (Proc.devRef .tc b) = V (Proc.devRef .tc b) :=
  StableHlo.after_of_writes_sub while0Ops0_6 V while0Ops0_6_writes h
theorem while0Ops0_7_fresh : (while0Ops0_7 : List (HloOp τ sig (Elt F))).Forall fun op => op.fresh = ∅ :=
  StableHlo.forall_fresh_of_map rfl
/-- The references that `while0Ops0_7` writes, in order. -/
abbrev while0Ops0_7_W : List (Ref sig .tc) := [main_while0b_call6_v0, main_while0b_call6_c, main_while0b_call6_c_0, main_while0b_call6_c_1, main_while0b_v53]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- `while0Ops0_7` leaves every other buffer as it was. -/
theorem while0Ops0_7_keep (V : Valuation τ sig (Elt F)) {b : Ref sig .tc} (h : b ∉ while0Ops0_7_W) :
    after while0Ops0_7 V (Proc.devRef .tc b) = V (Proc.devRef .tc b) :=
  StableHlo.after_of_writes_sub while0Ops0_7 V while0Ops0_7_writes h
theorem while0Ops0_8_fresh : (while0Ops0_8 : List (HloOp τ sig (Elt F))).Forall fun op => op.fresh = ∅ :=
  StableHlo.forall_fresh_of_map rfl
/-- The references that `while0Ops0_8` writes, in order. -/
abbrev while0Ops0_8_W : List (Ref sig .tc) := [main_while0b_call7_v0, main_while0b_call7_c, main_while0b_call7_c_0, main_while0b_call7_c_1, main_while0b_v54]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- `while0Ops0_8` leaves every other buffer as it was. -/
theorem while0Ops0_8_keep (V : Valuation τ sig (Elt F)) {b : Ref sig .tc} (h : b ∉ while0Ops0_8_W) :
    after while0Ops0_8 V (Proc.devRef .tc b) = V (Proc.devRef .tc b) :=
  StableHlo.after_of_writes_sub while0Ops0_8 V while0Ops0_8_writes h
theorem while0Ops0_9_fresh : (while0Ops0_9 : List (HloOp τ sig (Elt F))).Forall fun op => op.fresh = ∅ :=
  StableHlo.forall_fresh_of_map rfl
/-- The references that `while0Ops0_9` writes, in order. -/
abbrev while0Ops0_9_W : List (Ref sig .tc) := [main_while0b_call8_v0, main_while0b_call8_c, main_while0b_call8_c_0, main_while0b_call8_c_1, main_while0b_v55]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- `while0Ops0_9` leaves every other buffer as it was. -/
theorem while0Ops0_9_keep (V : Valuation τ sig (Elt F)) {b : Ref sig .tc} (h : b ∉ while0Ops0_9_W) :
    after while0Ops0_9 V (Proc.devRef .tc b) = V (Proc.devRef .tc b) :=
  StableHlo.after_of_writes_sub while0Ops0_9 V while0Ops0_9_writes h
theorem while0Ops0_10_fresh : (while0Ops0_10 : List (HloOp τ sig (Elt F))).Forall fun op => op.fresh = ∅ :=
  StableHlo.forall_fresh_of_map rfl
/-- The references that `while0Ops0_10` writes, in order. -/
abbrev while0Ops0_10_W : List (Ref sig .tc) := [main_while0b_c_22, main_while0b_v56, main_v14_6, main_v14_7, main_v14_8, main_v14_9, main_v14_10]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- `while0Ops0_10` leaves every other buffer as it was. -/
theorem while0Ops0_10_keep (V : Valuation τ sig (Elt F)) {b : Ref sig .tc} (h : b ∉ while0Ops0_10_W) :
    after while0Ops0_10 V (Proc.devRef .tc b) = V (Proc.devRef .tc b) :=
  StableHlo.after_of_writes_sub while0Ops0_10 V while0Ops0_10_writes h
theorem while1Ops0_fresh : (while1Ops0 : List (HloOp τ sig (Elt F))).Forall fun op => op.fresh = ∅ :=
  StableHlo.forall_fresh_of_map rfl
/-- The references that `while1Ops0` writes, in order. -/
abbrev while1Ops0_W : List (Ref sig .tc) := [main_while1b_c_27, main_while1b_v38, main_while1b_c_28, main_while1b_v39]
theorem while1Ops0_writes : (while1Ops0 : List (HloOp τ sig (Elt F))).Forall fun op => op.writes ⊆ (while1Ops0_W.map (Proc.devRef (τ := τ) .tc)).toFinset :=
  StableHlo.forall_writes_sub_of_map rfl
/-- `while1Ops0` leaves every other buffer as it was. -/
theorem while1Ops0_keep (V : Valuation τ sig (Elt F)) {b : Ref sig .tc} (h : b ∉ while1Ops0_W) :
    after while1Ops0 V (Proc.devRef .tc b) = V (Proc.devRef .tc b) :=
  StableHlo.after_of_writes_sub while1Ops0 V while1Ops0_writes h
theorem while1Ops0_1_fresh : (while1Ops0_1 : List (HloOp τ sig (Elt F))).Forall fun op => op.fresh = ∅ :=
  StableHlo.forall_fresh_of_map rfl
/-- The references that `while1Ops0_1` writes, in order. -/
abbrev while1Ops0_1_W : List (Ref sig .tc) := [main_while1b_call9_c, main_while1b_call9_c_0, main_while1b_call9_c_1, main_while1b_call9_v0, main_while1b_v40]
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- `while1Ops0_1` leaves every other buffer as it was. -/
theorem while1Ops0_1_keep (V : Valuation τ sig (Elt F)) {b : Ref sig .tc} (h : b ∉ while1Ops0_1_W) :
    after while1Ops0_1 V (Proc.devRef .tc b) = V (Proc.devRef .tc b) :=
  StableHlo.after_of_writes_sub while1Ops0_1 V while1Ops0_1_writes h
theorem while1Ops0_2_fresh : (while1Ops0_2 : List (HloOp τ sig (Elt F))).Forall fun op => op.fresh = ∅ :=
  StableHlo.forall_fresh_of_map rfl
/-- The references that `while1Ops0_2` writes, in order. -/
abbrev while1Ops0_2_W : List (Ref sig .tc) := [main_while1b_call10_c, main_while1b_call10_c_0, main_while1b_call10_c_1, main_while1b_call10_v0, main_while1b_v41]
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- `while1Ops0_2` leaves every other buffer as it was. -/
theorem while1Ops0_2_keep (V : Valuation τ sig (Elt F)) {b : Ref sig .tc} (h : b ∉ while1Ops0_2_W) :
    after while1Ops0_2 V (Proc.devRef .tc b) = V (Proc.devRef .tc b) :=
  StableHlo.after_of_writes_sub while1Ops0_2 V while1Ops0_2_writes h
theorem while1Ops0_3_fresh : (while1Ops0_3 : List (HloOp τ sig (Elt F))).Forall fun op => op.fresh = ∅ :=
  StableHlo.forall_fresh_of_map rfl
/-- The references that `while1Ops0_3` writes, in order. -/
abbrev while1Ops0_3_W : List (Ref sig .tc) := [main_while1b_call11_c, main_while1b_call11_c_0, main_while1b_call11_c_1, main_while1b_call11_v0, main_while1b_v42]
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- `while1Ops0_3` leaves every other buffer as it was. -/
theorem while1Ops0_3_keep (V : Valuation τ sig (Elt F)) {b : Ref sig .tc} (h : b ∉ while1Ops0_3_W) :
    after while1Ops0_3 V (Proc.devRef .tc b) = V (Proc.devRef .tc b) :=
  StableHlo.after_of_writes_sub while1Ops0_3 V while1Ops0_3_writes h
theorem while1Ops0_4_fresh : (while1Ops0_4 : List (HloOp τ sig (Elt F))).Forall fun op => op.fresh = ∅ :=
  StableHlo.forall_fresh_of_map rfl
/-- The references that `while1Ops0_4` writes, in order. -/
abbrev while1Ops0_4_W : List (Ref sig .tc) := [main_while1b_call12_c, main_while1b_call12_c_0, main_while1b_call12_c_1, main_while1b_call12_v0, main_while1b_v43]
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- `while1Ops0_4` leaves every other buffer as it was. -/
theorem while1Ops0_4_keep (V : Valuation τ sig (Elt F)) {b : Ref sig .tc} (h : b ∉ while1Ops0_4_W) :
    after while1Ops0_4 V (Proc.devRef .tc b) = V (Proc.devRef .tc b) :=
  StableHlo.after_of_writes_sub while1Ops0_4 V while1Ops0_4_writes h
theorem while1Ops0_5_fresh : (while1Ops0_5 : List (HloOp τ sig (Elt F))).Forall fun op => op.fresh = ∅ :=
  StableHlo.forall_fresh_of_map rfl
/-- The references that `while1Ops0_5` writes, in order. -/
abbrev while1Ops0_5_W : List (Ref sig .tc) := [main_while1b_call13_c, main_while1b_call13_c_0, main_while1b_call13_c_1, main_while1b_call13_v0, main_while1b_v44]
theorem while1Ops0_5_writes : (while1Ops0_5 : List (HloOp τ sig (Elt F))).Forall fun op => op.writes ⊆ (while1Ops0_5_W.map (Proc.devRef (τ := τ) .tc)).toFinset :=
  StableHlo.forall_writes_sub_of_map rfl
/-- `while1Ops0_5` leaves every other buffer as it was. -/
theorem while1Ops0_5_keep (V : Valuation τ sig (Elt F)) {b : Ref sig .tc} (h : b ∉ while1Ops0_5_W) :
    after while1Ops0_5 V (Proc.devRef .tc b) = V (Proc.devRef .tc b) :=
  StableHlo.after_of_writes_sub while1Ops0_5 V while1Ops0_5_writes h
theorem while1Ops0_6_fresh : (while1Ops0_6 : List (HloOp τ sig (Elt F))).Forall fun op => op.fresh = ∅ :=
  StableHlo.forall_fresh_of_map rfl
/-- The references that `while1Ops0_6` writes, in order. -/
abbrev while1Ops0_6_W : List (Ref sig .tc) := [main_while1b_call14_c, main_while1b_call14_c_0, main_while1b_call14_c_1, main_while1b_call14_v0, main_while1b_v45]
theorem while1Ops0_6_writes : (while1Ops0_6 : List (HloOp τ sig (Elt F))).Forall fun op => op.writes ⊆ (while1Ops0_6_W.map (Proc.devRef (τ := τ) .tc)).toFinset :=
  StableHlo.forall_writes_sub_of_map rfl
/-- `while1Ops0_6` leaves every other buffer as it was. -/
theorem while1Ops0_6_keep (V : Valuation τ sig (Elt F)) {b : Ref sig .tc} (h : b ∉ while1Ops0_6_W) :
    after while1Ops0_6 V (Proc.devRef .tc b) = V (Proc.devRef .tc b) :=
  StableHlo.after_of_writes_sub while1Ops0_6 V while1Ops0_6_writes h
theorem while1Ops0_7_fresh : (while1Ops0_7 : List (HloOp τ sig (Elt F))).Forall fun op => op.fresh = ∅ :=
  StableHlo.forall_fresh_of_map rfl
/-- The references that `while1Ops0_7` writes, in order. -/
abbrev while1Ops0_7_W : List (Ref sig .tc) := [main_while1b_call15_c, main_while1b_call15_c_0, main_while1b_call15_c_1, main_while1b_call15_v0, main_while1b_v46]
theorem while1Ops0_7_writes : (while1Ops0_7 : List (HloOp τ sig (Elt F))).Forall fun op => op.writes ⊆ (while1Ops0_7_W.map (Proc.devRef (τ := τ) .tc)).toFinset :=
  StableHlo.forall_writes_sub_of_map rfl
/-- `while1Ops0_7` leaves every other buffer as it was. -/
theorem while1Ops0_7_keep (V : Valuation τ sig (Elt F)) {b : Ref sig .tc} (h : b ∉ while1Ops0_7_W) :
    after while1Ops0_7 V (Proc.devRef .tc b) = V (Proc.devRef .tc b) :=
  StableHlo.after_of_writes_sub while1Ops0_7 V while1Ops0_7_writes h
theorem while1Ops0_8_fresh : (while1Ops0_8 : List (HloOp τ sig (Elt F))).Forall fun op => op.fresh = ∅ :=
  StableHlo.forall_fresh_of_map rfl
/-- The references that `while1Ops0_8` writes, in order. -/
abbrev while1Ops0_8_W : List (Ref sig .tc) := [main_while1b_call16_c, main_while1b_call16_c_0, main_while1b_call16_c_1, main_while1b_call16_v0, main_while1b_v47]
theorem while1Ops0_8_writes : (while1Ops0_8 : List (HloOp τ sig (Elt F))).Forall fun op => op.writes ⊆ (while1Ops0_8_W.map (Proc.devRef (τ := τ) .tc)).toFinset :=
  StableHlo.forall_writes_sub_of_map rfl
/-- `while1Ops0_8` leaves every other buffer as it was. -/
theorem while1Ops0_8_keep (V : Valuation τ sig (Elt F)) {b : Ref sig .tc} (h : b ∉ while1Ops0_8_W) :
    after while1Ops0_8 V (Proc.devRef .tc b) = V (Proc.devRef .tc b) :=
  StableHlo.after_of_writes_sub while1Ops0_8 V while1Ops0_8_writes h
theorem while1Ops0_9_fresh : (while1Ops0_9 : List (HloOp τ sig (Elt F))).Forall fun op => op.fresh = ∅ :=
  StableHlo.forall_fresh_of_map rfl
/-- The references that `while1Ops0_9` writes, in order. -/
abbrev while1Ops0_9_W : List (Ref sig .tc) := [main_while1b_v48, main_while1b_v49, main_while1b_v50, main_while1b_v51, main_while1b_v52, main_while1b_cst_29, main_while1b_v53, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69]
theorem while1Ops0_9_writes : (while1Ops0_9 : List (HloOp τ sig (Elt F))).Forall fun op => op.writes ⊆ (while1Ops0_9_W.map (Proc.devRef (τ := τ) .tc)).toFinset :=
  StableHlo.forall_writes_sub_of_map rfl
/-- `while1Ops0_9` leaves every other buffer as it was. -/
theorem while1Ops0_9_keep (V : Valuation τ sig (Elt F)) {b : Ref sig .tc} (h : b ∉ while1Ops0_9_W) :
    after while1Ops0_9 V (Proc.devRef .tc b) = V (Proc.devRef .tc b) :=
  StableHlo.after_of_writes_sub while1Ops0_9 V while1Ops0_9_writes h
theorem while1Ops0_10_fresh : (while1Ops0_10 : List (HloOp τ sig (Elt F))).Forall fun op => op.fresh = ∅ :=
  StableHlo.forall_fresh_of_map rfl
/-- The references that `while1Ops0_10` writes, in order. -/
abbrev while1Ops0_10_W : List (Ref sig .tc) := [main_while1b_call17_v0, main_while1b_call17_c, main_while1b_call17_c_0, main_while1b_call17_c_1, main_while1b_v70]
theorem while1Ops0_10_writes : (while1Ops0_10 : List (HloOp τ sig (Elt F))).Forall fun op => op.writes ⊆ (while1Ops0_10_W.map (Proc.devRef (τ := τ) .tc)).toFinset :=
  StableHlo.forall_writes_sub_of_map rfl
/-- `while1Ops0_10` leaves every other buffer as it was. -/
theorem while1Ops0_10_keep (V : Valuation τ sig (Elt F)) {b : Ref sig .tc} (h : b ∉ while1Ops0_10_W) :
    after while1Ops0_10 V (Proc.devRef .tc b) = V (Proc.devRef .tc b) :=
  StableHlo.after_of_writes_sub while1Ops0_10 V while1Ops0_10_writes h
theorem while1Ops0_11_fresh : (while1Ops0_11 : List (HloOp τ sig (Elt F))).Forall fun op => op.fresh = ∅ :=
  StableHlo.forall_fresh_of_map rfl
/-- The references that `while1Ops0_11` writes, in order. -/
abbrev while1Ops0_11_W : List (Ref sig .tc) := [main_while1b_call18_v0, main_while1b_call18_c, main_while1b_call18_c_0, main_while1b_call18_c_1, main_while1b_v71]
theorem while1Ops0_11_writes : (while1Ops0_11 : List (HloOp τ sig (Elt F))).Forall fun op => op.writes ⊆ (while1Ops0_11_W.map (Proc.devRef (τ := τ) .tc)).toFinset :=
  StableHlo.forall_writes_sub_of_map rfl
/-- `while1Ops0_11` leaves every other buffer as it was. -/
theorem while1Ops0_11_keep (V : Valuation τ sig (Elt F)) {b : Ref sig .tc} (h : b ∉ while1Ops0_11_W) :
    after while1Ops0_11 V (Proc.devRef .tc b) = V (Proc.devRef .tc b) :=
  StableHlo.after_of_writes_sub while1Ops0_11 V while1Ops0_11_writes h
theorem while1Ops0_12_fresh : (while1Ops0_12 : List (HloOp τ sig (Elt F))).Forall fun op => op.fresh = ∅ :=
  StableHlo.forall_fresh_of_map rfl
/-- The references that `while1Ops0_12` writes, in order. -/
abbrev while1Ops0_12_W : List (Ref sig .tc) := [main_while1b_call19_v0, main_while1b_call19_c, main_while1b_call19_c_0, main_while1b_call19_c_1, main_while1b_v72]
theorem while1Ops0_12_writes : (while1Ops0_12 : List (HloOp τ sig (Elt F))).Forall fun op => op.writes ⊆ (while1Ops0_12_W.map (Proc.devRef (τ := τ) .tc)).toFinset :=
  StableHlo.forall_writes_sub_of_map rfl
/-- `while1Ops0_12` leaves every other buffer as it was. -/
theorem while1Ops0_12_keep (V : Valuation τ sig (Elt F)) {b : Ref sig .tc} (h : b ∉ while1Ops0_12_W) :
    after while1Ops0_12 V (Proc.devRef .tc b) = V (Proc.devRef .tc b) :=
  StableHlo.after_of_writes_sub while1Ops0_12 V while1Ops0_12_writes h
theorem while1Ops0_13_fresh : (while1Ops0_13 : List (HloOp τ sig (Elt F))).Forall fun op => op.fresh = ∅ :=
  StableHlo.forall_fresh_of_map rfl
/-- The references that `while1Ops0_13` writes, in order. -/
abbrev while1Ops0_13_W : List (Ref sig .tc) := [main_while1b_call20_v0, main_while1b_call20_c, main_while1b_call20_c_0, main_while1b_call20_c_1, main_while1b_v73]
theorem while1Ops0_13_writes : (while1Ops0_13 : List (HloOp τ sig (Elt F))).Forall fun op => op.writes ⊆ (while1Ops0_13_W.map (Proc.devRef (τ := τ) .tc)).toFinset :=
  StableHlo.forall_writes_sub_of_map rfl
/-- `while1Ops0_13` leaves every other buffer as it was. -/
theorem while1Ops0_13_keep (V : Valuation τ sig (Elt F)) {b : Ref sig .tc} (h : b ∉ while1Ops0_13_W) :
    after while1Ops0_13 V (Proc.devRef .tc b) = V (Proc.devRef .tc b) :=
  StableHlo.after_of_writes_sub while1Ops0_13 V while1Ops0_13_writes h
theorem while1Ops0_14_fresh : (while1Ops0_14 : List (HloOp τ sig (Elt F))).Forall fun op => op.fresh = ∅ :=
  StableHlo.forall_fresh_of_map rfl
/-- The references that `while1Ops0_14` writes, in order. -/
abbrev while1Ops0_14_W : List (Ref sig .tc) := [main_while1b_call21_v0, main_while1b_call21_c, main_while1b_call21_c_0, main_while1b_call21_c_1, main_while1b_v74]
theorem while1Ops0_14_writes : (while1Ops0_14 : List (HloOp τ sig (Elt F))).Forall fun op => op.writes ⊆ (while1Ops0_14_W.map (Proc.devRef (τ := τ) .tc)).toFinset :=
  StableHlo.forall_writes_sub_of_map rfl
/-- `while1Ops0_14` leaves every other buffer as it was. -/
theorem while1Ops0_14_keep (V : Valuation τ sig (Elt F)) {b : Ref sig .tc} (h : b ∉ while1Ops0_14_W) :
    after while1Ops0_14 V (Proc.devRef .tc b) = V (Proc.devRef .tc b) :=
  StableHlo.after_of_writes_sub while1Ops0_14 V while1Ops0_14_writes h
theorem while1Ops0_15_fresh : (while1Ops0_15 : List (HloOp τ sig (Elt F))).Forall fun op => op.fresh = ∅ :=
  StableHlo.forall_fresh_of_map rfl
/-- The references that `while1Ops0_15` writes, in order. -/
abbrev while1Ops0_15_W : List (Ref sig .tc) := [main_while1b_call22_v0, main_while1b_call22_c, main_while1b_call22_c_0, main_while1b_call22_c_1, main_while1b_v75]
theorem while1Ops0_15_writes : (while1Ops0_15 : List (HloOp τ sig (Elt F))).Forall fun op => op.writes ⊆ (while1Ops0_15_W.map (Proc.devRef (τ := τ) .tc)).toFinset :=
  StableHlo.forall_writes_sub_of_map rfl
/-- `while1Ops0_15` leaves every other buffer as it was. -/
theorem while1Ops0_15_keep (V : Valuation τ sig (Elt F)) {b : Ref sig .tc} (h : b ∉ while1Ops0_15_W) :
    after while1Ops0_15 V (Proc.devRef .tc b) = V (Proc.devRef .tc b) :=
  StableHlo.after_of_writes_sub while1Ops0_15 V while1Ops0_15_writes h
theorem while1Ops0_16_fresh : (while1Ops0_16 : List (HloOp τ sig (Elt F))).Forall fun op => op.fresh = ∅ :=
  StableHlo.forall_fresh_of_map rfl
/-- The references that `while1Ops0_16` writes, in order. -/
abbrev while1Ops0_16_W : List (Ref sig .tc) := [main_while1b_c_30, main_while1b_v76, main_v27_8, main_v27_9, main_v27_10, main_v27_11, main_v27_12, main_v27_13, main_v27_14, main_v27_15]
theorem while1Ops0_16_writes : (while1Ops0_16 : List (HloOp τ sig (Elt F))).Forall fun op => op.writes ⊆ (while1Ops0_16_W.map (Proc.devRef (τ := τ) .tc)).toFinset :=
  StableHlo.forall_writes_sub_of_map rfl
/-- `while1Ops0_16` leaves every other buffer as it was. -/
theorem while1Ops0_16_keep (V : Valuation τ sig (Elt F)) {b : Ref sig .tc} (h : b ∉ while1Ops0_16_W) :
    after while1Ops0_16 V (Proc.devRef .tc b) = V (Proc.devRef .tc b) :=
  StableHlo.after_of_writes_sub while1Ops0_16 V while1Ops0_16_writes h

end Cert.ReferenceIdeal.Hand

end
-- ==== Proof.RefRun.lean ====
/-
  The reference program's run: three stretches of host operations with a counted loop after each of the first two. Every
  weakly fair execution terminates, with every tensor of the program at the fold of the operations (`fin`): the first stretch,
  32 trips of the first loop, the second stretch, 32 trips of the second loop, the last stretch.
-/
module

public import proofs.«01_k».proof.Proof.RefOps

@[expose] public section

noncomputable section

namespace Cert.ReferenceIdeal.Hand

open Cert.ReferenceIdeal Cert.ReferenceIdeal.Gen
open Idealize.ShloMosaic Idealize.ShloMosaic.TcCoe
open Idealize.ShloMosaic.StableHlo
open Idealize.ShloMosaic.Pipeline (CSeg Ticket ucRefs sub_ucRefs)
open Idealize.SL Idealize.SL.RA Idealize.SL.BI
open scoped Idealize.SL.BI
open Idealize.SL.BI.BIBase Idealize.SL.Sem

variable {F : FTy → Type} [FloatOps F]

/-! ## The stretches of each part -/

/-- The condition of loop 0: the counter against the trip count. -/
abbrev cond0 : List (HloOp τ sig (Elt F)) :=
  [ StableHlo.nullary main_while0c_c_22 (constantI S_ 32 32#32),
    StableHlo.binary main_v14_6 main_while0c_c_22 main_while0c_v38 (cmpi .slt) ]
theorem cond0_keep (V : Valuation τ sig (Elt F)) {b : Ref sig .tc} (h : b ∉ [main_while0c_c_22, main_while0c_v38]) :
    after cond0 V (Proc.devRef .tc b) = V (Proc.devRef .tc b) :=
  after_of_writes_sub cond0 V (W := [main_while0c_c_22, main_while0c_v38]) (forall_writes_sub_of_map rfl) h
/-- The stretches of loop 0's body. -/
abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10]
theorem body0_plain : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.nil)))))))))))
/-- The references that loop 0's body writes. -/
abbrev body0_W : List (Ref sig .tc) := while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W
set_option maxRecDepth 100000 in
/-- The body leaves every other buffer as it was. -/
theorem body0_keep (V : Valuation τ sig (Elt F)) {b : Ref sig .tc} (h : b ∉ body0_W) :
    afterL body0 V (Proc.devRef .tc b) = V (Proc.devRef .tc b) := by
  rw [afterL_eq_after_flatten]
  exact after_of_writes_sub _ V (W := body0_W) (forall_writes_sub_of_map rfl) h

/-- The condition of loop 1: the counter against the trip count. -/
abbrev cond1 : List (HloOp τ sig (Elt F)) :=
  [ StableHlo.nullary main_while1c_c_27 (constantI S_ 32 32#32),
    StableHlo.binary main_v27_8 main_while1c_c_27 main_while1c_v38 (cmpi .slt) ]
theorem cond1_keep (V : Valuation τ sig (Elt F)) {b : Ref sig .tc} (h : b ∉ [main_while1c_c_27, main_while1c_v38]) :
    after cond1 V (Proc.devRef .tc b) = V (Proc.devRef .tc b) :=
  after_of_writes_sub cond1 V (W := [main_while1c_c_27, main_while1c_v38]) (forall_writes_sub_of_map rfl) h
/-- The stretches of loop 1's body. -/
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
theorem body1_plain : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) (.nil)))))))))))))))))
/-- The references that loop 1's body writes. -/
abbrev body1_W : List (Ref sig .tc) := while1Ops0_W ++ while1Ops0_1_W ++ while1Ops0_2_W ++ while1Ops0_3_W ++ while1Ops0_4_W ++ while1Ops0_5_W ++ while1Ops0_6_W ++ while1Ops0_7_W ++ while1Ops0_8_W ++ while1Ops0_9_W ++ while1Ops0_10_W ++ while1Ops0_11_W ++ while1Ops0_12_W ++ while1Ops0_13_W ++ while1Ops0_14_W ++ while1Ops0_15_W ++ while1Ops0_16_W
set_option maxRecDepth 100000 in
/-- The body leaves every other buffer as it was. -/
theorem body1_keep (V : Valuation τ sig (Elt F)) {b : Ref sig .tc} (h : b ∉ body1_W) :
    afterL body1 V (Proc.devRef .tc b) = V (Proc.devRef .tc b) := by
  rw [afterL_eq_after_flatten]
  exact after_of_writes_sub _ V (W := body1_W) (forall_writes_sub_of_map rfl) h

theorem pre_plain : Plain [(hostOps0 : List (HloOp τ sig (Elt F)))] := .cons hostOps0_sub (hf := List.forall_iff_forall_mem.mp hostOps0_fresh) (.nil)
theorem mid_plain : Plain [(hostOps0_1 : List (HloOp τ sig (Elt F)))] := .cons hostOps0_1_sub (hf := List.forall_iff_forall_mem.mp hostOps0_1_fresh) (.nil)
theorem post_plain : Plain [(hostOps0_2 : List (HloOp τ sig (Elt F)))] := .cons hostOps0_2_sub (hf := List.forall_iff_forall_mem.mp hostOps0_2_fresh) (.nil)

/-! ## The fold -/

variable (m : (ℓ : Loc nD τ sig) → Buf (Elt F) ℓ) (ρ : Dev nD → PrngReg)

/-- Before the first loop. -/
def ent0 (c : Dev nD) : Valuation τ sig (Elt F) := after hostOps0 (launchContents m c)
/-- Before the `k`-th trip of the first loop. -/
def at0 (k : ℕ) (c : Dev nD) : Valuation τ sig (Elt F) := atTrip cond0 body0 (ent0 m) k c
/-- Before the second loop. -/
def ent1 (c : Dev nD) : Valuation τ sig (Elt F) := after hostOps0_1 (after cond0 (at0 m 32 c))
/-- Before the `k`-th trip of the second loop. -/
def at1 (k : ℕ) (c : Dev nD) : Valuation τ sig (Elt F) := atTrip cond1 body1 (ent1 m) k c
/-- At the end. -/
def fin (c : Dev nD) : Valuation τ sig (Elt F) := after hostOps0_2 (after cond1 (at1 m 32 c))

theorem at0_zero (c : Dev nD) : at0 m 0 c = ent0 m c := rfl
theorem at0_succ (k : ℕ) (c : Dev nD) : at0 m (k + 1) c = afterL body0 (after cond0 (at0 m k c)) := rfl
theorem at1_zero (c : Dev nD) : at1 m 0 c = ent1 m c := rfl
theorem at1_succ (k : ℕ) (c : Dev nD) : at1 m (k + 1) c = afterL body1 (after cond1 (at1 m k c)) := rfl

/-! ## The counters -/

set_option maxRecDepth 100000 in
theorem ctr0_step (X : Valuation τ sig (Elt F)) :
    after while0Ops0_10 X (Proc.devRef .tc main_v14_6) = addi (X (Proc.devRef .tc main_v14_6)) (constantI S_ 32 1#32) := by
  after_results
  rfl
theorem ctr0_entry (V : Valuation τ sig (Elt F)) : after hostOps0 V (Proc.devRef .tc main_v14_6) = fun _ => (0#32 : BitVec 32) := by
  after_reads_simp
  rfl
/-- The counter at trip `k`. -/
theorem at0_ctr (c : Dev nD) : ∀ k, at0 m k c (Proc.devRef .tc main_v14_6) = fun _ => Scf.iv 0#32 1#32 k
  | 0 => by rw [at0_zero, ent0, ctr0_entry, Scf.iv_zero]
  | k + 1 => by
    rw [at0_succ]
    simp only [afterL_cons, afterL_nil]
    rw [ctr0_step, while0Ops0_9_keep _ (by decide +kernel), while0Ops0_8_keep _ (by decide +kernel), while0Ops0_7_keep _ (by decide +kernel), while0Ops0_6_keep _ (by decide +kernel), while0Ops0_5_keep _ (by decide +kernel), while0Ops0_4_keep _ (by decide +kernel), while0Ops0_3_keep _ (by decide +kernel), while0Ops0_2_keep _ (by decide +kernel), while0Ops0_1_keep _ (by decide +kernel), while0Ops0_keep _ (by decide +kernel), cond0_keep _ (by decide +kernel), at0_ctr c k, Scf.iv_succ]
    rfl

set_option maxRecDepth 100000 in
theorem ctr1_step (X : Valuation τ sig (Elt F)) :
    after while1Ops0_16 X (Proc.devRef .tc main_v27_8) = addi (X (Proc.devRef .tc main_v27_8)) (constantI S_ 32 1#32) := by
  after_results
  rfl
theorem ctr1_entry (V : Valuation τ sig (Elt F)) : after hostOps0_1 V (Proc.devRef .tc main_v27_8) = fun _ => (0#32 : BitVec 32) := by
  after_reads_simp
  rfl
/-- The counter at trip `k`. -/
theorem at1_ctr (c : Dev nD) : ∀ k, at1 m k c (Proc.devRef .tc main_v27_8) = fun _ => Scf.iv 0#32 1#32 k
  | 0 => by rw [at1_zero, ent1, ctr1_entry, Scf.iv_zero]
  | k + 1 => by
    rw [at1_succ]
    simp only [afterL_cons, afterL_nil]
    rw [ctr1_step, while1Ops0_15_keep _ (by decide +kernel), while1Ops0_14_keep _ (by decide +kernel), while1Ops0_13_keep _ (by decide +kernel), while1Ops0_12_keep _ (by decide +kernel), while1Ops0_11_keep _ (by decide +kernel), while1Ops0_10_keep _ (by decide +kernel), while1Ops0_9_keep _ (by decide +kernel), while1Ops0_8_keep _ (by decide +kernel), while1Ops0_7_keep _ (by decide +kernel), while1Ops0_6_keep _ (by decide +kernel), while1Ops0_5_keep _ (by decide +kernel), while1Ops0_4_keep _ (by decide +kernel), while1Ops0_3_keep _ (by decide +kernel), while1Ops0_2_keep _ (by decide +kernel), while1Ops0_1_keep _ (by decide +kernel), while1Ops0_keep _ (by decide +kernel), cond1_keep _ (by decide +kernel), at1_ctr c k, Scf.iv_succ]
    rfl

/-! ## The run -/

local notation "𝕄" => MT nD τ sig Unit (Elt F) ℕ (Option PUnit) ℕ

-- the kit's arguments for a program without a kernel: nothing admitted, no ticket, no level
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

/-- What a core carries beside its buffers. -/
abbrev Beside (c : Dev nD) : sProp 𝕄 := iprop(∃ W, owes (c : Thread nD τ) (0 : CellTallies nD τ sig Unit) W)

set_option backward.isDefEq.respectTransparency.types false in
/-- Run for the `k`-th time, the condition of loop 0 answers whether a trip is left. -/
theorem cond0_spec : LoopCond (pcfgs (F := F)) defs₀ Variants.none loops Beside (main_while0_cond (F := F)) cond0 body0 (ent0 m) 32 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v14_6 HostLoop.idx0)
        (HloOp.result _ (at0 m k c) main_while0c_c_22 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

set_option backward.isDefEq.respectTransparency.types false in
/-- Run for the `k`-th time, the condition of loop 1 answers whether a trip is left. -/
theorem cond1_spec : LoopCond (pcfgs (F := F)) defs₀ Variants.none loops Beside (main_while1_cond (F := F)) cond1 body1 (ent1 m) 32 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v27_8 HostLoop.idx0)
        (HloOp.result _ (at1 m k c) main_while1c_c_27 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

theorem body0_eq : main_while0_body (F := F) = Pipeline.chain (body0.map fun ops => (seq ops : Prog _ PUnit)) := by rw [while0_body_chain]; rfl
theorem body1_eq : main_while1_body (F := F) = Pipeline.chain (body1.map fun ops => (seq ops : Prog _ PUnit)) := by rw [while1_body_chain]; rfl

/-- The first loop as one segment. -/
def seg0 : CSeg (pcfgs (F := F)) noAdm defs₀ Variants.none noL noLv loops noTk :=
  loopSeg _ _ _ _ _ _ _ _ 0 main_while0_cond main_while0_body rfl cond0 body0 body0_plain body0_eq 32 (ent0 m) Beside (cond0_spec m)
/-- The second loop as one segment. -/
def seg1 : CSeg (pcfgs (F := F)) noAdm defs₀ Variants.none noL noLv loops noTk :=
  loopSeg _ _ _ _ _ _ _ _ 1 main_while1_cond main_while1_body rfl cond1 body1 body1_plain body1_eq 32 (ent1 m) Beside (cond1_spec m)

/-- The program's segments in order. -/
def parts : List (CSeg (pcfgs (F := F)) noAdm defs₀ Variants.none noL noLv loops noTk) :=
  segsOf _ _ _ _ _ _ _ _ Beside [hostOps0] pre_plain (launchContents m) ++
    (seg0 m :: (segsOf _ _ _ _ _ _ _ _ Beside [hostOps0_1] mid_plain (fun c => after cond0 (at0 m 32 c)) ++
      (seg1 m :: segsOf _ _ _ _ _ _ _ _ Beside [hostOps0_2] post_plain (fun c => after cond1 (at1 m 32 c)))))

theorem parts_prog : (parts m).map CSeg.prog
    = [seq hostOps0, HostLoop.enter 0, seq hostOps0_1, HostLoop.enter 1, seq hostOps0_2] := by
  unfold parts
  rw [List.map_append, List.map_cons, List.map_append, List.map_cons, segsOf_prog, segsOf_prog, segsOf_prog]
  rfl

theorem parts_chains : CSeg.Chains (fun c => iprop(held (c : Thread nD τ) (ucRefs τ sig) (launchContents m c) ∗ Beside c)) (parts m)
    (fun c => iprop(iprop(held (c : Thread nD τ) (ucRefs τ sig) (fin m c)) ∗ Beside c)) := by
  unfold parts
  exact CSeg.Chains.append (segsOf_chains _ _ _ _ _ _ _ _ Beside [hostOps0] pre_plain _)
    ⟨fun _ => .rfl, CSeg.Chains.append (segsOf_chains _ _ _ _ _ _ _ _ Beside [hostOps0_1] mid_plain _)
      ⟨fun _ => .rfl, segsOf_chains _ _ _ _ _ _ _ _ Beside [hostOps0_2] post_plain _⟩⟩

theorem noCells : Function.Injective (Pipeline.cellOf (nD := nD) (τ := τ) (Pipeline.pin (pcfgs (F := F)) noAdm)) := fun k => k.1.elim0

set_option maxRecDepth 100000 in
/-- Every weakly fair execution terminates, with every tensor of the program at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    (pcfgs (F := F)) noAdm noCells defs₀ Variants.none noL noLv loops noTk m ρ main (parts m)
    (fun c Q => by
      rw [main_chain c]
      show wp _ _ _ (Pipeline.chain ((parts m).map CSeg.prog)) Q ⊢ _
      rw [parts_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Beside c))
    (Tₙ := fun c => iprop(held (c : Thread nD τ) (ucRefs τ sig) (fin m c)))
    (hch := parts_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## Arguments -/

/-- What loop 0 does not write it keeps. -/
theorem at0_keep (c : Dev nD) {b : Ref sig .tc} (hc : b ∉ [main_while0c_c_22, main_while0c_v38]) (hb : b ∉ body0_W) :
    ∀ k, at0 m k c (Proc.devRef .tc b) = ent0 m c (Proc.devRef .tc b)
  | 0 => rfl
  | k + 1 => by rw [at0_succ, body0_keep _ hb, cond0_keep _ hc, at0_keep c hc hb k]

/-- What loop 1 does not write it keeps. -/
theorem at1_keep (c : Dev nD) {b : Ref sig .tc} (hc : b ∉ [main_while1c_c_27, main_while1c_v38]) (hb : b ∉ body1_W) :
    ∀ k, at1 m k c (Proc.devRef .tc b) = ent1 m c (Proc.devRef .tc b)
  | 0 => rfl
  | k + 1 => by rw [at1_succ, body1_keep _ hb, cond1_keep _ hc, at1_keep c hc hb k]

/-- A buffer that no operation writes ends as it began. -/
theorem fin_keep (c : Dev nD) {b : Ref sig .tc} (h0 : b ∉ hostOps0_W) (h1 : b ∉ hostOps0_1_W) (h2 : b ∉ hostOps0_2_W)
    (hc : b ∉ [main_while0c_c_22, main_while0c_v38]) (hc' : b ∉ [main_while1c_c_27, main_while1c_v38]) (hb : b ∉ body0_W) (hb' : b ∉ body1_W) :
    fin m c (Proc.devRef .tc b) = m ((c.tc : Thread nD τ).loc b) := by
  rw [fin, hostOps0_2_keep _ h2, cond1_keep _ hc', at1_keep m c hc' hb', ent1, hostOps0_1_keep _ h1, cond0_keep _ hc, at0_keep m c hc hb, ent0,
    hostOps0_keep _ h0]

theorem fin_arg0 (c : Dev nD) : fin m c (Proc.devRef .tc main_arg0) = m ((c.tc : Thread nD τ).loc main_arg0) :=
  fin_keep m c (by decide +kernel) (by decide +kernel) (by decide +kernel) (by decide +kernel) (by decide +kernel) (by decide +kernel) (by decide +kernel)
theorem fin_arg1 (c : Dev nD) : fin m c (Proc.devRef .tc main_arg1) = m ((c.tc : Thread nD τ).loc main_arg1) :=
  fin_keep m c (by decide +kernel) (by decide +kernel) (by decide +kernel) (by decide +kernel) (by decide +kernel) (by decide +kernel) (by decide +kernel)
theorem fin_arg2 (c : Dev nD) : fin m c (Proc.devRef .tc main_arg2) = m ((c.tc : Thread nD τ).loc main_arg2) :=
  fin_keep m c (by decide +kernel) (by decide +kernel) (by decide +kernel) (by decide +kernel) (by decide +kernel) (by decide +kernel) (by decide +kernel)
theorem fin_arg3 (c : Dev nD) : fin m c (Proc.devRef .tc main_arg3) = m ((c.tc : Thread nD τ).loc main_arg3) :=
  fin_keep m c (by decide +kernel) (by decide +kernel) (by decide +kernel) (by decide +kernel) (by decide +kernel) (by decide +kernel) (by decide +kernel)
theorem fin_arg4 (c : Dev nD) : fin m c (Proc.devRef .tc main_arg4) = m ((c.tc : Thread nD τ).loc main_arg4) :=
  fin_keep m c (by decide +kernel) (by decide +kernel) (by decide +kernel) (by decide +kernel) (by decide +kernel) (by decide +kernel) (by decide +kernel)
theorem fin_arg5 (c : Dev nD) : fin m c (Proc.devRef .tc main_arg5) = m ((c.tc : Thread nD τ).loc main_arg5) :=
  fin_keep m c (by decide +kernel) (by decide +kernel) (by decide +kernel) (by decide +kernel) (by decide +kernel) (by decide +kernel) (by decide +kernel)
theorem fin_arg6 (c : Dev nD) : fin m c (Proc.devRef .tc main_arg6) = m ((c.tc : Thread nD τ).loc main_arg6) :=
  fin_keep m c (by decide +kernel) (by decide +kernel) (by decide +kernel) (by decide +kernel) (by decide +kernel) (by decide +kernel) (by decide +kernel)

end Cert.ReferenceIdeal.Hand

end
-- ==== Proof.RefFrame.lean ====
/-
  The reference's frame: it terminates, its arguments are unchanged and it has no semaphore.
-/
module

public import proofs.«01_k».proof.Proof.RefRun
public import Idealize.ShloMosaic.PureOps.Ideal

@[expose] public section

noncomputable section

namespace Cert.ReferenceIdeal.Hand

open Cert.ReferenceIdeal Cert.ReferenceIdeal.Gen
open Idealize.ShloMosaic Idealize.ShloMosaic.TcCoe
open Idealize.SL Idealize.SL.Sem

/-- The reference terminates, leaves its arguments unchanged and has no counter. -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run (defs (F := Ideal)) _ _).mono ?_ (run_fold m ρ)
  intro r h
  exact ⟨fun c => ⟨(h c _ rfl).trans (fin_arg0 m c), (h c _ rfl).trans (fin_arg1 m c), (h c _ rfl).trans (fin_arg2 m c),
    (h c _ rfl).trans (fin_arg3 m c), (h c _ rfl).trans (fin_arg4 m c), (h c _ rfl).trans (fin_arg5 m c), (h c _ rfl).trans (fin_arg6 m c)⟩,
    sem_eq_zero_of_no_sems (by decide) r.2⟩

end Cert.ReferenceIdeal.Hand

end
-- ==== Proof.Spec.lean ====
/- The gradient of the chunked gated delta rule over the extended reals, one head at a time: the state that the forward
   scan carries from chunk to chunk, its gradient carried back, and the gradients of what each chunk reads. Both programs
   are shown to leave these arrays. -/
module

public import Idealize.ShloMosaic.PureOps.Ideal
public import Idealize.ShloMosaic.Lib.Pointwise

@[expose] public noncomputable section

namespace Cert.Gdn

open Idealize.ShloMosaic
open scoped BigOperators

/-- A matrix of extended reals. -/
abbrev Mat (m n : ℕ) := Fin m → Fin n → EReal

/-- What one head reads at each of its chunks: 64 rows of the values `U`, the keys `W` of the correction, the scaled
    queries `Qg`, the decayed keys `Kd` and the result's gradient `Do`; the chunk's attention `Qk`; the decay `G` of the
    chunk, once per value column. -/
structure Head where
  U : ℕ → Mat 64 128
  W : ℕ → Mat 64 128
  Qg : ℕ → Mat 64 128
  Qk : ℕ → Mat 64 64
  Kd : ℕ → Mat 64 128
  G : ℕ → Fin 128 → EReal
  Do : ℕ → Mat 64 128

/-- Row `c` of chunk `i` among the 2048 rows. -/
def row (i : ℕ) (c : Fin 64) : Fin 2048 := Fin.ofNat 2048 (64 * i + c.val)

/-- Column `v` of head `h` among the `C` columns. -/
def col (C : ℕ) [NeZero C] (h : ℕ) (v : Fin 128) : Fin C := Fin.ofNat C (128 * h + v.val)

/-- Head `h` of the arrays of `H` heads, its columns beside those of the other heads. -/
def headOf (C H : ℕ) [NeZero C] [NeZero H] (u w qg : (⟨2, ![2048, C]⟩ : Shape).Idx → EReal)
    (qk : (⟨4, ![H, 32, 64, 64]⟩ : Shape).Idx → EReal) (kd : (⟨2, ![2048, C]⟩ : Shape).Idx → EReal)
    (gl : (⟨4, ![H, 32, 1, 128]⟩ : Shape).Idx → EReal) (dout : (⟨2, ![2048, C]⟩ : Shape).Idx → EReal) (h : ℕ) : Head where
  U i c v := u (ix2 (row i c) (col C h v))
  W i c v := w (ix2 (row i c) (col C h v))
  Qg i c v := qg (ix2 (row i c) (col C h v))
  Qk i a b := qk (ix4 (Fin.ofNat H h) (Fin.ofNat 32 i) a b)
  Kd i c v := kd (ix2 (row i c) (col C h v))
  G i v := gl (ix4 (Fin.ofNat H h) (Fin.ofNat 32 i) 0 v)
  Do i c v := dout (ix2 (row i c) (col C h v))

variable (D : Head)

/-- The chunk's corrected values, at the state `S` before it. -/
def vnew (S : Mat 128 128) (i : ℕ) : Mat 64 128 := fun c v => D.U i c v - ∑ k, D.W i c k * S k v

/-- The state before chunk `i`. -/
def state : ℕ → Mat 128 128
  | 0 => fun _ _ => 0
  | i + 1 => fun k v => state i k v * D.G i v + ∑ c, D.Kd i c k * vnew D (state i) i c v

/-- The gradient of the chunk's corrected values, at the gradient `dS` of the state after it. -/
def dvnew (dS : Mat 128 128) (i : ℕ) : Mat 64 128 :=
  fun c v => ∑ a, D.Qk i a c * D.Do i a v + ∑ k, D.Kd i c k * dS k v

/-- The gradient of the state after the last `r` chunks have been gone through backwards. -/
def dstate : ℕ → Mat 128 128
  | 0 => fun _ _ => 0
  | r + 1 => fun k v =>
      (∑ c, D.Qg (31 - r) c k * D.Do (31 - r) c v + dstate r k v * D.G (31 - r) v)
        - ∑ c, D.W (31 - r) c k * dvnew D (dstate r) (31 - r) c v

/-- The gradient of `U` at chunk `i`. -/
def gradU (i : ℕ) : Mat 64 128 := dvnew D (dstate D (31 - i)) i

/-- The gradient of `W` at chunk `i`, the state before the chunk being `S`. -/
def gradW (S : Mat 128 128) (i : ℕ) : Mat 64 128 := fun c k => -∑ v, gradU D i c v * S k v

/-- The gradient of `Qg` at chunk `i`. -/
def gradQg (S : Mat 128 128) (i : ℕ) : Mat 64 128 := fun c k => ∑ v, D.Do i c v * S k v

/-- The gradient of `Qk` at chunk `i`. -/
def gradQk (S : Mat 128 128) (i : ℕ) : Mat 64 64 := fun a b => ∑ v, D.Do i a v * vnew D S i b v

/-- The gradient of `Kd` at chunk `i`. -/
def gradKd (S : Mat 128 128) (i : ℕ) : Mat 64 128 := fun c k => ∑ v, vnew D S i c v * dstate D (31 - i) k v

/-- The gradient of the decay at chunk `i`. -/
def gradG (S : Mat 128 128) (i : ℕ) : Fin 128 → EReal := fun v => ∑ k, dstate D (31 - i) k v * S k v

/-- The array of `C` columns whose rows of chunk `i` in the columns of head `h` are `f h i`. -/
def cols (C : ℕ) (f : ℕ → ℕ → Mat 64 128) : (⟨2, ![2048, C]⟩ : Shape).Idx → EReal :=
  fun y => f ((y 1).val / 128) ((y 0).val / 64) (Fin.ofNat 64 (y 0).val) (Fin.ofNat 128 (y 1).val)

/-- The array of `H` heads whose `a` by `b` matrix at head `h` and chunk `i` is `f h i`. -/
def tiles (H a b : ℕ) (f : ℕ → ℕ → Mat a b) : (⟨4, ![H, 32, a, b]⟩ : Shape).Idx → EReal :=
  fun y => f (y 0).val (y 1).val (y 2) (y 3)

/-- `cols` at a row and column given by chunk and head. -/
theorem cols_at (C : ℕ) (f : ℕ → ℕ → Mat 64 128) (y : (⟨2, ![2048, C]⟩ : Shape).Idx) (h i : ℕ) (c : Fin 64) (v : Fin 128)
    (h0 : (y 0).val = 64 * i + c.val) (h1 : (y 1).val = 128 * h + v.val) : cols C f y = f h i c v := by
  have hc := c.isLt
  have hv := v.isLt
  have e0 : (y 0).val / 64 = i := by omega
  have e1 : (y 1).val / 128 = h := by omega
  have e2 : Fin.ofNat 64 (y 0).val = c := Fin.ext (by show (y 0).val % 64 = _; omega)
  have e3 : Fin.ofNat 128 (y 1).val = v := Fin.ext (by show (y 1).val % 128 = _; omega)
  unfold cols
  rw [e0, e1, e2, e3]

/-- `tiles` at an entry given by head and chunk. -/
theorem tiles_at (H a b : ℕ) (f : ℕ → ℕ → Mat a b) (y : (⟨4, ![H, 32, a, b]⟩ : Shape).Idx) (h i : ℕ) (p : Fin a) (q : Fin b)
    (h0 : (y 0).val = h) (h1 : (y 1).val = i) (h2 : (y 2).val = p.val) (h3 : (y 3).val = q.val) : tiles H a b f y = f h i p q := by
  have e2 : y 2 = p := Fin.ext h2
  have e3 : y 3 = q := Fin.ext h3
  unfold tiles
  rw [h0, h1, e2, e3]

/-- An index with two given coordinates reads as `ix2`. -/
theorem idx2 {m n : ℕ} (y : (⟨2, ![m, n]⟩ : Shape).Idx) (a : Fin m) (b : Fin n) (h0 : (y 0).val = a.val) (h1 : (y 1).val = b.val) :
    y = ix2 a b := by
  funext p
  match p with
  | ⟨0, _⟩ => exact Fin.ext h0
  | ⟨1, _⟩ => exact Fin.ext h1

/-- An index with four given coordinates reads as `ix4`. -/
theorem idx4 {k l m n : ℕ} (y : (⟨4, ![k, l, m, n]⟩ : Shape).Idx) (a : Fin k) (b : Fin l) (c : Fin m) (d : Fin n)
    (h0 : (y 0).val = a.val) (h1 : (y 1).val = b.val) (h2 : (y 2).val = c.val) (h3 : (y 3).val = d.val) : y = ix4 a b c d := by
  funext p
  match p with
  | ⟨0, _⟩ => exact Fin.ext h0
  | ⟨1, _⟩ => exact Fin.ext h1
  | ⟨2, _⟩ => exact Fin.ext h2
  | ⟨3, _⟩ => exact Fin.ext h3

theorem row_val {i : ℕ} (hi : i < 32) (c : Fin 64) : (row i c).val = 64 * i + c.val :=
  Nat.mod_eq_of_lt (by have := c.isLt; omega)

theorem col_val {C h : ℕ} [NeZero C] (hC : 128 * h + 128 ≤ C) (v : Fin 128) : (col C h v).val = 128 * h + v.val :=
  Nat.mod_eq_of_lt (by have := v.isLt; omega)

end Cert.Gdn

end
-- ==== Proof.Finite.lean ====
/- Real numbers among the extended reals, and a head all of whose entries are real: its states, and their gradients, are
   real, and a negation moves through the sums. -/
module

public import proofs.«01_k».proof.Proof.Spec

@[expose] public noncomputable section

namespace Cert.Gdn

open Idealize.ShloMosaic
open scoped BigOperators

/-- An extended real that is a real number. -/
def IsReal (x : EReal) : Prop := ∃ r : ℝ, x = (r : EReal)

theorem IsReal.zero : IsReal 0 := ⟨0, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
/-- A sum of reals, as an extended real. -/
theorem coe_sum {n : ℕ} (g : Fin n → ℝ) : ((∑ i, g i : ℝ) : EReal) = ∑ i, (g i : EReal) :=
  map_sum (⟨⟨fun r : ℝ => (r : EReal), rfl⟩, EReal.coe_add⟩ : ℝ →+ EReal) g Finset.univ
theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-- The negation of a sum of reals is the sum of the negations. -/
theorem neg_sum {n : ℕ} {f : Fin n → EReal} (h : ∀ i, IsReal (f i)) : -∑ i, f i = ∑ i, -f i := by
  choose g hg using h
  obtain rfl : f = fun i => (g i : EReal) := funext hg
  simp only [← EReal.coe_neg, ← coe_sum, Finset.sum_neg_distrib]

/-- Every entry of the head is real. -/
structure Head.Real (D : Head) : Prop where
  u : ∀ i c v, IsReal (D.U i c v)
  w : ∀ i c v, IsReal (D.W i c v)
  qg : ∀ i c v, IsReal (D.Qg i c v)
  qk : ∀ i a b, IsReal (D.Qk i a b)
  kd : ∀ i c v, IsReal (D.Kd i c v)
  g : ∀ i v, IsReal (D.G i v)
  dout : ∀ i c v, IsReal (D.Do i c v)

variable {D : Head}

/-- The gradient of the corrected values, its two sums and their factors the other way round. -/
theorem dvnew_comm (dS : Mat 128 128) (i : ℕ) (c : Fin 64) (v : Fin 128) :
    ∑ k, dS k v * D.Kd i c k + ∑ a, D.Do i a v * D.Qk i a c = dvnew D dS i c v := by
  rw [add_comm]
  exact congrArg₂ (· + ·) (Finset.sum_congr rfl fun _ _ => mul_comm _ _) (Finset.sum_congr rfl fun _ _ => mul_comm _ _)

/-- The gradients at the chunk that `r` chunks follow, in terms of the state's gradient there. -/
theorem gradU_rev (r : ℕ) (hr : r < 32) : gradU D (31 - r) = dvnew D (dstate D r) (31 - r) := by
  unfold gradU
  rw [show 31 - (31 - r) = r by omega]

theorem gradKd_rev (S : Mat 128 128) (r : ℕ) (hr : r < 32) (c : Fin 64) (k : Fin 128) :
    ∑ v, dstate D r k v * vnew D S (31 - r) c v = gradKd D S (31 - r) c k := by
  unfold gradKd
  rw [show 31 - (31 - r) = r by omega]
  exact Finset.sum_congr rfl fun _ _ => mul_comm _ _

theorem gradG_rev (S : Mat 128 128) (r : ℕ) (hr : r < 32) (v : Fin 128) :
    ∑ k, S k v * dstate D r k v = gradG D S (31 - r) v := by
  unfold gradG
  rw [show 31 - (31 - r) = r by omega]
  exact Finset.sum_congr rfl fun _ _ => mul_comm _ _

variable (hD : D.Real)
include hD

theorem Head.Real.vnew {S : Mat 128 128} (hS : ∀ k v, IsReal (S k v)) (i c v) : IsReal (vnew D S i c v) :=
  (hD.u i c v).sub (.sum fun k => (hD.w i c k).mul (hS k v))

theorem Head.Real.state : ∀ i k v, IsReal (state D i k v)
  | 0, _, _ => .zero
  | i + 1, k, v => ((state i k v).mul (hD.g i v)).add (.sum fun c => (hD.kd i c k).mul (hD.vnew (state i) i c v))

theorem Head.Real.dvnew {dS : Mat 128 128} (hS : ∀ k v, IsReal (dS k v)) (i c v) : IsReal (dvnew D dS i c v) :=
  (IsReal.sum fun a => (hD.qk i a c).mul (hD.dout i a v)).add (.sum fun k => (hD.kd i c k).mul (hS k v))

theorem Head.Real.dstate : ∀ r k v, IsReal (dstate D r k v)
  | 0, _, _ => .zero
  | r + 1, k, v => ((IsReal.sum fun c => (hD.qg _ c k).mul (hD.dout _ c v)).add ((dstate r k v).mul (hD.g _ v))).sub
      (.sum fun c => (hD.w _ c k).mul (hD.dvnew (dstate r) _ c v))

/-- The gradient of the state, its correction added as a sum of negated terms. -/
theorem Head.Real.dstate_succ (r : ℕ) (k v : Fin 128) :
    Gdn.dstate D r k v * D.G (31 - r) v + ∑ c, D.Do (31 - r) c v * D.Qg (31 - r) c k
        + ∑ c, -Gdn.dvnew D (Gdn.dstate D r) (31 - r) c v * D.W (31 - r) c k
      = Gdn.dstate D (r + 1) k v := by
  have h := neg_sum fun c => (hD.w (31 - r) c k).mul (hD.dvnew (hD.dstate r) (31 - r) c v)
  show _ = (_ + _) - _
  rw [sub_eq_add_neg, h]
  refine congrArg₂ (· + ·) ?_ (Finset.sum_congr rfl fun c _ => ?_)
  · rw [add_comm]
    exact congrArg (· + _) (Finset.sum_congr rfl fun c _ => mul_comm _ _)
  · rw [EReal.neg_mul, mul_comm]

/-- The gradient of the correction's keys as a sum of negated terms. -/
theorem Head.Real.gradW_eq (r : ℕ) (hr : r < 32) (c : Fin 64) (k : Fin 128) :
    ∑ v, -Gdn.dvnew D (Gdn.dstate D r) (31 - r) c v * Gdn.state D (31 - r) k v = gradW D (Gdn.state D (31 - r)) (31 - r) c k := by
  have e : 31 - (31 - r) = r := by omega
  unfold gradW gradU
  rw [e, neg_sum fun v => (hD.dvnew (hD.dstate r) (31 - r) c v).mul (hD.state _ k v)]
  exact Finset.sum_congr rfl fun v _ => EReal.neg_mul _ _

end Cert.Gdn

end
-- ==== Proof.Pre.lean ====
/-
  What the precondition says: every entry of every argument is a real number.
-/
module

public import proofs.«01_k».proof.Pre_finite
public import proofs.«01_k».proof.Proof.Finite
public import Idealize.ShloMosaic.Lib.Pointwise
public import Idealize.ShloMosaic.Lib.ReduceAll
public import Idealize.ShloMosaic.PureOps.Ideal

@[expose] public section

noncomputable section

namespace Cert.Pre_finite.Hand

open Idealize.ShloMosaic Cert.Gdn

/-- The side conditions of the precondition's operations. -/
instance facts : Cert.Pre_finite.Facts where
  bcast_S_S2048x1024 := by decide
  reducesTo_S2048x1024_S_d0_1 := by decide
  h_S_ := by decide
  bcast_S_S8x32x64x64 := by decide
  reducesTo_S8x32x64x64_S_d0_1_2_3 := by decide
  bcast_S_S8x32x1x128 := by decide
  reducesTo_S8x32x1x128_S_d0_1_2_3 := by decide

/-- A conjunction of two truth words is true only where both are. -/
theorem and_one {x y : BitVec 1} (h : IntOp.andi x y = 1#1) : x = 1#1 ∧ y = 1#1 := by
  revert x y; decide

/-- A number whose magnitude is below infinity is real. -/
theorem isReal_of_lt {x : EReal} (h : max x (-x) < ⊤) : IsReal x := by
  induction x with
  | bot => simp at h
  | coe r => exact ⟨r, rfl⟩
  | top => simp at h

/-- The precondition's test of one array gives every entry real. -/
theorem all_real {S : Shape} {axes : List (Fin S.rank)} (x : FVec Ideal S .f32) (hb : S_.BroadcastsInDim S (![] : Fin 0 → Fin S.rank))
    (hr : S.ReducesTo axes S_) (hu : 0 < S_.numel)
    (e : Host.reduce IntOp.andi (cmpf .olt (Host.absf x) (broadcastInDim S ![] hb (constant S_ .f32 0x7F800000#32)))
      (constantI S_ 1 1#1) hr hu (fun a => a.elim0) = 1#1) (i : S.Idx) : IsReal (x i) := by
  haveI : Subsingleton S_.Idx := ⟨fun a b => funext fun q => q.elim0⟩
  have h := Host.reduce_andi_all _ _ hr hu _ e i
  have top : Ideal.ofBits .f32 0x7F800000#32 = ⊤ := by simp [Ideal.ofBits, Ideal.ieee]
  have h' : BitVec.ofBool (decide (max (x i) (-(x i)) < Ideal.ofBits .f32 0x7F800000#32)) = 1#1 := h
  rw [top] at h'
  refine isReal_of_lt ?_
  by_contra hn
  rw [decide_eq_false hn] at h'
  exact absurd h' (by decide)

/-- Under the precondition every entry of every head's blocks is real. -/
theorem heads_real (a0 a1 a2 a4 a6 : FVec Ideal S2048x1024 .f32) (a3 : FVec Ideal S8x32x64x64 .f32) (a5 : FVec Ideal S8x32x1x128 .f32)
    (h : fn a0 a1 a2 a3 a4 a5 a6 = fun _ => 1#1) (n : ℕ) : (headOf 1024 8 a0 a1 a2 a3 a4 a5 a6 n).Real := by
  have h0 := congrFun h (fun a => a.elim0)
  dsimp only [fn, fn_part1] at h0
  obtain ⟨h0, e6⟩ := and_one h0
  obtain ⟨h0, e5⟩ := and_one h0
  obtain ⟨h0, e4⟩ := and_one h0
  obtain ⟨h0, e3⟩ := and_one h0
  obtain ⟨h0, e2⟩ := and_one h0
  obtain ⟨e0, e1⟩ := and_one h0
  exact ⟨fun _ _ _ => all_real a0 _ _ _ e0 _, fun _ _ _ => all_real a1 _ _ _ e1 _, fun _ _ _ => all_real a2 _ _ _ e2 _,
    fun _ _ _ => all_real a3 _ _ _ e3 _, fun _ _ _ => all_real a4 _ _ _ e4 _, fun _ _ => all_real a5 _ _ _ e5 _,
    fun _ _ _ => all_real a6 _ _ _ e6 _⟩

end Cert.Pre_finite.Hand

end

end
-- ==== Proof.Mm.lean ====
/- The products of two matrices, entry by entry, and the sum that a tiled product accumulates over its tiles. -/
module

public import Idealize.ShloMosaic.PureOps.Ideal
public import Idealize.ShloMosaic.Lib.ValueIdxCore

@[expose] public noncomputable section

namespace Cert.Mm

open Idealize.ShloMosaic

/-- The entry of a matrix at two numbers, zero outside of it. -/
def ent {m n : ℕ} (A : (⟨2, ![m, n]⟩ : Shape).Idx → EReal) (p q : ℕ) : EReal :=
  if h : p < m ∧ q < n then A (ValueIdx.ix2 ⟨p, h.1⟩ ⟨q, h.2⟩) else 0

/-- A matrix at an index is its entry at the index's two coordinates. -/
theorem ent_at {m n : ℕ} (A : (⟨2, ![m, n]⟩ : Shape).Idx → EReal) (i : (⟨2, ![m, n]⟩ : Shape).Idx) {p q : ℕ}
    (h0 : (i 0).val = p) (h1 : (i 1).val = q) : A i = ent A p q := by
  subst h0 h1
  have hp : (i 0).val < m ∧ (i 1).val < n := ⟨(i 0).isLt, (i 1).isLt⟩
  unfold ent
  rw [dif_pos hp]
  congr 1
  funext a
  match a with
  | ⟨0, _⟩ => rfl
  | ⟨1, _⟩ => rfl

/-- The product of two matrices at row `i` and column `j`: the sum of `K` products. -/
def prod (K : ℕ) (a b : ℕ → ℕ → EReal) (i j : ℕ) : EReal := ∑ k : Fin K, a i k.val * b k.val j

/-- The part of that sum over the `s`-th `w` terms. -/
def part (w : ℕ) (a b : ℕ → ℕ → EReal) (i j s : ℕ) : EReal := ∑ k : Fin w, a i (w * s + k.val) * b (w * s + k.val) j

/-- A matrix with its rows and columns exchanged. -/
def tr (a : ℕ → ℕ → EReal) : ℕ → ℕ → EReal := fun i j => a j i

/-- `n` parts of `w` terms are the whole sum. -/
theorem sum_parts {K : ℕ} (n w : ℕ) (hK : w * n = K) (a b : ℕ → ℕ → EReal) (i j : ℕ) :
    ∑ s ∈ Finset.range n, part w a b i j s = prod K a b i j := by
  subst hK
  unfold part prod
  rw [Fin.sum_univ_eq_sum_range (fun k => a i k * b k j)]
  simp only [fun s => Fin.sum_univ_eq_sum_range (fun k => a i (w * s + k) * b (w * s + k) j) w]
  induction n with
  | zero => simp
  | succ n ih => rw [Finset.sum_range_succ, ih, Nat.mul_succ, Finset.sum_range_add]

/-- One part of all terms is. -/
theorem one_part (w : ℕ) (a b : ℕ → ℕ → EReal) (i j : ℕ) : part w a b i j 0 = prod w a b i j := by
  rw [← sum_parts 1 w (Nat.mul_one w), Finset.sum_range_one]

/-- Two parts are. -/
theorem two_parts {K : ℕ} (w : ℕ) (hK : w * 2 = K) (a b : ℕ → ℕ → EReal) (i j : ℕ) : part w a b i j 0 + part w a b i j 1 = prod K a b i j := by
  rw [← sum_parts 2 w hK, Finset.sum_range_succ, Finset.sum_range_one]

/-- A sum of products does not ask in which order its factors stand. -/
theorem prod_swap (K : ℕ) (a b : ℕ → ℕ → EReal) (i j : ℕ) : prod K a b i j = prod K (tr b) (tr a) j i :=
  Finset.sum_congr rfl fun _ _ => mul_comm _ _

/-- What an accumulator holds that a point whose number is a multiple of `n` sets to its own term and every other point adds
    its own term to: the sum of the terms since the last multiple. -/
theorem acc_sum {N n : ℕ} (x : (t : ℕ) → t < N → EReal) (M : ℕ → EReal)
    (h0 : ∀ t h, t % n = 0 → x t h = M t)
    (hs : ∀ t h, (t + 1) % n ≠ 0 → x (t + 1) h = x t (Nat.lt_of_succ_lt h) + M (t + 1)) :
    ∀ t h, x t h = ∑ s ∈ Finset.range (t % n + 1), M (t - t % n + s) := by
  intro t
  induction t with
  | zero => intro h; rw [h0 0 h (Nat.zero_mod n)]; simp
  | succ t ih =>
    intro h
    by_cases e : (t + 1) % n = 0
    · rw [h0 _ h e, e]; simp
    · rw [hs t h e, ih (Nat.lt_of_succ_lt h)]
      have e2 : (t + 1) % n = t % n + 1 := by
        rcases Nat.eq_zero_or_pos n with rfl | hn
        · simp
        · have hlt := Nat.mod_lt t hn
          have hlt2 := Nat.mod_lt (t + 1) hn
          have d1 := Nat.div_add_mod t n
          rcases Nat.lt_or_ge (t % n + 1) n with hl | hl
          · have : t + 1 = (t % n + 1) + n * (t / n) := by omega
            rw [this, Nat.add_mul_mod_self_left, Nat.mod_eq_of_lt hl]
          · exfalso; apply e
            have : t + 1 = n * (t / n + 1) := by rw [Nat.mul_add]; omega
            rw [this, Nat.mul_mod_right]
      have hle := Nat.mod_le t n
      rw [e2, Finset.sum_range_succ _ (t % n + 1)]
      have e3 : t + 1 - (t % n + 1) = t - t % n := by omega
      have e4 : t + 1 - (t % n + 1) + (t % n + 1) = t + 1 := by omega
      rw [e4, e3]

end Cert.Mm

end
-- ==== Proof.MmBlock.lean ====
/- A block that a point loads whole or stores whole, and the products of two blocks. -/
module

public import proofs.«01_k».proof.Proof.Mm
public import Idealize.ShloMosaic.Lib.WholeRead
public import Idealize.ShloMosaic.Lib.Pipeline.ValueKit
public import Idealize.ShloMosaic.Lib.Pointwise.Contract

@[expose] public noncomputable section

namespace Cert.Mm

open Idealize.ShloMosaic Idealize.ShloMosaic.TcCoe

theorem zero2 : (![0, 0] : Fin 2 → ℕ) = fun _ => 0 := by decide

/-- A load of a whole buffer reads what the buffer was set to. -/
theorem read_whole {sig : RefSig} {S : Shape} {e : EltTy} {M : Memref sig .tc .vmem S e} (hM : M.IsWhole) (x : Vec Ideal S e)
    {off : Fin S.rank → ℕ} (h : off = fun _ => 0) (inb : ∀ a, off a + S.size a ≤ S.size a) :
    View.readAt (Elt Ideal) M.view (Rect.unit off S.size inb).toLoadRect (hM.unread x) = x := by
  rw [View.readAt_eq_ld, hM.read_unread, View.ld_unit_zero h]

/-- A block's rows times another block's rows. -/
def tileNT {m n k : ℕ} (x0 : (⟨2, ![m, k]⟩ : Shape).Idx → EReal) (x1 : (⟨2, ![n, k]⟩ : Shape).Idx → EReal) (y : (⟨2, ![m, n]⟩ : Shape).Idx) : EReal :=
  ∑ q : Fin k, x0 (ValueIdx.ix2 (y 0) q) * x1 (ValueIdx.ix2 (y 1) q)

/-- A block's rows times another block's columns. -/
def tileNN {m n k : ℕ} (x0 : (⟨2, ![m, k]⟩ : Shape).Idx → EReal) (x1 : (⟨2, ![k, n]⟩ : Shape).Idx → EReal) (y : (⟨2, ![m, n]⟩ : Shape).Idx) : EReal :=
  ∑ q : Fin k, x0 (ValueIdx.ix2 (y 0) q) * x1 (ValueIdx.ix2 q (y 1))

/-- A block's columns times another block's columns. -/
def tileTN {m n k : ℕ} (x0 : (⟨2, ![k, m]⟩ : Shape).Idx → EReal) (x1 : (⟨2, ![k, n]⟩ : Shape).Idx → EReal) (y : (⟨2, ![m, n]⟩ : Shape).Idx) : EReal :=
  ∑ q : Fin k, x0 (ValueIdx.ix2 q (y 0)) * x1 (ValueIdx.ix2 q (y 1))

/-- A block whose entries are a larger matrix's entries, from row `p` and column `q` on. -/
def BlockOf {m n : ℕ} (x : (⟨2, ![m, n]⟩ : Shape).Idx → EReal) (A : ℕ → ℕ → EReal) (p q : ℕ) : Prop :=
  ∀ y, x y = A (p + (y 0).val) (q + (y 1).val)

theorem tileNT_part {m n k : ℕ} {x0 : (⟨2, ![m, k]⟩ : Shape).Idx → EReal} {x1 : (⟨2, ![n, k]⟩ : Shape).Idx → EReal} {A B : ℕ → ℕ → EReal} {p r s : ℕ}
    (h0 : BlockOf x0 A p (k * s)) (h1 : BlockOf x1 B r (k * s)) (y) :
    tileNT x0 x1 y = part k A (tr B) (p + (y 0).val) (r + (y 1).val) s :=
  Finset.sum_congr rfl fun q _ => congrArg₂ (· * ·) (h0 _) (h1 _)

theorem tileNN_part {m n k : ℕ} {x0 : (⟨2, ![m, k]⟩ : Shape).Idx → EReal} {x1 : (⟨2, ![k, n]⟩ : Shape).Idx → EReal} {A B : ℕ → ℕ → EReal} {p r s : ℕ}
    (h0 : BlockOf x0 A p (k * s)) (h1 : BlockOf x1 B (k * s) r) (y) :
    tileNN x0 x1 y = part k A B (p + (y 0).val) (r + (y 1).val) s :=
  Finset.sum_congr rfl fun q _ => congrArg₂ (· * ·) (h0 _) (h1 _)

theorem tileTN_part {m n k : ℕ} {x0 : (⟨2, ![k, m]⟩ : Shape).Idx → EReal} {x1 : (⟨2, ![k, n]⟩ : Shape).Idx → EReal} {A B : ℕ → ℕ → EReal} {p r s : ℕ}
    (h0 : BlockOf x0 A (k * s) p) (h1 : BlockOf x1 B (k * s) r) (y) :
    tileTN x0 x1 y = part k (tr A) B (p + (y 0).val) (r + (y 1).val) s :=
  Finset.sum_congr rfl fun q _ => congrArg₂ (· * ·) (h0 _) (h1 _)

/-- A product of whole matrices, of whichever layout, by entries. -/
theorem prod_nt {m n k : ℕ} (A : (⟨2, ![m, k]⟩ : Shape).Idx → EReal) (B : (⟨2, ![n, k]⟩ : Shape).Idx → EReal) (y : (⟨2, ![m, n]⟩ : Shape).Idx) :
    tileNT A B y = prod k (ent A) (tr (ent B)) (y 0).val (y 1).val :=
  Finset.sum_congr rfl fun q _ => congrArg₂ (· * ·) (ent_at A _ rfl rfl) (ent_at B _ rfl rfl)

theorem prod_nn {m n k : ℕ} (A : (⟨2, ![m, k]⟩ : Shape).Idx → EReal) (B : (⟨2, ![k, n]⟩ : Shape).Idx → EReal) (y : (⟨2, ![m, n]⟩ : Shape).Idx) :
    tileNN A B y = prod k (ent A) (ent B) (y 0).val (y 1).val :=
  Finset.sum_congr rfl fun q _ => congrArg₂ (· * ·) (ent_at A _ rfl rfl) (ent_at B _ rfl rfl)

theorem prod_tn {m n k : ℕ} (A : (⟨2, ![k, m]⟩ : Shape).Idx → EReal) (B : (⟨2, ![k, n]⟩ : Shape).Idx → EReal) (y : (⟨2, ![m, n]⟩ : Shape).Idx) :
    tileTN A B y = prod k (tr (ent A)) (ent B) (y 0).val (y 1).val :=
  Finset.sum_congr rfl fun q _ => congrArg₂ (· * ·) (ent_at A _ rfl rfl) (ent_at B _ rfl rfl)

end Cert.Mm

end
-- ==== Proof.MmRef.lean ====
/- The products that the references leave, by entries. -/
module

public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.MmBlock

@[expose] public noncomputable section

open Idealize.ShloMosaic Idealize.ShloMosaic.TcCoe Idealize.ShloMosaic.Tactic

namespace Cert.Reference2Ideal.Hand
open Cert.Reference2Ideal Cert.Reference2Ideal.Gen Cert.Mm

/-- The left factor's gradient: the result's gradient times the right factor's columns. -/
theorem value_eq (w : FVec Ideal S1024x5632 .bf16) (d : FVec Ideal S2048x5632 .bf16) (y : S2048x1024.Idx) :
    (truncf (F := Ideal) .bf16 (Host.dotGeneral dot_S2048x5632_S1024x5632_S2048x1024_1_1_0_0_n_n none (extf .f32 d bitsLt_bf16_f32) (extf .f32 w bitsLt_bf16_f32)) bitsLt_bf16_f32 y : EReal)
      = prod 5632 (ent (m := 2048) (n := 5632) d) (tr (ent (m := 1024) (n := 5632) w)) (y 0).val (y 1).val := by
  rw [← prod_nt]
  unfold tileNT
  simp only [pointwise, zero_add]
  rfl

end Cert.Reference2Ideal.Hand

namespace Cert.Reference3Ideal.Hand
open Cert.Reference3Ideal Cert.Reference3Ideal.Gen Cert.Mm

/-- The right factor's gradient: the left factor's columns times the result's gradient. -/
theorem value_eq (h : FVec Ideal S2048x1024 .bf16) (d : FVec Ideal S2048x5632 .bf16) (y : S1024x5632.Idx) :
    (truncf (F := Ideal) .bf16 (transpose S1024x5632 [1, 0] (Host.dotGeneral dot_S2048x5632_S2048x1024_S5632x1024_0_0_1_1_n_n none (extf .f32 d bitsLt_bf16_f32) (extf .f32 h bitsLt_bf16_f32)) transposes_S5632x1024_S1024x5632_1_0) bitsLt_bf16_f32 y : EReal)
      = prod 2048 (tr (ent (m := 2048) (n := 1024) h)) (ent (m := 2048) (n := 5632) d) (y 0).val (y 1).val := by
  rw [prod_swap]
  refine Eq.trans ?_ (prod_tn (m := 5632) (n := 1024) d h (ValueIdx.ix2 (y 1) (y 0)))
  unfold tileTN
  simp only [pointwise, zero_add]
  rfl

end Cert.Reference3Ideal.Hand

namespace Cert.Reference4Ideal.Hand
open Cert.Reference4Ideal Cert.Reference4Ideal.Gen Cert.Mm

/-- The same for the down product. -/
theorem value_eq (a : FVec Ideal S2048x2816 .bf16) (d : FVec Ideal S2048x1024 .f32) (y : S2816x1024.Idx) :
    (truncf (F := Ideal) .bf16 (transpose S2816x1024 [1, 0] (Host.dotGeneral dot_S2048x1024_S2048x2816_S1024x2816_0_0_1_1_n_n none d (extf .f32 a bitsLt_bf16_f32)) transposes_S1024x2816_S2816x1024_1_0) bitsLt_bf16_f32 y : EReal)
      = prod 2048 (tr (ent (m := 2048) (n := 2816) a)) (ent (m := 2048) (n := 1024) d) (y 0).val (y 1).val := by
  rw [prod_swap]
  refine Eq.trans ?_ (prod_tn (m := 1024) (n := 2816) d a (ValueIdx.ix2 (y 1) (y 0)))
  unfold tileTN
  simp only [pointwise, zero_add]
  rfl

end Cert.Reference4Ideal.Hand

namespace Cert.Reference5Ideal.Hand
open Cert.Reference5Ideal Cert.Reference5Ideal.Gen Cert.Mm

/-- The down product with the layer's input added. -/
theorem value_eq (x : FVec Ideal S2048x1024 .f32) (a : FVec Ideal S2048x2816 .bf16) (w : FVec Ideal S2816x1024 .bf16) (y : S2048x1024.Idx) :
    (addf (F := Ideal) x (Host.dotGeneral dot_S2048x2816_S2816x1024_S2048x1024_1_0_0_1_n_n none (extf .f32 a bitsLt_bf16_f32) (extf .f32 w bitsLt_bf16_f32)) y : EReal)
      = ent (m := 2048) (n := 1024) x (y 0).val (y 1).val + prod 2816 (ent (m := 2048) (n := 2816) a) (ent (m := 2816) (n := 1024) w) (y 0).val (y 1).val := by
  rw [← prod_nn, ← ent_at (m := 2048) (n := 1024) x y rfl rfl]
  unfold tileNN
  simp only [pointwise, zero_add]
  rfl

end Cert.Reference5Ideal.Hand

namespace Cert.Reference6Ideal.Hand
open Cert.Reference6Ideal Cert.Reference6Ideal.Gen Cert.Mm

/-- The up product. -/
theorem value_eq (h : FVec Ideal S2048x1024 .bf16) (w : FVec Ideal S1024x5632 .bf16) (y : S2048x5632.Idx) :
    (Host.dotGeneral (F := Ideal) dot_S2048x1024_S1024x5632_S2048x5632_1_0_0_1_n_n none (extf .f32 h bitsLt_bf16_f32) (extf .f32 w bitsLt_bf16_f32) y : EReal)
      = prod 1024 (ent (m := 2048) (n := 1024) h) (ent (m := 1024) (n := 5632) w) (y 0).val (y 1).val := by
  rw [← prod_nn]
  unfold tileNN
  simp only [pointwise, zero_add]
  rfl

end Cert.Reference6Ideal.Hand

namespace Cert.Reference7Ideal.Hand
open Cert.Reference7Ideal Cert.Reference7Ideal.Gen Cert.Mm

/-- The down product's left factor's gradient. -/
theorem value_eq (w : FVec Ideal S2816x1024 .bf16) (d : FVec Ideal S2048x1024 .f32) (y : S2048x2816.Idx) :
    (truncf (F := Ideal) .bf16 (Host.dotGeneral dot_S2048x1024_S2816x1024_S2048x2816_1_1_0_0_n_n none d (extf .f32 w bitsLt_bf16_f32)) bitsLt_bf16_f32 y : EReal)
      = prod 1024 (ent (m := 2048) (n := 1024) d) (tr (ent (m := 2816) (n := 1024) w)) (y 0).val (y 1).val := by
  rw [← prod_nt]
  unfold tileNT
  simp only [pointwise, zero_add]
  rfl

end Cert.Reference7Ideal.Hand

end
-- ==== Proof.MmDh.lean ====
/- The gradient of the up product's left factor: what the kernel's call leaves in its result. -/
module

public import proofs.«01_k».proof.Proof.Gen.Kernel2Ideal.Value
public import proofs.«01_k».proof.Proof.MmBlock

@[expose] public noncomputable section

namespace Cert.Kernel2Ideal.Hand

open Idealize.ShloMosaic Idealize.ShloMosaic.TcCoe Idealize.ShloMosaic.Tactic
open Idealize.SL Idealize.SL.RA Idealize.SL.Sem
open Cert.Kernel2Ideal.Gen Cert.Kernel2Ideal.Value Cert.Mm

/-- A point's product. -/
theorem pay1_eq (x0 x1 : Vec Ideal S1024x1408 .bf16) : k0_pay1 (F := Ideal) x0 x1 = tileNT x0 x1 := by
  funext y
  unfold k0_pay1 tileNT
  simp only [pointwise, zero_add]
  rfl

section
variable (c : Dev nD) (i : grid0.Coords) (a3 : Memref sig .tc .vmem S1024x1408 .bf16) (w3 : a3.IsWhole)
  (a4 : Memref sig .tc .vmem S1024x1408 .bf16) (w4 : a4.IsWhole) (a5 : Memref sig .tc .vmem S1024x1024 .bf16) (w5 : a5.IsWhole)
  (a6 : Memref sig .tc .vmem S1024x1024 .f32) (w6 : a6.IsWhole) (x0 x1 : Vec Ideal S1024x1408 .bf16) (xs : Vec Ideal S1024x1024 .f32)

/-- A run's first point leaves its product in the accumulator. -/
theorem sout_A (h0) (h1) (h2) : sout0_A_0 (F := Ideal) c i a3 w3 a4 w4 a5 w5 a6 w6 h0 h1 h2 x0 x1 = tileNT x0 x1 := by
  unfold sout0_A_0 kernelRun0_A
  rw [View.read_writes_junk_eq_canon]
  dsimp only
  sl_unfold_words
  rw [View.canon_unit_zero zero2, read_whole _ _ zero2, read_whole _ _ zero2, k0_pay2, pay1_eq, shapeCast_id]

/-- A point between adds its product to it. -/
theorem sout_B (h0) (h1) (h2) :
    sout0_B_0 (F := Ideal) c i a3 w3 a4 w4 a5 w5 a6 w6 h0 h1 h2 x0 x1 xs = fun y => (xs y : EReal) + tileNT x0 x1 y := by
  unfold sout0_B_0 kernelRun0_B
  rw [View.read_writes_junk_eq_canon]
  dsimp only
  sl_unfold_words
  rw [View.canon_unit_zero zero2, read_whole _ _ zero2, read_whole _ _ zero2, read_whole _ _ zero2, k0_pay3, pay1_eq, shapeCast_id]
  rfl

/-- So does a run's last point, -/
theorem sout_C (h0) (h1) (h2) :
    sout0_C_0 (F := Ideal) c i a3 w3 a4 w4 a5 w5 a6 w6 h0 h1 h2 x0 x1 xs = fun y => (xs y : EReal) + tileNT x0 x1 y := by
  unfold sout0_C_0 kernelRun0_C
  rw [View.read_writes_junk_eq_canon]
  dsimp only
  sl_unfold_words
  rw [View.canon_unit_zero zero2, read_whole _ _ zero2, read_whole _ _ zero2, read_whole _ _ zero2, k0_pay3, pay1_eq, shapeCast_id]
  rfl

/-- which stores the sum. -/
theorem out_C (h0) (h1) (h2) :
    out0_C_2 (F := Ideal) c i a3 w3 a4 w4 a5 w5 a6 w6 h0 h1 h2 x0 x1 xs = fun y => (xs y : EReal) + tileNT x0 x1 y := by
  unfold out0_C_2 kernelRun0_C
  rw [View.read_writes_junk_eq_canon]
  dsimp only
  sl_unfold_words
  rw [View.canon_unit_zero zero2, View.readCov_unit_zero _ zero2, read_whole _ _ zero2, read_whole _ _ zero2, read_whole _ _ zero2, k0_pay4, k0_pay3, pay1_eq, shapeCast_id]
  rfl

end

variable (m : (ℓ : Loc nD τ sig) → Buf (Elt Ideal) ℓ) (ρ : Dev nD → PrngReg)

/-- The two factors and their product. -/
abbrev lhs (c : Dev nD) : ℕ → ℕ → EReal := ent (m := 2048) (n := 5632) (m ((c : Thread nD τ).loc main_arg2))
abbrev rhs (c : Dev nD) : ℕ → ℕ → EReal := tr (ent (m := 1024) (n := 5632) (m ((c : Thread nD τ).loc main_arg1)))
def value (c : Dev nD) : Buf (Elt Ideal) ((c : Thread nD τ).loc main_v0) := fun y => prod 5632 (lhs m c) (rhs m c) (y 0).val (y 1).val

/-- Where a point's blocks lie. -/
theorem place (t : Fin cfg0.N) :
    (win0_0.index t 0 = t.val / 4 ∧ win0_0.index t 1 = t.val % 4) ∧ (win0_1.index t 0 = 0 ∧ win0_1.index t 1 = t.val % 4)
    ∧ (win0_2.index t 0 = t.val / 4 ∧ win0_2.index t 1 = 0) := by
  revert t
  decide +kernel

theorem block0 (c : Dev nD) (t : Fin cfg0.N) : BlockOf (m := 1024) (n := 1408) (iblk m c 0 t) (lhs m c) (1024 * (t.val / 4)) (1408 * (t.val % 4)) := by
  intro y
  obtain ⟨⟨i0, i1⟩, -, -⟩ := place t
  refine ent_at (m := 2048) (n := 5632) (m ((c : Thread nD τ).loc main_arg2)) ((win0_0.blk t).view.emb y) ?_ ?_
  · blk_simp
    rw [i0]; omega
  · blk_simp
    rw [i1]; omega

theorem block1 (c : Dev nD) (t : Fin cfg0.N) :
    BlockOf (m := 1024) (n := 1408) (iblk m c 1 t) (tr (rhs m c)) 0 (1408 * (t.val % 4)) := by
  intro y
  obtain ⟨-, ⟨i0, i1⟩, -⟩ := place t
  refine ent_at (m := 1024) (n := 5632) (m ((c : Thread nD τ).loc main_arg1)) ((win0_1.blk t).view.emb y) ?_ ?_
  · blk_simp
    rw [i0]; omega
  · blk_simp
    rw [i1]; omega

/-- A point's product is its part of the sum. -/
theorem tile_part (c : Dev nD) (t : Fin cfg0.N) (y : S1024x1024.Idx) :
    tileNT (m := 1024) (n := 1024) (k := 1408) (iblk m c 0 t) (iblk m c 1 t) y
      = part 1408 (lhs m c) (rhs m c) (1024 * (t.val / 4) + (y 0).val) (y 1).val (t.val % 4) :=
  (tileNT_part (block0 m c t) (block1 m c t) y).trans (by rw [Nat.zero_add]; rfl)

/-- What the accumulator holds after a point. -/
theorem acc_eq (c : Dev nD) (y : S1024x1024.Idx) (t : ℕ) (h : t < cfg0.N) :
    ((outsAt0 m c t h).2 y : EReal) = ∑ s ∈ Finset.range (t % 4 + 1), part 1408 (lhs m c) (rhs m c) (1024 * (t / 4) + (y 0).val) (y 1).val s := by
  have e := acc_sum (N := cfg0.N) (n := 4) (fun t h => ((outsAt0 m c t h).2 y : EReal))
    (fun t => part 1408 (lhs m c) (rhs m c) (1024 * (t / 4) + (y 0).val) (y 1).val (t % 4))
    (fun t h e => by
      dsimp only
      rw [outsAt0_A m c ⟨t, h⟩ e (by dsimp only; omega) (by dsimp only; omega), sout_A]
      exact tile_part m c ⟨t, h⟩ y)
    (fun t h e => by
      dsimp only
      by_cases e3 : (t + 1) % 4 = 3
      · rw [outsAt0_C m c ⟨t + 1, h⟩ e (by dsimp only; omega) e3, sout_C]
        exact congrArg ((outsAt0 m c t (Nat.lt_of_succ_lt h)).2 y + · : EReal → EReal) (tile_part m c ⟨t + 1, h⟩ y)
      · rw [outsAt0_B m c ⟨t + 1, h⟩ e (by dsimp only; omega) e3, sout_B]
        exact congrArg ((outsAt0 m c t (Nat.lt_of_succ_lt h)).2 y + · : EReal → EReal) (tile_part m c ⟨t + 1, h⟩ y)) t h
  refine e.trans (Finset.sum_congr rfl fun s hs => ?_)
  have hs := Finset.mem_range.mp hs
  have h1 : (t - t % 4 + s) / 4 = t / 4 := by omega
  have h2 : (t - t % 4 + s) % 4 = s := by omega
  rw [h1, h2]

/-- What a run's last point stores. -/
theorem last_eq (c : Dev nD) (t : Fin cfg0.N) (e : t.val % 4 = 3) (y : S1024x1024.Idx) :
    ((outsAt0 m c t.val t.isLt).1 y : EReal) = prod 5632 (lhs m c) (rhs m c) (1024 * (t.val / 4) + (y 0).val) (y 1).val := by
  have hN : t.val - 1 < cfg0.N := Nat.lt_of_le_of_lt (Nat.sub_le _ _) t.isLt
  rw [← sum_parts 4 1408 rfl, Finset.sum_range_succ, outsAt0_C m c t (by omega) (by omega) e, out_C]
  refine congrArg₂ (· + ·) ((acc_eq m c y (t.val - 1) hN).trans ?_) ((tile_part m c t y).trans (by rw [e]))
  have h1 : (t.val - 1) / 4 = t.val / 4 := by omega
  have h2 : (t.val - 1) % 4 + 1 = 3 := by omega
  rw [h1, h2]

/-- What the call leaves. -/
theorem arr_eq (c : Dev nD) : (dats m 0 c).arrAt 2 cfg0.N = value m c := by
  refine (dats m 0 c).arrAt_eq_of_covers 2 _ (by decide +kernel) fun t hf y => ?_
  obtain ⟨-, -, i0, i1⟩ := place t
  have e : t.val % 4 = 3 := (flush0_2 t).mp hf
  blk_simp
  rw [after0_2]
  refine (last_eq m c t e y).trans ?_
  unfold value
  congr 1 <;> blk_simp
  · rw [i0]; omega
  · rw [i1]; omega

/-- The kernel's run leaves the product. -/
theorem run_value : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_eq m c), (h c).2⟩) (run_blocks m ρ)

end Cert.Kernel2Ideal.Hand

end
-- ==== Proof.MmDwup.lean ====
/- The gradient of the up product's right factor: what the kernel's call leaves in its result. -/
module

public import proofs.«01_k».proof.Proof.Gen.Kernel3Ideal.Value
public import proofs.«01_k».proof.Proof.MmBlock

@[expose] public noncomputable section

namespace Cert.Kernel3Ideal.Hand

open Idealize.ShloMosaic Idealize.ShloMosaic.TcCoe Idealize.ShloMosaic.Tactic
open Idealize.SL Idealize.SL.RA Idealize.SL.Sem
open Cert.Kernel3Ideal.Gen Cert.Kernel3Ideal.Value Cert.Mm

/-- A point's product. -/
theorem pay1_eq (x0 : Vec Ideal S1024x1024 .bf16) (x1 : Vec Ideal S1024x2816 .bf16) : k0_pay1 (F := Ideal) x0 x1 = tileTN x0 x1 := by
  funext y
  unfold k0_pay1 tileTN
  simp only [pointwise, zero_add]
  rfl

section
variable (c : Dev nD) (i : grid0.Coords) (a3 : Memref sig .tc .vmem S1024x1024 .bf16) (w3 : a3.IsWhole)
  (a4 : Memref sig .tc .vmem S1024x2816 .bf16) (w4 : a4.IsWhole) (a5 : Memref sig .tc .vmem S1024x2816 .bf16) (w5 : a5.IsWhole)
  (a6 : Memref sig .tc .vmem S1024x2816 .f32) (w6 : a6.IsWhole) (x0 : Vec Ideal S1024x1024 .bf16) (x1 : Vec Ideal S1024x2816 .bf16) (xs : Vec Ideal S1024x2816 .f32)

/-- A pair's first point leaves its product in the accumulator. -/
theorem sout_A (h0) (h1) (h2) : sout0_A_0 (F := Ideal) c i a3 w3 a4 w4 a5 w5 a6 w6 h0 h1 h2 x0 x1 = tileTN x0 x1 := by
  unfold sout0_A_0 kernelRun0_A
  rw [View.read_writes_junk_eq_canon]
  dsimp only
  sl_unfold_words
  rw [View.canon_unit_zero zero2, read_whole _ _ zero2, read_whole _ _ zero2, k0_pay2, pay1_eq, shapeCast_id]

/-- Its second point stores the sum of both products. -/
theorem out_B (h0) (h1) (h2) :
    out0_B_2 (F := Ideal) c i a3 w3 a4 w4 a5 w5 a6 w6 h0 h1 h2 x0 x1 xs = fun y => ((xs y : EReal) + tileTN x0 x1 y) := by
  unfold out0_B_2 kernelRun0_B
  rw [View.read_writes_junk_eq_canon]
  dsimp only
  sl_unfold_words
  rw [View.canon_unit_zero zero2, View.readCov_unit_zero _ zero2, read_whole _ _ zero2, read_whole _ _ zero2, read_whole _ _ zero2, k0_pay4, k0_pay3, pay1_eq, shapeCast_id]
  rfl

end

variable (m : (ℓ : Loc nD τ sig) → Buf (Elt Ideal) ℓ) (ρ : Dev nD → PrngReg)

/-- The two factors and their product. -/
abbrev lhs (c : Dev nD) : ℕ → ℕ → EReal := tr (ent (m := 2048) (n := 1024) (m ((c : Thread nD τ).loc main_arg0)))
abbrev rhs (c : Dev nD) : ℕ → ℕ → EReal := ent (m := 2048) (n := 5632) (m ((c : Thread nD τ).loc main_arg2))
def value (c : Dev nD) : Buf (Elt Ideal) ((c : Thread nD τ).loc main_v0) := fun y => prod 2048 (lhs m c) (rhs m c) (y 0).val (y 1).val

/-- Where a point's blocks lie. -/
theorem place (t : Fin cfg0.N) :
    (win0_0.index t 0 = t.val % 2 ∧ win0_0.index t 1 = 0) ∧ (win0_1.index t 0 = t.val % 2 ∧ win0_1.index t 1 = t.val / 2)
    ∧ (win0_2.index t 0 = 0 ∧ win0_2.index t 1 = t.val / 2) := by
  revert t
  decide +kernel

theorem block0 (c : Dev nD) (t : Fin cfg0.N) : BlockOf (m := 1024) (n := 1024) (iblk m c 0 t) (tr (lhs m c)) (1024 * (t.val % 2)) 0 := by
  intro y
  obtain ⟨⟨i0, i1⟩, -, -⟩ := place t
  refine ent_at (m := 2048) (n := 1024) (m ((c : Thread nD τ).loc main_arg0)) ((win0_0.blk t).view.emb y) ?_ ?_
  · blk_simp
    rw [i0]; omega
  · blk_simp
    rw [i1]; omega

theorem block1 (c : Dev nD) (t : Fin cfg0.N) : BlockOf (m := 1024) (n := 2816) (iblk m c 1 t) (rhs m c) (1024 * (t.val % 2)) (2816 * (t.val / 2)) := by
  intro y
  obtain ⟨-, ⟨i0, i1⟩, -⟩ := place t
  refine ent_at (m := 2048) (n := 5632) (m ((c : Thread nD τ).loc main_arg2)) ((win0_1.blk t).view.emb y) ?_ ?_
  · blk_simp
    rw [i0]; omega
  · blk_simp
    rw [i1]; omega

/-- A point's product is its part of the sum. -/
theorem tile_part (c : Dev nD) (t : Fin cfg0.N) (y : S1024x2816.Idx) :
    tileTN (m := 1024) (n := 2816) (k := 1024) (iblk m c 0 t) (iblk m c 1 t) y = part 1024 (lhs m c) (rhs m c) (0 + (y 0).val) (2816 * (t.val / 2) + (y 1).val) (t.val % 2) :=
  tileTN_part (block0 m c t) (block1 m c t) y

/-- What the second point stores. -/
theorem last_eq (c : Dev nD) (t : Fin cfg0.N) (e : t.val % 2 = 1) (y : S1024x2816.Idx) :
    ((outsAt0 m c t.val t.isLt).1 y : EReal) = prod 2048 (lhs m c) (rhs m c) (0 + (y 0).val) (2816 * (t.val / 2) + (y 1).val) := by
  have hN : t.val - 1 < cfg0.N := Nat.lt_of_le_of_lt (Nat.sub_le _ _) t.isLt
  have h1 : (t.val - 1) / 2 = t.val / 2 := by omega
  have h2 : (t.val - 1) % 2 = 0 := by omega
  rw [← two_parts 1024 rfl, outsAt0_B m c t (by omega) e e, out_B]
  refine congrArg₂ (· + ·) ?_ ((tile_part m c t y).trans (by rw [e]))
  dsimp only
  rw [outsAt0_A m c ⟨t.val - 1, hN⟩ h2 (by dsimp only; omega) (by dsimp only; omega), sout_A]
  exact (tile_part m c ⟨t.val - 1, hN⟩ y).trans (by dsimp only; rw [h1, h2])

/-- What the call leaves. -/
theorem arr_eq (c : Dev nD) : (dats m 0 c).arrAt 2 cfg0.N = value m c := by
  refine (dats m 0 c).arrAt_eq_of_covers 2 _ (by decide +kernel) fun t hf y => ?_
  obtain ⟨-, -, i0, i1⟩ := place t
  have e : t.val % 2 = 1 := (flush0_2 t).mp hf
  blk_simp
  rw [after0_2]
  refine (last_eq m c t e y).trans ?_
  unfold value
  congr 1 <;> blk_simp
  · rw [i0]; omega
  · rw [i1]; omega

/-- The kernel's run leaves their product. -/
theorem run_value : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_eq m c), (h c).2⟩) (run_blocks m ρ)

end Cert.Kernel3Ideal.Hand

end
-- ==== Proof.MmDwdown.lean ====
/- The gradient of the down product's right factor: what the kernel's call leaves in its result. -/
module

public import proofs.«01_k».proof.Proof.Gen.Kernel4Ideal.Value
public import proofs.«01_k».proof.Proof.MmBlock

@[expose] public noncomputable section

namespace Cert.Kernel4Ideal.Hand

open Idealize.ShloMosaic Idealize.ShloMosaic.TcCoe Idealize.ShloMosaic.Tactic
open Idealize.SL Idealize.SL.RA Idealize.SL.Sem
open Cert.Kernel4Ideal.Gen Cert.Kernel4Ideal.Value Cert.Mm

/-- A point's product. -/
theorem pay1_eq (x0 : Vec Ideal S1024x1408 .bf16) (x1 : Vec Ideal S1024x1024 .f32) : k0_pay1 (F := Ideal) x0 x1 = tileTN x0 x1 := by
  funext y
  unfold k0_pay1 tileTN
  simp only [pointwise, zero_add]
  rfl

section
variable (c : Dev nD) (i : grid0.Coords) (a3 : Memref sig .tc .vmem S1024x1408 .bf16) (w3 : a3.IsWhole)
  (a4 : Memref sig .tc .vmem S1024x1024 .f32) (w4 : a4.IsWhole) (a5 : Memref sig .tc .vmem S1408x1024 .bf16) (w5 : a5.IsWhole)
  (a6 : Memref sig .tc .vmem S1408x1024 .f32) (w6 : a6.IsWhole) (x0 : Vec Ideal S1024x1408 .bf16) (x1 : Vec Ideal S1024x1024 .f32) (xs : Vec Ideal S1408x1024 .f32)

/-- A pair's first point leaves its product in the accumulator. -/
theorem sout_A (h0) (h1) (h2) : sout0_A_0 (F := Ideal) c i a3 w3 a4 w4 a5 w5 a6 w6 h0 h1 h2 x0 x1 = tileTN x0 x1 := by
  unfold sout0_A_0 kernelRun0_A
  rw [View.read_writes_junk_eq_canon]
  dsimp only
  sl_unfold_words
  rw [View.canon_unit_zero zero2, read_whole _ _ zero2, read_whole _ _ zero2, k0_pay2, pay1_eq, shapeCast_id]

/-- Its second point stores the sum of both products. -/
theorem out_B (h0) (h1) (h2) :
    out0_B_2 (F := Ideal) c i a3 w3 a4 w4 a5 w5 a6 w6 h0 h1 h2 x0 x1 xs = fun y => ((xs y : EReal) + tileTN x0 x1 y) := by
  unfold out0_B_2 kernelRun0_B
  rw [View.read_writes_junk_eq_canon]
  dsimp only
  sl_unfold_words
  rw [View.canon_unit_zero zero2, View.readCov_unit_zero _ zero2, read_whole _ _ zero2, read_whole _ _ zero2, read_whole _ _ zero2, k0_pay4, k0_pay3, pay1_eq, shapeCast_id]
  rfl

end

variable (m : (ℓ : Loc nD τ sig) → Buf (Elt Ideal) ℓ) (ρ : Dev nD → PrngReg)

/-- The two factors and their product. -/
abbrev lhs (c : Dev nD) : ℕ → ℕ → EReal := tr (ent (m := 2048) (n := 2816) (m ((c : Thread nD τ).loc main_arg0)))
abbrev rhs (c : Dev nD) : ℕ → ℕ → EReal := ent (m := 2048) (n := 1024) (m ((c : Thread nD τ).loc main_arg2))
def value (c : Dev nD) : Buf (Elt Ideal) ((c : Thread nD τ).loc main_v0) := fun y => prod 2048 (lhs m c) (rhs m c) (y 0).val (y 1).val

/-- Where a point's blocks lie. -/
theorem place (t : Fin cfg0.N) :
    (win0_0.index t 0 = t.val % 2 ∧ win0_0.index t 1 = t.val / 2) ∧ (win0_1.index t 0 = t.val % 2 ∧ win0_1.index t 1 = 0)
    ∧ (win0_2.index t 0 = t.val / 2 ∧ win0_2.index t 1 = 0) := by
  revert t
  decide +kernel

theorem block0 (c : Dev nD) (t : Fin cfg0.N) : BlockOf (m := 1024) (n := 1408) (iblk m c 0 t) (tr (lhs m c)) (1024 * (t.val % 2)) (1408 * (t.val / 2)) := by
  intro y
  obtain ⟨⟨i0, i1⟩, -, -⟩ := place t
  refine ent_at (m := 2048) (n := 2816) (m ((c : Thread nD τ).loc main_arg0)) ((win0_0.blk t).view.emb y) ?_ ?_
  · blk_simp
    rw [i0]; omega
  · blk_simp
    rw [i1]; omega

theorem block1 (c : Dev nD) (t : Fin cfg0.N) : BlockOf (m := 1024) (n := 1024) (iblk m c 1 t) (rhs m c) (1024 * (t.val % 2)) 0 := by
  intro y
  obtain ⟨-, ⟨i0, i1⟩, -⟩ := place t
  refine ent_at (m := 2048) (n := 1024) (m ((c : Thread nD τ).loc main_arg2)) ((win0_1.blk t).view.emb y) ?_ ?_
  · blk_simp
    rw [i0]; omega
  · blk_simp
    rw [i1]; omega

/-- A point's product is its part of the sum. -/
theorem tile_part (c : Dev nD) (t : Fin cfg0.N) (y : S1408x1024.Idx) :
    tileTN (m := 1408) (n := 1024) (k := 1024) (iblk m c 0 t) (iblk m c 1 t) y = part 1024 (lhs m c) (rhs m c) (1408 * (t.val / 2) + (y 0).val) (0 + (y 1).val) (t.val % 2) :=
  tileTN_part (block0 m c t) (block1 m c t) y

/-- What the second point stores. -/
theorem last_eq (c : Dev nD) (t : Fin cfg0.N) (e : t.val % 2 = 1) (y : S1408x1024.Idx) :
    ((outsAt0 m c t.val t.isLt).1 y : EReal) = prod 2048 (lhs m c) (rhs m c) (1408 * (t.val / 2) + (y 0).val) (0 + (y 1).val) := by
  have hN : t.val - 1 < cfg0.N := Nat.lt_of_le_of_lt (Nat.sub_le _ _) t.isLt
  have h1 : (t.val - 1) / 2 = t.val / 2 := by omega
  have h2 : (t.val - 1) % 2 = 0 := by omega
  rw [← two_parts 1024 rfl, outsAt0_B m c t (by omega) e e, out_B]
  refine congrArg₂ (· + ·) ?_ ((tile_part m c t y).trans (by rw [e]))
  dsimp only
  rw [outsAt0_A m c ⟨t.val - 1, hN⟩ h2 (by dsimp only; omega) (by dsimp only; omega), sout_A]
  exact (tile_part m c ⟨t.val - 1, hN⟩ y).trans (by dsimp only; rw [h1, h2])

/-- What the call leaves. -/
theorem arr_eq (c : Dev nD) : (dats m 0 c).arrAt 2 cfg0.N = value m c := by
  refine (dats m 0 c).arrAt_eq_of_covers 2 _ (by decide +kernel) fun t hf y => ?_
  obtain ⟨-, -, i0, i1⟩ := place t
  have e : t.val % 2 = 1 := (flush0_2 t).mp hf
  blk_simp
  rw [after0_2]
  refine (last_eq m c t e y).trans ?_
  unfold value
  congr 1 <;> blk_simp
  · rw [i0]; omega
  · rw [i1]; omega

/-- The kernel's run leaves their product. -/
theorem run_value : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_eq m c), (h c).2⟩) (run_blocks m ρ)

end Cert.Kernel4Ideal.Hand

end
-- ==== Proof.MmDown.lean ====
/- The down product and the layer's input added to it: what the kernel's call leaves in its result. -/
module

public import proofs.«01_k».proof.Proof.Gen.Kernel5Ideal.Value
public import proofs.«01_k».proof.Proof.MmBlock

@[expose] public noncomputable section

namespace Cert.Kernel5Ideal.Hand

open Idealize.ShloMosaic Idealize.ShloMosaic.TcCoe Idealize.ShloMosaic.Tactic
open Idealize.SL Idealize.SL.RA Idealize.SL.Sem
open Cert.Kernel5Ideal.Gen Cert.Kernel5Ideal.Value Cert.Mm

/-- A point's product. -/
theorem pay1_eq (x0 : Vec Ideal S1024x1408 .bf16) (x1 : Vec Ideal S1408x1024 .bf16) : k0_pay1 (F := Ideal) x0 x1 = tileNN x0 x1 := by
  funext y
  unfold k0_pay1 tileNN
  simp only [pointwise, zero_add]
  rfl

section
variable (c : Dev nD) (i : grid0.Coords) (a3 : Memref sig .tc .vmem S1024x1408 .bf16) (w3 : a3.IsWhole)
  (a4 : Memref sig .tc .vmem S1408x1024 .bf16) (w4 : a4.IsWhole) (a7 : Memref sig .tc .vmem S1024x1024 .f32) (w7 : a7.IsWhole)
  (a5 : Memref sig .tc .vmem S1024x1024 .f32) (w5 : a5.IsWhole)
  (a6 : Memref sig .tc .vmem S1024x1024 .f32) (w6 : a6.IsWhole) (x0 : Vec Ideal S1024x1408 .bf16) (x1 : Vec Ideal S1408x1024 .bf16) (x2 : Vec Ideal S1024x1024 .f32) (xs : Vec Ideal S1024x1024 .f32)

/-- A pair's first point leaves its product in the accumulator. -/
theorem sout_A (h0) (h1) (h2) : sout0_A_0 (F := Ideal) c i a3 w3 a4 w4 a7 w7 a5 w5 a6 w6 h0 h1 h2 x0 x1 x2 = tileNN x0 x1 := by
  unfold sout0_A_0 kernelRun0_A
  rw [View.read_writes_junk_eq_canon]
  dsimp only
  sl_unfold_words
  rw [View.canon_unit_zero zero2, read_whole _ _ zero2, read_whole _ _ zero2, k0_pay2, pay1_eq, shapeCast_id]

/-- Its second point stores the sum of both products added to the third block. -/
theorem out_B (h0) (h1) (h2) :
    out0_B_3 (F := Ideal) c i a3 w3 a4 w4 a7 w7 a5 w5 a6 w6 h0 h1 h2 x0 x1 x2 xs = fun y => (x2 y : EReal) + ((xs y : EReal) + tileNN x0 x1 y) := by
  unfold out0_B_3 kernelRun0_B
  rw [View.read_writes_junk_eq_canon]
  dsimp only
  sl_unfold_words
  rw [View.canon_unit_zero zero2, View.readCov_unit_zero _ zero2, read_whole _ _ zero2, read_whole _ _ zero2,
    read_whole _ _ zero2, read_whole _ _ zero2, k0_pay4, k0_pay3, pay1_eq, shapeCast_id]
  exact funext fun y => add_comm ((xs y : EReal) + tileNN x0 x1 y) (x2 y)

end

variable (m : (ℓ : Loc nD τ sig) → Buf (Elt Ideal) ℓ) (ρ : Dev nD → PrngReg)

/-- The two factors and their product with the third array added. -/
abbrev lhs (c : Dev nD) : ℕ → ℕ → EReal := ent (m := 2048) (n := 2816) (m ((c : Thread nD τ).loc main_arg1))
abbrev rhs (c : Dev nD) : ℕ → ℕ → EReal := ent (m := 2816) (n := 1024) (m ((c : Thread nD τ).loc main_arg2))
abbrev third (c : Dev nD) : ℕ → ℕ → EReal := ent (m := 2048) (n := 1024) (m ((c : Thread nD τ).loc main_arg0))
def value (c : Dev nD) : Buf (Elt Ideal) ((c : Thread nD τ).loc main_v0) := fun y => third m c (y 0).val (y 1).val + prod 2816 (lhs m c) (rhs m c) (y 0).val (y 1).val

/-- Where a point's blocks lie. -/
theorem place (t : Fin cfg0.N) :
    (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = t.val / 2 ∧ win0_3.index t 1 = 0) := by
  revert t
  decide +kernel

theorem block0 (c : Dev nD) (t : Fin cfg0.N) : BlockOf (m := 1024) (n := 1408) (iblk m c 0 t) (lhs m c) (1024 * (t.val / 2)) (1408 * (t.val % 2)) := by
  intro y
  obtain ⟨⟨i0, i1⟩, -, -⟩ := place t
  refine ent_at (m := 2048) (n := 2816) (m ((c : Thread nD τ).loc main_arg1)) ((win0_0.blk t).view.emb y) ?_ ?_
  · blk_simp
    rw [i0]; omega
  · blk_simp
    rw [i1]; omega

theorem block1 (c : Dev nD) (t : Fin cfg0.N) : BlockOf (m := 1408) (n := 1024) (iblk m c 1 t) (rhs m c) (1408 * (t.val % 2)) 0 := by
  intro y
  obtain ⟨-, ⟨i0, i1⟩, -⟩ := place t
  refine ent_at (m := 2816) (n := 1024) (m ((c : Thread nD τ).loc main_arg2)) ((win0_1.blk t).view.emb y) ?_ ?_
  · blk_simp
    rw [i0]; omega
  · blk_simp
    rw [i1]; omega

theorem block2 (c : Dev nD) (t : Fin cfg0.N) : BlockOf (m := 1024) (n := 1024) (iblk m c 2 t) (third m c) (1024 * (t.val / 2)) 0 := by
  intro y
  obtain ⟨-, -, ⟨i0, i1⟩, -⟩ := place t
  refine ent_at (m := 2048) (n := 1024) (m ((c : Thread nD τ).loc main_arg0)) ((win0_2.blk t).view.emb y) ?_ ?_
  · blk_simp
    rw [i0]; omega
  · blk_simp
    rw [i1]; omega

/-- A point's product is its part of the sum. -/
theorem tile_part (c : Dev nD) (t : Fin cfg0.N) (y : S1024x1024.Idx) :
    tileNN (m := 1024) (n := 1024) (k := 1408) (iblk m c 0 t) (iblk m c 1 t) y = part 1408 (lhs m c) (rhs m c) (1024 * (t.val / 2) + (y 0).val) (0 + (y 1).val) (t.val % 2) :=
  tileNN_part (block0 m c t) (block1 m c t) y

/-- What the second point stores. -/
theorem last_eq (c : Dev nD) (t : Fin cfg0.N) (e : t.val % 2 = 1) (y : S1024x1024.Idx) :
    ((outsAt0 m c t.val t.isLt).1 y : EReal) = third m c (1024 * (t.val / 2) + (y 0).val) (0 + (y 1).val) + prod 2816 (lhs m c) (rhs m c) (1024 * (t.val / 2) + (y 0).val) (0 + (y 1).val) := by
  have hN : t.val - 1 < cfg0.N := Nat.lt_of_le_of_lt (Nat.sub_le _ _) t.isLt
  have h1 : (t.val - 1) / 2 = t.val / 2 := by omega
  have h2 : (t.val - 1) % 2 = 0 := by omega
  rw [← two_parts 1408 rfl, outsAt0_B m c t (by omega) e e, out_B]
  refine congrArg₂ (· + ·) (block2 m c t y) (congrArg₂ (· + ·) ?_ ((tile_part m c t y).trans (by rw [e])))
  dsimp only
  rw [outsAt0_A m c ⟨t.val - 1, hN⟩ h2 (by dsimp only; omega) (by dsimp only; omega), sout_A]
  exact (tile_part m c ⟨t.val - 1, hN⟩ y).trans (by dsimp only; rw [h1, h2])

/-- What the call leaves. -/
theorem arr_eq (c : Dev nD) : (dats m 0 c).arrAt 3 cfg0.N = value m c := by
  refine (dats m 0 c).arrAt_eq_of_covers 3 _ (by decide +kernel) fun t hf y => ?_
  obtain ⟨-, -, -, i0, i1⟩ := place t
  have e : t.val % 2 = 1 := (flush0_3 t).mp hf
  blk_simp
  rw [after0_3]
  refine (last_eq m c t e y).trans ?_
  unfold value
  have e0 : 1024 * (t.val / 2) + (y 0).val = ((win0_3.blk t).view.emb y 0).val := by blk_simp; rw [i0]; omega
  have e1 : 0 + (y 1).val = ((win0_3.blk t).view.emb y 1).val := by blk_simp; rw [i1]; omega
  rw [e0, e1]

/-- The kernel's run leaves their product with the third array added. -/
theorem run_value : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_eq m c), (h c).2⟩) (run_blocks m ρ)

end Cert.Kernel5Ideal.Hand

end
-- ==== Proof.MmUp.lean ====
/- The up product: what the kernel's call leaves in its result. -/
module

public import proofs.«01_k».proof.Proof.Gen.Kernel6Ideal.Value
public import proofs.«01_k».proof.Proof.MmBlock

@[expose] public noncomputable section

namespace Cert.Kernel6Ideal.Hand

open Idealize.ShloMosaic Idealize.ShloMosaic.TcCoe Idealize.ShloMosaic.Tactic
open Idealize.SL Idealize.SL.RA Idealize.SL.Sem
open Cert.Kernel6Ideal.Gen Cert.Kernel6Ideal.Value Cert.Mm

/-- A point stores its product. -/
theorem out_eq (x0 : Vec Ideal S1024x1024 .bf16) (x1 : Vec Ideal S1024x2816 .bf16) : out0_2 (F := Ideal) x0 x1 = tileNN x0 x1 := by
  unfold out0_2
  rw [View.canon_unit_zero zero2, View.ld_unit_zero zero2, View.ld_unit_zero zero2]
  funext y
  unfold k0_pay1 tileNN
  simp only [pointwise, zero_add]
  rfl

variable (m : (ℓ : Loc nD τ sig) → Buf (Elt Ideal) ℓ) (ρ : Dev nD → PrngReg)

/-- The two factors and their product. -/
abbrev lhs (c : Dev nD) : ℕ → ℕ → EReal := ent (m := 2048) (n := 1024) (m ((c : Thread nD τ).loc main_arg0))
abbrev rhs (c : Dev nD) : ℕ → ℕ → EReal := ent (m := 1024) (n := 5632) (m ((c : Thread nD τ).loc main_arg1))
def value (c : Dev nD) : Buf (Elt Ideal) ((c : Thread nD τ).loc main_v0) := fun y => prod 1024 (lhs m c) (rhs m c) (y 0).val (y 1).val

/-- Where a point's blocks lie. -/
theorem place (t : Fin cfg0.N) :
    (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by
  revert t
  decide +kernel

theorem block0 (c : Dev nD) (t : Fin cfg0.N) : BlockOf (m := 1024) (n := 1024) (iblk m c 0 t) (lhs m c) (1024 * (t.val / 2)) (1024 * 0) := by
  intro y
  obtain ⟨⟨i0, i1⟩, -, -⟩ := place t
  refine ent_at (m := 2048) (n := 1024) (m ((c : Thread nD τ).loc main_arg0)) ((win0_0.blk t).view.emb y) ?_ ?_
  · blk_simp
    rw [i0]; omega
  · blk_simp
    rw [i1]

theorem block1 (c : Dev nD) (t : Fin cfg0.N) : BlockOf (m := 1024) (n := 2816) (iblk m c 1 t) (rhs m c) (1024 * 0) (2816 * (t.val % 2)) := by
  intro y
  obtain ⟨-, ⟨i0, i1⟩, -⟩ := place t
  refine ent_at (m := 1024) (n := 5632) (m ((c : Thread nD τ).loc main_arg1)) ((win0_1.blk t).view.emb y) ?_ ?_
  · blk_simp
    rw [i0]
  · blk_simp
    rw [i1]; omega

/-- What the call leaves. -/
theorem arr_eq (c : Dev nD) : (dats m 0 c).arrAt 2 cfg0.N = value m c := by
  refine (dats m 0 c).arrAt_eq_of_covers 2 _ (by decide +kernel) fun t hf y => ?_
  obtain ⟨-, -, i0, i1⟩ := place t
  blk_simp
  rw [after0_2, out_eq]
  refine ((tileNN_part (m := 1024) (n := 2816) (k := 1024) (s := 0) (block0 m c t) (block1 m c t) y).trans (one_part ..)).trans ?_
  unfold value
  congr 1 <;> blk_simp
  · rw [i0]; omega
  · rw [i1]; omega

/-- The kernel's run leaves their product. -/
theorem run_value : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr_eq m c), (h c).2⟩) (run_blocks m ρ)

end Cert.Kernel6Ideal.Hand

end
-- ==== Proof.MmDact.lean ====
/- The gradient of the down product's left factor: what the kernel's call leaves in its result. -/
module

public import proofs.«01_k».proof.Proof.Gen.Kernel7Ideal.Value
public import proofs.«01_k».proof.Proof.MmBlock

@[expose] public noncomputable section

namespace Cert.Kernel7Ideal.Hand

open Idealize.ShloMosaic Idealize.ShloMosaic.TcCoe Idealize.ShloMosaic.Tactic
open Idealize.SL Idealize.SL.RA Idealize.SL.Sem
open Cert.Kernel7Ideal.Gen Cert.Kernel7Ideal.Value Cert.Mm

/-- A point stores its product. -/
theorem out_eq (x0 : Vec Ideal S1024x1024 .f32) (x1 : Vec Ideal S2816x1024 .bf16) : out0_2 (F := Ideal) x0 x1 = tileNT x0 x1 := by
  unfold out0_2
  rw [View.canon_unit_zero zero2, View.ld_unit_zero zero2, View.ld_unit_zero zero2]
  funext y
  unfold k0_pay1 tileNT
  simp only [pointwise, zero_add]
  rfl

variable (m : (ℓ : Loc nD τ sig) → Buf (Elt Ideal) ℓ) (ρ : Dev nD → PrngReg)

/-- The two factors and their product. -/
abbrev lhs (c : Dev nD) : ℕ → ℕ → EReal := ent (m := 2048) (n := 1024) (m ((c : Thread nD τ).loc main_arg2))
abbrev rhs (c : Dev nD) : ℕ → ℕ → EReal := tr (ent (m := 2816) (n := 1024) (m ((c : Thread nD τ).loc main_arg1)))
def value (c : Dev nD) : Buf (Elt Ideal) ((c : Thread nD τ).loc main_v0) := fun y => prod 1024 (lhs m c) (rhs m c) (y 0).val (y 1).val

/-- Where a point's blocks lie. -/
theorem place (t : Fin cfg0.N) :
    (win0_0.index t 0 = t.val ∧ win0_0.index t 1 = 0) ∧ (win0_1.index t 0 = 0 ∧ win0_1.index t 1 = 0)
    ∧ (win0_2.index t 0 = t.val ∧ win0_2.index t 1 = 0) := by
  revert t
  decide +kernel

theorem block0 (c : Dev nD) (t : Fin cfg0.N) : BlockOf (m := 1024) (n := 1024) (iblk m c 0 t) (lhs m c) (1024 * (t.val)) (1024 * 0) := by
  intro y
  obtain ⟨⟨i0, i1⟩, -, -⟩ := place t
  refine ent_at (m := 2048) (n := 1024) (m ((c : Thread nD τ).loc main_arg2)) ((win0_0.blk t).view.emb y) ?_ ?_
  · blk_simp
    rw [i0]; omega
  · blk_simp
    rw [i1]

theorem block1 (c : Dev nD) (t : Fin cfg0.N) : BlockOf (m := 2816) (n := 1024) (iblk m c 1 t) (tr (rhs m c)) 0 (1024 * 0) := by
  intro y
  obtain ⟨-, ⟨i0, i1⟩, -⟩ := place t
  refine ent_at (m := 2816) (n := 1024) (m ((c : Thread nD τ).loc main_arg1)) ((win0_1.blk t).view.emb y) ?_ ?_
  · blk_simp
    rw [i0]; omega
  · blk_simp
    rw [i1]

/-- What the call leaves. -/
theorem arr_eq (c : Dev nD) : (dats m 0 c).arrAt 2 cfg0.N = value m c := by
  refine (dats m 0 c).arrAt_eq_of_covers 2 _ (by decide +kernel) fun t hf y => ?_
  obtain ⟨-, -, i0, i1⟩ := place t
  blk_simp
  rw [after0_2, out_eq]
  refine ((tileNT_part (m := 1024) (n := 2816) (k := 1024) (s := 0) (block0 m c t) (block1 m c t) y).trans (one_part ..)).trans ?_
  unfold value
  congr 1 <;> blk_simp
  · rw [i0]; omega
  · rw [i1]; omega

/-- The kernel's run leaves their product. -/
theorem run_value : θ_run defs (onTc (τ := τ) (main (F := Ideal))) ⟨m, fun _ => 0, ρ⟩ fun r => ∀ c : Dev nD,
      r.2.mem ((c : Thread nD τ).loc main_v0) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_eq m c), (h c).2⟩) (run_blocks m ρ)

end Cert.Kernel7Ideal.Hand

end
-- ==== Proof.MmValue.lean ====
/- The products' kernels and references leave the same results, and the references' frames. -/
module

public import proofs.«01_k».proof.Defs
public import proofs.«01_k».proof.Proof.MmRef
public import proofs.«01_k».proof.Proof.MmDh
public import proofs.«01_k».proof.Proof.MmDwup
public import proofs.«01_k».proof.Proof.MmDwdown
public import proofs.«01_k».proof.Proof.MmDown
public import proofs.«01_k».proof.Proof.MmUp
public import proofs.«01_k».proof.Proof.MmDact

@[expose] public section

noncomputable section

open Idealize.ShloMosaic Idealize.ShloMosaic.TcCoe Idealize.SL.Sem

namespace Cert.Reference2Ideal.Hand
open Cert.Reference2Ideal

/-- The reference terminates, leaves its arguments unchanged and has no counter. -/
theorem frame : quiescent_Reference2Ideal := fun m ρ _ =>
  (θ_run (defs (F := Ideal)) _ _).mono (fun r h => ⟨fun c => (h c).2, sem_eq_zero_of_no_sems (by decide) r.2⟩) (Cert.Reference2Ideal.Value.run m ρ)

/-- Both programs leave the gradient of the up product's left factor. -/
theorem algebraic : algebraic_Kernel2Ideal_Reference2Ideal := by
  intro m ρ m' ρ' _ hagree
  refine ⟨Cert.Kernel2Ideal.Hand.value m, Cert.Kernel2Ideal.Hand.run_value m ρ, ?_⟩
  refine (θ_run (defs (F := Ideal)) _ _).mono (fun r h c => ⟨(h c).1.trans (funext fun y => ?_), (h c).2⟩) (Cert.Reference2Ideal.Value.run m' ρ')
  obtain ⟨h0, h1, h2⟩ := hagree c
  refine (value_eq _ _ y).trans ?_
  rw [h2, h1]
  rfl

end Cert.Reference2Ideal.Hand

namespace Cert.Reference3Ideal.Hand
open Cert.Reference3Ideal

/-- The reference terminates, leaves its arguments unchanged and has no counter. -/
theorem frame : quiescent_Reference3Ideal := fun m ρ _ =>
  (θ_run (defs (F := Ideal)) _ _).mono (fun r h => ⟨fun c => (h c).2, sem_eq_zero_of_no_sems (by decide) r.2⟩) (Cert.Reference3Ideal.Value.run m ρ)

/-- Both programs leave the gradient of the up product's right factor. -/
theorem algebraic : algebraic_Kernel3Ideal_Reference3Ideal := by
  intro m ρ m' ρ' _ hagree
  refine ⟨Cert.Kernel3Ideal.Hand.value m, Cert.Kernel3Ideal.Hand.run_value m ρ, ?_⟩
  refine (θ_run (defs (F := Ideal)) _ _).mono (fun r h c => ⟨(h c).1.trans (funext fun y => ?_), (h c).2⟩) (Cert.Reference3Ideal.Value.run m' ρ')
  obtain ⟨h0, h1, h2⟩ := hagree c
  refine (value_eq _ _ y).trans ?_
  rw [h0, h2]
  rfl

end Cert.Reference3Ideal.Hand

namespace Cert.Reference4Ideal.Hand
open Cert.Reference4Ideal

/-- The reference terminates, leaves its arguments unchanged and has no counter. -/
theorem frame : quiescent_Reference4Ideal := fun m ρ _ =>
  (θ_run (defs (F := Ideal)) _ _).mono (fun r h => ⟨fun c => (h c).2, sem_eq_zero_of_no_sems (by decide) r.2⟩) (Cert.Reference4Ideal.Value.run m ρ)

/-- Both programs leave the gradient of the down product's right factor. -/
theorem algebraic : algebraic_Kernel4Ideal_Reference4Ideal := by
  intro m ρ m' ρ' _ hagree
  refine ⟨Cert.Kernel4Ideal.Hand.value m, Cert.Kernel4Ideal.Hand.run_value m ρ, ?_⟩
  refine (θ_run (defs (F := Ideal)) _ _).mono (fun r h c => ⟨(h c).1.trans (funext fun y => ?_), (h c).2⟩) (Cert.Reference4Ideal.Value.run m' ρ')
  obtain ⟨h0, h1, h2⟩ := hagree c
  refine (value_eq _ _ y).trans ?_
  rw [h0, h2]
  rfl

end Cert.Reference4Ideal.Hand

namespace Cert.Reference5Ideal.Hand
open Cert.Reference5Ideal

/-- The reference terminates, leaves its arguments unchanged and has no counter. -/
theorem frame : quiescent_Reference5Ideal := fun m ρ _ =>
  (θ_run (defs (F := Ideal)) _ _).mono (fun r h => ⟨fun c => (h c).2, sem_eq_zero_of_no_sems (by decide) r.2⟩) (Cert.Reference5Ideal.Value.run m ρ)

/-- Both programs leave the down product with the layer's input added. -/
theorem algebraic : algebraic_Kernel5Ideal_Reference5Ideal := by
  intro m ρ m' ρ' _ hagree
  refine ⟨Cert.Kernel5Ideal.Hand.value m, Cert.Kernel5Ideal.Hand.run_value m ρ, ?_⟩
  refine (θ_run (defs (F := Ideal)) _ _).mono (fun r h c => ⟨(h c).1.trans (funext fun y => ?_), (h c).2⟩) (Cert.Reference5Ideal.Value.run m' ρ')
  obtain ⟨h0, h1, h2⟩ := hagree c
  refine (value_eq _ _ _ y).trans ?_
  rw [h0, h1, h2]
  rfl

end Cert.Reference5Ideal.Hand

namespace Cert.Reference6Ideal.Hand
open Cert.Reference6Ideal

/-- The reference terminates, leaves its arguments unchanged and has no counter. -/
theorem frame : quiescent_Reference6Ideal := fun m ρ _ =>
  (θ_run (defs (F := Ideal)) _ _).mono (fun r h => ⟨fun c => (h c).2, sem_eq_zero_of_no_sems (by decide) r.2⟩) (Cert.Reference6Ideal.Value.run m ρ)

/-- Both programs leave the up product. -/
theorem algebraic : algebraic_Kernel6Ideal_Reference6Ideal := by
  intro m ρ m' ρ' _ hagree
  refine ⟨Cert.Kernel6Ideal.Hand.value m, Cert.Kernel6Ideal.Hand.run_value m ρ, ?_⟩
  refine (θ_run (defs (F := Ideal)) _ _).mono (fun r h c => ⟨(h c).1.trans (funext fun y => ?_), (h c).2⟩) (Cert.Reference6Ideal.Value.run m' ρ')
  obtain ⟨h0, h1⟩ := hagree c
  refine (value_eq _ _ y).trans ?_
  rw [h0, h1]
  rfl

end Cert.Reference6Ideal.Hand

namespace Cert.Reference7Ideal.Hand
open Cert.Reference7Ideal

/-- The reference terminates, leaves its arguments unchanged and has no counter. -/
theorem frame : quiescent_Reference7Ideal := fun m ρ _ =>
  (θ_run (defs (F := Ideal)) _ _).mono (fun r h => ⟨fun c => (h c).2, sem_eq_zero_of_no_sems (by decide) r.2⟩) (Cert.Reference7Ideal.Value.run m ρ)

/-- Both programs leave the gradient of the down product's left factor. -/
theorem algebraic : algebraic_Kernel7Ideal_Reference7Ideal := by
  intro m ρ m' ρ' _ hagree
  refine ⟨Cert.Kernel7Ideal.Hand.value m, Cert.Kernel7Ideal.Hand.run_value m ρ, ?_⟩
  refine (θ_run (defs (F := Ideal)) _ _).mono (fun r h c => ⟨(h c).1.trans (funext fun y => ?_), (h c).2⟩) (Cert.Reference7Ideal.Value.run m' ρ')
  obtain ⟨h0, h1, h2⟩ := hagree c
  refine (value_eq _ _ y).trans ?_
  rw [h2, h1]
  rfl

end Cert.Reference7Ideal.Hand

end
-- ==== Proof.Conv.lean ====
/- The causal convolution over three tokens, column by column, and the gate that follows it: the values, and what each step of
   the call that computes them leaves. -/
module

public import proofs.«01_k».proof.Proof.MmBlock

@[expose] public noncomputable section

namespace Cert.Conv

open Idealize.ShloMosaic Idealize.ShloMosaic.TcCoe Cert.Mm

/-- A column's value `s` tokens back, zero before the first. -/
def back (x : ℕ → ℕ → EReal) (s r q : ℕ) : EReal := if s ≤ r then x (r - s) q else 0

/-- The convolution of a column with its three weights: the last is the token's own. -/
def conv (x w : ℕ → ℕ → EReal) (r q : ℕ) : EReal := w 2 q * x r q + w 0 q * back x 2 r q + w 1 q * back x 1 r q

/-- The logistic function. -/
def sig (a : EReal) : EReal := Idealize.ShloMosaic.Ideal.div 1 (1 + Idealize.ShloMosaic.Ideal.exp (-a))

/-- The gated convolution: each column of the first half, convolved and passed through the gate, times its partner `h` columns on. -/
def gated (h : ℕ) (x w : ℕ → ℕ → EReal) (r q : ℕ) : EReal := conv x w r q * sig (conv x w r q) * conv x w r (q + h)

/-- Columns interleaved: each 512 hold 256 columns of the first half and their 256 partners. -/
def il (A : ℕ → ℕ → EReal) (r q : ℕ) : EReal := A r (q / 256 % 2 * 2816 + q / 512 * 256 + q % 256)

/-- Zeros followed by a column: at `2 - s` rows on, the column stands `s` tokens back. -/
theorem head_at {m n : ℕ} (x : (⟨2, ![m, n]⟩ : Shape).Idx → EReal) {s r p q : ℕ} {f : ¬p < 2 → (⟨2, ![m, n]⟩ : Shape).Idx}
    (hs : s ≤ 2) (hp : p = r + (2 - s)) (h0 : ∀ h, (f h 0).val = p - 2) (h1 : ∀ h, (f h 1).val = q) :
    (if hlt : p < 2 then 0 else x (f hlt)) = back (ent x) s r q := by
  unfold back
  split
  · rw [if_neg (by omega)]
  · rename_i hlt
    rw [if_pos (by omega)]
    exact ent_at x _ ((h0 hlt).trans (by omega)) (h1 hlt)

/-- A block of 512 interleaved columns holds, at one of the first half, that column's entry, -/
theorem il_left (A : ℕ → ℕ → EReal) (r t q : ℕ) (hq : q < 256) : il A r (512 * t + q) = A r (256 * t + q) := by
  unfold il
  congr 1; omega

/-- and at one of the second its partner's. -/
theorem il_right (A : ℕ → ℕ → EReal) (r t q : ℕ) (hq : q < 256) : il A r (512 * t + (q + 256)) = A r (256 * t + q + 2816) := by
  unfold il
  congr 1; omega

theorem conv_congr {x w x' w' : ℕ → ℕ → EReal} {r q q' : ℕ} (hx : ∀ p ≤ r, x p q = x' p q') (hw : ∀ k < 3, w k q = w' k q') :
    conv x w r q = conv x' w' r q' := by
  unfold conv back
  rw [hx r le_rfl, hw 0 (by omega), hw 1 (by omega), hw 2 (by omega)]
  congr 1
  · congr 2
    split
    · exact hx _ (by omega)
    · rfl
  · congr 1
    split
    · exact hx _ (by omega)
    · rfl

/-- One row of three, picked by comparing each row's number with it. -/
theorem pick (k : Fin 3) {c : Fin 3 → BitVec 1} {e : Fin 3 → EReal} {v : EReal}
    (hc : ∀ i, c i = IntOp.cmpi CmpIPredicate.eq (BitVec.ofNat 32 i.val) (BitVec.ofNat 32 k.val)) (he : e k = v) :
    ∑ i : Fin 3, Scalar.select (c i) (e i) 0 = v := by
  simp only [hc]
  rw [Fin.sum_univ_three, ← he]
  fin_cases k <;> simp [Scalar.select, IntOp.cmpi]

/-- A column followed by zeros is its entry at every number. -/
theorem tail_at {m n : ℕ} (x : (⟨2, ![m, n]⟩ : Shape).Idx → EReal) {r q : ℕ} {f : r < m → (⟨2, ![m, n]⟩ : Shape).Idx}
    (h0 : ∀ h, (f h 0).val = r) (hq : q < n) (h1 : ∀ h, (f h 1).val = q) :
    (if hlt : r < m then x (f hlt) else 0) = ent x r q := by
  split
  · rename_i hlt
    exact ent_at x _ (h0 hlt) (h1 hlt)
  · rename_i hlt
    unfold ent
    rw [dif_neg fun hh => hlt hh.1]

/-- Turned by `s` among 2080 rows of which the last 32 are zero, a column stands `s` tokens back. -/
theorem turn_back {n : ℕ} (x : (⟨2, ![2048, n]⟩ : Shape).Idx → EReal) {s r p q : ℕ} (hr : r < 2048) (hs : s ≤ 32) (hp : p = (r + (2080 - s)) % 2080) :
    ent x p q = back (ent x) s r q := by
  subst hp
  unfold back
  split
  · congr 1; omega
  · unfold ent
    rw [dif_neg]; omega

/-- An entry of a block of interleaved columns, in the first half's columns, -/
theorem block_left {m : ℕ} {x : (⟨2, ![m, 512]⟩ : Shape).Idx → EReal} {A : ℕ → ℕ → EReal} {t : ℕ} (h : BlockOf x (il A) 0 (512 * t))
    {r q : ℕ} (hr : r < m) (hq : q < 256) : ent x r q = A r (256 * t + q) := by
  have hlt : r < m ∧ q < 512 := ⟨hr, by omega⟩
  rw [ent, dif_pos hlt, h, ← il_left A r t q hq]
  congr 1
  exact Nat.zero_add _

/-- and in their partners. -/
theorem block_right {m : ℕ} {x : (⟨2, ![m, 512]⟩ : Shape).Idx → EReal} {A : ℕ → ℕ → EReal} {t : ℕ} (h : BlockOf x (il A) 0 (512 * t))
    {r q : ℕ} (hr : r < m) (hq : q < 256) : ent x r (q + 256) = A r (256 * t + q + 2816) := by
  have hlt : r < m ∧ q + 256 < 512 := ⟨hr, by omega⟩
  rw [ent, dif_pos hlt, h, ← il_right A r t q hq]
  congr 1
  exact Nat.zero_add _

/-- The gated convolution of a block of interleaved columns is the whole arrays'. -/
theorem gated_part {x : (⟨2, ![2048, 512]⟩ : Shape).Idx → EReal} {w : (⟨2, ![3, 512]⟩ : Shape).Idx → EReal} {A W : ℕ → ℕ → EReal} {t : ℕ}
    (hx : BlockOf x (il A) 0 (512 * t)) (hw : BlockOf w (il W) 0 (512 * t)) {r q : ℕ} (hr : r < 2048) (hq : q < 256) :
    gated 256 (ent x) (ent w) r q = gated 2816 A W r (256 * t + q) := by
  unfold gated
  rw [conv_congr (fun p hp => block_left hx (hp.trans_lt hr) hq) fun k hk => block_left hw hk hq,
    conv_congr (fun p hp => block_right hx (hp.trans_lt hr) hq) fun k hk => block_right hw hk hq]

end Cert.Conv
end
-- ==== Proof.ConvMid.lean ====
/- The gated convolution: what the kernel's call leaves in its result. -/
module

public import proofs.«01_k».proof.Proof.Gen.Kernel8Ideal.Value
public import proofs.«01_k».proof.Proof.Conv
public import Idealize.ShloMosaic.Lib.Claim

@[expose] public noncomputable section

namespace Cert.Kernel8Ideal.Hand

open Idealize.ShloMosaic Idealize.ShloMosaic.TcCoe Idealize.ShloMosaic.Tactic
open Idealize.SL Idealize.SL.RA Idealize.SL.Sem
open Cert.Kernel8Ideal.Gen Cert.Kernel8Ideal.Value Cert.Mm Cert.Conv

set_option maxHeartbeats 1000000 in
/-- The first half's columns, convolved. -/
theorem pay3_at (x : Vec Ideal S2048x512 .f32) (w : Vec Ideal S3x512 .f32) (y : S2048x256.Idx) :
    (k0_pay3 (F := Ideal) x w y : EReal) = conv (ent (m := 2048) (n := 512) x) (ent (m := 3) (n := 512) w) (y 0).val (y 1).val := by
  have h0 : (y 0).val < 2048 := (y 0).isLt
  have h1 : (y 1).val < 256 := (y 1).isLt
  unfold k0_pay3 k0_pay1 k0_pay2
  simp only [pointwise, zero_add]
  unfold conv
  refine congrArg₂ (· + ·) (congrArg₂ (· + ·) (congrArg₂ (· * ·) ?_ ?_) (congrArg₂ (· * ·) ?_ ?_)) (congrArg₂ (· * ·) ?_ ?_)
  · exact pick 2 (fun i => by simp) (ent_at (m := 3) (n := 512) w _ (by simp) (by simp))
  · exact (tail_at (m := 2048) (n := 512) x (q := (y 1).val) (fun h => by simp) (by omega) (fun h => by simp)).trans (by simp)
  · exact pick 0 (fun i => by simp) (ent_at (m := 3) (n := 512) w _ (by simp) (by simp))
  · exact (tail_at (m := 2048) (n := 512) x (q := (y 1).val) (fun h => by simp) (by omega) (fun h => by simp)).trans (turn_back x h0 (by omega) (by simp))
  · exact pick 1 (fun i => by simp) (ent_at (m := 3) (n := 512) w _ (by simp) (by simp))
  · exact (tail_at (m := 2048) (n := 512) x (q := (y 1).val) (fun h => by simp) (by omega) (fun h => by simp)).trans (turn_back x h0 (by omega) (by simp))

set_option maxHeartbeats 1000000 in
/-- A point stores its 256 columns' gated convolution. -/
theorem out_eq (x : Vec Ideal S2048x512 .f32) (w : Vec Ideal S3x512 .f32) (y : S2048x256.Idx) :
    (out0_2 (F := Ideal) x w y : EReal) = gated 256 (ent (m := 2048) (n := 512) x) (ent (m := 3) (n := 512) w) (y 0).val (y 1).val := by
  have h0 : (y 0).val < 2048 := (y 0).isLt
  have h1 : (y 1).val < 256 := (y 1).isLt
  unfold out0_2
  rw [View.canon_unit_zero zero2, View.ld_unit_zero zero2, View.ld_unit_zero zero2]
  unfold k0_pay5 k0_pay4 k0_pay1 k0_pay2
  simp only [pointwise, zero_add, pay3_at, zero_sub]
  unfold gated
  refine congrArg₂ (· * ·) rfl ?_
  rw [conv]
  refine congrArg₂ (· + ·) (congrArg₂ (· + ·) (congrArg₂ (· * ·) ?_ ?_) (congrArg₂ (· * ·) ?_ ?_)) (congrArg₂ (· * ·) ?_ ?_)
  · exact pick 2 (fun i => by simp) (ent_at (m := 3) (n := 512) w _ (by simp) (by simp; omega))
  · exact (tail_at (m := 2048) (n := 512) x (q := (y 1).val + 256) (fun h => by simp) (by omega) (fun h => by simp; omega)).trans (by simp)
  · exact pick 0 (fun i => by simp) (ent_at (m := 3) (n := 512) w _ (by simp) (by simp; omega))
  · exact (tail_at (m := 2048) (n := 512) x (q := (y 1).val + 256) (fun h => by simp) (by omega) (fun h => by simp; omega)).trans (turn_back x h0 (by omega) (by simp))
  · exact pick 1 (fun i => by simp) (ent_at (m := 3) (n := 512) w _ (by simp) (by simp; omega))
  · exact (tail_at (m := 2048) (n := 512) x (q := (y 1).val + 256) (fun h => by simp) (by omega) (fun h => by simp; omega)).trans (turn_back x h0 (by omega) (by simp))

variable (m : (ℓ : Loc nD τ sig) → Buf (Elt Ideal) ℓ) (ρ : Dev nD → PrngReg)

/-- The columns, their weights, and the gated convolution. -/
abbrev cols (c : Dev nD) : ℕ → ℕ → EReal := ent (m := 2048) (n := 5632) (m ((c : Thread nD τ).loc main_arg0))
abbrev weights (c : Dev nD) : ℕ → ℕ → EReal := ent (m := 3) (n := 5632) (m ((c : Thread nD τ).loc main_arg1))
def value (c : Dev nD) : Buf (Elt Ideal) ((c : Thread nD τ).loc main_v6) := fun y => gated 2816 (cols m c) (weights m c) (y 0).val (y 1).val

/-- The arrays that the call is given hold the columns interleaved. -/
theorem given0 (c : Dev nD) (y : S2048x5632.Idx) : V m c main_v2 y = il (cols m c) (y 0).val (y 1).val := by
  entry_read
  simp only [pointwise]
  exact ent_at (m := 2048) (n := 5632) _ _ (by simp) (by simp)

theorem given1 (c : Dev nD) (y : S3x5632.Idx) : V m c main_v5 y = il (weights m c) (y 0).val (y 1).val := by
  entry_read
  simp only [pointwise]
  exact ent_at (m := 3) (n := 5632) _ _ (by simp) (by simp)

/-- Where a point's blocks lie. -/
theorem place (t : Fin cfg0.N) :
    (win0_0.index t 0 = 0 ∧ win0_0.index t 1 = t.val) ∧ (win0_1.index t 0 = 0 ∧ win0_1.index t 1 = t.val)
    ∧ (win0_2.index t 0 = 0 ∧ win0_2.index t 1 = t.val) := by
  revert t
  decide +kernel

theorem block0 (c : Dev nD) (t : Fin cfg0.N) : BlockOf (m := 2048) (n := 512) (iblk m c 0 t) (il (cols m c)) 0 (512 * t.val) := by
  intro y
  obtain ⟨⟨i0, i1⟩, -, -⟩ := place t
  refine (given0 m c ((win0_0.blk t).view.emb y)).trans ?_
  congr 1 <;> blk_simp
  · rw [i0]; omega
  · rw [i1]; omega

theorem block1 (c : Dev nD) (t : Fin cfg0.N) : BlockOf (m := 3) (n := 512) (iblk m c 1 t) (il (weights m c)) 0 (512 * t.val) := by
  intro y
  obtain ⟨-, ⟨i0, i1⟩, -⟩ := place t
  refine (given1 m c ((win0_1.blk t).view.emb y)).trans ?_
  congr 1 <;> blk_simp
  · rw [i0]; omega
  · rw [i1]; omega

/-- The gated convolution of a block is the whole arrays'. -/
theorem out_part (c : Dev nD) (t : Fin cfg0.N) (y : S2048x256.Idx) :
    (out0_2 (F := Ideal) (iblk m c 0 t) (iblk m c 1 t) y : EReal) = gated 2816 (cols m c) (weights m c) (y 0).val (256 * t.val + (y 1).val) :=
  (out_eq _ _ y).trans (gated_part (block0 m c t) (block1 m c t) (y 0).isLt (y 1).isLt)

/-- What the call leaves. -/
theorem arr_eq (c : Dev nD) : (dats m 0 c).arrAt 2 cfg0.N = value m c := by
  refine (dats m 0 c).arrAt_eq_of_covers 2 _ (by decide +kernel) fun t hf y => ?_
  obtain ⟨-, -, i0, i1⟩ := place t
  blk_simp
  rw [after0_2]
  refine (out_part m c t y).trans ?_
  unfold value
  congr 1 <;> blk_simp
  · rw [i0]; omega
  · rw [i1]; omega

/-- The kernel's run leaves the gated convolution. -/
theorem run_value : θ_run defs (onTc (τ := τ) (main (F := Ideal))) ⟨m, fun _ => 0, ρ⟩ fun r => ∀ c : Dev nD,
      r.2.mem ((c : Thread nD τ).loc main_v6) = value m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr_eq m c), (h c).2⟩) (run_blocks m ρ)

end Cert.Kernel8Ideal.Hand

end
-- ==== Proof.ConvRef.lean ====
/- The gated convolution: what the reference leaves. -/
module

public import proofs.«01_k».proof.Proof.Gen.Reference8Ideal.Run
public import proofs.«01_k».proof.Proof.Conv

@[expose] public noncomputable section

namespace Cert.Reference8Ideal.Hand

open Idealize.ShloMosaic Idealize.ShloMosaic.TcCoe
open Cert.Reference8Ideal.Gen Cert.Reference8Ideal.Value Cert.Mm Cert.Conv

/-- Row `0` of the weights along every token, and likewise rows `1` and `2`. -/
def weight0 (w : FVec Ideal S3x5632 .f32) : FVec Ideal S2048x5632 .f32 :=
  broadcastInDim S2048x5632 ![0, 1] bcast_S1x5632_S2048x5632_0_1 (broadcastInDim S1x5632 ![1] bcast_S5632_S1x5632_1 (shapeCast _ (extractStridedSlice S1x5632 ![0, 0] w slices_S3x5632_S1x5632_0_0) shapeCasts_S1x5632_S5632))
def weight1 (w : FVec Ideal S3x5632 .f32) : FVec Ideal S2048x5632 .f32 :=
  broadcastInDim S2048x5632 ![0, 1] bcast_S1x5632_S2048x5632_0_1 (broadcastInDim S1x5632 ![1] bcast_S5632_S1x5632_1 (shapeCast _ (extractStridedSlice S1x5632 ![1, 0] w slices_S3x5632_S1x5632_1_0) shapeCasts_S1x5632_S5632))
def weight2 (w : FVec Ideal S3x5632 .f32) : FVec Ideal S2048x5632 .f32 :=
  broadcastInDim S2048x5632 ![0, 1] bcast_S1x5632_S2048x5632_0_1 (broadcastInDim S1x5632 ![1] bcast_S5632_S1x5632_1 (shapeCast _ (extractStridedSlice S1x5632 ![2, 0] w slices_S3x5632_S1x5632_2_0) shapeCasts_S1x5632_S5632))

/-- The columns after two rows of zeros. -/
def late (x : FVec Ideal S2048x5632 .f32) : FVec Ideal S2050x5632 .f32 :=
  concatenate S2050x5632 0 [⟨S2x5632, (broadcastInDim S2x5632 ![] bcast_S_S2x5632 (constant S_ .f32 0x00000000#32))⟩, ⟨S2048x5632, x⟩] concatenates_S2x5632_S2048x5632_S2050x5632_d0

/-- The columns two tokens back, one token back, and the token's own. -/
def late0 (x : FVec Ideal S2048x5632 .f32) : FVec Ideal S2048x5632 .f32 := extractStridedSlice S2048x5632 ![0, 0] (late x) slices_S2050x5632_S2048x5632_0_0
def late1 (x : FVec Ideal S2048x5632 .f32) : FVec Ideal S2048x5632 .f32 := extractStridedSlice S2048x5632 ![1, 0] (late x) slices_S2050x5632_S2048x5632_1_0
def late2 (x : FVec Ideal S2048x5632 .f32) : FVec Ideal S2048x5632 .f32 := extractStridedSlice S2048x5632 ![2, 0] (late x) slices_S2050x5632_S2048x5632_2_0

/-- The convolution of the reference. -/
def convolved (x : FVec Ideal S2048x5632 .f32) (w : FVec Ideal S3x5632 .f32) : FVec Ideal S2048x5632 .f32 :=
  addf (addf (addf (broadcastInDim S2048x5632 ![] bcast_S_S2048x5632 (constant S_ .f32 0x00000000#32)) (mulf (weight0 w) (late0 x)))
    (mulf (weight1 w) (late1 x))) (mulf (weight2 w) (late2 x))

theorem weight0_at (w : FVec Ideal S3x5632 .f32) (y : S2048x5632.Idx) : (weight0 w y : EReal) = ent (m := 3) (n := 5632) w 0 (y 1).val := by
  unfold weight0
  simp only [pointwise]
  exact ent_at (m := 3) (n := 5632) w _ (by simp) (by simp)

theorem weight1_at (w : FVec Ideal S3x5632 .f32) (y : S2048x5632.Idx) : (weight1 w y : EReal) = ent (m := 3) (n := 5632) w 1 (y 1).val := by
  unfold weight1
  simp only [pointwise]
  exact ent_at (m := 3) (n := 5632) w _ (by simp) (by simp)

theorem weight2_at (w : FVec Ideal S3x5632 .f32) (y : S2048x5632.Idx) : (weight2 w y : EReal) = ent (m := 3) (n := 5632) w 2 (y 1).val := by
  unfold weight2
  simp only [pointwise]
  exact ent_at (m := 3) (n := 5632) w _ (by simp) (by simp)

theorem late0_at (x : FVec Ideal S2048x5632 .f32) (y : S2048x5632.Idx) : (late0 x y : EReal) = back (ent (m := 2048) (n := 5632) x) 2 (y 0).val (y 1).val := by
  unfold late0 late
  simp only [pointwise]
  exact head_at (m := 2048) (n := 5632) x le_rfl (by simp) (fun _ => by simp) (fun _ => by simp)

theorem late1_at (x : FVec Ideal S2048x5632 .f32) (y : S2048x5632.Idx) : (late1 x y : EReal) = back (ent (m := 2048) (n := 5632) x) 1 (y 0).val (y 1).val := by
  unfold late1 late
  simp only [pointwise]
  exact head_at (m := 2048) (n := 5632) x (by omega) (by simp; omega) (fun _ => by simp) (fun _ => by simp)

theorem late2_at (x : FVec Ideal S2048x5632 .f32) (y : S2048x5632.Idx) : (late2 x y : EReal) = ent (m := 2048) (n := 5632) x (y 0).val (y 1).val := by
  unfold late2 late
  simp only [pointwise]
  refine (head_at (m := 2048) (n := 5632) x (s := 0) (by omega) ?_ (fun _ => ?_) (fun _ => ?_)).trans (if_pos (Nat.zero_le _))
  · simp [add_comm]
  · simp
  · simp

/-- It is the convolution. -/
theorem convolved_at (x : FVec Ideal S2048x5632 .f32) (w : FVec Ideal S3x5632 .f32) (y : S2048x5632.Idx) :
    (convolved x w y : EReal) = conv (ent (m := 2048) (n := 5632) x) (ent (m := 3) (n := 5632) w) (y 0).val (y 1).val := by
  unfold convolved
  simp only [pointwise, zero_add]
  rw [weight0_at, weight1_at, weight2_at, late0_at, late1_at, late2_at, conv, add_comm, add_assoc]

variable (m : (ℓ : Loc nD τ sig) → Buf (Elt Ideal) ℓ)

/-- The reference's result. -/
theorem value_eq (c : Dev nD) : res_main_v28 m c = fun y => gated 2816 (ent (m := 2048) (n := 5632) (m ((c.tc : Thread nD τ).loc main_arg0)))
    (ent (m := 3) (n := 5632) (m ((c.tc : Thread nD τ).loc main_arg1))) (y 0).val (y 1).val := by
  funext y
  generalize hX : m ((c.tc : Thread nD τ).loc main_arg0) = x
  generalize hW : m ((c.tc : Thread nD τ).loc main_arg1) = w
  have h : res_main_v28 m c = truncf .bf16 (mulf (mulf (extractStridedSlice S2048x2816 ![0, 0] (convolved x w) slices_S2048x5632_S2048x2816_0_0)
      (Host.divf (broadcastInDim S2048x2816 ![] bcast_S_S2048x2816 (constant S_ .f32 0x3F800000#32)) (addf (broadcastInDim S2048x2816 ![] bcast_S_S2048x2816 (constant S_ .f32 0x3F800000#32))
        (Host.exp (Host.negf (extractStridedSlice S2048x2816 ![0, 0] (convolved x w) slices_S2048x5632_S2048x2816_0_0))))))
      (extractStridedSlice S2048x2816 ![0, 2816] (convolved x w) slices_S2048x5632_S2048x2816_0_2816)) bitsLt_bf16_f32 := by
    subst hX hW; rfl
  rw [h]
  simp only [pointwise, convolved_at, zero_add]
  unfold gated Conv.sig
  refine congrArg₂ (· * ·) (congrArg₂ (· * ·) ?_ ?_) ?_
  · simp
  · simp
  · simp [add_comm]

end Cert.Reference8Ideal.Hand

end
-- ==== Proof.ConvGrad.lean ====
/- The gradient of the gated convolution: the values, and the identities on which the call that computes it rests. -/
module

public import proofs.«01_k».proof.Proof.Conv

@[expose] public noncomputable section

namespace Cert.Conv

open Idealize.ShloMosaic Idealize.ShloMosaic.TcCoe Cert.Mm

/-- The gradients of the gate's argument `a` and of its partner `b`, for `d` the gradient of `a * sig a * b`. -/
def dgate (a b d : EReal) : EReal := d * b * sig a + a * (d * b) * (sig a * (1 - sig a))
def dup (a d : EReal) : EReal := a * sig a * d

/-- The gradients of the `2 * h` convolved columns of `n` tokens, zero after the last. -/
def dY (h n : ℕ) (x w d : ℕ → ℕ → EReal) (r q : ℕ) : EReal :=
  if r < n then
    if q < h then dgate (conv x w r q) (conv x w r (q + h)) (d r q) else dup (conv x w r (q - h)) (d r (q - h))
  else 0

/-- The gradient of a column: each token's own weight, and the two later tokens' that saw it. -/
def convT (dy w : ℕ → ℕ → EReal) (r q : ℕ) : EReal := w 2 q * dy r q + w 0 q * dy (r + 2) q + w 1 q * dy (r + 1) q

/-- The gradient of weight `k`: over the tokens, the gradient times the column as many tokens back. -/
def convW (n : ℕ) (dy x : ℕ → ℕ → EReal) (k q : ℕ) : EReal := ∑ r : Fin n, dy r.val q * back x (2 - k) r.val q

theorem exp_neg_cases (a : EReal) : Ideal.exp (-a) = ⊤ ∨ ∃ e : ℝ, 0 ≤ e ∧ Ideal.exp (-a) = (e : EReal) := by
  induction a with
  | bot => left; simp
  | top => right; exact ⟨0, le_rfl, by simp⟩
  | coe r => right; exact ⟨Real.exp (-r), (Real.exp_pos _).le, by rw [← EReal.coe_neg, Ideal.exp_coe]⟩

/-- The logistic function's derivative, as the square of its denominator gives it. -/
theorem slope (a : EReal) :
    Ideal.div 1 ((1 + Ideal.exp (-a)) * (1 + Ideal.exp (-a))) * Ideal.exp (-a) = sig a * (1 - sig a) := by
  unfold sig
  obtain h | ⟨e, he, h⟩ := exp_neg_cases a <;> rw [h]
  · have ht : (1 : EReal) + ⊤ = ⊤ := EReal.add_top_of_ne_bot (by decide)
    rw [ht]
    simp [Ideal.div, EReal.top_mul_top]
  · have h1 : (1 : ℝ) + e ≠ 0 := by positivity
    have h2 : (1 + e) * (1 + e) ≠ 0 := mul_ne_zero h1 h1
    have hc : (1 : EReal) + (e : EReal) = ((1 + e : ℝ) : EReal) := by push_cast; rfl
    rw [hc, ← EReal.coe_mul, Ideal.div_coe h2, Ideal.div_coe h1, one_mul, one_mul, ← EReal.coe_one, ← EReal.coe_sub, ← EReal.coe_mul, ← EReal.coe_mul]
    congr 1
    field_simp
    ring

/-- The gate's gradient, as the derivative of a quotient gives it. -/
theorem dgate_eq (a v : EReal) :
    v * Ideal.div 1 (1 + Ideal.exp (-a)) + -(-(a * v * Ideal.div 1 ((1 + Ideal.exp (-a)) * (1 + Ideal.exp (-a)))) * Ideal.exp (-a))
      = v * sig a + a * v * (sig a * (1 - sig a)) := by
  rw [EReal.neg_mul, neg_neg, mul_assoc (a * v), slope]
  rfl

/-- A sum over rows of which the last `s` are zero in one factor, shifted by `s`. -/
theorem sum_shift (n s : ℕ) (f g : ℕ → ℕ → EReal) (q : ℕ) (hf : ∀ r, n ≤ r → f r q = 0) :
    ∑ r : Fin n, f (r.val + s) q * g r.val q = ∑ r : Fin n, f r.val q * back g s r.val q := by
  rw [Fin.sum_univ_eq_sum_range (fun r => f (r + s) q * g r q) n, Fin.sum_univ_eq_sum_range (fun r => f r q * back g s r q) n]
  have h1 : ∑ r ∈ Finset.range (s + n), f r q * back g s r q = ∑ r ∈ Finset.range n, f (r + s) q * g r q := by
    rw [Finset.sum_range_add, Finset.sum_eq_zero, zero_add]
    · refine Finset.sum_congr rfl fun r _ => ?_
      rw [back, if_pos (by omega), Nat.add_sub_cancel_left, Nat.add_comm s r]
    · intro r hr
      rw [back, if_neg (by have := Finset.mem_range.mp hr; omega), mul_zero]
  have h2 : ∑ r ∈ Finset.range (n + s), f r q * back g s r q = ∑ r ∈ Finset.range n, f r q * back g s r q := by
    rw [Finset.sum_range_add, Finset.sum_eq_zero (s := Finset.range s), add_zero]
    intro r _
    rw [hf _ (by omega), zero_mul]
  rw [← h1, ← h2, Nat.add_comm s n]

theorem ent_zero {m n : ℕ} (x : (⟨2, ![m, n]⟩ : Shape).Idx → EReal) {r q : ℕ} (h : m ≤ r) : ent x r q = 0 := by
  unfold ent
  rw [dif_neg fun hh => by omega]

/-- The sum over 2080 rows of which the last 32 are zero, one factor turned by `s`. -/
theorem sum_turn {n p : ℕ} (x : (⟨2, ![2048, n]⟩ : Shape).Idx → EReal) (u : (⟨2, ![2048, p]⟩ : Shape).Idx → EReal) {s q q' : ℕ} (hs : s ≤ 32)
    {f : Fin 2080 → EReal} (hf : ∀ r : Fin 2080, f r = ent x ((r.val + s) % 2080) q * ent u r.val q') :
    ∑ r : Fin 2080, f r = ∑ r : Fin 2048, ent x r.val q * back (ent u) s r.val q' := by
  rw [Finset.sum_congr rfl fun r _ => hf r,
    Fin.sum_univ_eq_sum_range (fun r => ent x ((r + s) % 2080) q * ent u r q') 2080, show 2080 = 2048 + 32 from rfl, Finset.sum_range_add,
    Finset.sum_eq_zero (s := Finset.range 32), add_zero]
  · rw [← Fin.sum_univ_eq_sum_range (fun r => ent x ((r + s) % 2080) q * ent u r q') 2048]
    refine Eq.trans (Finset.sum_congr rfl fun r _ => ?_) (sum_shift 2048 s (fun r _ => ent x r q) (fun r _ => ent u r q') 0 fun r hr => ent_zero x hr)
    have := r.isLt
    rw [Nat.mod_eq_of_lt (by omega)]
  · intro r _
    rw [ent_zero u (by omega), mul_zero]

/-- Three rows, each placed by comparing the row's number with its own. -/
theorem place_rows {k : ℕ} (hk : k < 3) {c2 c0 c1 : BitVec 1} {S : ℕ → EReal} {s2 s0 s1 : EReal}
    (h2 : c2 = IntOp.cmpi CmpIPredicate.eq (BitVec.ofNat 32 k) (BitVec.ofNat 32 2)) (h0 : c0 = IntOp.cmpi CmpIPredicate.eq (BitVec.ofNat 32 k) (BitVec.ofNat 32 0))
    (h1 : c1 = IntOp.cmpi CmpIPredicate.eq (BitVec.ofNat 32 k) (BitVec.ofNat 32 1))
    (e2 : s2 = S 2) (e0 : s0 = S 0) (e1 : s1 = S 1) :
    Scalar.select c2 s2 0 + Scalar.select c0 s0 0 + Scalar.select c1 s1 0 = S k := by
  subst h2 h0 h1 e2 e0 e1
  interval_cases k <;> simp [Scalar.select, IntOp.cmpi]

/-! Columns interleaved. -/

/-- A column's number among the columns not interleaved. -/
theorem il_inv (A : ℕ → ℕ → EReal) {r q : ℕ} (hq : q < 5632) : il A r (512 * (q % 2816 / 256) + 256 * (q / 2816) + q % 256) = A r q := by
  obtain ⟨h, t, u, hh, ht, hu, rfl⟩ : ∃ h t u, h < 2 ∧ t < 11 ∧ u < 256 ∧ q = 2816 * h + 256 * t + u :=
    ⟨q / 2816, q % 2816 / 256, q % 256, by omega, by omega, by omega, by omega⟩
  have e1 : (2816 * h + 256 * t + u) % 2816 / 256 = t := by omega
  have e2 : (2816 * h + 256 * t + u) / 2816 = h := by omega
  have e3 : (2816 * h + 256 * t + u) % 256 = u := by omega
  have f1 : (512 * t + 256 * h + u) / 256 = 2 * t + h := by omega
  have f2 : (512 * t + 256 * h + u) / 512 = t := by omega
  have f3 : (512 * t + 256 * h + u) % 256 = u := by omega
  rw [e1, e2, e3, il, f1, f2, f3]
  congr 1
  omega

theorem block_il {m : ℕ} {x : (⟨2, ![m, 512]⟩ : Shape).Idx → EReal} {A : ℕ → ℕ → EReal} {t : ℕ} (h : BlockOf x (il A) 0 (512 * t))
    {r q : ℕ} (hr : r < m) (hq : q < 512) : ent x r q = il A r (512 * t + q) := by
  have hlt : r < m ∧ q < 512 := ⟨hr, hq⟩
  rw [ent, dif_pos hlt, h]
  congr 1
  exact Nat.zero_add _

section
variable {x : (⟨2, ![2048, 512]⟩ : Shape).Idx → EReal} {w : (⟨2, ![3, 512]⟩ : Shape).Idx → EReal} {d : (⟨2, ![2048, 256]⟩ : Shape).Idx → EReal}
  {A W D : ℕ → ℕ → EReal} {t : ℕ} (ht : t < 11) (hx : BlockOf x (il A) 0 (512 * t)) (hw : BlockOf w (il W) 0 (512 * t)) (hd : BlockOf d D 0 (256 * t))

include ht hx hw hd

/-- The convolved columns' gradients of a block are the whole arrays', interleaved. -/
theorem dY_part {r q : ℕ} (hq : q < 512) :
    dY 256 2048 (ent x) (ent w) (ent d) r q = il (dY 2816 2048 A W D) r (512 * t + q) := by
  unfold dY
  by_cases hr : r < 2048
  · have hl : ∀ q < 256, conv (ent x) (ent w) r q = conv A W r (256 * t + q) := fun q hq =>
      conv_congr (fun p hp => block_left hx (hp.trans_lt hr) hq) fun k hk => block_left hw hk hq
    have hp : ∀ q < 256, conv (ent x) (ent w) r (q + 256) = conv A W r (256 * t + q + 2816) := fun q hq =>
      conv_congr (fun p hp => block_right hx (hp.trans_lt hr) hq) fun k hk => block_right hw hk hq
    have he : ∀ q < 256, ent d r q = D r (256 * t + q) := fun q hq => by
      rw [ent, dif_pos ⟨hr, hq⟩, hd]
      congr 1
      exact Nat.zero_add _
    rw [if_pos hr]
    by_cases h : q < 256
    · rw [if_pos h, il_left _ _ _ _ h, if_pos hr, if_pos (by omega), hl q h, hp q h, he q h]
    · obtain ⟨q', rfl⟩ : ∃ q', q = q' + 256 := ⟨q - 256, by omega⟩
      have h' : q' < 256 := by omega
      rw [if_neg h, il_right _ _ _ _ h', if_pos hr, if_neg (by omega), Nat.add_sub_cancel, Nat.add_sub_cancel, hl q' h', he q' h']
  · rw [if_neg hr, il, if_neg hr]

/-- So are the columns' gradients, -/
theorem convT_part {r q : ℕ} (hq : q < 512) :
    convT (dY 256 2048 (ent x) (ent w) (ent d)) (ent w) r q = il (convT (dY 2816 2048 A W D) W) r (512 * t + q) := by
  rw [convT, dY_part ht hx hw hd hq, dY_part ht hx hw hd hq, dY_part ht hx hw hd hq, block_il hw (by omega) hq, block_il hw (by omega) hq, block_il hw (by omega) hq]
  rfl

/-- and the weights'. -/
theorem convW_part {k q : ℕ} (hq : q < 512) :
    convW 2048 (dY 256 2048 (ent x) (ent w) (ent d)) (ent x) k q = il (convW 2048 (dY 2816 2048 A W D) A) k (512 * t + q) := by
  unfold convW
  refine Finset.sum_congr rfl fun r _ => ?_
  rw [dY_part ht hx hw hd hq]
  refine congrArg₂ (· * ·) rfl ?_
  unfold back
  split
  · exact block_il hx (by have := r.isLt; omega) hq
  · rfl
end

end Cert.Conv
end
-- ==== Proof.ConvDmid.lean ====
/- The gated convolution's gradient: what a point of the call computes from its blocks. -/
module

public import proofs.«01_k».proof.Proof.Gen.Kernel9Ideal.Frame
public import proofs.«01_k».proof.Proof.ConvGrad

@[expose] public noncomputable section

namespace Cert.Kernel9Ideal.Hand

open Idealize.ShloMosaic Idealize.ShloMosaic.TcCoe Idealize.ShloMosaic.Tactic
open Cert.Kernel9Ideal.Gen Cert.Mm Cert.Conv

/-- A block's columns, weights and incoming gradient. -/
abbrev xE (v0 : Vec Ideal S2048x512 .f32) : ℕ → ℕ → EReal := ent (m := 2048) (n := 512) v0
abbrev wE (v2 : Vec Ideal S3x512 .f32) : ℕ → ℕ → EReal := ent (m := 3) (n := 512) v2
abbrev dE (v4 : Vec Ideal S2048x256 .bf16) : ℕ → ℕ → EReal := ent (m := 2048) (n := 256) v4

variable (v0 : Vec Ideal S2048x512 .f32) (v2 : Vec Ideal S3x512 .f32) (v4 : Vec Ideal S2048x256 .bf16)

/-- The first half's columns followed by zeros, and the second's. -/
theorem pay9_at (y : S2080x256.Idx) : (k0_pay9 (F := Ideal) v0 y : EReal) = xE v0 (y 0).val (y 1).val := by
  have h1 : (y 1).val < 256 := (y 1).isLt
  unfold k0_pay9 k0_pay7 k0_pay4
  simp only [pointwise, zero_add]
  exact tail_at (m := 2048) (n := 512) v0 (fun h => by simp) (by omega) (fun h => by simp)

theorem pay20_at (y : S2080x256.Idx) : (k0_pay20 (F := Ideal) (k0_pay4 v0) y : EReal) = xE v0 (y 0).val ((y 1).val + 256) := by
  have h1 : (y 1).val < 256 := (y 1).isLt
  unfold k0_pay20 k0_pay18 k0_pay4
  simp only [pointwise, zero_add]
  exact tail_at (m := 2048) (n := 512) v0 (fun h => by simp) (by omega) (fun h => by simp; omega)

set_option maxHeartbeats 1000000 in
/-- The first half's columns, convolved. -/
theorem pay12_at (y : S2048x256.Idx) :
    (k0_pay12 (F := Ideal) (k0_pay10 v0 v2) (k0_pay11 v0 v2) y : EReal) = conv (xE v0) (wE v2) (y 0).val (y 1).val := by
  have h0 : (y 0).val < 2048 := (y 0).isLt
  have h1 : (y 1).val < 256 := (y 1).isLt
  unfold k0_pay12 k0_pay10 k0_pay11 k0_pay8 k0_pay5
  simp only [pointwise, zero_add, pay9_at]
  unfold conv
  refine congrArg₂ (· + ·) (congrArg₂ (· + ·) (congrArg₂ (· * ·) ?_ ?_) (congrArg₂ (· * ·) ?_ ?_)) (congrArg₂ (· * ·) ?_ ?_)
  · exact pick 2 (fun i => by simp) (ent_at (m := 3) (n := 512) v2 _ (by simp) (by simp))
  · simp
  · exact pick 0 (fun i => by simp) (ent_at (m := 3) (n := 512) v2 _ (by simp) (by simp))
  · refine Eq.trans ?_ (turn_back v0 h0 (s := 2) (q := (y 1).val) (by omega) rfl)
    simp
  · exact pick 1 (fun i => by simp) (ent_at (m := 3) (n := 512) v2 _ (by simp) (by simp))
  · refine Eq.trans ?_ (turn_back v0 h0 (s := 1) (q := (y 1).val) (by omega) rfl)
    simp

set_option maxHeartbeats 1000000 in
/-- The second half's columns, convolved, times the incoming gradient. -/
theorem pay23_at (y : S2048x256.Idx) :
    (k0_pay23 (F := Ideal) (k0_pay6 v4) (k0_pay20 (k0_pay4 v0)) (k0_pay21 (k0_pay4 v0) (k0_pay5 v2)) (k0_pay22 (k0_pay5 v2)) 1#32 y : EReal)
      = dE v4 (y 0).val (y 1).val * conv (xE v0) (wE v2) (y 0).val ((y 1).val + 256) := by
  have h0 : (y 0).val < 2048 := (y 0).isLt
  have h1 : (y 1).val < 256 := (y 1).isLt
  unfold k0_pay23 k0_pay21 k0_pay22 k0_pay19 k0_pay6
  simp only [pointwise, zero_add, pay20_at]
  unfold conv k0_pay5
  refine congrArg₂ (· * ·) ?_ (congrArg₂ (· + ·) (congrArg₂ (· + ·) (congrArg₂ (· * ·) ?_ ?_) (congrArg₂ (· * ·) ?_ ?_)) (congrArg₂ (· * ·) ?_ ?_))
  · exact ent_at (m := 2048) (n := 256) v4 _ (by simp) (by simp)
  · simp only [pointwise]
    exact pick 2 (fun i => by simp) (ent_at (m := 3) (n := 512) v2 _ (by simp) (by simp; omega))
  · simp
  · simp only [pointwise]
    exact pick 0 (fun i => by simp) (ent_at (m := 3) (n := 512) v2 _ (by simp) (by simp; omega))
  · refine Eq.trans ?_ (turn_back v0 h0 (s := 2) (q := (y 1).val + 256) (by omega) rfl)
    simp
  · simp only [pointwise]
    exact pick 1 (fun i => by simp) (ent_at (m := 3) (n := 512) v2 _ (by simp) (by simp; omega))
  · refine Eq.trans ?_ (turn_back v0 h0 (s := 1) (q := (y 1).val + 256) (by omega) rfl)
    simp

/-- The gradients of the convolved columns, of the first half and of the second. -/
def gradG : FVec Ideal S2048x256 .f32 := k0_pay34 (k0_pay12 (k0_pay10 v0 v2) (k0_pay11 v0 v2)) (k0_pay13 (k0_pay10 v0 v2) (k0_pay11 v0 v2))
  (k0_pay15 (k0_pay10 v0 v2) (k0_pay11 v0 v2)) (k0_pay16 (k0_pay10 v0 v2) (k0_pay11 v0 v2))
  (k0_pay23 (k0_pay6 v4) (k0_pay20 (k0_pay4 v0)) (k0_pay21 (k0_pay4 v0) (k0_pay5 v2)) (k0_pay22 (k0_pay5 v2)) 1#32)
def gradU : FVec Ideal S2048x256 .f32 := mulf (k0_pay17 (k0_pay10 v0 v2) (k0_pay11 v0 v2)) (k0_pay6 v4)

theorem gradG_at (y : S2048x256.Idx) : (gradG v0 v2 v4 y : EReal) = dgate (conv (xE v0) (wE v2) (y 0).val (y 1).val)
    (conv (xE v0) (wE v2) (y 0).val ((y 1).val + 256)) (dE v4 (y 0).val (y 1).val) := by
  unfold gradG k0_pay34 k0_pay13 k0_pay15 k0_pay16 k0_pay14 k0_pay13
  simp only [pointwise, zero_sub, mul_one, pay12_at, pay23_at]
  exact dgate_eq _ _

theorem gradU_at (y : S2048x256.Idx) : (gradU v0 v2 v4 y : EReal) = dup (conv (xE v0) (wE v2) (y 0).val (y 1).val) (dE v4 (y 0).val (y 1).val) := by
  unfold gradU k0_pay17 k0_pay15 k0_pay14 k0_pay13 k0_pay6
  simp only [pointwise, zero_sub, pay12_at]
  rw [ent_at (m := 2048) (n := 256) v4 y rfl rfl]
  rfl

/-- They are the gradient's columns at every number. -/
theorem gradG_ent {r q : ℕ} (hq : q < 256) : ent (m := 2048) (n := 256) (gradG v0 v2 v4) r q = dY 256 2048 (xE v0) (wE v2) (dE v4) r q := by
  unfold dY
  by_cases hr : r < 2048
  · rw [if_pos hr, if_pos hq, ent, dif_pos ⟨hr, hq⟩, gradG_at]
  · rw [if_neg hr, ent_zero _ (by omega)]

theorem gradU_ent {r q : ℕ} (hq : q < 256) : ent (m := 2048) (n := 256) (gradU v0 v2 v4) r q = dY 256 2048 (xE v0) (wE v2) (dE v4) r (q + 256) := by
  unfold dY
  by_cases hr : r < 2048
  · rw [if_pos hr, if_neg (by omega), Nat.add_sub_cancel, ent, dif_pos ⟨hr, hq⟩, gradU_at]
  · rw [if_neg hr, ent_zero _ (by omega)]

/-- The second half's gradients followed by zeros, and the first's. -/
theorem pay25_at (y : S2080x256.Idx) :
    (k0_pay25 (F := Ideal) (k0_pay6 v4) (k0_pay17 (k0_pay10 v0 v2) (k0_pay11 v0 v2)) y : EReal) = ent (m := 2048) (n := 256) (gradU v0 v2 v4) (y 0).val (y 1).val := by
  have h1 : (y 1).val < 256 := (y 1).isLt
  rw [show k0_pay25 (k0_pay6 v4) (k0_pay17 (k0_pay10 v0 v2) (k0_pay11 v0 v2))
    = concatenate S2080x256 0 [⟨S2048x256, gradU v0 v2 v4⟩, ⟨S32x256, broadcast S32x256 (Scalar.ofBits .f32 0x00000000#32)⟩] concatenates_S2048x256_S32x256_S2080x256_d0 from rfl]
  simp only [pointwise]
  exact tail_at (m := 2048) (n := 256) (gradU v0 v2 v4) (fun h => by simp) h1 (fun h => by simp)

theorem pay37_at (y : S2080x256.Idx) :
    (k0_pay37 (F := Ideal) (gradG v0 v2 v4) k0_pay36 y : EReal) = ent (m := 2048) (n := 256) (gradG v0 v2 v4) (y 0).val (y 1).val := by
  have h1 : (y 1).val < 256 := (y 1).isLt
  unfold k0_pay37 k0_pay36
  simp only [pointwise]
  exact tail_at (m := 2048) (n := 256) (gradG v0 v2 v4) (fun h => by simp) h1 (fun h => by simp)

/-- The columns themselves followed by zeros, once more. -/
theorem pay24_at (y : S2080x256.Idx) : (k0_pay24 (F := Ideal) (k0_pay18 (k0_pay4 v0)) y : EReal) = xE v0 (y 0).val ((y 1).val + 256) := pay20_at v0 y
theorem pay35_at (y : S2080x256.Idx) : (k0_pay35 (F := Ideal) (k0_pay7 v0) y : EReal) = xE v0 (y 0).val (y 1).val := pay9_at v0 y

/-- What a point stores of the second half: the columns' gradients, zeros before them, and the weights'. -/
def upX : FVec Ideal S2048x512 .f32 := k0_pay33 (k0_pay19 (k0_pay5 v2)) (k0_pay25 (k0_pay6 v4) (k0_pay17 (k0_pay10 v0 v2) (k0_pay11 v0 v2)))
  (k0_pay28 (k0_pay6 v4) (k0_pay17 (k0_pay10 v0 v2) (k0_pay11 v0 v2)) (k0_pay19 (k0_pay5 v2)))
def upW : FVec Ideal S3x512 .f32 := k0_pay32 (k0_pay24 (k0_pay18 (k0_pay4 v0))) (k0_pay25 (k0_pay6 v4) (k0_pay17 (k0_pay10 v0 v2) (k0_pay11 v0 v2)))
  (iota .tc S3x256 32 [0] iota_S3x256_d0_w32) (k0_pay26 (k0_pay6 v4) (k0_pay17 (k0_pay10 v0 v2) (k0_pay11 v0 v2)) (k0_pay18 (k0_pay4 v0)))
  k0_pay29 (k0_pay30 (k0_pay6 v4) (k0_pay17 (k0_pay10 v0 v2) (k0_pay11 v0 v2)) (k0_pay18 (k0_pay4 v0)))

/-- The second half's gradient of the columns, its first two terms, -/
theorem pay28_at (y : S2080x256.Idx) :
    (k0_pay28 (F := Ideal) (k0_pay6 v4) (k0_pay17 (k0_pay10 v0 v2) (k0_pay11 v0 v2)) (k0_pay19 (k0_pay5 v2)) y : EReal)
      = wE v2 2 ((y 1).val + 256) * ent (m := 2048) (n := 256) (gradU v0 v2 v4) (y 0).val (y 1).val
        + wE v2 0 ((y 1).val + 256) * ent (m := 2048) (n := 256) (gradU v0 v2 v4) (((y 0).val + 2) % 2080) (y 1).val := by
  have h1 : (y 1).val < 256 := (y 1).isLt
  unfold k0_pay28 k0_pay27 k0_pay19 k0_pay5
  simp only [pointwise, zero_add, pay25_at]
  refine congrArg₂ (· + ·) (congrArg₂ (· * ·) ?_ ?_) (congrArg₂ (· * ·) ?_ ?_)
  · exact pick 2 (fun i => by simp) (ent_at (m := 3) (n := 512) v2 _ (by simp) (by simp; omega))
  · simp
  · exact pick 0 (fun i => by simp) (ent_at (m := 3) (n := 512) v2 _ (by simp) (by simp; omega))
  · simp

/-- and the whole, in the second half's columns. -/
theorem upX_right (y : S2048x512.Idx) (h : 256 ≤ (y 1).val) :
    (upX v0 v2 v4 y : EReal) = convT (dY 256 2048 (xE v0) (wE v2) (dE v4)) (wE v2) (y 0).val (y 1).val := by
  have h0 : (y 0).val < 2048 := (y 0).isLt
  have h1 : (y 1).val < 512 := (y 1).isLt
  have e : ∀ r, dY 256 2048 (xE v0) (wE v2) (dE v4) r (y 1).val = ent (m := 2048) (n := 256) (gradU v0 v2 v4) r ((y 1).val - 256) := fun r => by
    rw [gradU_ent v0 v2 v4 (by omega), Nat.sub_add_cancel h]
  unfold convT
  rw [e, e, e]
  have h28 := pay28_at v0 v2 v4
  have h25 := pay25_at v0 v2 v4
  unfold upX
  generalize k0_pay28 (k0_pay6 v4) (k0_pay17 (k0_pay10 v0 v2) (k0_pay11 v0 v2)) (k0_pay19 (k0_pay5 v2)) = D at h28 ⊢
  generalize k0_pay25 (k0_pay6 v4) (k0_pay17 (k0_pay10 v0 v2) (k0_pay11 v0 v2)) = T at h25 ⊢
  unfold k0_pay33 k0_pay31 k0_pay19 k0_pay5
  simp only [pointwise, zero_add, h28, h25]
  rw [dif_neg (by omega)]
  refine congrArg₂ (· + ·) (congrArg₂ (· + ·) (congrArg₂ (· * ·) ?_ ?_) (congrArg₂ (· * ·) ?_ ?_)) (congrArg₂ (· * ·) ?_ ?_)
  · refine congrArg₂ (wE v2) rfl ?_; simp; omega
  · refine congrArg₂ (ent (m := 2048) (n := 256) (gradU v0 v2 v4)) ?_ ?_ <;> simp
  · refine congrArg₂ (wE v2) rfl ?_; simp; omega
  · refine congrArg₂ (ent (m := 2048) (n := 256) (gradU v0 v2 v4)) ?_ ?_ <;> simp
    omega
  · exact pick 1 (fun i => by simp) (ent_at (m := 3) (n := 512) v2 _ (by simp) (by simp; omega))
  · refine congrArg₂ (ent (m := 2048) (n := 256) (gradU v0 v2 v4)) ?_ ?_ <;> simp
    omega

/-- Zeros before them. -/
theorem upX_left (y : S2048x512.Idx) (h : (y 1).val < 256) : (upX v0 v2 v4 y : EReal) = 0 := by
  unfold upX k0_pay33
  simp only [pointwise]
  rw [dif_pos h]

set_option maxHeartbeats 1000000 in
/-- The second half's gradient of the weights, -/
theorem upW_right (y : S3x512.Idx) (h : 256 ≤ (y 1).val) :
    (upW v0 v2 v4 y : EReal) = convW 2048 (dY 256 2048 (xE v0) (wE v2) (dE v4)) (xE v0) (y 0).val (y 1).val := by
  have h0 : (y 0).val < 3 := (y 0).isLt
  have h1 : (y 1).val < 512 := (y 1).isLt
  have e : ∀ r, dY 256 2048 (xE v0) (wE v2) (dE v4) r (y 1).val = ent (m := 2048) (n := 256) (gradU v0 v2 v4) r ((y 1).val - 256) := fun r => by
    rw [gradU_ent v0 v2 v4 (by omega), Nat.sub_add_cancel h]
  have h24 := pay24_at v0
  have h25 := pay25_at v0 v2 v4
  unfold upW k0_pay26 k0_pay29 k0_pay30 k0_pay27
  generalize k0_pay24 (k0_pay18 (k0_pay4 v0)) = U at h24 ⊢
  generalize k0_pay25 (k0_pay6 v4) (k0_pay17 (k0_pay10 v0 v2) (k0_pay11 v0 v2)) = T at h25 ⊢
  unfold k0_pay32 k0_pay31
  simp only [pointwise, zero_add, h25, h24]
  rw [dif_neg (by omega)]
  refine place_rows h0 (S := fun k => convW 2048 (dY 256 2048 (xE v0) (wE v2) (dE v4)) (xE v0) k (y 1).val) (by simp) (by simp) (by simp) ?_ ?_ ?_ <;>
    (unfold convW; simp only [e])
  · refine sum_turn (gradU v0 v2 v4) v0 (s := 0) (by omega) fun r => congrArg₂ (· * ·) (congrArg₂ (ent (m := 2048) (n := 256) (gradU v0 v2 v4)) ?_ ?_) (congrArg₂ (ent (m := 2048) (n := 512) v0) ?_ ?_)
    · simp [Nat.mod_eq_of_lt r.isLt]
    all_goals simp
    omega
  · refine sum_turn (gradU v0 v2 v4) v0 (s := 2) (by omega) fun r => congrArg₂ (· * ·) (congrArg₂ (ent (m := 2048) (n := 256) (gradU v0 v2 v4)) ?_ ?_) (congrArg₂ (ent (m := 2048) (n := 512) v0) ?_ ?_)
    all_goals simp
    omega
  · refine sum_turn (gradU v0 v2 v4) v0 (s := 1) (by omega) fun r => congrArg₂ (· * ·) (congrArg₂ (ent (m := 2048) (n := 256) (gradU v0 v2 v4)) ?_ ?_) (congrArg₂ (ent (m := 2048) (n := 512) v0) ?_ ?_)
    all_goals simp
    omega

/-- zeros before them. -/
theorem upW_left (y : S3x512.Idx) (h : (y 1).val < 256) : (upW v0 v2 v4 y : EReal) = 0 := by
  unfold upW k0_pay32
  simp only [pointwise]
  rw [dif_pos h]

/-- The first half's gradient of the columns, its first two terms. -/
theorem pay39_at (y : S2080x256.Idx) :
    (k0_pay39 (F := Ideal) (k0_pay8 v2) (gradG v0 v2 v4) k0_pay36 y : EReal)
      = wE v2 2 (y 1).val * ent (m := 2048) (n := 256) (gradG v0 v2 v4) (y 0).val (y 1).val
        + wE v2 0 (y 1).val * ent (m := 2048) (n := 256) (gradG v0 v2 v4) (((y 0).val + 2) % 2080) (y 1).val := by
  have h1 : (y 1).val < 256 := (y 1).isLt
  unfold k0_pay39 k0_pay38 k0_pay8 k0_pay5
  simp only [pointwise, zero_add, pay37_at]
  refine congrArg₂ (· + ·) (congrArg₂ (· * ·) ?_ ?_) (congrArg₂ (· * ·) ?_ ?_)
  · exact pick 2 (fun i => by simp) (ent_at (m := 3) (n := 512) v2 _ (by simp) (by simp))
  · simp
  · exact pick 0 (fun i => by simp) (ent_at (m := 3) (n := 512) v2 _ (by simp) (by simp))
  · simp

/-- What a point stores of the columns' gradient, -/
def outX : FVec Ideal S2048x512 .bf16 := k0_pay2 (k0_pay8 v2) (upX v0 v2 v4) (k0_pay39 (k0_pay8 v2) (gradG v0 v2 v4) k0_pay36) (k0_pay41 (gradG v0 v2 v4) k0_pay36) k0_pay42

theorem outX_at (y : S2048x512.Idx) : (outX v0 v2 v4 y : EReal) = convT (dY 256 2048 (xE v0) (wE v2) (dE v4)) (wE v2) (y 0).val (y 1).val := by
  have h0 : (y 0).val < 2048 := (y 0).isLt
  have h1 : (y 1).val < 512 := (y 1).isLt
  have h39 := pay39_at v0 v2 v4
  have h37 := pay37_at v0 v2 v4
  have hl := upX_left v0 v2 v4 y
  have hr := upX_right v0 v2 v4 y
  unfold outX k0_pay41
  generalize upX v0 v2 v4 = P at hl hr ⊢
  generalize k0_pay39 (k0_pay8 v2) (gradG v0 v2 v4) k0_pay36 = D at h39 ⊢
  generalize k0_pay37 (gradG v0 v2 v4) k0_pay36 = T at h37 ⊢
  unfold k0_pay2 k0_pay42 k0_pay8 k0_pay5
  simp only [pointwise, zero_add, h39, h37]
  by_cases h : (y 1).val < 256
  · have e : ∀ r, dY 256 2048 (xE v0) (wE v2) (dE v4) r (y 1).val = ent (m := 2048) (n := 256) (gradG v0 v2 v4) r (y 1).val := fun r =>
      (gradG_ent v0 v2 v4 h).symm
    have hc : convT (dY 256 2048 (xE v0) (wE v2) (dE v4)) (wE v2) (y 0).val (y 1).val
        = wE v2 2 (y 1).val * ent (m := 2048) (n := 256) (gradG v0 v2 v4) (y 0).val (y 1).val
          + wE v2 0 (y 1).val * ent (m := 2048) (n := 256) (gradG v0 v2 v4) ((y 0).val + 2) (y 1).val
          + wE v2 1 (y 1).val * ent (m := 2048) (n := 256) (gradG v0 v2 v4) ((y 0).val + 1) (y 1).val := by
      unfold convT
      rw [e, e, e]
    rw [hc]
    refine (congrArg₂ (· + ·) (hl h) (dif_pos h)).trans ((zero_add (_ : EReal)).trans ?_)
    refine congrArg₂ (· + ·) (congrArg₂ (· + ·) (congrArg₂ (· * ·) ?_ ?_) (congrArg₂ (· * ·) ?_ ?_)) (congrArg₂ (· * ·) ?_ ?_)
    · refine congrArg₂ (wE v2) rfl ?_; simp
    · refine congrArg₂ (ent (m := 2048) (n := 256) (gradG v0 v2 v4)) ?_ ?_ <;> simp
    · refine congrArg₂ (wE v2) rfl ?_; simp
    · refine congrArg₂ (ent (m := 2048) (n := 256) (gradG v0 v2 v4)) ?_ ?_ <;> simp
      omega
    · exact pick 1 (fun i => by simp) (ent_at (m := 3) (n := 512) v2 _ (by simp) (by simp))
    · refine congrArg₂ (ent (m := 2048) (n := 256) (gradG v0 v2 v4)) ?_ ?_ <;> simp
      omega
  · exact (congrArg₂ (· + ·) (hr (by omega)) (dif_neg h)).trans (add_zero (_ : EReal))

/-- and of the weights'. -/
def outW : FVec Ideal S3x512 .f32 := k0_pay1 (upW v0 v2 v4) (k0_pay35 (k0_pay7 v0)) (iota .tc S3x256 32 [0] iota_S3x256_d0_w32)
  (k0_pay40 (gradG v0 v2 v4) (k0_pay35 (k0_pay7 v0)) k0_pay36) (k0_pay41 (gradG v0 v2 v4) k0_pay36)

set_option maxHeartbeats 1000000 in
theorem outW_at (y : S3x512.Idx) : (outW v0 v2 v4 y : EReal) = convW 2048 (dY 256 2048 (xE v0) (wE v2) (dE v4)) (xE v0) (y 0).val (y 1).val := by
  have h0 : (y 0).val < 3 := (y 0).isLt
  have h1 : (y 1).val < 512 := (y 1).isLt
  have h35 := pay35_at v0
  have h37 := pay37_at v0 v2 v4
  have hl := upW_left v0 v2 v4 y
  have hr := upW_right v0 v2 v4 y
  unfold outW k0_pay41 k0_pay40 k0_pay38
  generalize upW v0 v2 v4 = P at hl hr ⊢
  generalize k0_pay35 (k0_pay7 v0) = U at h35 ⊢
  generalize k0_pay37 (gradG v0 v2 v4) k0_pay36 = T at h37 ⊢
  unfold k0_pay1
  simp only [pointwise, zero_add, h35, h37]
  by_cases h : (y 1).val < 256
  · have e : ∀ r, dY 256 2048 (xE v0) (wE v2) (dE v4) r (y 1).val = ent (m := 2048) (n := 256) (gradG v0 v2 v4) r (y 1).val := fun r =>
      (gradG_ent v0 v2 v4 h).symm
    refine (congrArg₂ (· + ·) (hl h) (dif_pos h)).trans ((zero_add (_ : EReal)).trans ?_)
    refine place_rows h0 (S := fun k => convW 2048 (dY 256 2048 (xE v0) (wE v2) (dE v4)) (xE v0) k (y 1).val) (by simp) (by simp) (by simp) ?_ ?_ ?_ <;>
      (unfold convW; simp only [e])
    · refine sum_turn (gradG v0 v2 v4) v0 (s := 0) (by omega) fun r => congrArg₂ (· * ·) (congrArg₂ (ent (m := 2048) (n := 256) (gradG v0 v2 v4)) ?_ ?_) (congrArg₂ (ent (m := 2048) (n := 512) v0) ?_ ?_)
      · simp [Nat.mod_eq_of_lt r.isLt]
      all_goals simp
    · refine sum_turn (gradG v0 v2 v4) v0 (s := 2) (by omega) fun r => congrArg₂ (· * ·) (congrArg₂ (ent (m := 2048) (n := 256) (gradG v0 v2 v4)) ?_ ?_) (congrArg₂ (ent (m := 2048) (n := 512) v0) ?_ ?_)
      all_goals simp
    · refine sum_turn (gradG v0 v2 v4) v0 (s := 1) (by omega) fun r => congrArg₂ (· * ·) (congrArg₂ (ent (m := 2048) (n := 256) (gradG v0 v2 v4)) ?_ ?_) (congrArg₂ (ent (m := 2048) (n := 512) v0) ?_ ?_)
      all_goals simp
  · exact (congrArg₂ (· + ·) (hr (by omega)) (dif_neg h)).trans (add_zero (_ : EReal))

end Cert.Kernel9Ideal.Hand
end
-- ==== Proof.ConvDrun.lean ====
/- The gated convolution's gradient: what the kernel's run leaves. -/
module

public import proofs.«01_k».proof.Proof.ConvDmid
public import Idealize.ShloMosaic.Lib.Claim

@[expose] public noncomputable section

namespace Cert.Kernel9Ideal.Hand

open Idealize.ShloMosaic Idealize.ShloMosaic.TcCoe Idealize.ShloMosaic.Tactic
open Idealize.SL Idealize.SL.RA Idealize.SL.Sem
open Cert.Kernel9Ideal.Gen Cert.Mm Cert.Conv

section
variable (c : Dev nD) (i : grid0.Coords) (a2 : Memref sig .tc .vmem S2048x512 .f32) (w2 : a2.IsWhole) (a3 : Memref sig .tc .vmem S3x512 .f32) (w3 : a3.IsWhole)
  (a4 : Memref sig .tc .vmem S2048x256 .bf16) (w4 : a4.IsWhole) (a5 : Memref sig .tc .vmem S2048x512 .bf16) (w5 : a5.IsWhole)
  (a6 : Memref sig .tc .vmem S3x512 .f32) (w6 : a6.IsWhole) (v0 : Vec Ideal S2048x512 .f32) (v2 : Vec Ideal S3x512 .f32) (v4 : Vec Ideal S2048x256 .bf16)

/-- The two blocks that a point stores. -/
theorem out3_eq (h0) (h1) : out0_A_3 (F := Ideal) c i a2 w2 a3 w3 a4 w4 a5 w5 a6 w6 h0 h1 v0 v2 v4 = outX v0 v2 v4 := by
  unfold out0_A_3 kernelRun0_A
  rw [View.read_writes_junk_eq_canon]
  dsimp only
  sl_unfold_words
  rw [View.canon_unit_zero zero2]
  rw [read_whole _ _ zero2, read_whole _ _ zero2, read_whole _ _ zero2]
  unfold outX upX gradG
  rfl

theorem out4_eq (h0) (h1) : out0_A_4 (F := Ideal) c i a2 w2 a3 w3 a4 w4 a5 w5 a6 w6 h0 h1 v0 v2 v4 = outW v0 v2 v4 := by
  unfold out0_A_4 kernelRun0_A
  rw [View.read_writes_junk_eq_canon]
  dsimp only
  sl_unfold_words
  rw [View.canon_unit_zero zero2]
  rw [read_whole _ _ zero2, read_whole _ _ zero2, read_whole _ _ zero2]
  unfold outW upW gradG
  rfl
end

variable (m : (ℓ : Loc nD τ sig) → Buf (Elt Ideal) ℓ) (ρ : Dev nD → PrngReg)

/-- The columns, their weights, the incoming gradient, and the two results. -/
abbrev cols (c : Dev nD) : ℕ → ℕ → EReal := ent (m := 2048) (n := 5632) (m ((c : Thread nD τ).loc main_arg0))
abbrev weights (c : Dev nD) : ℕ → ℕ → EReal := ent (m := 3) (n := 5632) (m ((c : Thread nD τ).loc main_arg1))
abbrev ct (c : Dev nD) : ℕ → ℕ → EReal := ent (m := 2048) (n := 2816) (m ((c : Thread nD τ).loc main_arg2))
abbrev grad (c : Dev nD) : ℕ → ℕ → EReal := dY 2816 2048 (cols m c) (weights m c) (ct m c)
def valueX (c : Dev nD) : Buf (Elt Ideal) ((c : Thread nD τ).loc main_v9) := fun y => convT (grad m c) (weights m c) (y 0).val (y 1).val
def valueW (c : Dev nD) : Buf (Elt Ideal) ((c : Thread nD τ).loc main_v12) := fun y => convW 2048 (grad m c) (cols m c) (y 0).val (y 1).val

/-- The arrays that the call is given hold the columns interleaved. -/
theorem given0 (c : Dev nD) (y : S2048x5632.Idx) : V m c main_v2 y = il (cols m c) (y 0).val (y 1).val := by
  entry_read
  rw [List.flatten_cons, List.flatten_nil, List.append_nil]
  after_results
  simp only [pointwise]
  exact ent_at (m := 2048) (n := 5632) _ _ (by simp) (by simp)

theorem given1 (c : Dev nD) (y : S3x5632.Idx) : V m c main_v5 y = il (weights m c) (y 0).val (y 1).val := by
  entry_read
  rw [List.flatten_cons, List.flatten_nil, List.append_nil]
  after_results
  simp only [pointwise]
  exact ent_at (m := 3) (n := 5632) _ _ (by simp) (by simp)

/-- Where a point's blocks lie. -/
theorem place (t : Fin cfg0.N) :
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ t.val < 11 := by
  revert t
  decide +kernel

theorem block0 (c : Dev nD) (t : Fin cfg0.N) : BlockOf (m := 2048) (n := 512) (iblk m c 0 t) (il (cols m c)) 0 (512 * t.val) := by
  intro y
  obtain ⟨⟨i0, i1⟩, -⟩ := place t
  refine (given0 m c ((win0_0.blk t).view.emb y)).trans ?_
  congr 1 <;> blk_simp
  · rw [i0]; omega
  · rw [i1]; omega

theorem block1 (c : Dev nD) (t : Fin cfg0.N) : BlockOf (m := 3) (n := 512) (iblk m c 1 t) (il (weights m c)) 0 (512 * t.val) := by
  intro y
  obtain ⟨-, ⟨i0, i1⟩, -⟩ := place t
  refine (given1 m c ((win0_1.blk t).view.emb y)).trans ?_
  congr 1 <;> blk_simp
  · rw [i0]; omega
  · rw [i1]; omega

theorem block2 (c : Dev nD) (t : Fin cfg0.N) : BlockOf (m := 2048) (n := 256) (iblk m c 2 t) (ct m c) 0 (256 * t.val) := by
  intro y
  obtain ⟨-, -, ⟨i0, i1⟩, -⟩ := place t
  refine (congrFun (V_main_arg2 m c) ((win0_2.blk t).view.emb y)).trans ?_
  refine ent_at (m := 2048) (n := 2816) _ _ ?_ ?_ <;> blk_simp
  · rw [i0]; omega
  · rw [i1]; omega

/-- What the call leaves: both gradients, interleaved. -/
theorem arr3_eq (c : Dev nD) : (dats m 0 c).arrAt 3 cfg0.N = fun y : S2048x5632.Idx => il (convT (grad m c) (weights m c)) (y 0).val (y 1).val := by
  refine (dats m 0 c).arrAt_eq_of_covers 3 _ (by decide +kernel) fun t hf y => ?_
  obtain ⟨-, -, -, ⟨i0, i1⟩, -, ht⟩ := place t
  blk_simp
  rw [after0_3]
  unfold outsAt0
  dsimp only
  rw [out3_eq]
  refine (outX_at _ _ _ y).trans ((convT_part ht (block0 m c t) (block1 m c t) (block2 m c t) (y 1).isLt).trans ?_)
  congr 1
  · rw [i0]; omega
  · rw [i1]; omega

theorem arr4_eq (c : Dev nD) : (dats m 0 c).arrAt 4 cfg0.N = fun y : S3x5632.Idx => il (convW 2048 (grad m c) (cols m c)) (y 0).val (y 1).val := by
  refine (dats m 0 c).arrAt_eq_of_covers 4 _ (by decide +kernel) fun t hf y => ?_
  obtain ⟨-, -, -, -, ⟨i0, i1⟩, ht⟩ := place t
  blk_simp
  rw [after0_4]
  unfold outsAt0
  dsimp only
  rw [out4_eq]
  refine (outW_at _ _ _ y).trans ((convW_part ht (block0 m c t) (block1 m c t) (block2 m c t) (y 1).isLt).trans ?_)
  congr 1
  · rw [i0]; omega
  · rw [i1]; omega

/-- The lines after the call undo the interleaving. -/
theorem tail9 (c : Dev nD) : Pipeline.afterTail₀ cfgs (dats m) 0 (V0 m) [hostOps1] c main_v9 = valueX m c := by
  have ha : Pipeline.withArrays (cfgs 0).spec c (V0 m c) (fun w => (dats m 0 c).arrAt w (cfgs 0).N) (Proc.devRef .tc main_v6_0)
      = fun y : S2048x5632.Idx => il (convT (grad m c) (weights m c)) (y 0).val (y 1).val :=
    (Pipeline.withArrays_arr (cfgs 0).spec launch0.win.arr_inj c (V0 m c) (fun w => (dats m 0 c).arrAt w (cfgs 0).N) 3).trans (arr3_eq m c)
  unfold Pipeline.afterTail₀
  generalize Pipeline.withArrays (cfgs 0).spec c (V0 m c) (fun w => (dats m 0 c).arrAt w (cfgs 0).N) = A at ha ⊢
  rw [List.flatten_cons, List.flatten_nil, List.append_nil]
  after_results
  rw [ha]
  funext y
  have h1 : (y 1).val < 5632 := (y 1).isLt
  simp only [pointwise]
  refine Eq.trans ?_ (il_inv (convT (grad m c) (weights m c)) h1)
  congr 1 <;> (simp; try omega)

theorem tail12 (c : Dev nD) : Pipeline.afterTail₀ cfgs (dats m) 0 (V0 m) [hostOps1] c main_v12 = valueW m c := by
  have ha : Pipeline.withArrays (cfgs 0).spec c (V0 m c) (fun w => (dats m 0 c).arrAt w (cfgs 0).N) (Proc.devRef .tc main_v6_1)
      = fun y : S3x5632.Idx => il (convW 2048 (grad m c) (cols m c)) (y 0).val (y 1).val :=
    (Pipeline.withArrays_arr (cfgs 0).spec launch0.win.arr_inj c (V0 m c) (fun w => (dats m 0 c).arrAt w (cfgs 0).N) 4).trans (arr4_eq m c)
  unfold Pipeline.afterTail₀
  generalize Pipeline.withArrays (cfgs 0).spec c (V0 m c) (fun w => (dats m 0 c).arrAt w (cfgs 0).N) = A at ha ⊢
  rw [List.flatten_cons, List.flatten_nil, List.append_nil]
  after_results
  rw [ha]
  funext y
  have h1 : (y 1).val < 5632 := (y 1).isLt
  simp only [pointwise]
  refine Eq.trans ?_ (il_inv (convW 2048 (grad m c) (cols m c)) h1)
  congr 1 <;> (simp; try omega)

/-- The kernel's run leaves both gradients. -/
theorem run_value : θ_run defs (onTc (τ := τ) (main (F := Ideal))) ⟨m, fun _ => 0, ρ⟩ fun r => ∀ c : Dev nD,
      r.2.mem ((c : Thread nD τ).loc main_v9) = valueX m c
      ∧ r.2.mem ((c : Thread nD τ).loc main_v12) = valueW m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v9 (Pipeline.mem_restRefs_of main_v9 (by decide) (by decide))).trans (tail9 m c),
      ((h.1 c).2 main_v12 (Pipeline.mem_restRefs_of main_v12 (by decide) (by decide))).trans (tail12 m c), h.2 c⟩)
    (θ_run_and (run_main m ρ) (unchanged m ρ))

end Cert.Kernel9Ideal.Hand

end
-- ==== Proof.ConvDref.lean ====
/- The gradient of the gated convolution: what the reference leaves. -/
module

public import proofs.«01_k».proof.Proof.Gen.Reference9Ideal.Run
public import proofs.«01_k».proof.Proof.ConvGrad
public import proofs.«01_k».proof.Proof.ConvRef

@[expose] public noncomputable section

namespace Cert.Reference9Ideal.Hand

open Idealize.ShloMosaic Idealize.ShloMosaic.TcCoe
open Cert.Reference9Ideal.Gen Cert.Reference9Ideal.Value Cert.Mm Cert.Conv
open Cert.Reference8Ideal.Hand (weight0 weight1 weight2 late0 late1 late2 convolved weight0_at weight1_at weight2_at late0_at late1_at late2_at convolved_at)

section
variable (x : FVec Ideal S2048x5632 .f32) (w : FVec Ideal S3x5632 .f32) (d : FVec Ideal S2048x2816 .f32)

/-- The two halves of the convolved columns, and the logistic function of the first. -/
def gateOf : FVec Ideal S2048x2816 .f32 := extractStridedSlice S2048x2816 ![0, 0] (convolved x w) slices_S2048x5632_S2048x2816_0_0
def upOf : FVec Ideal S2048x2816 .f32 := extractStridedSlice S2048x2816 ![0, 2816] (convolved x w) slices_S2048x5632_S2048x2816_0_2816
def sigOf : FVec Ideal S2048x2816 .f32 :=
  Host.divf (broadcastInDim S2048x2816 ![] bcast_S_S2048x2816 (constant S_ .f32 0x3F800000#32))
    (addf (broadcastInDim S2048x2816 ![] bcast_S_S2048x2816 (constant S_ .f32 0x3F800000#32)) (Host.exp (Host.negf (gateOf x w))))

/-- The gradients of the two halves, -/
def gateGrad : FVec Ideal S2048x2816 .f32 :=
  addf (mulf (mulf d (upOf x w)) (sigOf x w))
    (mulf (mulf (gateOf x w) (mulf d (upOf x w))) (mulf (sigOf x w) (subf (broadcastInDim S2048x2816 ![] bcast_S_S2048x2816 (constant S_ .f32 0x3F800000#32)) (sigOf x w))))
def upGrad : FVec Ideal S2048x2816 .f32 := mulf (mulf (gateOf x w) (sigOf x w)) d

/-- side by side. -/
def gradient : FVec Ideal S2048x5632 .f32 :=
  concatenate S2048x5632 1 [⟨S2048x2816, gateGrad x w d⟩, ⟨S2048x2816, upGrad x w d⟩] concatenates_S2048x2816_S2048x2816_S2048x5632_d1

/-- The columns' gradient: three products, each at its own distance from the end, summed. -/
def columns (g : FVec Ideal S2048x5632 .f32) : FVec Ideal S2048x5632 .bf16 :=
  truncf .bf16 (extractStridedSlice S2048x5632 ![2, 0] (addf (addf
    (pad S2050x5632 ![2, 0] ![0, 0] ![0, 0] (mulf (weight2 w) g) (constant S_ .f32 0x00000000#32) pads_S2048x5632_S2050x5632_200_000 h_S_)
    (pad S2050x5632 ![1, 0] ![1, 0] ![0, 0] (mulf (weight1 w) g) (constant S_ .f32 0x00000000#32) pads_S2048x5632_S2050x5632_110_000 h_S_))
    (pad S2050x5632 ![0, 0] ![2, 0] ![0, 0] (mulf (weight0 w) g) (constant S_ .f32 0x00000000#32) pads_S2048x5632_S2050x5632_020_000 h_S_)) slices_S2050x5632_S2048x5632_2_0) bitsLt_bf16_f32

/-- One weight's gradient: a sum over the tokens. -/
def oneRow (g l : FVec Ideal S2048x5632 .f32) : FVec Ideal S1x5632 .f32 :=
  broadcastInDim S1x5632 ![1] bcast_S5632_S1x5632_1 (Host.reduceAdd (shapeCast _ (Host.reduceAdd (mulf g l) (constant S_ .f32 0x00000000#32) reducesTo_S2048x5632_S5632_d0 h_S_)
    shapeCasts_S5632_S1x5632) (constant S_ .f32 0x00000000#32) reducesTo_S1x5632_S5632_d0 h_S_)

/-- The weights' gradient. -/
def rows (g : FVec Ideal S2048x5632 .f32) : FVec Ideal S3x5632 .f32 :=
  addf (addf (pad S3x5632 ![2, 0] ![0, 0] ![0, 0] (oneRow g (late2 x)) (constant S_ .f32 0x00000000#32) pads_S1x5632_S3x5632_200_000 h_S_)
    (pad S3x5632 ![1, 0] ![1, 0] ![0, 0] (oneRow g (late1 x)) (constant S_ .f32 0x00000000#32) pads_S1x5632_S3x5632_110_000 h_S_))
    (pad S3x5632 ![0, 0] ![2, 0] ![0, 0] (oneRow g (late0 x)) (constant S_ .f32 0x00000000#32) pads_S1x5632_S3x5632_020_000 h_S_)

omit x w d in
/-- Zero unless a condition holds. -/
theorem pick_dite {P : Prop} [Decidable P] {f : P → EReal} {v : EReal} (h1 : ∀ h, f h = v) (h0 : ¬P → v = 0) : (if h : P then f h else 0) = v := by
  by_cases h : P
  · rw [dif_pos h, h1]
  · rw [dif_neg h, h0 h]

theorem gateOf_at (y : S2048x2816.Idx) :
    (gateOf x w y : EReal) = conv (ent (m := 2048) (n := 5632) x) (ent (m := 3) (n := 5632) w) (y 0).val (y 1).val := by
  unfold gateOf
  simp only [pointwise, convolved_at]
  simp

theorem upOf_at (y : S2048x2816.Idx) :
    (upOf x w y : EReal) = conv (ent (m := 2048) (n := 5632) x) (ent (m := 3) (n := 5632) w) (y 0).val ((y 1).val + 2816) := by
  unfold upOf
  simp only [pointwise, convolved_at]
  simp [add_comm]

theorem sigOf_at (y : S2048x2816.Idx) :
    (sigOf x w y : EReal) = Conv.sig (conv (ent (m := 2048) (n := 5632) x) (ent (m := 3) (n := 5632) w) (y 0).val (y 1).val) := by
  unfold sigOf Conv.sig
  simp only [pointwise, gateOf_at]

theorem gateGrad_at (y : S2048x2816.Idx) :
    (gateGrad x w d y : EReal) = dgate (conv (ent (m := 2048) (n := 5632) x) (ent (m := 3) (n := 5632) w) (y 0).val (y 1).val)
      (conv (ent (m := 2048) (n := 5632) x) (ent (m := 3) (n := 5632) w) (y 0).val ((y 1).val + 2816)) (d y) := by
  unfold gateGrad dgate
  simp only [pointwise, gateOf_at, upOf_at, sigOf_at]

theorem upGrad_at (y : S2048x2816.Idx) :
    (upGrad x w d y : EReal) = dup (conv (ent (m := 2048) (n := 5632) x) (ent (m := 3) (n := 5632) w) (y 0).val (y 1).val) (d y) := by
  unfold upGrad dup
  simp only [pointwise, gateOf_at, sigOf_at]

/-- They are the gradients of the convolved columns. -/
theorem gradient_at (y : S2048x5632.Idx) :
    (gradient x w d y : EReal) = dY 2816 2048 (ent (m := 2048) (n := 5632) x) (ent (m := 3) (n := 5632) w) (ent (m := 2048) (n := 2816) d) (y 0).val (y 1).val := by
  unfold gradient dY
  simp only [pointwise, gateGrad_at, upGrad_at]
  have h0 : (y 0).val < 2048 := (y 0).isLt
  have h1 : (y 1).val < 5632 := (y 1).isLt
  refine Eq.trans ?_ (if_pos trivial).symm
  by_cases h : (y 1).val < 2816
  · rw [dif_pos h, if_pos h]
    refine congrArg₂ (dgate _) rfl (ent_at (m := 2048) (n := 2816) d _ (by simp) (by simp))
  · rw [dif_neg h, if_neg h]
    refine congrArg₂ dup ?_ (ent_at (m := 2048) (n := 2816) d _ (by simp) (by simp))
    simp

theorem oneRow_at (g l : FVec Ideal S2048x5632 .f32) (y : S1x5632.Idx) :
    (oneRow g l y : EReal) = ∑ r : Fin 2048, ent (m := 2048) (n := 5632) g r.val (y 1).val * ent (m := 2048) (n := 5632) l r.val (y 1).val := by
  unfold oneRow
  simp only [pointwise, zero_add]
  rw [Finset.sum_comm]
  refine Finset.sum_congr rfl fun r _ => ?_
  refine (Fintype.sum_unique _).trans (congrArg₂ (· * ·) (ent_at (m := 2048) (n := 5632) g _ (by simp) (by simp)) (ent_at (m := 2048) (n := 5632) l _ (by simp) (by simp)))

theorem columns_at (g : FVec Ideal S2048x5632 .f32) (y : S2048x5632.Idx) :
    (columns w g y : EReal) = convT (ent (m := 2048) (n := 5632) g) (ent (m := 3) (n := 5632) w) (y 0).val (y 1).val := by
  unfold columns convT
  simp only [pointwise, weight0_at, weight1_at, weight2_at]
  have hr : (y 0).val < 2048 := (y 0).isLt
  have hq : (y 1).val < 5632 := (y 1).isLt
  refine (congrArg₂ (· + ·) (congrArg₂ (· + ·) (pick_dite (fun h => ?_) fun h => ?_) (pick_dite (fun h => ?_) fun h => ?_))
    (pick_dite (fun h => ?_) fun h => ?_)).trans (add_right_comm _ _ _)
  · refine congrArg₂ (· * ·) (by simp) (ent_at (m := 2048) (n := 5632) g _ (by simp) (by simp))
  · exact absurd ⟨⟨trivial, Nat.mod_one _, by simpa using hr⟩, trivial, Nat.mod_one _, by simpa using hq⟩ h
  · refine congrArg₂ (· * ·) (by simp) (ent_at (m := 2048) (n := 5632) g _ (by simp; omega) (by simp))
  · rw [ent_zero (m := 2048) (n := 5632) g, mul_zero]
    by_contra hlt
    refine h fun a => ?_
    fin_cases a <;> simp <;> omega
  · refine congrArg₂ (· * ·) (by simp) (ent_at (m := 2048) (n := 5632) g _ (by simp; omega) (by simp))
  · rw [ent_zero (m := 2048) (n := 5632) g, mul_zero]
    by_contra hlt
    refine h fun a => ?_
    fin_cases a <;> simp <;> omega

theorem rows_at (g : FVec Ideal S2048x5632 .f32) (y : S3x5632.Idx) :
    (rows x g y : EReal) = convW 2048 (ent (m := 2048) (n := 5632) g) (ent (m := 2048) (n := 5632) x) (y 0).val (y 1).val := by
  unfold rows convW
  simp only [pointwise, oneRow_at]
  have hk : (y 0).val < 3 := (y 0).isLt
  have hq : (y 1).val < 5632 := (y 1).isLt
  have e2 : ∀ r q, r < 2048 → q < 5632 → ent (m := 2048) (n := 5632) (late2 x) r q = back (ent (m := 2048) (n := 5632) x) (2 - 2) r q := fun r q hr hq => by
    rw [ent, dif_pos ⟨hr, hq⟩, late2_at]
    rfl
  have e1 : ∀ r q, r < 2048 → q < 5632 → ent (m := 2048) (n := 5632) (late1 x) r q = back (ent (m := 2048) (n := 5632) x) (2 - 1) r q := fun r q hr hq => by
    rw [ent, dif_pos ⟨hr, hq⟩, late1_at]
  have e0 : ∀ r q, r < 2048 → q < 5632 → ent (m := 2048) (n := 5632) (late0 x) r q = back (ent (m := 2048) (n := 5632) x) (2 - 0) r q := fun r q hr hq => by
    rw [ent, dif_pos ⟨hr, hq⟩, late0_at]
  let S : ℕ → EReal := fun k => ∑ r : Fin 2048, ent (m := 2048) (n := 5632) g r.val (y 1).val * back (ent (m := 2048) (n := 5632) x) (2 - k) r.val (y 1).val
  refine (congrArg₂ (· + ·) (congrArg₂ (· + ·) (pick_dite (v := if (y 0).val = 2 then S 2 else 0) (fun h => ?_) fun h => ?_)
    (pick_dite (v := if (y 0).val = 1 then S 1 else 0) (fun h => ?_) fun h => ?_))
    (pick_dite (v := if (y 0).val = 0 then S 0 else 0) (fun h => ?_) fun h => ?_)).trans ?_
  · have hy : (y 0).val = 2 := by have := h.1; simp at this; omega
    rw [if_pos hy]
    refine Finset.sum_congr rfl fun r _ => congrArg₂ (· * ·) (by simp) (Eq.trans (by simp) (e2 r.val (y 1).val r.isLt hq))
  · refine if_neg fun hy => h ?_
    simp [hy, Nat.mod_one, hq]
  · have hy : (y 0).val = 1 := by have := h.1; simp at this; omega
    rw [if_pos hy]
    refine Finset.sum_congr rfl fun r _ => congrArg₂ (· * ·) (by simp) (Eq.trans (by simp) (e1 r.val (y 1).val r.isLt hq))
  · refine if_neg fun hy => h ?_
    simp [hy, Nat.mod_one, hq]
  · have hy : (y 0).val = 0 := by have := h.1; simp at this; omega
    rw [if_pos hy]
    refine Finset.sum_congr rfl fun r _ => congrArg₂ (· * ·) (by simp) (Eq.trans (by simp) (e0 r.val (y 1).val r.isLt hq))
  · refine if_neg fun hy => h ?_
    simp [hy, Nat.mod_one, hq]
  · show _ = S (y 0).val
    generalize (y 0).val = k at hk
    interval_cases k <;> simp
theorem ent_gradient : ent (m := 2048) (n := 5632) (gradient x w d) = fun r q =>
    if q < 5632 then dY 2816 2048 (ent (m := 2048) (n := 5632) x) (ent (m := 3) (n := 5632) w) (ent (m := 2048) (n := 2816) d) r q else 0 := by
  funext r q
  unfold ent
  split
  · rename_i h
    rw [if_pos h.2]
    exact gradient_at x w d _
  · rename_i h
    split
    · unfold dY
      rw [if_neg (by omega)]
    · rfl

/-- Both results from the gradients of the convolved columns. -/
theorem columns_gradient (y : S2048x5632.Idx) : (columns w (gradient x w d) y : EReal)
    = convT (dY 2816 2048 (ent (m := 2048) (n := 5632) x) (ent (m := 3) (n := 5632) w) (ent (m := 2048) (n := 2816) d)) (ent (m := 3) (n := 5632) w) (y 0).val (y 1).val := by
  have hq : (y 1).val < 5632 := (y 1).isLt
  rw [columns_at, ent_gradient]
  unfold convT
  simp only [if_pos hq]

theorem rows_gradient (y : S3x5632.Idx) : (rows x (gradient x w d) y : EReal)
    = convW 2048 (dY 2816 2048 (ent (m := 2048) (n := 5632) x) (ent (m := 3) (n := 5632) w) (ent (m := 2048) (n := 2816) d)) (ent (m := 2048) (n := 5632) x) (y 0).val (y 1).val := by
  have hq : (y 1).val < 5632 := (y 1).isLt
  rw [rows_at, ent_gradient]
  unfold convW
  simp only [if_pos hq]
end

variable (m : (ℓ : Loc nD τ sig) → Buf (Elt Ideal) ℓ)

theorem value_columns (c : Dev nD) : res_main_v67 m c = columns (m ((c.tc : Thread nD τ).loc main_arg1))
    (gradient (m ((c.tc : Thread nD τ).loc main_arg0)) (m ((c.tc : Thread nD τ).loc main_arg1)) (extf .f32 (m ((c.tc : Thread nD τ).loc main_arg2)) bitsLt_bf16_f32)) := by
  generalize hX : m ((c.tc : Thread nD τ).loc main_arg0) = x
  generalize hW : m ((c.tc : Thread nD τ).loc main_arg1) = w
  generalize hD : m ((c.tc : Thread nD τ).loc main_arg2) = d
  subst hX hW hD; rfl

theorem value_rows (c : Dev nD) : res_main_v64 m c = rows (m ((c.tc : Thread nD τ).loc main_arg0))
    (gradient (m ((c.tc : Thread nD τ).loc main_arg0)) (m ((c.tc : Thread nD τ).loc main_arg1)) (extf .f32 (m ((c.tc : Thread nD τ).loc main_arg2)) bitsLt_bf16_f32)) := by
  generalize hX : m ((c.tc : Thread nD τ).loc main_arg0) = x
  generalize hW : m ((c.tc : Thread nD τ).loc main_arg1) = w
  generalize hD : m ((c.tc : Thread nD τ).loc main_arg2) = d
  subst hX hW hD; rfl

end Cert.Reference9Ideal.Hand

end
-- ==== Proof.ConvValue.lean ====
/- The gated convolution and its gradient: the kernel and the reference leave the same values. -/
module

public import proofs.«01_k».proof.Defs
public import proofs.«01_k».proof.Proof.ConvMid
public import proofs.«01_k».proof.Proof.ConvRef
public import proofs.«01_k».proof.Proof.ConvDrun
public import proofs.«01_k».proof.Proof.ConvDref

@[expose] public section

namespace Cert.Reference8Ideal.Hand

open Idealize.ShloMosaic Idealize.ShloMosaic.TcCoe Idealize.SL.Sem Cert.Mm

theorem frame : quiescent_Reference8Ideal := fun m ρ _ =>
  (θ_run (defs (F := Ideal)) _ _).mono (fun r h => ⟨fun c => (h c).2, sem_eq_zero_of_no_sems (by decide) r.2⟩) (Cert.Reference8Ideal.Value.run m ρ)

/-- The gated convolution. -/
theorem algebraic : algebraic_Kernel8Ideal_Reference8Ideal := by
  intro m ρ m' ρ' _ hagree
  refine ⟨Cert.Kernel8Ideal.Hand.value m, Cert.Kernel8Ideal.Hand.run_value m ρ, ?_⟩
  refine (θ_run (defs (F := Ideal)) _ _).mono (fun r h c => ⟨(h c).1.trans ?_, (h c).2⟩) (Cert.Reference8Ideal.Value.run m' ρ')
  obtain ⟨h0, h1⟩ := hagree c
  rw [value_eq, h0, h1]
  rfl

end Cert.Reference8Ideal.Hand

namespace Cert.Reference9Ideal.Hand

open Idealize.ShloMosaic Idealize.ShloMosaic.TcCoe Idealize.SL.Sem Cert.Mm Cert.Conv

theorem frame : quiescent_Reference9Ideal := fun m ρ _ =>
  (θ_run (defs (F := Ideal)) _ _).mono (fun r h => ⟨fun c => (h c).2.2, sem_eq_zero_of_no_sems (by decide) r.2⟩) (Cert.Reference9Ideal.Value.run m ρ)

/-- Its gradient. -/
theorem algebraic : algebraic_Kernel9Ideal_Reference9Ideal := by
  intro m ρ m' ρ' _ hagree
  refine ⟨Cert.Kernel9Ideal.Hand.valueX m, Cert.Kernel9Ideal.Hand.valueW m, Cert.Kernel9Ideal.Hand.run_value m ρ, ?_⟩
  refine (θ_run (defs (F := Ideal)) _ _).mono (fun r h c => ⟨(h c).1.trans ?_, (h c).2.1.trans ?_, (h c).2.2⟩) (Cert.Reference9Ideal.Value.run m' ρ')
  all_goals obtain ⟨h0, h1, h2⟩ := hagree c
  · rw [value_columns, h0, h1, h2]
    exact funext (columns_gradient _ _ _)
  · rw [value_rows, h0, h1, h2]
    exact funext (rows_gradient _ _ _)

end Cert.Reference9Ideal.Hand

end
-- ==== Proof.Fox.lean ====
/- The forgetting attention of one head and its gradient, over the real numbers: the logits of a query and a key, the
   weights of a row whatever number is taken from its logits first, the row's output, and the gradients of what the head
   takes. Sums over the sequence are sums over its first tokens. -/
module

public import proofs.«01_k».proof.Proof.Finite
public import Mathlib.Analysis.SpecialFunctions.Log.Basic

@[expose] public noncomputable section

namespace Cert.Fox

open scoped BigOperators

/-- What one head takes: queries, keys and values of every token, the sums of the log forget gates, the gradient of the
    output, and the logits' scale. -/
structure Head where
  q : ℕ → ℕ → ℝ
  k : ℕ → ℕ → ℝ
  v : ℕ → ℕ → ℝ
  ct : ℕ → ℕ → ℝ
  c : ℕ → ℝ
  scale : ℝ

/-- The sum over the first `n` tokens. -/
def upTo (n : ℕ) (f : ℕ → ℝ) : ℝ := ∑ j ∈ Finset.range n, f j

theorem upTo_zero (f : ℕ → ℝ) : upTo 0 f = 0 := rfl

/-- One more block of tokens. -/
theorem upTo_add (n m : ℕ) (f : ℕ → ℝ) : upTo (n + m) f = upTo n f + ∑ x : Fin m, f (n + x.val) := by
  unfold upTo
  rw [Finset.sum_range_add, Fin.sum_univ_eq_sum_range (fun x => f (n + x))]

theorem sum_eq_upTo (m : ℕ) (f : ℕ → ℝ) : ∑ x : Fin m, f x.val = upTo m f := Fin.sum_univ_eq_sum_range f m

theorem upTo_congr {n : ℕ} {f g : ℕ → ℝ} (h : ∀ j, j < n → f j = g j) : upTo n f = upTo n g :=
  Finset.sum_congr rfl fun j hj => h j (Finset.mem_range.mp hj)

theorem mul_upTo (a : ℝ) (n : ℕ) (f : ℕ → ℝ) : a * upTo n f = upTo n fun j => a * f j := Finset.mul_sum _ _ _

theorem upTo_mul (n : ℕ) (f : ℕ → ℝ) (a : ℝ) : upTo n f * a = upTo n fun j => f j * a := Finset.sum_mul _ _ _

/-- Terms that vanish do not count. -/
theorem upTo_mono {n m : ℕ} (hnm : n ≤ m) {f : ℕ → ℝ} (h : ∀ j, n ≤ j → f j = 0) : upTo n f = upTo m f :=
  Finset.sum_subset (fun j hj => Finset.mem_range.mpr (lt_of_lt_of_le (Finset.mem_range.mp hj) hnm))
    fun j _ hj => h j (Nat.le_of_not_lt fun hlt => hj (Finset.mem_range.mpr hlt))

/-- A sum of nothing but zeros. -/
theorem upTo_none {n : ℕ} {f : ℕ → ℝ} (h : ∀ j, j < n → f j = 0) : upTo n f = 0 :=
  Finset.sum_eq_zero fun j hj => h j (Finset.mem_range.mp hj)

variable (A : Head)

/-- The logit of query `i` at key `j`. -/
def logit (i j : ℕ) : ℝ := (∑ d : Fin 128, A.q i d * A.k j d) * A.scale + A.c i - A.c j

/-- The weight of key `j` in row `i`, with `μ` taken from the row's logits; a later key weighs nothing. -/
def weight (μ : ℝ) (i j : ℕ) : ℝ := if j ≤ i then Real.exp (logit A i j - μ) else 0

/-- The weights of a row. -/
def total (μ : ℝ) (i : ℕ) : ℝ := upTo 2048 (weight A μ i)

/-- The logarithm of a row's weights. -/
def lse (i : ℕ) : ℝ := Real.log (total A 0 i)

/-- The probability of key `j` in row `i`. -/
def prob (i j : ℕ) : ℝ := weight A 0 i j / total A 0 i

/-- The output of row `i`. -/
def out (i d : ℕ) : ℝ := upTo 2048 fun j => prob A i j * A.v j d

/-- The gradient of a probability. -/
def dprob (i j : ℕ) : ℝ := ∑ d : Fin 128, A.ct i d * A.v j d

/-- A row's output against its gradient. -/
def delta (i : ℕ) : ℝ := ∑ d : Fin 128, A.ct i d * out A i d

/-- The gradient of a logit. -/
def dlogit (i j : ℕ) : ℝ := prob A i j * (dprob A i j - delta A i)

/-- The gradient of a query. -/
def dquery (i d : ℕ) : ℝ := (upTo 2048 fun j => dlogit A i j * A.k j d) * A.scale

/-- The gradient of a key. -/
def dkey (j d : ℕ) : ℝ := (upTo 2048 fun i => dlogit A i j * A.q i d) * A.scale

/-- The gradient of a value. -/
def dvalue (j d : ℕ) : ℝ := upTo 2048 fun i => prob A i j * A.ct i d

/-- The gradients of the logits of a row. -/
def rowGrad (i : ℕ) : ℝ := upTo 2048 (dlogit A i)

/-- The gradients of the logits at a key, negated. -/
def colGrad (j : ℕ) : ℝ := -upTo 2048 fun i => dlogit A i j

variable {A}

/-- Another number taken from the logits scales the weights. -/
theorem weight_shift (μ ν : ℝ) (i j : ℕ) : Real.exp (μ - ν) * weight A μ i j = weight A ν i j := by
  unfold weight
  split
  · rw [← Real.exp_add]; congr 1; ring
  · rw [mul_zero]

theorem total_shift (μ ν : ℝ) (i : ℕ) : Real.exp (μ - ν) * total A μ i = total A ν i := by
  unfold total
  rw [mul_upTo]
  exact upTo_congr fun j _ => weight_shift μ ν i j

theorem weight_nonneg (μ : ℝ) (i j : ℕ) : 0 ≤ weight A μ i j := by
  unfold weight
  split
  · exact (Real.exp_pos _).le
  · exact le_refl _

/-- A row's own key weighs something. -/
theorem total_pos (μ : ℝ) {i : ℕ} (hi : i < 2048) : 0 < total A μ i := by
  refine Finset.sum_pos' (fun j _ => weight_nonneg μ i j) ⟨i, Finset.mem_range.mpr hi, ?_⟩
  unfold weight
  rw [if_pos (le_refl i)]
  exact Real.exp_pos _

theorem weight_later (μ : ℝ) {i j : ℕ} (h : i < j) : weight A μ i j = 0 := if_neg (Nat.not_le.mpr h)

theorem prob_later {i j : ℕ} (h : i < j) : prob A i j = 0 := by
  unfold prob
  rw [weight_later 0 h, zero_div]

theorem dlogit_later {i j : ℕ} (h : i < j) : dlogit A i j = 0 := by
  unfold dlogit
  rw [prob_later h, zero_mul]

/-- The probabilities do not depend on the number taken from the logits. -/
theorem prob_eq (μ : ℝ) (i j : ℕ) : weight A μ i j / total A μ i = prob A i j := by
  unfold prob
  rw [← weight_shift 0 μ, ← total_shift 0 μ, mul_div_mul_left _ _ (Real.exp_pos _).ne']

/-- The logarithm of a row's weights, from what was taken from the logits. -/
theorem lse_eq (μ : ℝ) {i : ℕ} (hi : i < 2048) : μ + Real.log (total A μ i) = lse A i := by
  unfold lse
  rw [← total_shift μ 0 i, Real.log_mul (Real.exp_pos _).ne' (total_pos μ hi).ne', Real.log_exp, sub_zero]

/-- A probability from the logarithm of the row's weights. -/
theorem exp_lse {i : ℕ} (hi : i < 2048) (j : ℕ) : weight A (lse A i) i j = prob A i j := by
  have h := weight_shift (A := A) 0 (lse A i) i j
  rw [← h, zero_sub, Real.exp_neg, lse, Real.exp_log (total_pos 0 hi), prob]
  ring

/-- The output from the weights with `μ` taken from the logits. -/
theorem out_eq (μ : ℝ) (i d : ℕ) : (upTo 2048 fun j => weight A μ i j * A.v j d) / total A μ i = out A i d := by
  unfold out
  rw [div_eq_mul_inv, upTo_mul]
  refine upTo_congr fun j _ => ?_
  rw [← prob_eq μ, div_eq_mul_inv]
  ring

/-- A row's output against its gradient is the mean of the probabilities' gradients. -/
theorem delta_eq (i : ℕ) : delta A i = upTo 2048 fun j => dprob A i j * prob A i j := by
  unfold delta out dprob upTo
  simp only [Finset.mul_sum, Finset.sum_mul]
  rw [Finset.sum_comm]
  exact Finset.sum_congr rfl fun j _ => Finset.sum_congr rfl fun d _ => by ring

/-- The gradient of a logit as the derivative of a quotient. -/
theorem dlogit_eq (μ : ℝ) {i : ℕ} (hi : i < 2048) (j : ℕ) :
    (dprob A i j / total A μ i
        + -upTo 2048 fun j => dprob A i j * (1 / (total A μ i * total A μ i)) * weight A μ i j) * weight A μ i j
      = dlogit A i j := by
  have hL : total A μ i ≠ 0 := (total_pos μ hi).ne'
  have h : (upTo 2048 fun j => dprob A i j * (1 / (total A μ i * total A μ i)) * weight A μ i j)
      = delta A i * (1 / total A μ i) := by
    rw [delta_eq, upTo_mul]
    refine upTo_congr fun j _ => ?_
    rw [← prob_eq μ]
    field_simp
  rw [h, dlogit, ← prob_eq μ]
  field_simp
  ring

end Cert.Fox

end
-- ==== Proof.FoxIdeal.lean ====
/- The attention's real numbers among the extended reals: masked logits, their exponentials, one more block of keys taken
   into a row's running maximum, weights and output, and a row's last division and logarithm. -/
module

public import proofs.«01_k».proof.Proof.Fox
public import Idealize.ShloMosaic.PureOps.Ideal

@[expose] public noncomputable section

namespace Cert.Fox

open Idealize.ShloMosaic Cert.Gdn
open scoped BigOperators

/-- The logits' scale, as the number its word is. -/
theorem scale_real : IsReal (Ideal.ofBits .f32 0x3DB504F3#32) := by
  unfold Ideal.ofBits Ideal.ieee
  dsimp only
  rw [if_neg (by decide), if_neg (by decide)]
  exact ⟨_, rfl⟩

/-- The number that stands for no maximum yet is real. -/
theorem init_real : IsReal (Ideal.ofBits .f32 0xF149F2CA#32) := by
  unfold Ideal.ofBits Ideal.ieee
  dsimp only
  rw [if_neg (by decide), if_neg (by decide)]
  exact ⟨_, rfl⟩

theorem bot_word : Ideal.ofBits .f32 0xFF800000#32 = ⊥ := by simp [Ideal.ofBits, Ideal.ieee]

/-- A row of numbers none of which is infinite above has a maximum that is not. -/
theorem rowMax_lt {n : ℕ} (f : Fin n → EReal) (h : ∀ k, f k < ⊤) :
    Finset.fold max (Ideal.ofBits .f32 0xFF800000#32) f Finset.univ < ⊤ := by
  rw [bot_word, Finset.fold_max_lt]
  exact ⟨bot_lt_top, fun k _ => h k⟩

/-- The running maximum stays real. -/
theorem isReal_max {x y : EReal} (hx : IsReal x) (hy : y < ⊤) : IsReal (max x y) := by
  obtain ⟨r, rfl⟩ := hx
  induction y with
  | bot => exact ⟨r, max_eq_left bot_le⟩
  | coe s => exact ⟨max r s, (EReal.coe_strictMono.monotone.map_max).symm⟩
  | top => exact absurd hy (lt_irrefl _)

variable (A : Head)

/-- The logit of query `i` at key `j`, minus infinity at a later key. -/
def masked (i j : ℕ) : EReal := if j ≤ i then (logit A i j : EReal) else ⊥

variable {A}

theorem masked_lt (i j : ℕ) : masked A i j < ⊤ := by
  unfold masked
  split
  · exact EReal.coe_lt_top _
  · exact bot_lt_top

/-- The exponential of a masked logit, a number taken from it, is the key's weight. -/
theorem exp_masked (μ : ℝ) (i j : ℕ) : Ideal.exp (masked A i j - (μ : EReal)) = (weight A μ i j : EReal) := by
  unfold masked weight
  split
  · rw [← EReal.coe_sub, Ideal.exp_coe]
  · rw [EReal.bot_sub, Ideal.exp_bot, EReal.coe_zero]

/-- One more block of keys in a row's weights. -/
theorem total_step (μ ν : ℝ) (i s m : ℕ) (X : Fin m → EReal) (hX : ∀ b, X b = masked A i (s + b.val)) :
    Ideal.exp ((μ : EReal) - (ν : EReal)) * (upTo s (weight A μ i) : EReal) + ∑ b, Ideal.exp (X b - (ν : EReal))
      = (upTo (s + m) (weight A ν i) : EReal) := by
  have e : upTo s (weight A ν i) = Real.exp (μ - ν) * upTo s (weight A μ i) := by
    rw [mul_upTo]; exact upTo_congr fun j _ => (weight_shift μ ν i j).symm
  rw [upTo_add, EReal.coe_add, coe_sum, e, EReal.coe_mul, ← EReal.coe_sub, Ideal.exp_coe]
  refine congrArg _ (Finset.sum_congr rfl fun b _ => ?_)
  rw [hX, exp_masked]

/-- One more block of keys in a row's output. -/
theorem out_step (μ ν : ℝ) (i s m d : ℕ) (X V : Fin m → EReal) (hX : ∀ b, X b = masked A i (s + b.val))
    (hV : ∀ b, V b = (A.v (s + b.val) d : EReal)) :
    Ideal.exp ((μ : EReal) - (ν : EReal)) * (upTo s (fun j => weight A μ i j * A.v j d) : EReal)
        + ∑ b, Ideal.exp (X b - (ν : EReal)) * V b
      = (upTo (s + m) (fun j => weight A ν i j * A.v j d) : EReal) := by
  have e : (upTo s fun j => weight A ν i j * A.v j d) = Real.exp (μ - ν) * upTo s fun j => weight A μ i j * A.v j d := by
    rw [mul_upTo]
    exact upTo_congr fun j _ => by rw [← weight_shift μ ν i j, mul_assoc]
  rw [upTo_add, EReal.coe_add, coe_sum, e, EReal.coe_mul, ← EReal.coe_sub, Ideal.exp_coe]
  refine congrArg _ (Finset.sum_congr rfl fun b _ => ?_)
  rw [hX, hV, exp_masked, EReal.coe_mul]

/-- The keys up to a row's own block are all that weigh. -/
theorem upTo_weight (μ : ℝ) {i n : ℕ} (hi : i < n) (hn : n ≤ 2048) : upTo n (weight A μ i) = total A μ i :=
  upTo_mono hn fun _ hj => weight_later μ (by omega)

theorem upTo_weight_mul (μ : ℝ) (g : ℕ → ℝ) {i n : ℕ} (hi : i < n) (hn : n ≤ 2048) :
    (upTo n fun j => weight A μ i j * g j) = upTo 2048 fun j => weight A μ i j * g j :=
  upTo_mono hn fun _ hj => by rw [weight_later μ (by omega), zero_mul]

/-- The quotient of a row's output by its weights. -/
theorem out_div (μ : ℝ) {i : ℕ} (hi : i < 2048) (d : ℕ) :
    Ideal.div (upTo 2048 (fun j => weight A μ i j * A.v j d) : EReal) (total A μ i : EReal) = (out A i d : EReal) := by
  rw [Ideal.div_coe (total_pos μ hi).ne', ← EReal.coe_mul, ← out_eq μ]
  congr 1
  ring

/-- The logarithm of a row's weights, the maximum added. -/
theorem lse_log (μ : ℝ) {i : ℕ} (hi : i < 2048) :
    (μ : EReal) + Ideal.log (total A μ i : EReal) = (lse A i : EReal) := by
  rw [Ideal.log_coe, if_neg (not_le.mpr (total_pos μ hi)), ← EReal.coe_add, lse_eq μ hi]

/-- The exponential of a masked logit, the logarithm of the row's weights taken from it, is the probability. -/
theorem exp_prob {i : ℕ} (hi : i < 2048) (j : ℕ) :
    Ideal.exp (masked A i j - (lse A i : EReal)) = (prob A i j : EReal) := by
  rw [exp_masked, exp_lse hi]

/-- A logit's gradient from the probability, the products of the output's gradient with the value, and the row's mean. -/
theorem dlogit_block (i j : ℕ) :
    (prob A i j : EReal) * ((∑ d : Fin 128, (A.ct i d.val : EReal) * (A.v j d.val : EReal)) - (delta A i : EReal))
      = (dlogit A i j : EReal) := by
  unfold dlogit dprob
  rw [EReal.coe_mul, EReal.coe_sub, coe_sum]
  simp only [EReal.coe_mul]

/-- One more block in a sum of products. -/
theorem step_mul (s m : ℕ) (f g : ℕ → ℝ) :
    (upTo s (fun i => f i * g i) : EReal) + ∑ b : Fin m, (f (s + b.val) : EReal) * (g (s + b.val) : EReal)
      = (upTo (s + m) (fun i => f i * g i) : EReal) := by
  rw [upTo_add, EReal.coe_add, coe_sum]
  simp only [EReal.coe_mul]

/-- One more block in a sum. -/
theorem step_add (s m : ℕ) (f : ℕ → ℝ) :
    (upTo s f : EReal) + ∑ b : Fin m, (f (s + b.val) : EReal) = (upTo (s + m) f : EReal) := by
  rw [upTo_add, EReal.coe_add, coe_sum]

/-- One more block taken off. -/
theorem step_sub (s m : ℕ) (f : ℕ → ℝ) :
    ((-upTo s f : ℝ) : EReal) - ∑ b : Fin m, (f (s + b.val) : EReal) = ((-upTo (s + m) f : ℝ) : EReal) := by
  rw [upTo_add, ← coe_sum, ← EReal.coe_sub]
  congr 1
  ring

end Cert.Fox

end
-- ==== Proof.FoxBlock.lean ====
/- Blocks of real numbers as the kernels hold them, and what the loads of a part of a block read. -/
module

public import proofs.«01_k».proof.Proof.FoxIdeal
public import proofs.«01_k».proof.Proof.MmBlock
public import Idealize.ShloMosaic.Lib.WholeRead
public import Idealize.ShloMosaic.Lib.WordCmp

@[expose] public noncomputable section

namespace Cert.Fox

open Idealize.ShloMosaic
open scoped BigOperators

/-- A matrix of real numbers. -/
abbrev mat {m n : ℕ} (f : ℕ → ℕ → ℝ) : (⟨2, ![m, n]⟩ : Shape).Idx → EReal := fun y => (f (y 0).val (y 1).val : EReal)

/-- A column of real numbers. -/
abbrev cell {n : ℕ} (f : ℕ → ℝ) : (⟨2, ![n, 1]⟩ : Shape).Idx → EReal := fun y => (f (y 0).val : EReal)

/-- A row of real numbers. -/
abbrev line {n : ℕ} (f : ℕ → ℝ) : (⟨2, ![1, n]⟩ : Shape).Idx → EReal := fun y => (f (y 1).val : EReal)

/-- A head's numbers down a column. -/
abbrev col {n : ℕ} (f : ℕ → ℝ) : (⟨3, ![1, n, 1]⟩ : Shape).Idx → EReal := fun y => (f (y 1).val : EReal)

/-- A head's numbers in rows of 1024. -/
abbrev rows {b : ℕ} (f : ℕ → ℝ) : (⟨4, ![1, b, 1, 1024]⟩ : Shape).Idx → EReal :=
  fun y => (f (1024 * (y 1).val + (y 3).val) : EReal)

/-- One such row. -/
abbrev row (f : ℕ → ℝ) : (⟨4, ![1, 1, 1, 1024]⟩ : Shape).Idx → EReal := fun y => (f (y 3).val : EReal)

variable {sig : RefSig}

/-- A load of some rows of a matrix held whole. -/
theorem read_mat {M m n : ℕ} {m2 : Memref sig .tc .vmem ⟨2, ![M, n]⟩ .f32} (hm : m2.IsWhole)
    (x : Vec Ideal ⟨2, ![M, n]⟩ .f32) (f : ℕ → ℕ → ℝ) (hx : ∀ y, x y = (f (y 0).val (y 1).val : EReal)) (off : Fin 2 → ℕ) (inb) (r : ℕ)
    (ho : off = ![r, 0]) :
    View.readAt (Elt Ideal) m2.view (Rect.unit (s := ⟨2, ![M, n]⟩) off ![m, n] inb).toLoadRect (hm.unread x)
      = (mat fun a d => f (r + a) d : (⟨2, ![m, n]⟩ : Shape).Idx → EReal) := by
  subst ho
  funext j
  rw [hm.readAt_unread]
  refine (hx _).trans ?_
  show ((f (r + 1 * (j 0).val) (0 + 1 * (j 1).val) : ℝ) : EReal) = _
  rw [Nat.one_mul, Nat.one_mul, Nat.zero_add]

/-- A load of some rows of a matrix of the narrower format held whole. -/
theorem read_matb {M m n : ℕ} {m2 : Memref sig .tc .vmem ⟨2, ![M, n]⟩ .bf16} (hm : m2.IsWhole)
    (x : Vec Ideal ⟨2, ![M, n]⟩ .bf16) (f : ℕ → ℕ → ℝ) (hx : ∀ y, x y = (f (y 0).val (y 1).val : EReal)) (off : Fin 2 → ℕ) (inb) (r : ℕ)
    (ho : off = ![r, 0]) :
    View.readAt (Elt Ideal) m2.view (Rect.unit (s := ⟨2, ![M, n]⟩) off ![m, n] inb).toLoadRect (hm.unread x)
      = (mat fun a d => f (r + a) d : (⟨2, ![m, n]⟩ : Shape).Idx → EReal) := by
  subst ho
  funext j
  rw [hm.readAt_unread]
  refine (hx _).trans ?_
  show ((f (r + 1 * (j 0).val) (0 + 1 * (j 1).val) : ℝ) : EReal) = _
  rw [Nat.one_mul, Nat.one_mul, Nat.zero_add]

/-- A load of some rows of a column held whole. -/
theorem read_col {M m : ℕ} {m2 : Memref sig .tc .vmem ⟨3, ![1, M, 1]⟩ .f32} (hm : m2.IsWhole)
    (x : Vec Ideal ⟨3, ![1, M, 1]⟩ .f32) (f : ℕ → ℝ) (hx : ∀ y, x y = (f (y 1).val : EReal)) (off : Fin 3 → ℕ) (inb) (r : ℕ)
    (ho : off = ![0, r, 0]) :
    View.readAt (Elt Ideal) m2.view (Rect.unit (s := ⟨3, ![1, M, 1]⟩) off ![1, m, 1] inb).toLoadRect (hm.unread x)
      = (col fun a => f (r + a) : (⟨3, ![1, m, 1]⟩ : Shape).Idx → EReal) := by
  subst ho
  funext j
  rw [hm.readAt_unread]
  refine (hx _).trans ?_
  show ((f (r + 1 * (j 1).val) : ℝ) : EReal) = _
  rw [Nat.one_mul]

/-- A load of one row of 1024. -/
theorem read_rows {B : ℕ} {m2 : Memref sig .tc .vmem ⟨4, ![1, B, 1, 1024]⟩ .f32} (hm : m2.IsWhole)
    (x : Vec Ideal ⟨4, ![1, B, 1, 1024]⟩ .f32) (f : ℕ → ℝ) (hx : ∀ y, x y = (f (1024 * (y 1).val + (y 3).val) : EReal))
    (off : Fin 4 → ℕ) (inb) (b : ℕ) (ho : off = ![0, b, 0, 0]) :
    View.readAt (Elt Ideal) m2.view (Rect.unit (s := ⟨4, ![1, B, 1, 1024]⟩) off ![1, 1, 1, 1024] inb).toLoadRect (hm.unread x)
      = (row fun a => f (1024 * b + a)) := by
  subst ho
  funext j
  rw [hm.readAt_unread]
  refine (hx _).trans ?_
  have h1 : (j 1).val = 0 := Nat.lt_one_iff.mp (j 1).isLt
  show ((f (1024 * (b + 1 * (j 1).val) + (0 + 1 * (j 3).val)) : ℝ) : EReal) = ((f (1024 * b + (j 3).val) : ℝ) : EReal)
  rw [h1]
  congr 2
  omega

/-- The comparison of the rows' and the columns' numbers, and the choice by it. -/
theorem select_le {n p q : ℕ} (hp : p < n) (hq : q < n) (hn : n ≤ 2147483648) (x y : EReal) :
    Scalar.select (IntOp.cmpi .sle (BitVec.ofNat 32 q) (BitVec.ofNat 32 p)) x y = if q ≤ p then x else y := by
  rw [WordCmp.cmpi_sle_ofNat (by omega) (by omega)]
  by_cases h : q ≤ p
  · rw [if_pos h, decide_eq_true h]; rfl
  · rw [if_neg h, decide_eq_false h]; rfl

end Cert.Fox

end
-- ==== Proof.FoxFwd.lean ====
/- The attention's forward call at one grid point: the running maximum, weights and output of a block of rows over the
   blocks of keys, and the output and the logarithm of the weights that it stores. -/
module

public import proofs.«01_k».proof.Proof.Gen.Kernel10Ideal.Frame
public import proofs.«01_k».proof.Proof.FoxBlock
public import Idealize.ShloMosaic.Lib.Pointwise
public import Idealize.ShloMosaic.Lib.Pipeline.ValueKit

@[expose] public noncomputable section

set_option maxHeartbeats 1000000

namespace Cert.Kernel10Ideal.Hand

open Idealize.ShloMosaic Idealize.ShloMosaic.TcCoe Idealize.ShloMosaic.Tactic
open Idealize.SL Idealize.SL.RA
open Cert.Kernel10Ideal.Gen Cert.Fox Cert.Gdn

variable (A : Fox.Head) (hs : Ideal.ofBits .f32 0x3DB504F3#32 = (A.scale : EReal)) (r s : ℕ)

/-- A block's queries, keys, values and their sums of log forget gates, from the token `r` on. -/
abbrev Q : Vec Ideal S1024x128 .bf16 := mat fun a d => A.q (r + a) d
abbrev K : Vec Ideal S1024x128 .bf16 := mat fun a d => A.k (r + a) d
abbrev V : Vec Ideal S1024x128 .f32 := mat fun a d => A.v (r + a) d
abbrev Cc : Vec Ideal S1x1024x1 .f32 := col fun a => A.c (r + a)
abbrev Cr : Vec Ideal S1x1x1x1024 .f32 := row fun a => A.c (r + a)

/-- The masked logits of the queries from `r` on against the keys from `s` on. -/
abbrev M : FVec Ideal S1024x1024 .f32 := fun j => masked A (r + (j 0).val) (s + (j 1).val)

include hs in
/-- The scaled products of a block's queries and keys, with the gates' sums: the logits. -/
theorem logit_block (a b : ℕ) :
    (∑ d : Fin 128, (A.q a d.val : EReal) * (A.k b d.val : EReal)) * Ideal.ofBits .f32 0x3DB504F3#32
        + (A.c a : EReal) - (A.c b : EReal)
      = (logit A a b : EReal) := by
  unfold logit
  rw [hs, EReal.coe_sub, EReal.coe_add, EReal.coe_mul, coe_sum]
  simp only [EReal.coe_mul]

include hs in
/-- The logits at a block of earlier keys. -/
theorem logits_before (h : s + 1024 ≤ r) : k0_pay10 (F := Ideal) (Q A r) (Cc A r) (K A s) (Cr A s) = M A r s := by
  funext j
  have h1 : (j 1).val < 1024 := (j 1).isLt
  unfold M masked
  rw [if_pos (by omega), ← logit_block A hs]
  unfold k0_pay10 k0_pay6
  simp only [pointwise, zero_add]
  simp
  rfl

include hs in
/-- The logits at a block's own keys, the later ones masked. -/
theorem logits_own : k0_pay22 (F := Ideal) (Q A r) (Cc A r) (K A r) (Cr A r) = M A r r := by
  funext j
  unfold M masked
  rw [← logit_block A hs, ← bot_word]
  unfold k0_pay22 k0_pay6
  simp only [pointwise, zero_add]
  simp
  rw [select_le (n := 1024) (j 0).isLt (j 1).isLt (by omega)]
  rfl

/-- The running maximum stays real, whatever masked logits it meets. -/
theorem max_block (μ : ℕ → ℝ) : ∃ ν : ℕ → ℝ, ∀ a : ℕ, max (μ a : EReal)
      (Finset.fold max (Ideal.ofBits .f32 0xFF800000#32) (fun k : Fin 1024 => masked A (r + a) (s + k.val)) Finset.univ)
        = (ν a : EReal) := by
  have h : ∀ a : ℕ, ∃ ν : ℝ, max (μ a : EReal) (Finset.fold max (Ideal.ofBits .f32 0xFF800000#32) (fun k : Fin 1024 => masked A (r + a) (s + k.val)) Finset.univ) = (ν : EReal) :=
    fun a => isReal_max ⟨μ a, rfl⟩ (rowMax_lt _ fun k => masked_lt _ _)
  choose ν hν using h
  exact ⟨ν, hν⟩

/-- What the rows from `r` on carry after the keys before `s`, `μ` their running maxima. -/
abbrev carry (μ : ℕ → ℝ) : FVec Ideal S1024x1 .f32 × FVec Ideal S1024x1 .f32 × FVec Ideal S1024x128 .f32 :=
  (cell μ, cell fun a => upTo s (weight A (μ a) (r + a)), mat fun a d => upTo s fun j => weight A (μ a) (r + a) j * A.v j d)

include hs in
/-- One block of earlier keys. -/
theorem step_before (h : s + 1024 ≤ r) (μ : ℕ → ℝ) : ∃ ν : ℕ → ℝ,
    (k0_pay11 (F := Ideal) (Q A r) (Cc A r) (carry A r s μ).1 (K A s) (Cr A s),
      k0_pay14 (F := Ideal) (Q A r) (Cc A r) (carry A r s μ).1 (carry A r s μ).2.1 (K A s) (Cr A s),
      k0_pay15 (F := Ideal) (Q A r) (Cc A r) (carry A r s μ).1 (carry A r s μ).2.2 (K A s) (Cr A s) (V A s))
      = carry A r (s + 1024) ν := by
  have hX : k0_pay10 (F := Ideal) (Q A r) (Cc A r) (K A s) (Cr A s) = M A r s := logits_before A hs r s h
  obtain ⟨ν, hν⟩ := max_block A r s μ
  have e1 : k0_pay11 (F := Ideal) (Q A r) (Cc A r) (carry A r s μ).1 (K A s) (Cr A s) = cell ν := by
    funext j
    refine Eq.trans ?_ (hν (j 0).val)
    unfold k0_pay11
    rw [hX]
    simp only [pointwise]
    rfl
  refine ⟨ν, Prod.ext e1 (Prod.ext ?_ ?_)⟩
  · funext j
    unfold k0_pay14 k0_pay12 k0_pay13
    rw [e1, hX]
    simp only [pointwise]
    refine Eq.trans ?_ (total_step (A := A) (μ (j 0).val) (ν (j 0).val) (r + (j 0).val) s 1024 _ fun b => rfl)
    simp
    rfl
  · funext j
    unfold k0_pay15 k0_pay12 k0_pay13
    rw [e1, hX]
    simp only [pointwise]
    refine Eq.trans ?_ (out_step (A := A) (μ (j 0).val) (ν (j 0).val) (r + (j 0).val) s 1024 (j 1).val _ _ (fun b => rfl) fun _ => rfl)
    simp
    rfl

include hs in
/-- The block of a row's own keys, and the two results of the region. -/
theorem step_own (hr : r + 1024 ≤ 2048) (μ : ℕ → ℝ) :
    k0_pay4 (F := Ideal) (carry A r r μ).1 (carry A r r μ).2.1 (carry A r r μ).2.2
        (k0_pay23 (Q A r) (Cc A r) (carry A r r μ).1 (K A r) (Cr A r)) (k0_pay24 (Q A r) (Cc A r) (carry A r r μ).1 (K A r) (Cr A r)) (V A r)
        = mat (fun a d => out A (r + a) d)
      ∧ k0_pay5 (F := Ideal) (carry A r r μ).1 (carry A r r μ).2.1
        (k0_pay23 (Q A r) (Cc A r) (carry A r r μ).1 (K A r) (Cr A r)) (k0_pay24 (Q A r) (Cc A r) (carry A r r μ).1 (K A r) (Cr A r))
        = col (fun a => lse A (r + a)) := by
  have hX : k0_pay22 (F := Ideal) (Q A r) (Cc A r) (K A r) (Cr A r) = M A r r := logits_own A hs r
  obtain ⟨ν, hν⟩ := max_block A r r μ
  have e1 : k0_pay23 (F := Ideal) (Q A r) (Cc A r) (carry A r r μ).1 (K A r) (Cr A r) = cell ν := by
    funext j
    refine Eq.trans ?_ (hν (j 0).val)
    unfold k0_pay23
    rw [hX]
    simp only [pointwise]
    rfl
  have e2 : k0_pay24 (F := Ideal) (Q A r) (Cc A r) (carry A r r μ).1 (K A r) (Cr A r)
      = fun j => masked A (r + (j 0).val) (r + (j 1).val) - (ν (j 0).val : EReal) := by
    funext j
    unfold k0_pay24
    rw [hX, e1]
    simp only [pointwise]
    rfl
  have ht : ∀ a : ℕ, a < 1024 → Ideal.exp ((μ a : EReal) - (ν a : EReal)) * (upTo r (weight A (μ a) (r + a)) : EReal)
      + ∑ b : Fin 1024, Ideal.exp (masked A (r + a) (r + b.val) - (ν a : EReal)) = (total A (ν a) (r + a) : EReal) := by
    intro a ha
    rw [total_step (A := A) (μ a) (ν a) (r + a) r 1024 _ fun b => rfl, upTo_weight _ (by omega) hr]
  constructor
  · funext j
    have hj : (j 0).val < 1024 := (j 0).isLt
    rw [e1, e2]
    unfold k0_pay4 k0_pay1 k0_pay2 k0_pay3
    simp only [pointwise]
    refine Eq.trans ?_ (out_div (A := A) (ν (j 0).val) (i := r + (j 0).val) (by omega) (j 1).val)
    rw [← ht _ hj, ← upTo_weight_mul (A := A) (ν (j 0).val) (fun t => A.v t (j 1).val) (i := r + (j 0).val) (n := r + 1024) (by omega) hr,
      ← out_step (A := A) (μ (j 0).val) (ν (j 0).val) (r + (j 0).val) r 1024 (j 1).val (fun b => masked A (r + (j 0).val) (r + b.val)) _ (fun b => rfl) fun _ => rfl]
    simp
    rfl
  · funext j
    have hj : (j 1).val < 1024 := (j 1).isLt
    rw [e1, e2]
    unfold k0_pay5 k0_pay3 k0_pay1 k0_pay2
    simp only [pointwise]
    refine Eq.trans ?_ (lse_log (A := A) (ν (j 1).val) (i := r + (j 1).val) (by omega))
    rw [← ht _ hj]
    simp
    rfl

end Cert.Kernel10Ideal.Hand
-- ==== Proof.FoxRun0.lean ====
/- The attention's forward kernel at one grid point: what its loop over the earlier blocks of keys carries, and its results. -/
module

public import proofs.«01_k».proof.Proof.FoxFwd

@[expose] public noncomputable section

set_option maxHeartbeats 1000000

namespace Cert.Kernel10Ideal.Hand

open Idealize.ShloMosaic Idealize.ShloMosaic.TcCoe Idealize.ShloMosaic.Tactic
open Idealize.SL Idealize.SL.RA
open Cert.Kernel10Ideal.Gen Cert.Fox

variable (A : Fox.Head) (hs : Ideal.ofBits .f32 0x3DB504F3#32 = (A.scale : EReal))

theorem zero3 : (![0, 0, 0] : Fin 3 → ℕ) = fun _ => 0 := by decide

theorem trips0 (i : grid0.Coords) : (k0_t1_loop i).trips = (i 1).val := by
  revert i; decide +kernel

section
variable (c : Dev nD) (i : grid0.Coords)
    (arg2 : Memref sig .tc .vmem S1024x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S1x1024x1 .f32) (harg5 : arg5.IsWhole)
    (arg6 : Memref sig .tc .vmem S1x2x1x1024 .f32) (harg6 : arg6.IsWhole)
    (arg7 : Memref sig .tc .vmem S1024x128 .f32) (harg7 : arg7.IsWhole)
    (arg8 : Memref sig .tc .vmem S1x1024x1 .f32) (harg8 : arg8.IsWhole)
    (x0 : Vec Ideal S1024x128 .bf16) (x1 : Vec Ideal S2048x128 .bf16) (x2 : Vec Ideal S2048x128 .f32)
    (x3 : Vec Ideal S1x1024x1 .f32) (x4 : Vec Ideal S1x2x1x1024 .f32)
    (h0 : x0 = Q A (1024 * (i 1).val)) (h1 : x1 = mat A.k) (h2 : x2 = mat A.v) (h3 : x3 = Cc A (1024 * (i 1).val)) (h4 : x4 = rows A.c)

include hs h1 h2 h4 in
/-- Before each block of earlier keys, the loop carries its rows' maxima and the sums over the keys so far. -/
theorem st0_carry : ∀ n : ℕ, n ≤ (i 1).val → ∃ μ : ℕ → ℝ,
    st_k0_t1 (F := Ideal) Variants.none c none i arg2 harg2 arg3 harg3 arg4 harg4 arg5 harg5 arg6 harg6 arg7 harg7 arg8 harg8
        (Q A (1024 * (i 1).val)) (Cc A (1024 * (i 1).val)) (harg3.unread x1) (harg4.unread x2) (harg6.unread x4) (k0_pay7, k0_pay8, k0_pay9) n
      = carry A (1024 * (i 1).val) (1024 * n) μ
  | 0, _ => by
    obtain ⟨z, hz⟩ := init_real
    refine ⟨fun _ => z, ?_⟩
    rw [st_k0_t1_zero]
    refine Prod.ext ?_ (Prod.ext ?_ ?_) <;> funext j
    · unfold k0_pay7
      simp only [pointwise]
      exact hz
    · unfold k0_pay8
      simp only [pointwise]
      exact EReal.coe_zero.symm.trans (congrArg Real.toEReal (upTo_zero _).symm)
    · unfold k0_pay9
      simp only [pointwise]
      exact EReal.coe_zero.symm.trans (congrArg Real.toEReal (upTo_zero _).symm)
  | n + 1, hn => by
    have hk : n < (k0_t1_loop i).trips := by rw [trips0]; exact hn
    obtain ⟨μ, ih⟩ := st0_carry n (by omega)
    obtain ⟨ν, hν⟩ := step_before A hs (1024 * (i 1).val) (1024 * n) (by omega) μ
    refine ⟨ν, ?_⟩
    have hsucc := st_k0_t1_succ (F := Ideal) Variants.none c none i arg2 harg2 arg3 harg3 arg4 harg4 arg5 harg5 arg6 harg6 arg7 harg7 arg8 harg8
        (Q A (1024 * (i 1).val)) (Cc A (1024 * (i 1).val)) (harg3.unread x1) (harg4.unread x2) (harg6.unread x4) (k0_pay7, k0_pay8, k0_pay9) ⟨n, hk⟩
    rw [hsucc, ih, show 1024 * (n + 1) = 1024 * n + 1024 from rfl, ← hν]
    unfold tripR_k0_t1 trip_k0_t1
    dsimp only
    sl_unfold_run_names
    rw [read_matb harg3 x1 A.k (fun y => congrFun h1 y) _ _ (1024 * n) (k0_off1_eq i ⟨n, hk⟩),
      read_mat harg4 x2 A.v (fun y => congrFun h2 y) _ _ (1024 * n) (k0_off1_eq i ⟨n, hk⟩),
      read_rows harg6 x4 A.c (fun y => congrFun h4 y) _ _ n (k0_off2_eq i ⟨n, hk⟩)]

include hs h0 h1 h2 h3 h4 in
/-- The block of the output. -/
theorem out0_o : out0_A_5 (F := Ideal) c i arg2 harg2 arg3 harg3 arg4 harg4 arg5 harg5 arg6 harg6 arg7 harg7 arg8 harg8 x0 x1 x2 x3 x4
    = mat fun a d => out A (1024 * (i 1).val + a) d := by
  obtain ⟨μ, hμ⟩ := st0_carry A hs c i arg2 harg2 arg3 harg3 arg4 harg4 arg5 harg5 arg6 harg6 arg7 harg7 arg8 harg8 x1 x2 x4 h1 h2 h4 (i 1).val (le_refl _)
  have hi : (i 1).val < 2 := (i 1).isLt
  have ht2 : (k0_t2_loop i).trips = 0 := Nat.le_zero.mp (k0_t2_abs i).2.1
  have ht1 := trips0 i
  have h := (step_own A hs (1024 * (i 1).val) (by omega) μ).1
  unfold out0_A_5 kernelRun0_A
  rw [View.read_writes_junk_eq_canon]
  dsimp only
  sl_unfold_run_names
  rw [View.canon_unit_zero Mm.zero2]
  rw [Mm.read_whole harg2 x0 Mm.zero2, Mm.read_whole harg5 x3 zero3, h0, h3,
    show Scf.trips (k0_t2_loop i).lb (k0_t2_loop i).ub (k0_t2_loop i).st = 0 from ht2,
    show Scf.trips (k0_t1_loop i).lb (k0_t1_loop i).ub (k0_t1_loop i).st = (i 1).val from ht1]
  rw [st_k0_t2_zero, hμ]
  rw [read_matb harg3 x1 A.k (fun y => congrFun h1 y) _ _ (1024 * (i 1).val) (k0_off5_eq i),
    read_mat harg4 x2 A.v (fun y => congrFun h2 y) _ _ (1024 * (i 1).val) (k0_off5_eq i),
    read_rows harg6 x4 A.c (fun y => congrFun h4 y) _ _ (i 1).val (k0_off6_eq i)]
  exact h

include hs h0 h1 h2 h3 h4 in
/-- The block of the rows' log-sums. -/
theorem out0_lse : out0_A_6 (F := Ideal) c i arg2 harg2 arg3 harg3 arg4 harg4 arg5 harg5 arg6 harg6 arg7 harg7 arg8 harg8 x0 x1 x2 x3 x4
    = col fun a => lse A (1024 * (i 1).val + a) := by
  obtain ⟨μ, hμ⟩ := st0_carry A hs c i arg2 harg2 arg3 harg3 arg4 harg4 arg5 harg5 arg6 harg6 arg7 harg7 arg8 harg8 x1 x2 x4 h1 h2 h4 (i 1).val (le_refl _)
  have hi : (i 1).val < 2 := (i 1).isLt
  have ht2 : (k0_t2_loop i).trips = 0 := Nat.le_zero.mp (k0_t2_abs i).2.1
  have ht1 := trips0 i
  have h := (step_own A hs (1024 * (i 1).val) (by omega) μ).2
  unfold out0_A_6 kernelRun0_A
  rw [View.read_writes_junk_eq_canon]
  dsimp only
  sl_unfold_run_names
  rw [View.canon_unit_zero zero3]
  rw [Mm.read_whole harg2 x0 Mm.zero2, Mm.read_whole harg5 x3 zero3, h0, h3,
    show Scf.trips (k0_t2_loop i).lb (k0_t2_loop i).ub (k0_t2_loop i).st = 0 from ht2,
    show Scf.trips (k0_t1_loop i).lb (k0_t1_loop i).ub (k0_t1_loop i).st = (i 1).val from ht1]
  rw [st_k0_t2_zero, hμ]
  rw [read_matb harg3 x1 A.k (fun y => congrFun h1 y) _ _ (1024 * (i 1).val) (k0_off5_eq i),
    read_rows harg6 x4 A.c (fun y => congrFun h4 y) _ _ (i 1).val (k0_off6_eq i)]
  exact h
end

end Cert.Kernel10Ideal.Hand

end
-- ==== Proof.FoxDq.lean ====
/- The gradient kernel of the attention's queries: the gradients of a block of logits, and what its sums carry. -/
module

public import proofs.«01_k».proof.Proof.FoxFwd

@[expose] public noncomputable section

set_option maxHeartbeats 1000000

namespace Cert.Kernel10Ideal.Hand

open Idealize.ShloMosaic Idealize.ShloMosaic.TcCoe Idealize.ShloMosaic.Tactic
open Idealize.SL Idealize.SL.RA
open Cert.Kernel10Ideal.Gen Cert.Fox
open scoped BigOperators

variable (A : Fox.Head) (hs : Ideal.ofBits .f32 0x3DB504F3#32 = (A.scale : EReal)) (r s : ℕ)

abbrev CT : Vec Ideal S1024x128 .f32 := mat fun a d => A.ct (r + a) d
abbrev O : Vec Ideal S1024x128 .f32 := mat fun a d => out A (r + a) d
abbrev L : Vec Ideal S1x1024x1 .f32 := col fun a => lse A (r + a)
abbrev Dl : Vec Ideal S1x1024x1 .f32 := col fun a => delta A (r + a)

/-- The rows' outputs against their gradients. -/
theorem delta_block : k1_pay7 (F := Ideal) (CT A r) (O A r) = cell fun a => delta A (r + a) := by
  funext j
  show _ = ((delta A (r + (j 0).val) : ℝ) : EReal)
  unfold delta
  rw [Gdn.coe_sum]
  simp only [EReal.coe_mul]
  unfold k1_pay7
  simp only [pointwise, zero_add]
  simp
  rfl

include hs in
/-- The gradients of the logits at a block of earlier keys. -/
theorem grad_before (h : s + 1024 ≤ r) (hr : r + 1024 ≤ 2048) :
    k1_pay10 (F := Ideal) (Q A r) (Cc A r) (CT A r) (L A r) (O A r) (K A s) (Cr A s) (V A s)
      = mat fun a b => dlogit A (r + a) (s + b) := by
  funext j
  have h0 : (j 0).val < 1024 := (j 0).isLt
  have h1 : (j 1).val < 1024 := (j 1).isLt
  show _ = ((dlogit A (r + (j 0).val) (s + (j 1).val) : ℝ) : EReal)
  rw [← dlogit_block, ← exp_prob (by omega), masked, if_pos (by omega), ← logit_block A hs]
  unfold k1_pay10 k1_pay5 k1_pay6
  rw [delta_block]
  simp only [pointwise, zero_add]
  simp
  rfl

include hs in
/-- The gradients of the logits at a block's own keys. -/
theorem grad_own (hr : r + 1024 ≤ 2048) :
    k1_pay1 (F := Ideal) (CT A r) (k1_pay6 (L A r)) (k1_pay7 (CT A r) (O A r)) (k1_pay16 (Cr A r)) (k1_pay17 (Q A r) (Cc A r) (K A r)) (V A r)
      = mat fun a b => dlogit A (r + a) (r + b) := by
  funext j
  have h0 : (j 0).val < 1024 := (j 0).isLt
  have h1 : (j 1).val < 1024 := (j 1).isLt
  show _ = ((dlogit A (r + (j 0).val) (r + (j 1).val) : ℝ) : EReal)
  rw [← dlogit_block, ← exp_prob (by omega), masked, ← logit_block A hs, ← bot_word]
  unfold k1_pay1 k1_pay6 k1_pay16 k1_pay17 k1_pay5
  rw [delta_block]
  simp only [pointwise, zero_add]
  simp
  rw [select_le (n := 1024) (j 0).isLt (j 1).isLt (by omega)]
  rfl

/-- What the queries from `r` on carry after the keys before `s`. -/
abbrev carry1 : FVec Ideal S1024x128 .f32 × FVec Ideal S1024x1 .f32 :=
  (mat fun a d => upTo s fun j => dlogit A (r + a) j * A.k j d, cell fun a => upTo s (dlogit A (r + a)))

include hs in
/-- One block of earlier keys. -/
theorem dq_before (h : s + 1024 ≤ r) (hr : r + 1024 ≤ 2048) :
    (k1_pay11 (F := Ideal) (Q A r) (Cc A r) (CT A r) (L A r) (O A r) (carry1 A r s).1 (K A s) (Cr A s) (V A s),
      k1_pay12 (F := Ideal) (Q A r) (Cc A r) (CT A r) (L A r) (O A r) (carry1 A r s).2 (K A s) (Cr A s) (V A s))
      = carry1 A r (s + 1024) := by
  have hg := grad_before A hs r s h hr
  refine Prod.ext ?_ ?_ <;> funext j
  · refine Eq.trans ?_ (step_mul s 1024 (dlogit A (r + (j 0).val)) fun t => A.k t (j 1).val)
    unfold k1_pay11
    rw [hg]
    simp only [pointwise, zero_add]
    rfl
  · refine Eq.trans ?_ (step_add s 1024 (dlogit A (r + (j 0).val)))
    unfold k1_pay12
    rw [hg]
    simp only [pointwise, zero_add]
    rfl

include hs in
/-- The block of a row's own keys, and the results of the region. -/
theorem dq_own (hr : r + 1024 ≤ 2048) :
    k1_pay2 (F := Ideal) (CT A r) (k1_pay6 (L A r)) (k1_pay7 (CT A r) (O A r)) (carry1 A r r).1 (K A r) (k1_pay16 (Cr A r)) (k1_pay17 (Q A r) (Cc A r) (K A r)) (V A r)
        = mat (fun a d => dquery A (r + a) d)
      ∧ k1_pay3 (F := Ideal) (CT A r) (k1_pay6 (L A r)) (k1_pay7 (CT A r) (O A r)) (carry1 A r r).2 (k1_pay16 (Cr A r)) (k1_pay17 (Q A r) (Cc A r) (K A r)) (V A r)
        = col (fun a => rowGrad A (r + a))
      ∧ k1_pay4 (F := Ideal) (k1_pay7 (CT A r) (O A r)) = Dl A r := by
  have hg := grad_own A hs r hr
  refine ⟨?_, ?_, ?_⟩ <;> funext j
  · have h0 : (j 0).val < 1024 := (j 0).isLt
    show _ = ((dquery A (r + (j 0).val) (j 1).val : ℝ) : EReal)
    unfold dquery
    rw [EReal.coe_mul, ← hs, ← upTo_mono (n := r + 1024) hr (f := fun t => dlogit A (r + (j 0).val) t * A.k t (j 1).val)
      fun t ht => by rw [dlogit_later (by omega), zero_mul], ← step_mul r 1024 (dlogit A (r + (j 0).val)) fun t => A.k t (j 1).val]
    unfold k1_pay2
    rw [hg]
    simp only [pointwise, zero_add]
    rfl
  · have h1 : (j 1).val < 1024 := (j 1).isLt
    show _ = ((rowGrad A (r + (j 1).val) : ℝ) : EReal)
    unfold rowGrad
    rw [← upTo_mono (n := r + 1024) hr (f := dlogit A (r + (j 1).val)) fun t ht => dlogit_later (by omega),
      ← step_add r 1024 (dlogit A (r + (j 1).val))]
    unfold k1_pay3
    rw [hg]
    simp only [pointwise, zero_add]
    rfl
  · unfold k1_pay4
    rw [delta_block]
    simp only [pointwise]
    rfl

end Cert.Kernel10Ideal.Hand

end
-- ==== Proof.FoxRun1.lean ====
/- The gradient kernel of the attention's queries at one grid point: what its loop over the earlier blocks of keys
   carries, and its results. -/
module

public import proofs.«01_k».proof.Proof.FoxDq
public import proofs.«01_k».proof.Proof.FoxRun0

@[expose] public noncomputable section

set_option maxHeartbeats 1000000

namespace Cert.Kernel10Ideal.Hand

open Idealize.ShloMosaic Idealize.ShloMosaic.TcCoe Idealize.ShloMosaic.Tactic
open Idealize.SL Idealize.SL.RA
open Cert.Kernel10Ideal.Gen Cert.Fox

variable (A : Fox.Head) (hs : Ideal.ofBits .f32 0x3DB504F3#32 = (A.scale : EReal))

theorem trips1 (i : grid1.Coords) : (k1_t1_loop i).trips = (i 1).val := by
  revert i; decide +kernel

section
variable (c : Dev nD) (i : grid1.Coords)
    (arg2 : Memref sig .tc .vmem S1024x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S1x1024x1 .f32) (harg5 : arg5.IsWhole)
    (arg6 : Memref sig .tc .vmem S1x2x1x1024 .f32) (harg6 : arg6.IsWhole)
    (arg7 : Memref sig .tc .vmem S1024x128 .f32) (harg7 : arg7.IsWhole)
    (arg8 : Memref sig .tc .vmem S1x1024x1 .f32) (harg8 : arg8.IsWhole)
    (arg9 : Memref sig .tc .vmem S1024x128 .f32) (harg9 : arg9.IsWhole)
    (arg10 : Memref sig .tc .vmem S1024x128 .f32) (harg10 : arg10.IsWhole)
    (arg11 : Memref sig .tc .vmem S1x1024x1 .f32) (harg11 : arg11.IsWhole)
    (arg12 : Memref sig .tc .vmem S1x1024x1 .f32) (harg12 : arg12.IsWhole)
    (x0 : Vec Ideal S1024x128 .bf16) (x1 : Vec Ideal S2048x128 .bf16) (x2 : Vec Ideal S2048x128 .f32)
    (x3 : Vec Ideal S1x1024x1 .f32) (x4 : Vec Ideal S1x2x1x1024 .f32) (x5 : Vec Ideal S1024x128 .f32)
    (x6 : Vec Ideal S1x1024x1 .f32) (x7 : Vec Ideal S1024x128 .f32)
    (h0 : x0 = Q A (1024 * (i 1).val)) (h1 : x1 = mat A.k) (h2 : x2 = mat A.v) (h3 : x3 = Cc A (1024 * (i 1).val)) (h4 : x4 = rows A.c)
    (h5 : x5 = O A (1024 * (i 1).val)) (h6 : x6 = L A (1024 * (i 1).val)) (h7 : x7 = CT A (1024 * (i 1).val))

include hs h1 h2 h4 in
/-- Before each block of earlier keys, the loop carries the sums over the keys so far. -/
theorem st1_carry : ∀ n : ℕ, n ≤ (i 1).val →
    st_k1_t1 (F := Ideal) Variants.none c none i arg2 harg2 arg3 harg3 arg4 harg4 arg5 harg5 arg6 harg6 arg7 harg7 arg8 harg8 arg9 harg9 arg10 harg10 arg11 harg11 arg12 harg12
        (Q A (1024 * (i 1).val)) (Cc A (1024 * (i 1).val)) (CT A (1024 * (i 1).val)) (L A (1024 * (i 1).val)) (O A (1024 * (i 1).val)) (harg3.unread x1) (harg4.unread x2) (harg6.unread x4) (k1_pay8, k1_pay9) n
      = carry1 A (1024 * (i 1).val) (1024 * n)
  | 0, _ => by
    rw [st_k1_t1_zero]
    refine Prod.ext ?_ ?_ <;> funext j
    · unfold k1_pay8
      simp only [pointwise]
      exact EReal.coe_zero.symm.trans (congrArg Real.toEReal (upTo_zero _).symm)
    · unfold k1_pay9
      simp only [pointwise]
      exact EReal.coe_zero.symm.trans (congrArg Real.toEReal (upTo_zero _).symm)
  | n + 1, hn => by
    have hk : n < (k1_t1_loop i).trips := by rw [trips1]; exact hn
    have hi : (i 1).val < 2 := (i 1).isLt
    have ih := st1_carry n (by omega)
    have hstep := dq_before A hs (1024 * (i 1).val) (1024 * n) (by omega) (by omega)
    have hsucc := st_k1_t1_succ (F := Ideal) Variants.none c none i arg2 harg2 arg3 harg3 arg4 harg4 arg5 harg5 arg6 harg6 arg7 harg7 arg8 harg8 arg9 harg9 arg10 harg10 arg11 harg11 arg12 harg12
        (Q A (1024 * (i 1).val)) (Cc A (1024 * (i 1).val)) (CT A (1024 * (i 1).val)) (L A (1024 * (i 1).val)) (O A (1024 * (i 1).val)) (harg3.unread x1) (harg4.unread x2) (harg6.unread x4) (k1_pay8, k1_pay9) ⟨n, hk⟩
    rw [hsucc, ih, show 1024 * (n + 1) = 1024 * n + 1024 from rfl, ← hstep]
    unfold tripR_k1_t1 trip_k1_t1
    dsimp only
    sl_unfold_run_names
    rw [read_matb harg3 x1 A.k (fun y => congrFun h1 y) _ _ (1024 * n) (k1_off1_eq i ⟨n, hk⟩),
      read_mat harg4 x2 A.v (fun y => congrFun h2 y) _ _ (1024 * n) (k1_off1_eq i ⟨n, hk⟩),
      read_rows harg6 x4 A.c (fun y => congrFun h4 y) _ _ n (k1_off2_eq i ⟨n, hk⟩)]

include hs h0 h1 h2 h3 h4 h5 h6 h7 in
/-- The block of the queries' gradient. -/
theorem out1_dq : out1_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7
    = mat fun a d => dquery A (1024 * (i 1).val + a) d := by
  have hi : (i 1).val < 2 := (i 1).isLt
  have h := (dq_own A hs (1024 * (i 1).val) (by omega)).1
  unfold out1_A_8 kernelRun1_A
  rw [View.read_writes_junk_eq_canon]
  dsimp only
  sl_unfold_run_names
  rw [View.canon_unit_zero Mm.zero2]
  have hc := st1_carry A hs c i arg2 harg2 arg3 harg3 arg4 harg4 arg5 harg5 arg6 harg6 arg7 harg7 arg8 harg8 arg9 harg9 arg10 harg10 arg11 harg11 arg12 harg12 x1 x2 x4 h1 h2 h4 (i 1).val (le_refl _)
  have ht2 : (k1_t2_loop i).trips = 0 := Nat.le_zero.mp (k1_t2_abs i).2.1
  have ht1 := trips1 i
  rw [Mm.read_whole harg2 x0 Mm.zero2, Mm.read_whole harg5 x3 zero3, Mm.read_whole harg7 x5 Mm.zero2, Mm.read_whole harg8 x6 zero3,
    Mm.read_whole harg9 x7 Mm.zero2, h0, h3, h5, h6, h7,
    show Scf.trips (k1_t2_loop i).lb (k1_t2_loop i).ub (k1_t2_loop i).st = 0 from ht2,
    show Scf.trips (k1_t1_loop i).lb (k1_t1_loop i).ub (k1_t1_loop i).st = (i 1).val from ht1]
  rw [st_k1_t2_zero, hc]
  rw [read_matb harg3 x1 A.k (fun y => congrFun h1 y) _ _ (1024 * (i 1).val) (k1_off5_eq i),
    read_mat harg4 x2 A.v (fun y => congrFun h2 y) _ _ (1024 * (i 1).val) (k1_off5_eq i),
    read_rows harg6 x4 A.c (fun y => congrFun h4 y) _ _ (i 1).val (k1_off6_eq i)]
  exact h

include hs h0 h1 h2 h3 h4 h5 h6 h7 in
/-- The block of the rows' sums of the logits' gradients. -/
theorem out1_dc : out1_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7
    = col fun a => rowGrad A (1024 * (i 1).val + a) := by
  have hi : (i 1).val < 2 := (i 1).isLt
  have h := (dq_own A hs (1024 * (i 1).val) (by omega)).2.1
  unfold out1_A_9 kernelRun1_A
  rw [View.read_writes_junk_eq_canon]
  dsimp only
  sl_unfold_run_names
  rw [View.canon_unit_zero zero3]
  have hc := st1_carry A hs c i arg2 harg2 arg3 harg3 arg4 harg4 arg5 harg5 arg6 harg6 arg7 harg7 arg8 harg8 arg9 harg9 arg10 harg10 arg11 harg11 arg12 harg12 x1 x2 x4 h1 h2 h4 (i 1).val (le_refl _)
  have ht2 : (k1_t2_loop i).trips = 0 := Nat.le_zero.mp (k1_t2_abs i).2.1
  have ht1 := trips1 i
  rw [Mm.read_whole harg2 x0 Mm.zero2, Mm.read_whole harg5 x3 zero3, Mm.read_whole harg7 x5 Mm.zero2, Mm.read_whole harg8 x6 zero3,
    Mm.read_whole harg9 x7 Mm.zero2, h0, h3, h5, h6, h7,
    show Scf.trips (k1_t2_loop i).lb (k1_t2_loop i).ub (k1_t2_loop i).st = 0 from ht2,
    show Scf.trips (k1_t1_loop i).lb (k1_t1_loop i).ub (k1_t1_loop i).st = (i 1).val from ht1]
  rw [st_k1_t2_zero, hc]
  rw [read_matb harg3 x1 A.k (fun y => congrFun h1 y) _ _ (1024 * (i 1).val) (k1_off5_eq i),
    read_mat harg4 x2 A.v (fun y => congrFun h2 y) _ _ (1024 * (i 1).val) (k1_off5_eq i),
    read_rows harg6 x4 A.c (fun y => congrFun h4 y) _ _ (i 1).val (k1_off6_eq i)]
  exact h

include hs h0 h1 h2 h3 h4 h5 h6 h7 in
/-- The block of the rows' outputs against their gradients. -/
theorem out1_delta : out1_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7
    = col fun a => delta A (1024 * (i 1).val + a) := by
  have hi : (i 1).val < 2 := (i 1).isLt
  have h := (dq_own A hs (1024 * (i 1).val) (by omega)).2.2
  unfold out1_A_10 kernelRun1_A
  rw [View.read_writes_junk_eq_canon]
  dsimp only
  sl_unfold_run_names
  rw [View.canon_unit_zero zero3]
  rw [Mm.read_whole harg7 x5 Mm.zero2, Mm.read_whole harg9 x7 Mm.zero2, h5, h7]
  exact h

end

end Cert.Kernel10Ideal.Hand

end
-- ==== Proof.FoxDkv.lean ====
/- The gradient kernel of the attention's keys and values: a block of probabilities and of the logits' gradients, and what
   its sums carry. -/
module

public import proofs.«01_k».proof.Proof.FoxDq

@[expose] public noncomputable section

set_option maxHeartbeats 1000000

namespace Cert.Kernel10Ideal.Hand

open Idealize.ShloMosaic Idealize.ShloMosaic.TcCoe Idealize.ShloMosaic.Tactic
open Idealize.SL Idealize.SL.RA
open Cert.Kernel10Ideal.Gen Cert.Fox
open scoped BigOperators

variable (A : Fox.Head) (hs : Ideal.ofBits .f32 0x3DB504F3#32 = (A.scale : EReal)) (r s : ℕ)

include hs in
/-- The probabilities of a block of later queries. -/
theorem prob_after (h : r + 1024 ≤ s) (hs2 : s + 1024 ≤ 2048) :
    k2_pay5 (F := Ideal) (K A r) (k2_pay18 (Cr A r)) (Q A s) (Cc A s) (L A s) = mat fun a b => prob A (s + a) (r + b) := by
  funext j
  have h0 : (j 0).val < 1024 := (j 0).isLt
  have h1 : (j 1).val < 1024 := (j 1).isLt
  show _ = ((prob A (s + (j 0).val) (r + (j 1).val) : ℝ) : EReal)
  rw [← exp_prob (by omega), masked, if_pos (by omega), ← logit_block A hs]
  unfold k2_pay5 k2_pay18
  simp only [pointwise, zero_add]
  simp
  rfl

include hs in
/-- The probabilities of a block's own queries. -/
theorem prob_own (hr : r + 1024 ≤ 2048) :
    k2_pay22 (F := Ideal) (K A r) (Cr A r) (Q A r) (Cc A r) (L A r) = mat fun a b => prob A (r + a) (r + b) := by
  funext j
  have h0 : (j 0).val < 1024 := (j 0).isLt
  have h1 : (j 1).val < 1024 := (j 1).isLt
  show _ = ((prob A (r + (j 0).val) (r + (j 1).val) : ℝ) : EReal)
  rw [← exp_prob (by omega), masked, ← logit_block A hs, ← bot_word]
  unfold k2_pay22 k2_pay18
  simp only [pointwise, zero_add]
  simp
  rw [select_le (n := 1024) (j 0).isLt (j 1).isLt (by omega)]
  rfl

/-- The gradients of the logits of a block of later queries. -/
theorem dlogit_after (hp : k2_pay5 (F := Ideal) (K A r) (k2_pay18 (Cr A r)) (Q A s) (Cc A s) (L A s) = mat fun a b => prob A (s + a) (r + b)) :
    k2_pay6 (F := Ideal) (K A r) (V A r) (k2_pay18 (Cr A r)) (Q A s) (CT A s) (Cc A s) (L A s) (Dl A s)
      = mat fun a b => dlogit A (s + a) (r + b) := by
  funext j
  show _ = ((dlogit A (s + (j 0).val) (r + (j 1).val) : ℝ) : EReal)
  rw [← dlogit_block]
  unfold k2_pay6
  rw [hp]
  simp only [pointwise, zero_add]
  simp
  rfl

/-- The gradients of the logits of a block's own queries. -/
theorem dlogit_own :
    k2_pay1 (F := Ideal) (V A r) (mat fun a b => prob A (r + a) (r + b)) (k2_pay23 (CT A r)) (Dl A r)
      = mat fun a b => dlogit A (r + a) (r + b) := by
  funext j
  show _ = ((dlogit A (r + (j 0).val) (r + (j 1).val) : ℝ) : EReal)
  rw [← dlogit_block]
  unfold k2_pay1 k2_pay23
  simp only [pointwise, zero_add]
  simp
  rfl

/-- What the keys from `r` on carry after the queries before `s`. -/
abbrev carry2 : FVec Ideal S1024x128 .f32 × FVec Ideal S1024x128 .f32 × FVec Ideal S1x1024 .f32 :=
  (mat fun a d => upTo s fun i => dlogit A i (r + a) * A.q i d, mat fun a d => upTo s fun i => prob A i (r + a) * A.ct i d,
    line fun a => -upTo s fun i => dlogit A i (r + a))

/-- No earlier query sees a block's keys. -/
theorem carry2_start : (k2_pay19 (F := Ideal), k2_pay20 (F := Ideal), k2_pay21 (F := Ideal)) = carry2 A r r := by
  refine Prod.ext ?_ (Prod.ext ?_ ?_) <;> funext j
  · unfold k2_pay19
    simp only [pointwise]
    exact EReal.coe_zero.symm.trans (congrArg Real.toEReal (upTo_none fun i hi => by rw [dlogit_later (by omega), zero_mul]).symm)
  · unfold k2_pay20
    simp only [pointwise]
    exact EReal.coe_zero.symm.trans (congrArg Real.toEReal (upTo_none fun i hi => by rw [prob_later (by omega), zero_mul]).symm)
  · unfold k2_pay21
    simp only [pointwise]
    exact EReal.coe_zero.symm.trans (congrArg Real.toEReal (neg_eq_zero.mpr (upTo_none fun i hi => dlogit_later (by omega))).symm)

include hs in
/-- The block's own queries. -/
theorem dkv_own (hr : r + 1024 ≤ 2048) :
    (k2_pay2 (F := Ideal) (V A r) (carry2 A r r).1 (Q A r) (k2_pay22 (K A r) (Cr A r) (Q A r) (Cc A r) (L A r)) (k2_pay23 (CT A r)) (Dl A r),
      k2_pay3 (F := Ideal) (carry2 A r r).2.1 (CT A r) (k2_pay22 (K A r) (Cr A r) (Q A r) (Cc A r) (L A r)),
      k2_pay4 (F := Ideal) (V A r) (carry2 A r r).2.2 (k2_pay22 (K A r) (Cr A r) (Q A r) (Cc A r) (L A r)) (k2_pay23 (CT A r)) (Dl A r))
      = carry2 A r (r + 1024) := by
  have hg := dlogit_own A r
  rw [prob_own A hs r hr]
  refine Prod.ext ?_ (Prod.ext ?_ ?_) <;> funext j
  · refine Eq.trans ?_ (step_mul r 1024 (fun i => dlogit A i (r + (j 0).val)) fun i => A.q i (j 1).val)
    unfold k2_pay2
    rw [hg]
    simp only [pointwise, zero_add]
    rfl
  · refine Eq.trans ?_ (step_mul r 1024 (fun i => prob A i (r + (j 0).val)) fun i => A.ct i (j 1).val)
    unfold k2_pay3
    simp only [pointwise, zero_add]
    rfl
  · refine Eq.trans ?_ (step_sub r 1024 fun i => dlogit A i (r + (j 1).val))
    unfold k2_pay4
    rw [hg]
    simp only [pointwise, zero_add]
    rfl

include hs in
/-- One block of later queries. -/
theorem dkv_after (h : r + 1024 ≤ s) (hs2 : s + 1024 ≤ 2048) :
    (k2_pay7 (F := Ideal) (K A r) (V A r) (k2_pay18 (Cr A r)) (carry2 A r s).1 (Q A s) (CT A s) (Cc A s) (L A s) (Dl A s),
      k2_pay8 (F := Ideal) (K A r) (k2_pay18 (Cr A r)) (carry2 A r s).2.1 (Q A s) (CT A s) (Cc A s) (L A s),
      k2_pay9 (F := Ideal) (K A r) (V A r) (k2_pay18 (Cr A r)) (carry2 A r s).2.2 (Q A s) (CT A s) (Cc A s) (L A s) (Dl A s))
      = carry2 A r (s + 1024) := by
  have hp := prob_after A hs r s h hs2
  have hg := dlogit_after A r s hp
  refine Prod.ext ?_ (Prod.ext ?_ ?_) <;> funext j
  · refine Eq.trans ?_ (step_mul s 1024 (fun i => dlogit A i (r + (j 0).val)) fun i => A.q i (j 1).val)
    unfold k2_pay7
    rw [hg]
    simp only [pointwise, zero_add]
    rfl
  · refine Eq.trans ?_ (step_mul s 1024 (fun i => prob A i (r + (j 0).val)) fun i => A.ct i (j 1).val)
    unfold k2_pay8
    rw [hp]
    simp only [pointwise, zero_add]
    rfl
  · refine Eq.trans ?_ (step_sub s 1024 fun i => dlogit A i (r + (j 1).val))
    unfold k2_pay9
    rw [hg]
    simp only [pointwise, zero_add]
    rfl

include hs in
/-- The results of the region. -/
theorem dkv_end :
    k2_pay15 (F := Ideal) (carry2 A r 2048).1 = mat (fun a d => dkey A (r + a) d)
      ∧ k2_pay16 (F := Ideal) (carry2 A r 2048).2.1 = mat (fun a d => dvalue A (r + a) d)
      ∧ k2_pay17 (F := Ideal) (carry2 A r 2048).2.2 = row (fun a => colGrad A (r + a)) := by
  refine ⟨?_, ?_, ?_⟩ <;> funext j
  · show _ = ((dkey A (r + (j 0).val) (j 1).val : ℝ) : EReal)
    unfold dkey k2_pay15
    rw [EReal.coe_mul, ← hs]
    simp only [pointwise]
  · unfold k2_pay16
    simp only [pointwise]
    rfl
  · unfold k2_pay17
    simp only [pointwise]
    simp
    rfl

end Cert.Kernel10Ideal.Hand

end
-- ==== Proof.FoxRun2.lean ====
/- The gradient kernel of the attention's keys and values at one grid point: what its loop over the later blocks of
   queries carries, and its results. -/
module

public import proofs.«01_k».proof.Proof.FoxDkv
public import proofs.«01_k».proof.Proof.FoxRun0

@[expose] public noncomputable section

set_option maxHeartbeats 1000000

namespace Cert.Kernel10Ideal.Hand

open Idealize.ShloMosaic Idealize.ShloMosaic.TcCoe Idealize.ShloMosaic.Tactic
open Idealize.SL Idealize.SL.RA
open Cert.Kernel10Ideal.Gen Cert.Fox

variable (A : Fox.Head) (hs : Ideal.ofBits .f32 0x3DB504F3#32 = (A.scale : EReal))

theorem trips2 (i : grid2.Coords) : (k2_t1_loop i).trips = 1 - (i 1).val := by
  revert i; decide +kernel

theorem zero4 : (![0, 0, 0, 0] : Fin 4 → ℕ) = fun _ => 0 := by decide

section
variable (c : Dev nD) (i : grid2.Coords)
    (arg2 : Memref sig .tc .vmem S2048x128 .bf16) (harg2 : arg2.IsWhole)
    (arg3 : Memref sig .tc .vmem S1024x128 .bf16) (harg3 : arg3.IsWhole)
    (arg4 : Memref sig .tc .vmem S1024x128 .f32) (harg4 : arg4.IsWhole)
    (arg5 : Memref sig .tc .vmem S1x2048x1 .f32) (harg5 : arg5.IsWhole)
    (arg6 : Memref sig .tc .vmem S1x1x1x1024 .f32) (harg6 : arg6.IsWhole)
    (arg7 : Memref sig .tc .vmem S1x2048x1 .f32) (harg7 : arg7.IsWhole)
    (arg8 : Memref sig .tc .vmem S1x2048x1 .f32) (harg8 : arg8.IsWhole)
    (arg9 : Memref sig .tc .vmem S2048x128 .f32) (harg9 : arg9.IsWhole)
    (arg10 : Memref sig .tc .vmem S1024x128 .f32) (harg10 : arg10.IsWhole)
    (arg11 : Memref sig .tc .vmem S1024x128 .bf16) (harg11 : arg11.IsWhole)
    (arg12 : Memref sig .tc .vmem S1x1x1x1024 .f32) (harg12 : arg12.IsWhole)
    (x0 : Vec Ideal S2048x128 .bf16) (x1 : Vec Ideal S1024x128 .bf16) (x2 : Vec Ideal S1024x128 .f32)
    (x3 : Vec Ideal S1x2048x1 .f32) (x4 : Vec Ideal S1x1x1x1024 .f32) (x5 : Vec Ideal S1x2048x1 .f32)
    (x6 : Vec Ideal S1x2048x1 .f32) (x7 : Vec Ideal S2048x128 .f32)
    (h0 : x0 = mat A.q) (h1 : x1 = K A (1024 * (i 1).val)) (h2 : x2 = V A (1024 * (i 1).val)) (h3 : x3 = col A.c) (h4 : x4 = Cr A (1024 * (i 1).val))
    (h5 : x5 = col (lse A)) (h6 : x6 = col (delta A)) (h7 : x7 = mat A.ct)

include hs h0 h3 h5 h6 h7 in
/-- Before each block of later queries, the loop carries the sums over the queries so far. -/
theorem st2_carry : ∀ n : ℕ, n ≤ 1 - (i 1).val →
    st_k2_t1 (F := Ideal) Variants.none c none i arg2 harg2 arg3 harg3 arg4 harg4 arg5 harg5 arg6 harg6 arg7 harg7 arg8 harg8 arg9 harg9 arg10 harg10 arg11 harg11 arg12 harg12
        (K A (1024 * (i 1).val)) (V A (1024 * (i 1).val)) (k2_pay18 (Cr A (1024 * (i 1).val))) (harg2.unread x0) (harg5.unread x3) (harg7.unread x5) (harg8.unread x6) (harg9.unread x7)
        (carry2 A (1024 * (i 1).val) (1024 * (i 1).val + 1024)) n
      = carry2 A (1024 * (i 1).val) (1024 * (i 1).val + 1024 * n + 1024)
  | 0, _ => by rw [st_k2_t1_zero]
  | n + 1, hn => by
    have hk : n < (k2_t1_loop i).trips := by rw [trips2]; exact hn
    have hi : (i 1).val < 2 := (i 1).isLt
    have ih := st2_carry n (by omega)
    have hstep := dkv_after A hs (1024 * (i 1).val) (1024 * (i 1).val + 1024 * n + 1024) (by omega) (by omega)
    have hsucc := st_k2_t1_succ (F := Ideal) Variants.none c none i arg2 harg2 arg3 harg3 arg4 harg4 arg5 harg5 arg6 harg6 arg7 harg7 arg8 harg8 arg9 harg9 arg10 harg10 arg11 harg11 arg12 harg12
        (K A (1024 * (i 1).val)) (V A (1024 * (i 1).val)) (k2_pay18 (Cr A (1024 * (i 1).val))) (harg2.unread x0) (harg5.unread x3) (harg7.unread x5) (harg8.unread x6) (harg9.unread x7)
        (carry2 A (1024 * (i 1).val) (1024 * (i 1).val + 1024)) ⟨n, hk⟩
    rw [hsucc, ih, show 1024 * (i 1).val + 1024 * (n + 1) + 1024 = 1024 * (i 1).val + 1024 * n + 1024 + 1024 by omega, ← hstep]
    unfold tripR_k2_t1 trip_k2_t1
    dsimp only
    sl_unfold_run_names
    rw [read_matb harg2 x0 A.q (fun y => congrFun h0 y) _ _ _ (k2_off3_eq i ⟨n, hk⟩),
      read_mat harg9 x7 A.ct (fun y => congrFun h7 y) _ _ _ (k2_off3_eq i ⟨n, hk⟩),
      read_col harg5 x3 A.c (fun y => congrFun h3 y) _ _ _ (k2_off4_eq i ⟨n, hk⟩),
      read_col harg7 x5 (lse A) (fun y => congrFun h5 y) _ _ _ (k2_off4_eq i ⟨n, hk⟩),
      read_col harg8 x6 (delta A) (fun y => congrFun h6 y) _ _ _ (k2_off4_eq i ⟨n, hk⟩)]

include hs h0 h1 h2 h3 h4 h5 h6 h7 in
/-- The block of the keys' gradient. -/
theorem out2_dk : out2_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7
    = mat fun a d => dkey A (1024 * (i 1).val + a) d := by
  have hi : (i 1).val < 2 := (i 1).isLt
  have h := (dkv_end A hs (1024 * (i 1).val)).1
  have hc := st2_carry A hs c i arg2 harg2 arg3 harg3 arg4 harg4 arg5 harg5 arg6 harg6 arg7 harg7 arg8 harg8 arg9 harg9 arg10 harg10 arg11 harg11 arg12 harg12 x0 x3 x5 x6 x7 h0 h3 h5 h6 h7 (1 - (i 1).val) (le_refl _)
  rw [show 1024 * (i 1).val + 1024 * (1 - (i 1).val) + 1024 = 2048 by omega] at hc
  have hz := carry2_start A (1024 * (i 1).val)
  have hown := dkv_own A hs (1024 * (i 1).val) (by omega)
  rw [← hz] at hown
  have ht2 : (k2_t2_loop i).trips = 0 := Nat.le_zero.mp (k2_t2_abs i).2.1
  have ht1 := trips2 i
  unfold out2_A_8 kernelRun2_A
  rw [View.read_writes_junk_eq_canon]
  dsimp only
  sl_unfold_run_names
  rw [View.canon_unit_zero Mm.zero2]
  rw [Mm.read_whole harg3 x1 Mm.zero2, Mm.read_whole harg4 x2 Mm.zero2, Mm.read_whole harg6 x4 zero4, h1, h2, h4,
    read_matb harg2 x0 A.q (fun y => congrFun h0 y) _ _ _ (k2_off1_eq i),
    read_mat harg9 x7 A.ct (fun y => congrFun h7 y) _ _ _ (k2_off1_eq i),
    read_col harg5 x3 A.c (fun y => congrFun h3 y) _ _ _ (k2_off2_eq i),
    read_col harg7 x5 (lse A) (fun y => congrFun h5 y) _ _ _ (k2_off2_eq i),
    read_col harg8 x6 (delta A) (fun y => congrFun h6 y) _ _ _ (k2_off2_eq i),
    show Scf.trips (k2_t2_loop i).lb (k2_t2_loop i).ub (k2_t2_loop i).st = 0 from ht2,
    show Scf.trips (k2_t1_loop i).lb (k2_t1_loop i).ub (k2_t1_loop i).st = 1 - (i 1).val from ht1]
  rw [st_k2_t2_zero, hown, hc]
  exact h

include hs h0 h1 h2 h3 h4 h5 h6 h7 in
/-- The block of the values' gradient. -/
theorem out2_dv : out2_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7
    = mat fun a d => dvalue A (1024 * (i 1).val + a) d := by
  have hi : (i 1).val < 2 := (i 1).isLt
  have h := (dkv_end A hs (1024 * (i 1).val)).2.1
  have hc := st2_carry A hs c i arg2 harg2 arg3 harg3 arg4 harg4 arg5 harg5 arg6 harg6 arg7 harg7 arg8 harg8 arg9 harg9 arg10 harg10 arg11 harg11 arg12 harg12 x0 x3 x5 x6 x7 h0 h3 h5 h6 h7 (1 - (i 1).val) (le_refl _)
  rw [show 1024 * (i 1).val + 1024 * (1 - (i 1).val) + 1024 = 2048 by omega] at hc
  have hz := carry2_start A (1024 * (i 1).val)
  have hown := dkv_own A hs (1024 * (i 1).val) (by omega)
  rw [← hz] at hown
  have ht2 : (k2_t2_loop i).trips = 0 := Nat.le_zero.mp (k2_t2_abs i).2.1
  have ht1 := trips2 i
  unfold out2_A_9 kernelRun2_A
  rw [View.read_writes_junk_eq_canon]
  dsimp only
  sl_unfold_run_names
  rw [View.canon_unit_zero Mm.zero2]
  rw [Mm.read_whole harg3 x1 Mm.zero2, Mm.read_whole harg4 x2 Mm.zero2, Mm.read_whole harg6 x4 zero4, h1, h2, h4,
    read_matb harg2 x0 A.q (fun y => congrFun h0 y) _ _ _ (k2_off1_eq i),
    read_mat harg9 x7 A.ct (fun y => congrFun h7 y) _ _ _ (k2_off1_eq i),
    read_col harg5 x3 A.c (fun y => congrFun h3 y) _ _ _ (k2_off2_eq i),
    read_col harg7 x5 (lse A) (fun y => congrFun h5 y) _ _ _ (k2_off2_eq i),
    read_col harg8 x6 (delta A) (fun y => congrFun h6 y) _ _ _ (k2_off2_eq i),
    show Scf.trips (k2_t2_loop i).lb (k2_t2_loop i).ub (k2_t2_loop i).st = 0 from ht2,
    show Scf.trips (k2_t1_loop i).lb (k2_t1_loop i).ub (k2_t1_loop i).st = 1 - (i 1).val from ht1]
  rw [st_k2_t2_zero, hown, hc]
  exact h

include hs h0 h1 h2 h3 h4 h5 h6 h7 in
/-- The block of the keys' sums of the logits' gradients, negated. -/
theorem out2_dc : out2_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7
    = row fun a => colGrad A (1024 * (i 1).val + a) := by
  have hi : (i 1).val < 2 := (i 1).isLt
  have h := (dkv_end A hs (1024 * (i 1).val)).2.2
  have hc := st2_carry A hs c i arg2 harg2 arg3 harg3 arg4 harg4 arg5 harg5 arg6 harg6 arg7 harg7 arg8 harg8 arg9 harg9 arg10 harg10 arg11 harg11 arg12 harg12 x0 x3 x5 x6 x7 h0 h3 h5 h6 h7 (1 - (i 1).val) (le_refl _)
  rw [show 1024 * (i 1).val + 1024 * (1 - (i 1).val) + 1024 = 2048 by omega] at hc
  have hz := carry2_start A (1024 * (i 1).val)
  have hown := dkv_own A hs (1024 * (i 1).val) (by omega)
  rw [← hz] at hown
  have ht2 : (k2_t2_loop i).trips = 0 := Nat.le_zero.mp (k2_t2_abs i).2.1
  have ht1 := trips2 i
  unfold out2_A_10 kernelRun2_A
  rw [View.read_writes_junk_eq_canon]
  dsimp only
  sl_unfold_run_names
  rw [View.canon_unit_zero zero4]
  rw [Mm.read_whole harg3 x1 Mm.zero2, Mm.read_whole harg4 x2 Mm.zero2, Mm.read_whole harg6 x4 zero4, h1, h2, h4,
    read_matb harg2 x0 A.q (fun y => congrFun h0 y) _ _ _ (k2_off1_eq i),
    read_mat harg9 x7 A.ct (fun y => congrFun h7 y) _ _ _ (k2_off1_eq i),
    read_col harg5 x3 A.c (fun y => congrFun h3 y) _ _ _ (k2_off2_eq i),
    read_col harg7 x5 (lse A) (fun y => congrFun h5 y) _ _ _ (k2_off2_eq i),
    read_col harg8 x6 (delta A) (fun y => congrFun h6 y) _ _ _ (k2_off2_eq i),
    show Scf.trips (k2_t2_loop i).lb (k2_t2_loop i).ub (k2_t2_loop i).st = 0 from ht2,
    show Scf.trips (k2_t1_loop i).lb (k2_t1_loop i).ub (k2_t1_loop i).st = 1 - (i 1).val from ht1]
  rw [st_k2_t2_zero, hown, hc]
  exact h

end

end Cert.Kernel10Ideal.Hand

end
-- ==== Proof.FoxArrays.lean ====
/- The arrays that hold every head's numbers, and the blocks of them that a point of the grid takes. -/
module

public import proofs.«01_k».proof.Proof.FoxRun0
public import proofs.«01_k».proof.Proof.FoxRun1
public import proofs.«01_k».proof.Proof.FoxRun2
public import Idealize.ShloMosaic.Lib.Pipeline.ValueKit

@[expose] public noncomputable section

set_option maxHeartbeats 1000000

namespace Cert.Fox

open Idealize.ShloMosaic

/-- Each head's matrix, side by side. -/
abbrev wide (g : ℕ → ℕ → ℕ → ℝ) : (⟨2, ![2048, 1024]⟩ : Shape).Idx → EReal :=
  fun y => (g ((y 1).val / 128) (y 0).val ((y 1).val % 128) : EReal)

/-- Each head's numbers, one column each. -/
abbrev vert (g : ℕ → ℕ → ℝ) : (⟨3, ![8, 2048, 1]⟩ : Shape).Idx → EReal := fun y => (g (y 0).val (y 1).val : EReal)

/-- Each head's numbers in two rows of 1024. -/
abbrev tier (g : ℕ → ℕ → ℝ) : (⟨4, ![8, 2, 1, 1024]⟩ : Shape).Idx → EReal :=
  fun y => (g (y 0).val (1024 * (y 1).val + (y 3).val) : EReal)

/-- Each head's matrix, side by side, from column 2176 on. -/
def Right (g : ℕ → ℕ → ℕ → ℝ) (x : (⟨2, ![2048, 3200]⟩ : Shape).Idx → EReal) : Prop :=
  ∀ y, 2176 ≤ (y 1).val → x y = (g (((y 1).val - 2176) / 128) (y 0).val (((y 1).val - 2176) % 128) : EReal)

section Places

variable {a b n : ℕ} {m M : ℕ}

/-- A placement of a block at row `r` and column `s` of a matrix. -/
def MatAt (e : (⟨2, ![m, n]⟩ : Shape).Idx → (⟨2, ![a, b]⟩ : Shape).Idx) (r s : ℕ) : Prop :=
  ∀ y, (e y 0).val = r + (y 0).val ∧ (e y 1).val = s + (y 1).val

/-- A placement of a block of one head's column. -/
def ColAt (e : (⟨3, ![1, m, 1]⟩ : Shape).Idx → (⟨3, ![8, 2048, 1]⟩ : Shape).Idx) (r h : ℕ) : Prop :=
  ∀ y, (e y 0).val = h + (y 0).val ∧ (e y 1).val = r + (y 1).val

/-- A placement of a block of one head's rows. -/
def RowsAt (e : (⟨4, ![1, m, 1, 1024]⟩ : Shape).Idx → (⟨4, ![8, 2, 1, 1024]⟩ : Shape).Idx) (s h : ℕ) : Prop :=
  ∀ y, (e y 0).val = h + (y 0).val ∧ (e y 1).val = s + (y 1).val ∧ (e y 3).val = (y 3).val

variable {r h s : ℕ}

theorem MatAt.wide {e : (⟨2, ![m, 128]⟩ : Shape).Idx → (⟨2, ![2048, 1024]⟩ : Shape).Idx} (he : MatAt e r (h * 128)) (g) :
    (fun y => wide g (e y)) = mat fun a d => g h (r + a) d := by
  funext y
  have h1 : (y 1).val < 128 := (y 1).isLt
  show ((g ((e y 1).val / 128) (e y 0).val ((e y 1).val % 128) : ℝ) : EReal) = _
  rw [(he y).1, (he y).2, show (h * 128 + (y 1).val) / 128 = h by omega, show (h * 128 + (y 1).val) % 128 = (y 1).val by omega]

theorem MatAt.whole {e : (⟨2, ![m, 128]⟩ : Shape).Idx → (⟨2, ![2048, 1024]⟩ : Shape).Idx} (he : MatAt e 0 (h * 128)) (g) :
    (fun y => Fox.wide g (e y)) = mat (g h) := by
  rw [he.wide]; simp only [Nat.zero_add]

theorem MatAt.right {e : (⟨2, ![m, 128]⟩ : Shape).Idx → (⟨2, ![2048, 3200]⟩ : Shape).Idx} (he : MatAt e r ((17 + h) * 128)) {g x}
    (hx : Right g x) : (fun y => x (e y)) = mat fun a d => g h (r + a) d := by
  funext y
  have h1 : (y 1).val < 128 := (y 1).isLt
  have h2 := (he y).2
  show x (e y) = _
  rw [hx _ (by omega), (he y).1, show ((e y 1).val - 2176) / 128 = h by omega, show ((e y 1).val - 2176) % 128 = (y 1).val by omega]

theorem MatAt.right_whole {e : (⟨2, ![m, 128]⟩ : Shape).Idx → (⟨2, ![2048, 3200]⟩ : Shape).Idx} (he : MatAt e 0 ((17 + h) * 128)) {g x}
    (hx : Right g x) : (fun y => x (e y)) = mat (g h) := by
  rw [he.right hx]; simp only [Nat.zero_add]

theorem ColAt.vert {e : (⟨3, ![1, m, 1]⟩ : Shape).Idx → (⟨3, ![8, 2048, 1]⟩ : Shape).Idx} (he : ColAt e r h) (g) :
    (fun y => vert g (e y)) = col fun a => g h (r + a) := by
  funext y
  have h0 : (y 0).val < 1 := (y 0).isLt
  show ((g (e y 0).val (e y 1).val : ℝ) : EReal) = _
  rw [(he y).1, (he y).2, show h + (y 0).val = h by omega]

theorem ColAt.whole {e : (⟨3, ![1, m, 1]⟩ : Shape).Idx → (⟨3, ![8, 2048, 1]⟩ : Shape).Idx} (he : ColAt e 0 h) (g) :
    (fun y => Fox.vert g (e y)) = col (g h) := by
  rw [he.vert]; simp only [Nat.zero_add]

theorem RowsAt.rows {e : (⟨4, ![1, m, 1, 1024]⟩ : Shape).Idx → (⟨4, ![8, 2, 1, 1024]⟩ : Shape).Idx} (he : RowsAt e 0 h) (g) :
    (fun y => tier g (e y)) = rows (g h) := by
  funext y
  have h0 : (y 0).val < 1 := (y 0).isLt
  show ((g (e y 0).val (1024 * (e y 1).val + (e y 3).val) : ℝ) : EReal) = _
  rw [(he y).1, (he y).2.1, (he y).2.2, show h + (y 0).val = h by omega, Nat.zero_add]

theorem RowsAt.row {e : (⟨4, ![1, 1, 1, 1024]⟩ : Shape).Idx → (⟨4, ![8, 2, 1, 1024]⟩ : Shape).Idx} (he : RowsAt e s h) (g) :
    (fun y => tier g (e y)) = row fun a => g h (1024 * s + a) := by
  funext y
  have h0 : (y 0).val < 1 := (y 0).isLt
  have h1 : (y 1).val < 1 := (y 1).isLt
  show ((g (e y 0).val (1024 * (e y 1).val + (e y 3).val) : ℝ) : EReal) = _
  rw [(he y).1, (he y).2.1, (he y).2.2, show h + (y 0).val = h by omega, show s + (y 1).val = s by omega]

end Places

end Cert.Fox

namespace Cert.Kernel10Ideal.Hand

open Idealize.ShloMosaic Idealize.ShloMosaic.TcCoe Idealize.ShloMosaic.Tactic
open Idealize.ShloMosaic.Pipeline
open Idealize.SL Idealize.SL.RA
open Cert.Kernel10Ideal.Gen Cert.Fox

variable (V : (c : Dev nD) → (b : Ref sig .tc) → Buf (Elt Ideal) ((c : Thread nD τ).loc b)) (c : Dev nD) (H : ℕ → Fox.Head)

/-- The arrays that every call takes hold the heads' numbers. -/
structure Holds : Prop where
  q : V c main_arg0 = wide fun h => (H h).q
  k : V c main_arg1 = wide fun h => (H h).k
  v : Right (fun h => (H h).v) (V c main_arg2)
  ct : V c main_arg4 = wide fun h => (H h).ct
  col : V c main_v0 = vert fun h => (H h).c
  row : V c main_v1 = tier fun h => (H h).c

/-- Where the forward call's blocks lie in their arrays. -/
theorem place0 (t : Fin cfg0.N) :
    MatAt (m := 1024) (n := 128) (a := 2048) (b := 1024) (win0_0.blk t).view.emb (1024 * (grid0.coords t 1).val) ((grid0.coords t 0).val * 128)
    ∧ MatAt (m := 2048) (n := 128) (a := 2048) (b := 1024) (win0_1.blk t).view.emb 0 ((grid0.coords t 0).val * 128)
    ∧ MatAt (m := 2048) (n := 128) (a := 2048) (b := 3200) (win0_2.blk t).view.emb 0 ((17 + (grid0.coords t 0).val) * 128)
    ∧ ColAt (m := 1024) (win0_3.blk t).view.emb (1024 * (grid0.coords t 1).val) (grid0.coords t 0).val
    ∧ RowsAt (m := 2) (win0_4.blk t).view.emb 0 (grid0.coords t 0).val
    ∧ MatAt (m := 1024) (n := 128) (a := 2048) (b := 1024) (win0_5.blk t).view.emb (1024 * (grid0.coords t 1).val) ((grid0.coords t 0).val * 128)
    ∧ ColAt (m := 1024) (win0_6.blk t).view.emb (1024 * (grid0.coords t 1).val) (grid0.coords t 0).val := by
  have h : ∀ t : Fin cfg0.N,
      (win0_0.index t 0 = (grid0.coords t 1).val ∧ win0_0.index t 1 = (grid0.coords t 0).val)
      ∧ (win0_1.index t 0 = 0 ∧ win0_1.index t 1 = (grid0.coords t 0).val)
      ∧ (win0_2.index t 0 = 0 ∧ win0_2.index t 1 = 17 + (grid0.coords t 0).val)
      ∧ (win0_3.index t 0 = (grid0.coords t 0).val ∧ win0_3.index t 1 = (grid0.coords t 1).val)
      ∧ (win0_4.index t 0 = (grid0.coords t 0).val ∧ win0_4.index t 1 = 0 ∧ win0_4.index t 3 = 0)
      ∧ (win0_5.index t 0 = (grid0.coords t 1).val ∧ win0_5.index t 1 = (grid0.coords t 0).val)
      ∧ (win0_6.index t 0 = (grid0.coords t 0).val ∧ win0_6.index t 1 = (grid0.coords t 1).val) := by decide +kernel
  obtain ⟨i0, i1, i2, i3, i4, i5, i6⟩ := h t
  unfold MatAt ColAt RowsAt
  blk_simp
  simp only [i0, i1, i2, i3, i4, i5, i6, Nat.zero_mul, Nat.zero_add, Nat.mul_one, Nat.mul_comm 1024, and_self, implies_true]

end Cert.Kernel10Ideal.Hand

end
-- ==== Proof.FoxResults.lean ====
/- What the three calls leave in their arrays: the output and the rows' log-sums, the gradients of the queries, and those of
   the keys and values. -/
module

public import proofs.«01_k».proof.Proof.FoxArrays

@[expose] public noncomputable section

set_option maxHeartbeats 200000

namespace Cert.Kernel10Ideal.Hand

open Idealize.ShloMosaic Idealize.ShloMosaic.TcCoe Idealize.ShloMosaic.Tactic
open Idealize.ShloMosaic.Pipeline
open Idealize.SL Idealize.SL.RA
open Cert.Kernel10Ideal.Gen Cert.Fox

variable (V : (c : Dev nD) → (b : Ref sig .tc) → Buf (Elt Ideal) ((c : Thread nD τ).loc b)) (c : Dev nD) (H : ℕ → Fox.Head)
    (hs : ∀ h, Ideal.ofBits .f32 0x3DB504F3#32 = ((H h).scale : EReal)) (hV : Holds V c H)

section Forward

include hV

theorem q0 (t : Fin cfg0.N) : iblk0 V c 0 t = Q (H (grid0.coords t 0).val) (1024 * (grid0.coords t 1).val) := by
  refine Eq.trans ?_ ((place0 t).1.wide fun h => (H h).q)
  rw [← hV.q]; rfl

theorem k0 (t : Fin cfg0.N) : iblk0 V c 1 t = (mat (H (grid0.coords t 0).val).k : (⟨2, ![2048, 128]⟩ : Shape).Idx → EReal) := by
  refine Eq.trans ?_ ((place0 t).2.1.whole fun h => (H h).k)
  rw [← hV.k]; rfl

theorem v0 (t : Fin cfg0.N) : iblk0 V c 2 t = (mat (H (grid0.coords t 0).val).v : (⟨2, ![2048, 128]⟩ : Shape).Idx → EReal) :=
  (place0 t).2.2.1.right_whole hV.v

theorem c0 (t : Fin cfg0.N) : iblk0 V c 3 t = Cc (H (grid0.coords t 0).val) (1024 * (grid0.coords t 1).val) := by
  refine Eq.trans ?_ ((place0 t).2.2.2.1.vert fun h => (H h).c)
  rw [← hV.col]; rfl

theorem r0 (t : Fin cfg0.N) : iblk0 V c 4 t = (rows (H (grid0.coords t 0).val).c : (⟨4, ![1, 2, 1, 1024]⟩ : Shape).Idx → EReal) := by
  refine Eq.trans ?_ ((place0 t).2.2.2.2.1.rows fun h => (H h).c)
  rw [← hV.row]; rfl

include hs

/-- The output of every head. -/
theorem arr0_out : (dat0 (F := Ideal) V c).arrAt 5 cfg0.N = wide fun h => out (H h) := by
  refine (dat0 (F := Ideal) V c).arrAt_eq_of_covers 5 _ (by decide +kernel) fun t hf y => ?_
  blk_simp
  rw [after0_5]
  have e := out0_o (H (grid0.coords t 0).val) (hs _) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t)
    (q0 V c H hV t) (k0 V c H hV t) (v0 V c H hV t) (c0 V c H hV t) (r0 V c H hV t)
  unfold outsAt0
  dsimp only
  rw [e]
  exact (congrFun ((place0 t).2.2.2.2.2.1.wide fun h => out (H h)) y).symm

/-- The log-sums of every head's rows. -/
theorem arr0_lse : (dat0 (F := Ideal) V c).arrAt 6 cfg0.N = vert fun h => lse (H h) := by
  refine (dat0 (F := Ideal) V c).arrAt_eq_of_covers 6 _ (by decide +kernel) fun t hf y => ?_
  blk_simp
  rw [after0_6]
  have e := out0_lse (H (grid0.coords t 0).val) (hs _) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t)
    (q0 V c H hV t) (k0 V c H hV t) (v0 V c H hV t) (c0 V c H hV t) (r0 V c H hV t)
  unfold outsAt0
  dsimp only
  rw [e]
  exact (congrFun ((place0 t).2.2.2.2.2.2.vert fun h => lse (H h)) y).symm

end Forward

/-- Where the blocks of the queries' gradient call lie in their arrays. -/
theorem place1 (t : Fin cfg1.N) :
    MatAt (m := 1024) (n := 128) (a := 2048) (b := 1024) (win1_0.blk t).view.emb (1024 * (grid1.coords t 1).val) ((grid1.coords t 0).val * 128)
    ∧ MatAt (m := 2048) (n := 128) (a := 2048) (b := 1024) (win1_1.blk t).view.emb 0 ((grid1.coords t 0).val * 128)
    ∧ MatAt (m := 2048) (n := 128) (a := 2048) (b := 3200) (win1_2.blk t).view.emb 0 ((17 + (grid1.coords t 0).val) * 128)
    ∧ ColAt (m := 1024) (win1_3.blk t).view.emb (1024 * (grid1.coords t 1).val) (grid1.coords t 0).val
    ∧ RowsAt (m := 2) (win1_4.blk t).view.emb 0 (grid1.coords t 0).val
    ∧ MatAt (m := 1024) (n := 128) (a := 2048) (b := 1024) (win1_5.blk t).view.emb (1024 * (grid1.coords t 1).val) ((grid1.coords t 0).val * 128)
    ∧ ColAt (m := 1024) (win1_6.blk t).view.emb (1024 * (grid1.coords t 1).val) (grid1.coords t 0).val
    ∧ MatAt (m := 1024) (n := 128) (a := 2048) (b := 1024) (win1_7.blk t).view.emb (1024 * (grid1.coords t 1).val) ((grid1.coords t 0).val * 128)
    ∧ MatAt (m := 1024) (n := 128) (a := 2048) (b := 1024) (win1_8.blk t).view.emb (1024 * (grid1.coords t 1).val) ((grid1.coords t 0).val * 128)
    ∧ ColAt (m := 1024) (win1_9.blk t).view.emb (1024 * (grid1.coords t 1).val) (grid1.coords t 0).val
    ∧ ColAt (m := 1024) (win1_10.blk t).view.emb (1024 * (grid1.coords t 1).val) (grid1.coords t 0).val := by
  have h : ∀ t : Fin cfg1.N,
      (win1_0.index t 0 = (grid1.coords t 1).val ∧ win1_0.index t 1 = (grid1.coords t 0).val)
      ∧ (win1_1.index t 0 = 0 ∧ win1_1.index t 1 = (grid1.coords t 0).val)
      ∧ (win1_2.index t 0 = 0 ∧ win1_2.index t 1 = 17 + (grid1.coords t 0).val)
      ∧ (win1_3.index t 0 = (grid1.coords t 0).val ∧ win1_3.index t 1 = (grid1.coords t 1).val)
      ∧ (win1_4.index t 0 = (grid1.coords t 0).val ∧ win1_4.index t 1 = 0 ∧ win1_4.index t 3 = 0)
      ∧ (win1_5.index t 0 = (grid1.coords t 1).val ∧ win1_5.index t 1 = (grid1.coords t 0).val)
      ∧ (win1_6.index t 0 = (grid1.coords t 0).val ∧ win1_6.index t 1 = (grid1.coords t 1).val)
      ∧ (win1_7.index t 0 = (grid1.coords t 1).val ∧ win1_7.index t 1 = (grid1.coords t 0).val)
      ∧ (win1_8.index t 0 = (grid1.coords t 1).val ∧ win1_8.index t 1 = (grid1.coords t 0).val)
      ∧ (win1_9.index t 0 = (grid1.coords t 0).val ∧ win1_9.index t 1 = (grid1.coords t 1).val)
      ∧ (win1_10.index t 0 = (grid1.coords t 0).val ∧ win1_10.index t 1 = (grid1.coords t 1).val) := by decide +kernel
  obtain ⟨i0, i1, i2, i3, i4, i5, i6, i7, i8, i9, i10⟩ := h t
  unfold MatAt ColAt RowsAt
  blk_simp
  simp only [i0, i1, i2, i3, i4, i5, i6, i7, i8, i9, i10, Nat.zero_mul, Nat.zero_add, Nat.mul_one, Nat.mul_comm 1024, and_self, implies_true]

section Queries

variable (ho : V c main_v2_0 = wide fun h => out (H h)) (hl : V c main_v2_1 = vert fun h => lse (H h))

include hs hV ho hl

/-- The blocks that a point of the grid takes. -/
theorem blocks1 (t : Fin cfg1.N) :
    iblk1 V c 0 t = Q (H (grid1.coords t 0).val) (1024 * (grid1.coords t 1).val)
    ∧ iblk1 V c 1 t = (mat (H (grid1.coords t 0).val).k : (⟨2, ![2048, 128]⟩ : Shape).Idx → EReal)
    ∧ iblk1 V c 2 t = (mat (H (grid1.coords t 0).val).v : (⟨2, ![2048, 128]⟩ : Shape).Idx → EReal)
    ∧ iblk1 V c 3 t = Cc (H (grid1.coords t 0).val) (1024 * (grid1.coords t 1).val)
    ∧ iblk1 V c 4 t = (rows (H (grid1.coords t 0).val).c : (⟨4, ![1, 2, 1, 1024]⟩ : Shape).Idx → EReal)
    ∧ iblk1 V c 5 t = O (H (grid1.coords t 0).val) (1024 * (grid1.coords t 1).val)
    ∧ iblk1 V c 6 t = L (H (grid1.coords t 0).val) (1024 * (grid1.coords t 1).val)
    ∧ iblk1 V c 7 t = CT (H (grid1.coords t 0).val) (1024 * (grid1.coords t 1).val) := by
  have b0 : iblk1 V c 0 t = Q (H (grid1.coords t 0).val) (1024 * (grid1.coords t 1).val) := by
    refine Eq.trans ?_ ((place1 t).1.wide fun h => (H h).q)
    rw [← hV.q]; rfl
  have b1 : iblk1 V c 1 t = (mat (H (grid1.coords t 0).val).k : (⟨2, ![2048, 128]⟩ : Shape).Idx → EReal) := by
    refine Eq.trans ?_ ((place1 t).2.1.whole fun h => (H h).k)
    rw [← hV.k]; rfl
  have b2 : iblk1 V c 2 t = (mat (H (grid1.coords t 0).val).v : (⟨2, ![2048, 128]⟩ : Shape).Idx → EReal) := by
    exact (place1 t).2.2.1.right_whole hV.v
  have b3 : iblk1 V c 3 t = Cc (H (grid1.coords t 0).val) (1024 * (grid1.coords t 1).val) := by
    refine Eq.trans ?_ ((place1 t).2.2.2.1.vert fun h => (H h).c)
    rw [← hV.col]; rfl
  have b4 : iblk1 V c 4 t = (rows (H (grid1.coords t 0).val).c : (⟨4, ![1, 2, 1, 1024]⟩ : Shape).Idx → EReal) := by
    refine Eq.trans ?_ ((place1 t).2.2.2.2.1.rows fun h => (H h).c)
    rw [← hV.row]; rfl
  have b5 : iblk1 V c 5 t = O (H (grid1.coords t 0).val) (1024 * (grid1.coords t 1).val) := by
    refine Eq.trans ?_ ((place1 t).2.2.2.2.2.1.wide fun h => out (H h))
    rw [← ho]; rfl
  have b6 : iblk1 V c 6 t = L (H (grid1.coords t 0).val) (1024 * (grid1.coords t 1).val) := by
    refine Eq.trans ?_ ((place1 t).2.2.2.2.2.2.1.vert fun h => lse (H h))
    rw [← hl]; rfl
  have b7 : iblk1 V c 7 t = CT (H (grid1.coords t 0).val) (1024 * (grid1.coords t 1).val) := by
    refine Eq.trans ?_ ((place1 t).2.2.2.2.2.2.2.1.wide fun h => (H h).ct)
    rw [← hV.ct]; rfl
  exact ⟨b0, b1, b2, b3, b4, b5, b6, b7⟩

/-- The gradients of the queries. -/
theorem arr1_dq : (dat1 (F := Ideal) V c).arrAt 8 cfg1.N = wide fun h => dquery (H h) := by
  refine (dat1 (F := Ideal) V c).arrAt_eq_of_covers 8 _ (by decide +kernel) fun t hf y => ?_
  blk_simp
  rw [after1_8]
  obtain ⟨b0, b1, b2, b3, b4, b5, b6, b7⟩ := blocks1 V c H hs hV ho hl t
  have e := out1_dq (H (grid1.coords t 0).val) (hs _) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
    (iblk1 V c 0 t) (iblk1 V c 1 t) (iblk1 V c 2 t) (iblk1 V c 3 t) (iblk1 V c 4 t) (iblk1 V c 5 t) (iblk1 V c 6 t) (iblk1 V c 7 t)
    b0 b1 b2 b3 b4 b5 b6 b7
  unfold outsAt1
  dsimp only
  rw [e]
  exact (congrFun ((place1 t).2.2.2.2.2.2.2.2.1.wide fun h => dquery (H h)) y).symm

/-- The logits' gradients summed along the rows. -/
theorem arr1_dc : (dat1 (F := Ideal) V c).arrAt 9 cfg1.N = vert fun h => rowGrad (H h) := by
  refine (dat1 (F := Ideal) V c).arrAt_eq_of_covers 9 _ (by decide +kernel) fun t hf y => ?_
  blk_simp
  rw [after1_9]
  obtain ⟨b0, b1, b2, b3, b4, b5, b6, b7⟩ := blocks1 V c H hs hV ho hl t
  have e := out1_dc (H (grid1.coords t 0).val) (hs _) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
    (iblk1 V c 0 t) (iblk1 V c 1 t) (iblk1 V c 2 t) (iblk1 V c 3 t) (iblk1 V c 4 t) (iblk1 V c 5 t) (iblk1 V c 6 t) (iblk1 V c 7 t)
    b0 b1 b2 b3 b4 b5 b6 b7
  unfold outsAt1
  dsimp only
  rw [e]
  exact (congrFun ((place1 t).2.2.2.2.2.2.2.2.2.1.vert fun h => rowGrad (H h)) y).symm

/-- The rows' outputs against their gradients. -/
theorem arr1_delta : (dat1 (F := Ideal) V c).arrAt 10 cfg1.N = vert fun h => delta (H h) := by
  refine (dat1 (F := Ideal) V c).arrAt_eq_of_covers 10 _ (by decide +kernel) fun t hf y => ?_
  blk_simp
  rw [after1_10]
  obtain ⟨b0, b1, b2, b3, b4, b5, b6, b7⟩ := blocks1 V c H hs hV ho hl t
  have e := out1_delta (H (grid1.coords t 0).val) (hs _) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t)
    (iblk1 V c 0 t) (iblk1 V c 1 t) (iblk1 V c 2 t) (iblk1 V c 3 t) (iblk1 V c 4 t) (iblk1 V c 5 t) (iblk1 V c 6 t) (iblk1 V c 7 t)
    b0 b1 b2 b3 b4 b5 b6 b7
  unfold outsAt1
  dsimp only
  rw [e]
  exact (congrFun ((place1 t).2.2.2.2.2.2.2.2.2.2.vert fun h => delta (H h)) y).symm

end Queries

/-- Where the blocks of the keys' and values' gradient call lie in their arrays. -/
theorem place2 (t : Fin cfg2.N) :
    MatAt (m := 2048) (n := 128) (a := 2048) (b := 1024) (win2_0.blk t).view.emb 0 ((grid2.coords t 0).val * 128)
    ∧ MatAt (m := 1024) (n := 128) (a := 2048) (b := 1024) (win2_1.blk t).view.emb (1024 * (grid2.coords t 1).val) ((grid2.coords t 0).val * 128)
    ∧ MatAt (m := 1024) (n := 128) (a := 2048) (b := 3200) (win2_2.blk t).view.emb (1024 * (grid2.coords t 1).val) ((17 + (grid2.coords t 0).val) * 128)
    ∧ ColAt (m := 2048) (win2_3.blk t).view.emb 0 (grid2.coords t 0).val
    ∧ RowsAt (m := 1) (win2_4.blk t).view.emb (grid2.coords t 1).val (grid2.coords t 0).val
    ∧ ColAt (m := 2048) (win2_5.blk t).view.emb 0 (grid2.coords t 0).val
    ∧ ColAt (m := 2048) (win2_6.blk t).view.emb 0 (grid2.coords t 0).val
    ∧ MatAt (m := 2048) (n := 128) (a := 2048) (b := 1024) (win2_7.blk t).view.emb 0 ((grid2.coords t 0).val * 128)
    ∧ MatAt (m := 1024) (n := 128) (a := 2048) (b := 1024) (win2_8.blk t).view.emb (1024 * (grid2.coords t 1).val) ((grid2.coords t 0).val * 128)
    ∧ MatAt (m := 1024) (n := 128) (a := 2048) (b := 3200) (win2_9.blk t).view.emb (1024 * (grid2.coords t 1).val) ((17 + (grid2.coords t 0).val) * 128)
    ∧ RowsAt (m := 1) (win2_10.blk t).view.emb (grid2.coords t 1).val (grid2.coords t 0).val := by
  have h : ∀ t : Fin cfg2.N,
      (win2_0.index t 0 = 0 ∧ win2_0.index t 1 = (grid2.coords t 0).val)
      ∧ (win2_1.index t 0 = (grid2.coords t 1).val ∧ win2_1.index t 1 = (grid2.coords t 0).val)
      ∧ (win2_2.index t 0 = (grid2.coords t 1).val ∧ win2_2.index t 1 = 17 + (grid2.coords t 0).val)
      ∧ (win2_3.index t 0 = (grid2.coords t 0).val ∧ win2_3.index t 1 = 0)
      ∧ (win2_4.index t 0 = (grid2.coords t 0).val ∧ win2_4.index t 1 = (grid2.coords t 1).val ∧ win2_4.index t 3 = 0)
      ∧ (win2_5.index t 0 = (grid2.coords t 0).val ∧ win2_5.index t 1 = 0)
      ∧ (win2_6.index t 0 = (grid2.coords t 0).val ∧ win2_6.index t 1 = 0)
      ∧ (win2_7.index t 0 = 0 ∧ win2_7.index t 1 = (grid2.coords t 0).val)
      ∧ (win2_8.index t 0 = (grid2.coords t 1).val ∧ win2_8.index t 1 = (grid2.coords t 0).val)
      ∧ (win2_9.index t 0 = (grid2.coords t 1).val ∧ win2_9.index t 1 = 17 + (grid2.coords t 0).val)
      ∧ (win2_10.index t 0 = (grid2.coords t 0).val ∧ win2_10.index t 1 = (grid2.coords t 1).val ∧ win2_10.index t 3 = 0) := by decide +kernel
  obtain ⟨i0, i1, i2, i3, i4, i5, i6, i7, i8, i9, i10⟩ := h t
  unfold MatAt ColAt RowsAt
  blk_simp
  simp only [i0, i1, i2, i3, i4, i5, i6, i7, i8, i9, i10, Nat.zero_mul, Nat.zero_add, Nat.mul_one, Nat.mul_comm 1024, and_self, implies_true]

section Keys

variable (hl : V c main_v2_1 = vert fun h => lse (H h)) (hd : V c main_v3_2 = vert fun h => delta (H h))

include hs hV hl hd

/-- The blocks that a point of the grid takes. -/
theorem blocks2 (t : Fin cfg2.N) :
    iblk2 V c 0 t = (mat (H (grid2.coords t 0).val).q : (⟨2, ![2048, 128]⟩ : Shape).Idx → EReal)
    ∧ iblk2 V c 1 t = K (H (grid2.coords t 0).val) (1024 * (grid2.coords t 1).val)
    ∧ iblk2 V c 2 t = Cert.Kernel10Ideal.Hand.V (H (grid2.coords t 0).val) (1024 * (grid2.coords t 1).val)
    ∧ iblk2 V c 3 t = (col (H (grid2.coords t 0).val).c : (⟨3, ![1, 2048, 1]⟩ : Shape).Idx → EReal)
    ∧ iblk2 V c 4 t = Cr (H (grid2.coords t 0).val) (1024 * (grid2.coords t 1).val)
    ∧ iblk2 V c 5 t = (col (lse (H (grid2.coords t 0).val)) : (⟨3, ![1, 2048, 1]⟩ : Shape).Idx → EReal)
    ∧ iblk2 V c 6 t = (col (delta (H (grid2.coords t 0).val)) : (⟨3, ![1, 2048, 1]⟩ : Shape).Idx → EReal)
    ∧ iblk2 V c 7 t = (mat (H (grid2.coords t 0).val).ct : (⟨2, ![2048, 128]⟩ : Shape).Idx → EReal) := by
  have b0 : iblk2 V c 0 t = (mat (H (grid2.coords t 0).val).q : (⟨2, ![2048, 128]⟩ : Shape).Idx → EReal) := by
    refine Eq.trans ?_ ((place2 t).1.whole fun h => (H h).q)
    rw [← hV.q]; rfl
  have b1 : iblk2 V c 1 t = K (H (grid2.coords t 0).val) (1024 * (grid2.coords t 1).val) := by
    refine Eq.trans ?_ ((place2 t).2.1.wide fun h => (H h).k)
    rw [← hV.k]; rfl
  have b2 : iblk2 V c 2 t = Cert.Kernel10Ideal.Hand.V (H (grid2.coords t 0).val) (1024 * (grid2.coords t 1).val) := by
    exact (place2 t).2.2.1.right hV.v
  have b3 : iblk2 V c 3 t = (col (H (grid2.coords t 0).val).c : (⟨3, ![1, 2048, 1]⟩ : Shape).Idx → EReal) := by
    refine Eq.trans ?_ ((place2 t).2.2.2.1.whole fun h => (H h).c)
    rw [← hV.col]; rfl
  have b4 : iblk2 V c 4 t = Cr (H (grid2.coords t 0).val) (1024 * (grid2.coords t 1).val) := by
    refine Eq.trans ?_ ((place2 t).2.2.2.2.1.row fun h => (H h).c)
    rw [← hV.row]; rfl
  have b5 : iblk2 V c 5 t = (col (lse (H (grid2.coords t 0).val)) : (⟨3, ![1, 2048, 1]⟩ : Shape).Idx → EReal) := by
    refine Eq.trans ?_ ((place2 t).2.2.2.2.2.1.whole fun h => lse (H h))
    rw [← hl]; rfl
  have b6 : iblk2 V c 6 t = (col (delta (H (grid2.coords t 0).val)) : (⟨3, ![1, 2048, 1]⟩ : Shape).Idx → EReal) := by
    refine Eq.trans ?_ ((place2 t).2.2.2.2.2.2.1.whole fun h => delta (H h))
    rw [← hd]; rfl
  have b7 : iblk2 V c 7 t = (mat (H (grid2.coords t 0).val).ct : (⟨2, ![2048, 128]⟩ : Shape).Idx → EReal) := by
    refine Eq.trans ?_ ((place2 t).2.2.2.2.2.2.2.1.whole fun h => (H h).ct)
    rw [← hV.ct]; rfl
  exact ⟨b0, b1, b2, b3, b4, b5, b6, b7⟩

/-- The gradients of the keys. -/
theorem arr2_dk : (dat2 (F := Ideal) V c).arrAt 8 cfg2.N = wide fun h => dkey (H h) := by
  refine (dat2 (F := Ideal) V c).arrAt_eq_of_covers 8 _ (by decide +kernel) fun t hf y => ?_
  blk_simp
  rw [after2_8]
  obtain ⟨b0, b1, b2, b3, b4, b5, b6, b7⟩ := blocks2 V c H hs hV hl hd t
  have e := out2_dk (H (grid2.coords t 0).val) (hs _) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t)
    (iblk2 V c 0 t) (iblk2 V c 1 t) (iblk2 V c 2 t) (iblk2 V c 3 t) (iblk2 V c 4 t) (iblk2 V c 5 t) (iblk2 V c 6 t) (iblk2 V c 7 t)
    b0 b1 b2 b3 b4 b5 b6 b7
  unfold outsAt2
  dsimp only
  rw [e]
  exact (congrFun ((place2 t).2.2.2.2.2.2.2.2.1.wide fun h => dkey (H h)) y).symm

/-- The logits' gradients summed along the keys. -/
theorem arr2_dc : (dat2 (F := Ideal) V c).arrAt 10 cfg2.N = tier fun h => colGrad (H h) := by
  refine (dat2 (F := Ideal) V c).arrAt_eq_of_covers 10 _ (by decide +kernel) fun t hf y => ?_
  blk_simp
  rw [after2_10]
  obtain ⟨b0, b1, b2, b3, b4, b5, b6, b7⟩ := blocks2 V c H hs hV hl hd t
  have e := out2_dc (H (grid2.coords t 0).val) (hs _) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t)
    (iblk2 V c 0 t) (iblk2 V c 1 t) (iblk2 V c 2 t) (iblk2 V c 3 t) (iblk2 V c 4 t) (iblk2 V c 5 t) (iblk2 V c 6 t) (iblk2 V c 7 t)
    b0 b1 b2 b3 b4 b5 b6 b7
  unfold outsAt2
  dsimp only
  rw [e]
  exact (congrFun ((place2 t).2.2.2.2.2.2.2.2.2.2.row fun h => colGrad (H h)) y).symm

/-- The gradients of the values: the columns from 2176 on. -/
theorem arr2_dv : Right (fun h => dvalue (H h)) ((dat2 (F := Ideal) V c).arrAt 9 cfg2.N) := by
  intro y hy
  refine ((dat2 (F := Ideal) V c).arrAt_apply_of_coversWhere 9 (P := fun y : (⟨2, ![2048, 3200]⟩ : Shape).Idx => 17 ≤ (y 1).val / 128)
    (fun y : (⟨2, ![2048, 3200]⟩ : Shape).Idx => (dvalue (H (((y 1).val - 2176) / 128)) (y 0).val (((y 1).val - 2176) % 128) : EReal))
    (fun β => 17 ≤ β (1 : Fin 2)) (by decide +kernel) (fun t hf y => ?_) (fun j => Iff.rfl) y).trans (if_pos (by omega))
  blk_simp
  rw [after2_9]
  obtain ⟨b0, b1, b2, b3, b4, b5, b6, b7⟩ := blocks2 V c H hs hV hl hd t
  have e := out2_dv (H (grid2.coords t 0).val) (hs _) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t)
    (iblk2 V c 0 t) (iblk2 V c 1 t) (iblk2 V c 2 t) (iblk2 V c 3 t) (iblk2 V c 4 t) (iblk2 V c 5 t) (iblk2 V c 6 t) (iblk2 V c 7 t)
    b0 b1 b2 b3 b4 b5 b6 b7
  unfold outsAt2
  dsimp only
  rw [e]
  have h1 : (y 1).val < 128 := (y 1).isLt
  have h0 := (place2 t).2.2.2.2.2.2.2.2.2.1 y
  have hb : ∀ z : (⟨2, ![2048, 3200]⟩ : Shape).Idx, (z 0).val = 1024 * (grid2.coords t 1).val + (y 0).val →
      (z 1).val = (17 + (grid2.coords t 0).val) * 128 + (y 1).val →
      ((dvalue (H (grid2.coords t 0).val) (1024 * (grid2.coords t 1).val + (y 0).val) (y 1).val : ℝ) : EReal)
        = (dvalue (H (((z 1).val - 2176) / 128)) (z 0).val (((z 1).val - 2176) % 128) : EReal) := by
    intro z z0 z1
    rw [z0, z1, show ((17 + (grid2.coords t 0).val) * 128 + (y 1).val - 2176) / 128 = (grid2.coords t 0).val by omega,
      show ((17 + (grid2.coords t 0).val) * 128 + (y 1).val - 2176) % 128 = (y 1).val by omega]
  have h2 := hb _ h0.1 h0.2
  blk_simp at h2
  exact h2

end Keys

end Cert.Kernel10Ideal.Hand

end
-- ==== Proof.FoxRef.lean ====
/- The forgetting attention: what the reference leaves. -/
module

public import proofs.«01_k».proof.Proof.Gen.Reference10Ideal.Run
public import proofs.«01_k».proof.Proof.FoxBlock

@[expose] public noncomputable section

set_option maxHeartbeats 200000

namespace Cert.Reference10Ideal.Hand

open Idealize.ShloMosaic Idealize.ShloMosaic.TcCoe Idealize.ShloMosaic.ValueIdx
open Cert.Reference10Ideal.Gen Cert.Reference10Ideal.Value Cert.Fox Cert.Gdn
open scoped BigOperators

/-- Each head's matrix on its own, from the matrices side by side. -/
def apart (x : FVec Ideal S2048x1024 .f32) : FVec Ideal S8x2048x128 .f32 :=
  transpose S8x2048x128 [1, 0, 2] (shapeCast _ x shapeCasts_S2048x1024_S2048x8x128) transposes_S2048x8x128_S8x2048x128_1_0_2

/-- The matrices side by side again. -/
def together (x : FVec Ideal S8x2048x128 .f32) : FVec Ideal S2048x1024 .f32 :=
  shapeCast _ (transpose S2048x8x128 [1, 0, 2] x transposes_S8x2048x128_S2048x8x128_1_0_2) shapeCasts_S2048x8x128_S2048x1024

/-- The keys that are not later than the query. -/
def mask : IVec S8x2048x2048 1 :=
  broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- A number of every row, along the row's keys. -/
def across (x : FVec Ideal S8x2048 .f32) : FVec Ideal S8x2048x2048 .f32 :=
  broadcastInDim S8x2048x2048 ![0, 1, 2] bcast_S8x2048x1_S8x2048x2048_0_1_2 (broadcastInDim S8x2048x1 ![0, 1] bcast_S8x2048_S8x2048x1_0_1 x)

/-- The products of every row of one matrix with every row of another. -/
def pairs (x y : FVec Ideal S8x2048x128 .f32) : FVec Ideal S8x2048x2048 .f32 :=
  Host.dotGeneral dot_S8x2048x128_S8x2048x128_S8x2048x2048_2_2_1_1_0_0 none x y

/-- The masked logits. -/
def logits (q k : FVec Ideal S8x2048x128 .f32) (c : FVec Ideal S8x2048 .f32) : FVec Ideal S8x2048x2048 .f32 :=
  select mask (subf (addf (mulf (pairs q k) (broadcastInDim S8x2048x2048 ![] bcast_S_S8x2048x2048 (constant S_ .f32 0x3DB504F3#32))) (across c))
      (broadcastInDim S8x2048x2048 ![0, 1, 2] bcast_S8x1x2048_S8x2048x2048_0_1_2 (broadcastInDim S8x1x2048 ![0, 2] bcast_S8x2048_S8x1x2048_0_2 c)))
    (broadcastInDim S8x2048x2048 ![] bcast_S_S8x2048x2048 (id (constant S_ .f32 0xFF800000#32)))

/-- The greatest logit of every row. -/
def top (s : FVec Ideal S8x2048x2048 .f32) : FVec Ideal S8x2048 .f32 :=
  maximumf (broadcastInDim S8x2048 ![] bcast_S_S8x2048 (constant S_ .f32 0xFF800000#32))
    (Host.reduce FloatOps.maximumf s (constant S_ .f32 0xFF800000#32) reducesTo_S8x2048x2048_S8x2048_d2 h_S_)

/-- The weights. -/
def weights (s : FVec Ideal S8x2048x2048 .f32) : FVec Ideal S8x2048x2048 .f32 := Host.exp (subf s (across (top s)))

/-- The sum of every row. -/
def along (x : FVec Ideal S8x2048x2048 .f32) : FVec Ideal S8x2048 .f32 :=
  Host.reduceAdd x (constant S_ .f32 0x00000000#32) reducesTo_S8x2048x2048_S8x2048_d2 h_S_

/-- The probabilities. -/
def probs (e : FVec Ideal S8x2048x2048 .f32) : FVec Ideal S8x2048x2048 .f32 := Host.divf e (across (along e))

/-- The gradients of the logits, from the weights and the gradients of the probabilities. -/
def dlogits (e dp : FVec Ideal S8x2048x2048 .f32) : FVec Ideal S8x2048x2048 .f32 :=
  select mask
    (mulf (addf (Host.divf dp (across (along e)))
      (broadcastInDim S8x2048x2048 ![0, 1] bcast_S8x2048_S8x2048x2048_0_1
        (Host.reduceAdd (Host.negf (shapeCast _ (along (mulf (mulf dp (broadcastInDim S8x2048x2048 ![0, 1, 2] bcast_S8x2048x1_S8x2048x2048_0_1_2
            (Host.divf (broadcastInDim S8x2048x1 ![] bcast_S_S8x2048x1 (constant S_ .f32 0x3F800000#32))
              (mulf (broadcastInDim S8x2048x1 ![0, 1] bcast_S8x2048_S8x2048x1_0_1 (along e)) (broadcastInDim S8x2048x1 ![0, 1] bcast_S8x2048_S8x2048x1_0_1 (along e)))))) e))
          shapeCasts_S8x2048_S8x2048x1)) (constant S_ .f32 0x00000000#32) reducesTo_S8x2048x1_S8x2048_d2 h_S_))) e)
    (broadcastInDim S8x2048x2048 ![] bcast_S_S8x2048x2048 (constant S_ .f32 0x00000000#32))

/-- The gradients of the sums of the log forget gates. -/
def dgates (d : FVec Ideal S8x2048x2048 .f32) : FVec Ideal S8x2048 .f32 :=
  addf (Host.reduceAdd (shapeCast _ (Host.reduceAdd (Host.negf d) (constant S_ .f32 0x00000000#32) reducesTo_S8x2048x2048_S8x2048_d1 h_S_) shapeCasts_S8x2048_S8x1x2048) (constant S_ .f32 0x00000000#32) reducesTo_S8x1x2048_S8x2048_d1 h_S_)
    (Host.reduceAdd (shapeCast _ (along d) shapeCasts_S8x2048_S8x2048x1) (constant S_ .f32 0x00000000#32) reducesTo_S8x2048x1_S8x2048_d2 h_S_)

/-- The gradients of the logits, the scale taken in. -/
def scaled (d : FVec Ideal S8x2048x2048 .f32) : FVec Ideal S8x2048x2048 .f32 :=
  mulf d (broadcastInDim S8x2048x2048 ![] bcast_S_S8x2048x2048 (constant S_ .f32 0x3DB504F3#32))

/-- Every row's sum of the keys' rows, each times its entry. -/
def byKey (p : FVec Ideal S8x2048x2048 .f32) (x : FVec Ideal S8x2048x128 .f32) : FVec Ideal S8x2048x128 .f32 :=
  Host.dotGeneral dot_S8x2048x2048_S8x2048x128_S8x2048x128_2_1_1_2_0_0 none p x

/-- Every key's sum of the rows, each times its entry. -/
def byRow (p : FVec Ideal S8x2048x2048 .f32) (x : FVec Ideal S8x2048x128 .f32) : FVec Ideal S8x2048x128 .f32 :=
  Host.dotGeneral dot_S8x2048x2048_S8x2048x128_S8x2048x128_1_1_2_2_0_0 none p x

/-- The gradient of the values. -/
def dvalues (p : FVec Ideal S8x2048x2048 .f32) (x : FVec Ideal S8x2048x128 .f32) : FVec Ideal S8x2048x128 .f32 :=
  transpose S8x2048x128 [0, 2, 1] (Host.dotGeneral dot_S8x2048x128_S8x2048x2048_S8x128x2048_1_1_2_2_0_0 none x p) transposes_S8x128x2048_S8x2048x128_0_2_1

section Args

variable (m : (ℓ : Loc nD τ sig) → Buf (Elt Ideal) ℓ) (c : Dev nD)

abbrev argQ : FVec Ideal S8x2048x128 .f32 := apart (extf .f32 (m ((c.tc : Thread nD τ).loc main_arg0)) bitsLt_bf16_f32)
abbrev argK : FVec Ideal S8x2048x128 .f32 := apart (extf .f32 (m ((c.tc : Thread nD τ).loc main_arg1)) bitsLt_bf16_f32)
abbrev argV : FVec Ideal S8x2048x128 .f32 := apart (extractStridedSlice S2048x1024 ![0, 2176] (m ((c.tc : Thread nD τ).loc main_arg2)) slices_S2048x3200_S2048x1024_0_2176)
abbrev argT : FVec Ideal S8x2048x128 .f32 := apart (m ((c.tc : Thread nD τ).loc main_arg4))
abbrev argE : FVec Ideal S8x2048x2048 .f32 := weights (logits (argQ m c) (argK m c) (m ((c.tc : Thread nD τ).loc main_arg3)))
abbrev argD : FVec Ideal S8x2048x2048 .f32 := dlogits (argE m c) (pairs (argT m c) (argV m c))

theorem res_o : res_main_v56 m c = together (byKey (probs (argE m c)) (argV m c)) := rfl
theorem res_dv : res_main_v93 m c = truncf .bf16 (together (dvalues (probs (argE m c)) (argT m c))) bitsLt_bf16_f32 := rfl
theorem res_dc : res_main_v84 m c = dgates (argD m c) := rfl
theorem res_dk : res_main_v90 m c = together (byRow (scaled (argD m c)) (argQ m c)) := rfl
theorem res_dq : res_main_v92 m c = together (byKey (scaled (argD m c)) (argK m c)) := rfl

end Args

end Cert.Reference10Ideal.Hand

end
-- ==== Proof.FoxRead.lean ====
/- The forgetting attention: the reference's arrays, where the heads' entries are real. -/
module

public import proofs.«01_k».proof.Proof.FoxRef
public import proofs.«01_k».proof.Proof.FoxArrays

@[expose] public noncomputable section

set_option maxHeartbeats 200000

namespace Cert.Fox

open Idealize.ShloMosaic Cert.Gdn
open scoped BigOperators

/-- One number of every row of every head. -/
abbrev flat (g : ℕ → ℕ → ℝ) : (⟨2, ![8, 2048]⟩ : Shape).Idx → EReal := fun y => (g (y 0).val (y 1).val : EReal)

/-- A matrix of every head. -/
abbrev cube {n : ℕ} (g : ℕ → ℕ → ℕ → ℝ) : (⟨3, ![8, 2048, n]⟩ : Shape).Idx → EReal :=
  fun y => (g (y 0).val (y 1).val (y 2).val : EReal)

variable (A : Head)

/-- A row's greatest masked logit is real, for its own key's is. -/
theorem rowMax_real (i : ℕ) : ∃ ν : ℝ, i < 2048 → max (Ideal.ofBits .f32 0xFF800000#32)
    (Finset.fold max (Ideal.ofBits .f32 0xFF800000#32) (fun k : Fin 2048 => masked A i k.val) Finset.univ) = (ν : EReal) := by
  by_cases hi : i < 2048
  · have hlt := rowMax_lt (fun k : Fin 2048 => masked A i k.val) fun k => masked_lt _ _
    have hgt : ⊥ < Finset.fold max (Ideal.ofBits .f32 0xFF800000#32) (fun k : Fin 2048 => masked A i k.val) Finset.univ := by
      rw [Finset.lt_fold_max]
      refine Or.inr ⟨⟨i, hi⟩, Finset.mem_univ _, ?_⟩
      unfold masked
      rw [if_pos le_rfl]
      exact EReal.bot_lt_coe _
    generalize Finset.fold max (Ideal.ofBits .f32 0xFF800000#32) (fun k : Fin 2048 => masked A i k.val) Finset.univ = x at hlt hgt ⊢
    rw [bot_word, max_eq_right bot_le]
    induction x using EReal.rec with
    | bot => exact absurd hgt (lt_irrefl _)
    | coe r => exact ⟨r, fun _ => rfl⟩
    | top => exact absurd hlt (lt_irrefl _)
  · exact ⟨0, fun h => absurd h hi⟩

/-- The gradient of a logit as the derivative of a quotient, among the extended reals. -/
theorem dlogit_real (μ : ℝ) {i : ℕ} (hi : i < 2048) (j : ℕ) :
    (Ideal.div (dprob A i j : EReal) (total A μ i : EReal)
        + ∑ _k : Fin 1, -∑ k : Fin 2048, (dprob A i k.val : EReal) * Ideal.div 1 ((total A μ i : EReal) * (total A μ i : EReal)) * (weight A μ i k.val : EReal))
      * (weight A μ i j : EReal) = (dlogit A i j : EReal) := by
  have hL : total A μ i ≠ 0 := (total_pos μ hi).ne'
  rw [Fin.sum_univ_one, Ideal.div_coe hL, ← EReal.coe_mul (total A μ i), Ideal.div_coe (mul_ne_zero hL hL), one_mul]
  simp only [← EReal.coe_mul, ← coe_sum, ← EReal.coe_neg, ← EReal.coe_add]
  rw [← dlogit_eq μ hi j, sum_eq_upTo 2048 fun k => dprob A i k * (1 / (total A μ i * total A μ i)) * weight A μ i k,
    mul_one_div]

end Cert.Fox

namespace Cert.Reference10Ideal.Hand

open Idealize.ShloMosaic Idealize.ShloMosaic.TcCoe Idealize.ShloMosaic.ValueIdx
open Cert.Reference10Ideal.Gen Cert.Reference10Ideal.Value Cert.Fox Cert.Gdn
open scoped BigOperators

theorem one_word : Ideal.ofBits .f32 0x3F800000#32 = 1 := by
  simp [Ideal.ofBits, Ideal.ieee]
  norm_cast
  norm_num

theorem apart_wide (g : ℕ → ℕ → ℕ → ℝ) : apart (wide g) = cube (n := 128) g := by
  funext y
  have h2 : (y 2).val < 128 := (y 2).isLt
  unfold apart
  simp only [pointwise]
  show ((g (((y 0).val * 128 + (y 2).val) / 128) (y 1).val (((y 0).val * 128 + (y 2).val) % 128) : ℝ) : EReal) = _
  rw [show ((y 0).val * 128 + (y 2).val) / 128 = (y 0).val by omega, show ((y 0).val * 128 + (y 2).val) % 128 = (y 2).val by omega]

theorem apart_right (g : ℕ → ℕ → ℕ → ℝ) (x : FVec Ideal S2048x3200 .f32) (hx : Right g x) :
    apart (extractStridedSlice S2048x1024 ![0, 2176] x slices_S2048x3200_S2048x1024_0_2176) = cube (n := 128) g := by
  funext y
  have h2 : (y 2).val < 128 := (y 2).isLt
  unfold apart
  simp only [pointwise]
  simp only [Matrix.cons_val_zero, Matrix.cons_val_one, Nat.zero_add]
  refine (hx _ (Nat.le_add_right _ _)).trans ?_
  simp only [pointwise, Nat.add_sub_cancel_left]
  rw [show ((y 0).val * 128 + (y 2).val) / 128 = (y 0).val by omega, show ((y 0).val * 128 + (y 2).val) % 128 = (y 2).val by omega]

theorem together_cube (g : ℕ → ℕ → ℕ → ℝ) : together (cube (n := 128) g) = wide g := by
  funext y
  unfold together
  simp only [pointwise]
  rfl

theorem across_flat (g : ℕ → ℕ → ℝ) : across (flat g) = cube (n := 2048) fun h i _ => g h i := by
  funext y
  unfold across
  simp only [pointwise]
  rfl

theorem pairs_cube (f g : ℕ → ℕ → ℕ → ℝ) :
    pairs (cube (n := 128) f) (cube (n := 128) g) = cube (n := 2048) fun h i j => ∑ d : Fin 128, f h i d * g h j d := by
  funext y
  unfold pairs
  simp only [pointwise, zero_add]
  show _ = ((∑ d : Fin 128, f (y 0).val (y 1).val d * g (y 0).val (y 2).val d : ℝ) : EReal)
  rw [coe_sum]
  simp only [EReal.coe_mul]
  rfl

theorem select_mask (x z : FVec Ideal S8x2048x2048 .f32) (y) :
    (select mask x z y : EReal) = if (y 2).val ≤ (y 1).val then x y else z y := by
  unfold mask
  simp only [pointwise]
  exact select_le (y 1).isLt (y 2).isLt (by decide) _ _

variable (H : ℕ → Fox.Head) (hs : ∀ h, Ideal.ofBits .f32 0x3DB504F3#32 = ((H h).scale : EReal))

/-- The masked logits of every head. -/
abbrev allMasked : S8x2048x2048.Idx → EReal := fun y => masked (H (y 0).val) (y 1).val (y 2).val

include hs in
theorem logits_eq : logits (cube (n := 128) fun h => (H h).q) (cube (n := 128) fun h => (H h).k) (flat fun h => (H h).c) = allMasked H := by
  funext y
  unfold logits
  rw [pairs_cube, across_flat]
  refine (select_mask _ _ y).trans ?_
  show _ = if (y 2).val ≤ (y 1).val then _ else _
  refine if_congr Iff.rfl ?_ ?_
  · simp only [pointwise]
    rw [hs (y 0).val]
    show ((∑ d : Fin 128, (H (y 0).val).q (y 1).val d * (H (y 0).val).k (y 2).val d : ℝ) : EReal) * ((H (y 0).val).scale : EReal)
      + ((H (y 0).val).c (y 1).val : EReal) - ((H (y 0).val).c (y 2).val : EReal) = _
    rw [← EReal.coe_mul, ← EReal.coe_add, ← EReal.coe_sub]
    rfl
  · simp only [pointwise]
    exact bot_word

theorem reduce_apply (s : FVec Ideal S8x2048x2048 .f32) (e : FVec Ideal S_ .f32) (y : S8x2048.Idx) :
    Host.reduce FloatOps.maximumf s e reducesTo_S8x2048x2048_S8x2048_d2 h_S_ y
      = Finset.fold max (e (Shape.Idx.first h_S_)) (fun k : Fin 2048 => s (Idealize.ShloMosaic.ix3 (n0 := 8) (n1 := 2048) (n2 := 2048) (y 0) (y 1) k)) Finset.univ := by
  simp only [pointwise]

theorem max_at (a b : FVec Ideal S8x2048 .f32) (y : S8x2048.Idx) : (maximumf a b y : EReal) = max (a y : EReal) (b y) := rfl

theorem bot_at (y : S8x2048.Idx) : (broadcastInDim S8x2048 ![] bcast_S_S8x2048 (constant (F := Ideal) S_ .f32 0xFF800000#32) y : EReal) = Ideal.ofBits .f32 0xFF800000#32 := rfl

theorem top_apply (s : FVec Ideal S8x2048x2048 .f32) (y : S8x2048.Idx) :
    top s y = max (Ideal.ofBits .f32 0xFF800000#32)
      (Finset.fold max (Ideal.ofBits .f32 0xFF800000#32) (fun k : Fin 2048 => s (Idealize.ShloMosaic.ix3 (n0 := 8) (n1 := 2048) (n2 := 2048) (y 0) (y 1) k)) Finset.univ) := by
  unfold top
  rw [max_at, bot_at, reduce_apply]
  rfl

/-- A row's greatest logit is real: its own key's is. -/
theorem top_real : ∃ μ : ℕ → ℕ → ℝ, top (allMasked H) = flat μ := by
  refine ⟨fun a i => Classical.choose (rowMax_real (H a) i), ?_⟩
  funext y
  rw [top_apply]
  exact Classical.choose_spec (rowMax_real (H (y 0).val) (y 1).val) (y 1).isLt

variable (μ : ℕ → ℕ → ℝ)

theorem weights_eq (hμ : top (allMasked H) = flat μ) :
    weights (allMasked H) = cube (n := 2048) fun h i j => weight (H h) (μ h i) i j := by
  funext y
  unfold weights
  rw [hμ, across_flat]
  simp only [pointwise]
  exact exp_masked _ _ _

theorem along_cube (g : ℕ → ℕ → ℕ → ℝ) : along (cube (n := 2048) g) = flat fun h i => upTo 2048 (g h i) := by
  funext y
  unfold along
  simp only [pointwise, zero_add]
  show _ = ((upTo 2048 (g (y 0).val (y 1).val) : ℝ) : EReal)
  rw [← sum_eq_upTo, coe_sum]
  rfl

/-- The weights of every head, a real number taken from each row's logits. -/
abbrev allWeights : FVec Ideal S8x2048x2048 .f32 := cube (n := 2048) fun h i j => weight (H h) (μ h i) i j

theorem probs_eq : probs (allWeights H μ) = cube (n := 2048) fun h => prob (H h) := by
  funext y
  unfold probs
  rw [along_cube, across_flat]
  simp only [pointwise]
  refine (Ideal.div_coe (total_pos (A := H (y 0).val) (μ (y 0).val (y 1).val) (y 1).isLt).ne' _).trans ?_
  rw [← EReal.coe_mul, one_div, ← div_eq_mul_inv]
  exact congrArg _ (prob_eq _ _ _)

theorem byKey_cube (p : ℕ → ℕ → ℕ → ℝ) (g : ℕ → ℕ → ℕ → ℝ) :
    byKey (cube (n := 2048) p) (cube (n := 128) g) = cube (n := 128) fun h i d => upTo 2048 fun j => p h i j * g h j d := by
  funext y
  unfold byKey
  simp only [pointwise, zero_add]
  show _ = ((upTo 2048 (fun j => p (y 0).val (y 1).val j * g (y 0).val j (y 2).val) : ℝ) : EReal)
  rw [← sum_eq_upTo, coe_sum]
  simp only [EReal.coe_mul]
  rfl

theorem byRow_cube (p : ℕ → ℕ → ℕ → ℝ) (g : ℕ → ℕ → ℕ → ℝ) :
    byRow (cube (n := 2048) p) (cube (n := 128) g) = cube (n := 128) fun h j d => upTo 2048 fun i => p h i j * g h i d := by
  funext y
  unfold byRow
  simp only [pointwise, zero_add]
  show _ = ((upTo 2048 (fun i => p (y 0).val i (y 1).val * g (y 0).val i (y 2).val) : ℝ) : EReal)
  rw [← sum_eq_upTo, coe_sum]
  simp only [EReal.coe_mul]
  rfl

theorem dvalues_cube (p : ℕ → ℕ → ℕ → ℝ) (g : ℕ → ℕ → ℕ → ℝ) :
    dvalues (cube (n := 2048) p) (cube (n := 128) g) = cube (n := 128) fun h j d => upTo 2048 fun i => p h i j * g h i d := by
  funext y
  unfold dvalues
  simp only [pointwise, zero_add]
  show _ = ((upTo 2048 (fun i => p (y 0).val i (y 1).val * g (y 0).val i (y 2).val) : ℝ) : EReal)
  rw [← sum_eq_upTo, coe_sum]
  simp only [EReal.coe_mul]
  refine Finset.sum_congr rfl fun i _ => ?_
  exact mul_comm _ _

include hs in
theorem scaled_cube (p : ℕ → ℕ → ℕ → ℝ) :
    scaled (cube (n := 2048) p) = cube (n := 2048) fun h i j => p h i j * (H h).scale := by
  funext y
  unfold scaled
  simp only [pointwise]
  rw [hs (y 0).val]
  exact (EReal.coe_mul _ _).symm

theorem dgates_cube (p : ℕ → ℕ → ℕ → ℝ) :
    dgates (cube (n := 2048) p) = flat fun h i => (-upTo 2048 fun j => p h j i) + upTo 2048 (p h i) := by
  funext y
  unfold dgates
  rw [along_cube]
  simp only [pointwise, zero_add]
  show _ = (((-upTo 2048 fun j => p (y 0).val j (y 1).val) + upTo 2048 (p (y 0).val (y 1).val) : ℝ) : EReal)
  refine Eq.trans (b := (∑ _k : Fin 1, ∑ k : Fin 2048, -(p (y 0).val k.val (y 1).val : EReal))
    + ∑ _k : Fin 1, ((upTo 2048 (p (y 0).val (y 1).val) : ℝ) : EReal)) rfl ?_
  rw [Fin.sum_univ_one, Fin.sum_univ_one]
  simp only [← EReal.coe_neg, ← coe_sum]
  rw [Finset.sum_neg_distrib, sum_eq_upTo 2048 fun k => p (y 0).val k (y 1).val, ← EReal.coe_add]

theorem dlogits_eq : dlogits (allWeights H μ) (cube (n := 2048) fun h => dprob (H h)) = cube (n := 2048) fun h => dlogit (H h) := by
  funext y
  have hp := (total_pos (A := H (y 0).val) (μ (y 0).val (y 1).val) (y 1).isLt)
  unfold dlogits
  rw [along_cube, across_flat]
  refine (select_mask _ _ y).trans ?_
  show _ = ((dlogit (H (y 0).val) (y 1).val (y 2).val : ℝ) : EReal)
  split
  · unfold along
    simp only [pointwise, zero_add, one_word]
    exact dlogit_real (H (y 0).val) (μ (y 0).val (y 1).val) (y 1).isLt (y 2).val
  · rename_i hn
    rw [dlogit_later (by omega)]
    simp only [pointwise]
    rfl

end Cert.Reference10Ideal.Hand

end
-- ==== Proof.FoxLaunch.lean ====
/- The attention's kernel: its three calls run one after the other and leave the output and the gradients. -/
module

public import proofs.«01_k».proof.Proof.FoxResults
public import proofs.«01_k».proof.Proof.FoxRead

@[expose] public section

set_option maxRecDepth 16384
set_option maxHeartbeats 200000

noncomputable section

namespace Cert.Kernel10Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal.Gen Cert.Fox

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The three calls and the lines around them run one after the other, and every array that outlives them ends at what they leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ Gen.L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach Gen.L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Run

variable (m : (ℓ : Loc nD τ sig) → Buf (Elt Ideal) ℓ) (ρ : Dev nD → PrngReg) (c : Dev nD)

/-- What the calls are given, where the argument arrays hold the heads' numbers. -/
theorem given {H : ℕ → Fox.Head}
    (hq : m ((c : Thread nD τ).loc main_arg0) = wide fun h => (H h).q)
    (hk : m ((c : Thread nD τ).loc main_arg1) = wide fun h => (H h).k)
    (hv : Right (fun h => (H h).v) (m ((c : Thread nD τ).loc main_arg2)))
    (hc : m ((c : Thread nD τ).loc main_arg3) = flat fun h => (H h).c)
    (ht : m ((c : Thread nD τ).loc main_arg4) = wide fun h => (H h).ct) : Holds (V1 m ρ) c H where
  q := by rw [show V1 m ρ c main_arg0 = m ((c : Thread nD τ).loc main_arg0) from W1_args m ρ c main_arg0 (by decide)]; exact hq
  k := by rw [show V1 m ρ c main_arg1 = m ((c : Thread nD τ).loc main_arg1) from W1_args m ρ c main_arg1 (by decide)]; exact hk
  v := by rw [show V1 m ρ c main_arg2 = m ((c : Thread nD τ).loc main_arg2) from W1_args m ρ c main_arg2 (by decide)]; exact hv
  ct := by rw [show V1 m ρ c main_arg4 = m ((c : Thread nD τ).loc main_arg4) from W1_args m ρ c main_arg4 (by decide)]; exact ht
  col := by
    have h3 : W0 m ρ c (Proc.devRef .tc main_arg3) = flat fun h => (H h).c := hc
    show StableHlo.after hostOps0 (W0 m ρ c) (Proc.devRef .tc main_v0) = _
    generalize W0 m ρ c = A at h3 ⊢
    after_results
    rw [h3]
    funext y
    simp only [pointwise]
    rfl
  row := by
    have h3 : W0 m ρ c (Proc.devRef .tc main_arg3) = flat fun h => (H h).c := hc
    show StableHlo.after hostOps0 (W0 m ρ c) (Proc.devRef .tc main_v1) = _
    generalize W0 m ρ c = A at h3 ⊢
    after_results
    rw [h3]
    funext y
    simp only [pointwise]
    show (((H (y 0).val).c ((y 1).val * 1024 + (y 3).val) : ℝ) : EReal) = _
    rw [Nat.mul_comm]

/-- The forward call changes none of what the next is given. -/
theorem carried2 {H : ℕ → Fox.Head} (h : Holds (V1 m ρ) c H) : Holds (V2 m ρ) c H where
  q := by rw [show V2 m ρ c main_arg0 = V1 m ρ c main_arg0 from W2_of m ρ c main_arg0 (by decide)]; exact h.q
  k := by rw [show V2 m ρ c main_arg1 = V1 m ρ c main_arg1 from W2_of m ρ c main_arg1 (by decide)]; exact h.k
  v := by rw [show V2 m ρ c main_arg2 = V1 m ρ c main_arg2 from W2_of m ρ c main_arg2 (by decide)]; exact h.v
  ct := by rw [show V2 m ρ c main_arg4 = V1 m ρ c main_arg4 from W2_of m ρ c main_arg4 (by decide)]; exact h.ct
  col := by rw [show V2 m ρ c main_v0 = V1 m ρ c main_v0 from W2_of m ρ c main_v0 (by decide)]; exact h.col
  row := by rw [show V2 m ρ c main_v1 = V1 m ρ c main_v1 from W2_of m ρ c main_v1 (by decide)]; exact h.row

/-- Nor does the queries' call. -/
theorem carried3 {H : ℕ → Fox.Head} (h : Holds (V2 m ρ) c H) : Holds (V3 m ρ) c H where
  q := by rw [show V3 m ρ c main_arg0 = V2 m ρ c main_arg0 from W3_of m ρ c main_arg0 (by decide)]; exact h.q
  k := by rw [show V3 m ρ c main_arg1 = V2 m ρ c main_arg1 from W3_of m ρ c main_arg1 (by decide)]; exact h.k
  v := by rw [show V3 m ρ c main_arg2 = V2 m ρ c main_arg2 from W3_of m ρ c main_arg2 (by decide)]; exact h.v
  ct := by rw [show V3 m ρ c main_arg4 = V2 m ρ c main_arg4 from W3_of m ρ c main_arg4 (by decide)]; exact h.ct
  col := by rw [show V3 m ρ c main_v0 = V2 m ρ c main_v0 from W3_of m ρ c main_v0 (by decide)]; exact h.col
  row := by rw [show V3 m ρ c main_v1 = V2 m ρ c main_v1 from W3_of m ρ c main_v1 (by decide)]; exact h.row

/-- The five results. -/
theorem results {H : ℕ → Fox.Head} (hs : ∀ h, Ideal.ofBits .f32 0x3DB504F3#32 = ((H h).scale : EReal)) (h1 : Holds (V1 m ρ) c H) :
    W5 m ρ c (Proc.devRef .tc main_v2_0) = (wide fun h => out (H h))
    ∧ W5 m ρ c (Proc.devRef .tc main_v3_0) = (wide fun h => dquery (H h))
    ∧ W5 m ρ c (Proc.devRef .tc main_v4_0) = (wide fun h => dkey (H h))
    ∧ W5 m ρ c (Proc.devRef .tc main_v5) = (wide fun h => dvalue (H h))
    ∧ W5 m ρ c (Proc.devRef .tc main_v8) = (flat fun h i => colGrad (H h) i + rowGrad (H h) i) := by
  have o2 : V2 m ρ c main_v2_0 = wide fun h => out (H h) := (W2_arr m ρ c 5).trans (arr0_out (V1 m ρ) c H hs h1)
  have l2 : V2 m ρ c main_v2_1 = vert fun h => lse (H h) := (W2_arr m ρ c 6).trans (arr0_lse (V1 m ρ) c H hs h1)
  have h2 := carried2 m ρ c h1
  have dq3 : W3 m ρ c (Proc.devRef .tc main_v3_0) = wide fun h => dquery (H h) := (W3_arr m ρ c 8).trans (arr1_dq (V2 m ρ) c H hs h2 o2 l2)
  have dc3 : W3 m ρ c (Proc.devRef .tc main_v3_1) = vert fun h => rowGrad (H h) := (W3_arr m ρ c 9).trans (arr1_dc (V2 m ρ) c H hs h2 o2 l2)
  have d3 : V3 m ρ c main_v3_2 = vert fun h => delta (H h) := (W3_arr m ρ c 10).trans (arr1_delta (V2 m ρ) c H hs h2 o2 l2)
  have l3 : V3 m ρ c main_v2_1 = vert fun h => lse (H h) := (W3_of m ρ c main_v2_1 (by decide)).trans l2
  have h3 := carried3 m ρ c h2
  have dk4 : W4 m ρ c (Proc.devRef .tc main_v4_0) = wide fun h => dkey (H h) := (W4_arr m ρ c 8).trans (arr2_dk (V3 m ρ) c H hs h3 l3 d3)
  have dc4 : W4 m ρ c (Proc.devRef .tc main_v4_2) = tier fun h => colGrad (H h) := (W4_arr m ρ c 10).trans (arr2_dc (V3 m ρ) c H hs h3 l3 d3)
  have dv4 : Right (fun h => dvalue (H h)) (W4 m ρ c (Proc.devRef .tc main_v4_1)) := by
    have e := arr2_dv (V3 m ρ) c H hs h3 l3 d3
    rw [← W4_arr m ρ c 9] at e
    exact e
  have dr4 : W4 m ρ c (Proc.devRef .tc main_v3_1) = vert fun h => rowGrad (H h) := (W4_of m ρ c main_v3_1 (by decide)).trans dc3
  refine ⟨(W5_of m ρ c main_v2_0 (by decide)).trans ((W4_of m ρ c main_v2_0 (by decide)).trans ((W3_of m ρ c main_v2_0 (by decide)).trans o2)),
    (W5_of m ρ c main_v3_0 (by decide)).trans ((W4_of m ρ c main_v3_0 (by decide)).trans dq3),
    (W5_of m ρ c main_v4_0 (by decide)).trans dk4, ?_, ?_⟩
  · show StableHlo.after hostOps3 (W4 m ρ c) (Proc.devRef .tc main_v5) = _
    generalize W4 m ρ c = A at dv4 ⊢
    after_results
    funext y
    simp only [pointwise]
    simp only [Matrix.cons_val_zero, Matrix.cons_val_one, Nat.zero_add]
    refine (dv4 _ (Nat.le_add_right _ _)).trans ?_
    simp only [pointwise, Nat.add_sub_cancel_left]
  · show StableHlo.after hostOps3 (W4 m ρ c) (Proc.devRef .tc main_v8) = _
    generalize W4 m ρ c = A at dr4 dc4 ⊢
    after_results
    rw [dr4, dc4]
    funext y
    simp only [pointwise]
    show ((rowGrad (H (y 0).val) (y 1).val : ℝ) : EReal) + ((colGrad (H (y 0).val) (1024 * ((y 1).val / 1024) + (y 1).val % 1024) : ℝ) : EReal) = _
    rw [Nat.div_add_mod, ← EReal.coe_add, add_comm]

end Cert.Kernel10Ideal.Hand

end

end
-- ==== Proof.FoxValue.lean ====
/- The forgetting attention: its kernel and its reference leave the same output and gradients, where every entry of the
   arguments is real. -/
module

public import proofs.«01_k».proof.Defs
public import proofs.«01_k».proof.Proof.FoxLaunch
public import proofs.«01_k».proof.Proof.Pre

@[expose] public section

set_option maxHeartbeats 200000

noncomputable section

namespace Cert.Fox

open Idealize.ShloMosaic Cert.Gdn

/-- The entry of a matrix at a row and a column. -/
def entry {M N : ℕ} [NeZero M] [NeZero N] (x : (⟨2, ![M, N]⟩ : Shape).Idx → EReal) (i j : ℕ) : ℝ :=
  (x (ValueIdx.ix2 (Fin.ofNat M i) (Fin.ofNat N j))).toReal

theorem entry_eq {M N : ℕ} [NeZero M] [NeZero N] (x : (⟨2, ![M, N]⟩ : Shape).Idx → EReal) (hx : ∀ y, IsReal (x y)) (y) (i j : ℕ)
    (hi : (y 0).val = i) (hj : (y 1).val = j) : x y = (entry x i j : EReal) := by
  have e : ValueIdx.ix2 (Fin.ofNat M i) (Fin.ofNat N j) = y := by
    funext a
    match a with
    | 0 => exact Fin.ext (by subst hi; exact Nat.mod_eq_of_lt (y 0).isLt)
    | 1 => exact Fin.ext (by subst hj; exact Nat.mod_eq_of_lt (y 1).isLt)
  unfold entry
  rw [e]
  obtain ⟨r, hr⟩ := hx y
  rw [hr, EReal.toReal_coe]

variable (x0 x1 x4 : (⟨2, ![2048, 1024]⟩ : Shape).Idx → EReal) (x2 : (⟨2, ![2048, 3200]⟩ : Shape).Idx → EReal)
    (x3 : (⟨2, ![8, 2048]⟩ : Shape).Idx → EReal)

/-- The heads of the argument arrays. -/
def headsOf (h : ℕ) : Head where
  q i d := entry x0 i (128 * h + d)
  k i d := entry x1 i (128 * h + d)
  v i d := entry x2 i (2176 + (128 * h + d))
  ct i d := entry x4 i (128 * h + d)
  c i := entry x3 h i
  scale := (Ideal.ofBits .f32 0x3DB504F3#32).toReal

theorem scale_eq (h : ℕ) : Ideal.ofBits .f32 0x3DB504F3#32 = ((headsOf x0 x1 x4 x2 x3 h).scale : EReal) := by
  obtain ⟨r, hr⟩ := scale_real
  show _ = (((Ideal.ofBits .f32 0x3DB504F3#32).toReal : ℝ) : EReal)
  rw [hr, EReal.toReal_coe]

theorem wide_entry (x : (⟨2, ![2048, 1024]⟩ : Shape).Idx → EReal) (hx : ∀ y, IsReal (x y)) :
    x = wide fun h i d => entry x i (128 * h + d) :=
  funext fun y => entry_eq x hx y _ _ rfl (Nat.div_add_mod _ _).symm

theorem flat_entry (hx : ∀ y, IsReal (x3 y)) : x3 = flat fun h i => entry x3 h i :=
  funext fun y => entry_eq x3 hx y _ _ rfl rfl

theorem right_entry (hx : ∀ y, IsReal (x2 y)) : Right (fun h i d => entry x2 i (2176 + (128 * h + d))) x2 :=
  fun y hy => entry_eq x2 hx y _ _ rfl (by rw [Nat.div_add_mod]; omega)

end Cert.Fox

namespace Cert.Pre_finite10.Hand

open Idealize.ShloMosaic Cert.Gdn Cert.Pre_finite.Hand

/-- The side conditions of the precondition's operations. -/
instance facts : Cert.Pre_finite10.Facts where
  bitsLt_bf16_f32 := by decide
  bcast_S_S2048x1024 := by decide
  reducesTo_S2048x1024_S_d0_1 := by decide
  h_S_ := by decide
  bcast_S_S2048x3200 := by decide
  reducesTo_S2048x3200_S_d0_1 := by decide
  bcast_S_S8x2048 := by decide
  reducesTo_S8x2048_S_d0_1 := by decide

/-- Under the precondition every entry of every argument is real. -/
theorem args_real (a0 a1 : FVec Ideal S2048x1024 .bf16) (a2 : FVec Ideal S2048x3200 .f32) (a3 : FVec Ideal S8x2048 .f32) (a4 : FVec Ideal S2048x1024 .f32)
    (h : fn a0 a1 a2 a3 a4 = fun _ => 1#1) :
    (∀ y, IsReal (a0 y)) ∧ (∀ y, IsReal (a1 y)) ∧ (∀ y, IsReal (a2 y)) ∧ (∀ y, IsReal (a3 y)) ∧ ∀ y, IsReal (a4 y) := by
  have h0 := congrFun h (fun a => a.elim0)
  dsimp only [fn, fn_part1] at h0
  obtain ⟨h0, e4⟩ := and_one h0
  obtain ⟨h0, e3⟩ := and_one h0
  obtain ⟨h0, e2⟩ := and_one h0
  obtain ⟨e0, e1⟩ := and_one h0
  exact ⟨fun y => all_real (extf .f32 a0 _) _ _ _ e0 y, fun y => all_real (extf .f32 a1 _) _ _ _ e1 y, fun y => all_real a2 _ _ _ e2 y,
    fun y => all_real a3 _ _ _ e3 y, fun y => all_real a4 _ _ _ e4 y⟩

end Cert.Pre_finite10.Hand

namespace Cert.Kernel10Ideal.Hand

open Idealize.ShloMosaic Idealize.ShloMosaic.TcCoe Idealize.SL.Sem
open Cert.Kernel10Ideal.Gen Cert.Fox

variable (m : (ℓ : Loc nD τ sig) → Buf (Elt Ideal) ℓ) (ρ : Dev nD → PrngReg)

/-- The kernel leaves the output and the gradients of the heads that its arguments hold, and its arguments unchanged. -/
theorem run_value (H : Dev nD → ℕ → Fox.Head) (hs : ∀ c h, Ideal.ofBits .f32 0x3DB504F3#32 = ((H c h).scale : EReal))
    (h1 : ∀ c, Holds (V1 m ρ) c (H c)) :
    θ_run (defs (F := Ideal)) (onTc (τ := τ) (main (F := Ideal))) ⟨m, fun _ => 0, ρ⟩ (fun r => ∀ c : Dev nD,
      r.2.mem ((c.tc : Thread nD τ).loc main_v2_0) = (wide fun h => out (H c h))
      ∧ r.2.mem ((c.tc : Thread nD τ).loc main_v3_0) = (wide fun h => dquery (H c h))
      ∧ r.2.mem ((c.tc : Thread nD τ).loc main_v4_0) = (wide fun h => dkey (H c h))
      ∧ r.2.mem ((c.tc : Thread nD τ).loc main_v5) = (wide fun h => dvalue (H c h))
      ∧ r.2.mem ((c.tc : Thread nD τ).loc main_v8) = (flat fun h i => colGrad (H c h) i + rowGrad (H c h) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono ?_ (run m ρ)
  intro r h c
  obtain ⟨e0, e1, e2, e3, e4⟩ := results m ρ c (hs c) (h1 c)
  exact ⟨(h c _ (mem_uc main_v2_0 (by decide))).trans e0,
    (h c _ (mem_uc main_v3_0 (by decide))).trans e1,
    (h c _ (mem_uc main_v4_0 (by decide))).trans e2,
    (h c _ (mem_uc main_v5 (by decide))).trans e3,
    (h c _ (mem_uc main_v8 (by decide))).trans e4,
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c)⟩

end Cert.Kernel10Ideal.Hand

namespace Cert.Reference10Ideal.Hand

open Idealize.ShloMosaic Idealize.ShloMosaic.TcCoe Idealize.SL.Sem
open Cert.Reference10Ideal Cert.Reference10Ideal.Gen Cert.Reference10Ideal.Value Cert.Fox

/-- The reference leaves the output and the gradients of the heads that its arguments hold. -/
theorem res_value (m : (ℓ : Loc nD τ sig) → Buf (Elt Ideal) ℓ) (c : Dev nD) (H : ℕ → Fox.Head)
    (hs : ∀ h, Ideal.ofBits .f32 0x3DB504F3#32 = ((H h).scale : EReal))
    (hq : m ((c.tc : Thread nD τ).loc main_arg0) = (wide fun h => (H h).q))
    (hk : m ((c.tc : Thread nD τ).loc main_arg1) = (wide fun h => (H h).k))
    (hv : Right (fun h => (H h).v) (m ((c.tc : Thread nD τ).loc main_arg2)))
    (hc : m ((c.tc : Thread nD τ).loc main_arg3) = (flat fun h => (H h).c))
    (ht : m ((c.tc : Thread nD τ).loc main_arg4) = (wide fun h => (H h).ct)) :
    res_main_v56 m c = (wide fun h => out (H h)) ∧ res_main_v92 m c = (wide fun h => dquery (H h))
    ∧ res_main_v90 m c = (wide fun h => dkey (H h)) ∧ res_main_v93 m c = (wide fun h => dvalue (H h))
    ∧ res_main_v84 m c = (flat fun h i => colGrad (H h) i + rowGrad (H h) i) := by
  have eq : argQ m c = cube (n := 128) fun h => (H h).q := (congrArg apart hq).trans (apart_wide _)
  have ek : argK m c = cube (n := 128) fun h => (H h).k := (congrArg apart hk).trans (apart_wide _)
  have ev : argV m c = cube (n := 128) fun h => (H h).v := apart_right _ _ hv
  have et : argT m c = cube (n := 128) fun h => (H h).ct := (congrArg apart ht).trans (apart_wide _)
  obtain ⟨μ, hμ⟩ := top_real H
  have ee : argE m c = allWeights H μ := by
    refine Eq.trans (b := weights (allMasked H)) ?_ (weights_eq H μ hμ)
    refine congrArg weights (Eq.trans ?_ (logits_eq H hs))
    rw [← eq, ← ek, ← hc]
  have ed : argD m c = cube (n := 2048) fun h => dlogit (H h) := by
    refine Eq.trans ?_ (dlogits_eq H μ)
    rw [← ee]
    refine congrArg (dlogits (argE m c)) ?_
    rw [et, ev]
    exact pairs_cube _ _
  have ep : probs (argE m c) = cube (n := 2048) fun h => prob (H h) := by rw [ee]; exact probs_eq H μ
  refine ⟨?_, ?_, ?_, ?_, ?_⟩
  · rw [res_o, ep, ev, byKey_cube, together_cube]; rfl
  · rw [res_dq, ed, scaled_cube H hs, ek, byKey_cube, together_cube]
    refine congrArg wide ?_
    funext h i d
    unfold dquery
    rw [upTo_mul]
    exact upTo_congr fun j _ => mul_right_comm _ _ _
  · rw [res_dk, ed, scaled_cube H hs, eq, byRow_cube, together_cube]
    refine congrArg wide ?_
    funext h i d
    unfold dkey
    rw [upTo_mul]
    exact upTo_congr fun j _ => mul_right_comm _ _ _
  · rw [res_dv, ep, et, dvalues_cube, together_cube]; rfl
  · rw [res_dc, ed, dgates_cube]; rfl

/-- The reference terminates, leaves its arguments unchanged and has no counter. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run (defs (F := Ideal)) _ _).mono (fun r h => ⟨fun c => (h c).2.2.2.2.2, sem_eq_zero_of_no_sems (by decide) r.2⟩) (Cert.Reference10Ideal.Value.run m ρ)

/-- Both programs leave the attention's output and the gradients of the queries, keys, values and gates. -/
theorem algebraic : algebraic_Kernel10Ideal_Reference10Ideal_pre_finite10 := by
  intro m ρ m' ρ' hpre hagree
  have real := fun c => Cert.Pre_finite10.Hand.args_real _ _ _ _ _ (hpre c)
  let H : Dev Cert.Kernel10Ideal.nD → ℕ → Fox.Head := fun c =>
    Fox.headsOf (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg4))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
  refine ⟨fun c => wide fun h => out (H c h), fun c => wide fun h => dquery (H c h), fun c => wide fun h => dkey (H c h),
    fun c => wide fun h => dvalue (H c h), fun c => flat fun h i => colGrad (H c h) i + rowGrad (H c h) i,
    Cert.Kernel10Ideal.Hand.run_value m ρ H (fun c h => scale_eq _ _ _ _ _ h) fun c =>
      Cert.Kernel10Ideal.Hand.given m ρ c (wide_entry _ (real c).1) (wide_entry _ (real c).2.1) (right_entry _ (real c).2.2.1)
        (flat_entry _ (real c).2.2.2.1) (wide_entry _ (real c).2.2.2.2), ?_⟩
  refine (θ_run (defs (F := Ideal)) _ _).mono ?_ (Cert.Reference10Ideal.Value.run m' ρ')
  intro r h c
  obtain ⟨g0, g1, g2, g3, g4⟩ := hagree c
  obtain ⟨e0, e1, e2, e3, e4⟩ := res_value m' c (H c) (fun h => scale_eq _ _ _ _ _ h) (g0.trans (wide_entry _ (real c).1))
    (g1.trans (wide_entry _ (real c).2.1)) (by rw [g2]; exact right_entry _ (real c).2.2.1) (g3.trans (flat_entry _ (real c).2.2.2.1))
    (g4.trans (wide_entry _ (real c).2.2.2.2))
  obtain ⟨h0, h1, h2, h3, h4, ha⟩ := h c
  exact ⟨h0.trans e0, h1.trans e1, h2.trans e2, h3.trans e3, h4.trans e4, ha⟩

end Cert.Reference10Ideal.Hand

end

end
-- ==== Proof.KRead.lean ====
/- What a chunk's loads read: 64 rows of one head's columns, or one head's tile, of a block held whole. -/
module

public import proofs.«01_k».proof.Proof.Gen.KernelIdeal.Loops
public import proofs.«01_k».proof.Proof.Spec
public import Idealize.ShloMosaic.Lib.WholeRead

@[expose] public noncomputable section

namespace Cert.KernelIdeal.Hand

open Idealize.ShloMosaic Cert.Gdn

/-- A state as the kernels' register array. -/
abbrev mat {m n : ℕ} (M : Mat m n) : (⟨2, ![m, n]⟩ : Shape).Idx → EReal := fun j => M (j 0) (j 1)

/-- Where a chunk's rectangle places one of its entries, in a block of two heads' columns. -/
theorem emb_cols (off : Fin 2 → ℕ) (inb) (i h : ℕ) (hi : i < 32) (hh : h < 2) (ho : off = ![64 * i, 128 * h])
    (j : S64x128.Idx) :
    (Rect.unit (s := S2048x256) off ![64, 128] inb).emb j = ix2 (row i (j 0)) (col 256 h (j 1)) := by
  subst ho
  refine idx2 _ _ _ ?_ ?_
  · exact (congrArg (64 * i + ·) (Nat.one_mul _)).trans (row_val hi _).symm
  · exact (congrArg (128 * h + ·) (Nat.one_mul _)).trans (col_val (C := 256) (by omega) _).symm

/-- Where a tile's rectangle places one of its entries. -/
theorem emb_tile {a b : ℕ} (off : Fin 4 → ℕ) (inb) (i h : ℕ) (hi : i < 32) (hh : h < 2) (ho : off = ![h, i, 0, 0])
    (j : (⟨4, ![1, 1, a, b]⟩ : Shape).Idx) :
    (Rect.unit (s := ⟨4, ![2, 32, a, b]⟩) off ![1, 1, a, b] inb).emb j = ix4 (Fin.ofNat 2 h) (Fin.ofNat 32 i) (j 2) (j 3) := by
  subst ho
  refine idx4 _ _ _ _ _ ?_ ?_ ?_ ?_
  · have h0 : (j 0).val = 0 := Nat.lt_one_iff.mp (j 0).isLt
    show h + 1 * (j 0).val = h % 2
    omega
  · have h0 : (j 1).val = 0 := Nat.lt_one_iff.mp (j 1).isLt
    show i + 1 * (j 1).val = i % 32
    omega
  · show 0 + 1 * (j 2).val = (j 2).val
    omega
  · show 0 + 1 * (j 3).val = (j 3).val
    omega

/-- `cols` at a place of a chunk's rectangle. -/
theorem cols_emb (f : ℕ → ℕ → Mat 64 128) (off : Fin 2 → ℕ) (inb) (i h : ℕ) (hi : i < 32) (hh : h < 2)
    (ho : off = ![64 * i, 128 * h]) (j : S64x128.Idx) :
    cols 256 f ((Rect.unit (s := S2048x256) off ![64, 128] inb).emb j) = f h i (j 0) (j 1) := by
  rw [emb_cols off inb i h hi hh ho j]
  exact cols_at 256 f _ h i (j 0) (j 1) (row_val hi _) (col_val (C := 256) (by omega) _)

/-- `tiles` at a place of a tile's rectangle. -/
theorem tiles_emb {a b : ℕ} (f : ℕ → ℕ → Mat a b) (off : Fin 4 → ℕ) (inb) (i h : ℕ) (hi : i < 32) (hh : h < 2)
    (ho : off = ![h, i, 0, 0]) (j : (⟨4, ![1, 1, a, b]⟩ : Shape).Idx) :
    tiles 2 a b f ((Rect.unit (s := ⟨4, ![2, 32, a, b]⟩) off ![1, 1, a, b] inb).emb j) = f h i (j 2) (j 3) := by
  rw [emb_tile off inb i h hi hh ho j]
  exact tiles_at 2 a b f _ h i (j 2) (j 3) (Nat.mod_eq_of_lt hh) (Nat.mod_eq_of_lt hi) rfl rfl

/-- The states of one head, by chunk, that an array of states holds. -/
def statesOf (H : ℕ) [NeZero H] (s : (⟨4, ![H, 32, 128, 128]⟩ : Shape).Idx → EReal) (h i : ℕ) : Mat 128 128 :=
  fun k v => s (ix4 (Fin.ofNat H h) (Fin.ofNat 32 i) k v)

variable {m2 : Memref sig .tc .vmem S2048x256 .f32}

/-- A load of a chunk's rows in one head's columns. -/
theorem read_cols (hm : m2.IsWhole) (x : Vec Ideal S2048x256 .f32) (off : Fin 2 → ℕ) (inb) (i h : ℕ) (hi : i < 32) (hh : h < 2)
    (ho : off = ![64 * i, 128 * h]) :
    View.readAt (Elt Ideal) m2.view (Rect.unit (s := S2048x256) off ![64, 128] inb).toLoadRect (hm.unread x)
      = fun j => x (ix2 (row i (j 0)) (col 256 h (j 1))) := by
  funext j
  rw [hm.readAt_unread]
  exact congrArg x (emb_cols off inb i h hi hh ho j)

/-- A load of one head's tile of one chunk. -/
theorem read_tile {a b : ℕ} {m4 : Memref sig .tc .vmem ⟨4, ![2, 32, a, b]⟩ .f32} (hm : m4.IsWhole)
    (x : Vec Ideal ⟨4, ![2, 32, a, b]⟩ .f32) (off : Fin 4 → ℕ) (inb) (i h : ℕ) (hi : i < 32) (hh : h < 2)
    (ho : off = ![h, i, 0, 0]) :
    View.readAt (Elt Ideal) m4.view (Rect.unit (s := ⟨4, ![2, 32, a, b]⟩) off ![1, 1, a, b] inb).toLoadRect (hm.unread x)
      = fun j => x (ix4 (Fin.ofNat 2 h) (Fin.ofNat 32 i) (j 2) (j 3)) := by
  funext j
  rw [hm.readAt_unread]
  exact congrArg x (emb_tile off inb i h hi hh ho j)

end Cert.KernelIdeal.Hand

end
-- ==== Proof.KFwd.lean ====
/- The forward scan's run at one grid point, at the ideal instance: what its loop carries, and what it stores as the states
   before the chunks. -/
module

public import proofs.«01_k».proof.Proof.Gen.KernelIdeal.Frame
public import proofs.«01_k».proof.Proof.KRead

@[expose] public noncomputable section

set_option maxHeartbeats 1000000

namespace Cert.KernelIdeal.Hand

open Idealize.ShloMosaic Idealize.ShloMosaic.TcCoe Idealize.ShloMosaic.Tactic
open Idealize.SL Idealize.SL.RA
open Cert.KernelIdeal.Gen Cert.Gdn

/-- The loop carries both heads' states before its chunk. -/
theorem st0_carry (c : Dev nD) (i : grid0.Coords)
    (arg1 : Memref sig .tc .vmem S2048x256 .f32) (harg1 : arg1.IsWhole)
    (arg2 : Memref sig .tc .vmem S2048x256 .f32) (harg2 : arg2.IsWhole)
    (arg3 : Memref sig .tc .vmem S2048x256 .f32) (harg3 : arg3.IsWhole)
    (arg4 : Memref sig .tc .vmem S2x32x64x64 .f32) (harg4 : arg4.IsWhole)
    (arg5 : Memref sig .tc .vmem S2048x256 .f32) (harg5 : arg5.IsWhole)
    (arg6 : Memref sig .tc .vmem S2x32x1x128 .f32) (harg6 : arg6.IsWhole)
    (arg7 : Memref sig .tc .vmem S2048x256 .f32) (harg7 : arg7.IsWhole)
    (arg8 : Memref sig .tc .vmem S2x32x128x128 .f32) (harg8 : arg8.IsWhole)
    (x0 : Vec Ideal S2048x256 .f32)
    (x1 : Vec Ideal S2048x256 .f32)
    (x2 : Vec Ideal S2048x256 .f32)
    (x3 : Vec Ideal S2x32x64x64 .f32)
    (x4 : Vec Ideal S2048x256 .f32)
    (x5 : Vec Ideal S2x32x1x128 .f32)
    (d : Vec Ideal S2048x256 .f32) : ∀ n : ℕ, n ≤ 32 →
    (st_k0_t1 (F := Ideal) Variants.none c none i arg1 harg1 arg2 harg2 arg3 harg3 arg4 harg4 arg5 harg5 arg6 harg6 arg7 harg7 arg8 harg8
        (harg1.unread x0) (harg2.unread x1) (harg3.unread x2) (harg4.unread x3) (harg5.unread x4) (harg6.unread x5) (k0_pay1, k0_pay1) n).1
      = (mat (state (headOf 256 2 x0 x1 x2 x3 x4 x5 d 0) n), mat (state (headOf 256 2 x0 x1 x2 x3 x4 x5 d 1) n))
  | 0, _ => by
    rw [st_k0_t1_zero]
    refine Prod.ext ?_ ?_ <;> (funext j; unfold k0_pay1; simp only [pointwise]; rfl)
  | n + 1, hn => by
    have hk : n < k0_t1_loop.trips := hn
    have ih := st0_carry c i arg1 harg1 arg2 harg2 arg3 harg3 arg4 harg4 arg5 harg5 arg6 harg6 arg7 harg7 arg8 harg8 x0 x1 x2 x3 x4 x5 d n (by omega)
    have hs := st_k0_t1_succ (F := Ideal) Variants.none c none i arg1 harg1 arg2 harg2 arg3 harg3 arg4 harg4 arg5 harg5 arg6 harg6 arg7 harg7 arg8 harg8
        (harg1.unread x0) (harg2.unread x1) (harg3.unread x2) (harg4.unread x3) (harg5.unread x4) (harg6.unread x5) (k0_pay1, k0_pay1) ⟨n, hk⟩
    rw [hs, ih]
    dsimp only
    unfold tripR_k0_t1 trip_k0_t1
    dsimp only
    sl_unfold_run_names
    rw [read_cols harg1 x0 _ _ n 0 hn (by omega) (k0_off2_eq ⟨n, hk⟩), read_cols harg2 x1 _ _ n 0 hn (by omega) (k0_off2_eq ⟨n, hk⟩),
      read_cols harg5 x4 _ _ n 0 hn (by omega) (k0_off2_eq ⟨n, hk⟩), read_tile harg6 x5 _ _ n 0 hn (by omega) (k0_off4_eq ⟨n, hk⟩),
      read_cols harg1 x0 _ _ n 1 hn (by omega) (k0_off6_eq ⟨n, hk⟩), read_cols harg2 x1 _ _ n 1 hn (by omega) (k0_off6_eq ⟨n, hk⟩),
      read_cols harg5 x4 _ _ n 1 hn (by omega) (k0_off6_eq ⟨n, hk⟩), read_tile harg6 x5 _ _ n 1 hn (by omega) (k0_off8_eq ⟨n, hk⟩)]
    refine Prod.ext ?_ ?_
    · funext j
      unfold k0_pay2 k0_pay10 k0_pay11 k0_pay8
      simp only [pointwise]
      simp only [zero_add]
      rfl
    · funext j
      unfold k0_pay6 k0_pay4
      simp only [pointwise]
      simp only [zero_add]
      rfl

/-- Every store into the states' block so far is of the state before its chunk. -/
theorem st0_states (c : Dev nD) (i : grid0.Coords)
    (arg1 : Memref sig .tc .vmem S2048x256 .f32) (harg1 : arg1.IsWhole)
    (arg2 : Memref sig .tc .vmem S2048x256 .f32) (harg2 : arg2.IsWhole)
    (arg3 : Memref sig .tc .vmem S2048x256 .f32) (harg3 : arg3.IsWhole)
    (arg4 : Memref sig .tc .vmem S2x32x64x64 .f32) (harg4 : arg4.IsWhole)
    (arg5 : Memref sig .tc .vmem S2048x256 .f32) (harg5 : arg5.IsWhole)
    (arg6 : Memref sig .tc .vmem S2x32x1x128 .f32) (harg6 : arg6.IsWhole)
    (arg7 : Memref sig .tc .vmem S2048x256 .f32) (harg7 : arg7.IsWhole)
    (arg8 : Memref sig .tc .vmem S2x32x128x128 .f32) (harg8 : arg8.IsWhole)
    (x0 : Vec Ideal S2048x256 .f32)
    (x1 : Vec Ideal S2048x256 .f32)
    (x2 : Vec Ideal S2048x256 .f32)
    (x3 : Vec Ideal S2x32x64x64 .f32)
    (x4 : Vec Ideal S2048x256 .f32)
    (x5 : Vec Ideal S2x32x1x128 .f32)
    (d : Vec Ideal S2048x256 .f32) : ∀ n : ℕ, n ≤ 32 → ∀ p ∈ (st_k0_t1 (F := Ideal) Variants.none c none i arg1 harg1 arg2 harg2 arg3 harg3 arg4 harg4 arg5 harg5 arg6 harg6 arg7 harg7 arg8 harg8
        (harg1.unread x0) (harg2.unread x1) (harg3.unread x2) (harg4.unread x3) (harg5.unread x4) (harg6.unread x5) (k0_pay1, k0_pay1) n).2.2,
    ∀ j : p.1.shape.Idx, p.2 j = tiles 2 128 128 (fun h => state (headOf 256 2 x0 x1 x2 x3 x4 x5 d h)) (p.1.emb j)
  | 0, _ => fun p hp => absurd hp List.not_mem_nil
  | n + 1, hn => by
    have hk : n < k0_t1_loop.trips := hn
    have hc := st0_carry c i arg1 harg1 arg2 harg2 arg3 harg3 arg4 harg4 arg5 harg5 arg6 harg6 arg7 harg7 arg8 harg8 x0 x1 x2 x3 x4 x5 d n (by omega)
    have hs := st_k0_t1_succ (F := Ideal) Variants.none c none i arg1 harg1 arg2 harg2 arg3 harg3 arg4 harg4 arg5 harg5 arg6 harg6 arg7 harg7 arg8 harg8
        (harg1.unread x0) (harg2.unread x1) (harg3.unread x2) (harg4.unread x3) (harg5.unread x4) (harg6.unread x5) (k0_pay1, k0_pay1) ⟨n, hk⟩
    rw [hs, hc]
    intro p hp
    rcases List.mem_append.mp hp with hp | hp
    · unfold tripL_k0_t1 trip_k0_t1 at hp
      dsimp only at hp
      simp only [List.mem_cons, List.not_mem_nil, or_false] at hp
      rcases hp with rfl | rfl
      · intro j
        rw [tiles_emb _ _ _ n 1 hn (by omega) (k0_off5_eq ⟨n, hk⟩) j]
        unfold k0_pay3
        simp only [pointwise]
        rfl
      · intro j
        rw [tiles_emb _ _ _ n 0 hn (by omega) (k0_off1_eq ⟨n, hk⟩) j]
        unfold k0_pay7
        simp only [pointwise]
        rfl
    · exact st0_states c i arg1 harg1 arg2 harg2 arg3 harg3 arg4 harg4 arg5 harg5 arg6 harg6 arg7 harg7 arg8 harg8 x0 x1 x2 x3 x4 x5 d n (by omega) p hp

/-- What the forward scan leaves in its block of states. -/
theorem out0_states (c : Dev nD) (i : grid0.Coords)
    (arg1 : Memref sig .tc .vmem S2048x256 .f32) (harg1 : arg1.IsWhole)
    (arg2 : Memref sig .tc .vmem S2048x256 .f32) (harg2 : arg2.IsWhole)
    (arg3 : Memref sig .tc .vmem S2048x256 .f32) (harg3 : arg3.IsWhole)
    (arg4 : Memref sig .tc .vmem S2x32x64x64 .f32) (harg4 : arg4.IsWhole)
    (arg5 : Memref sig .tc .vmem S2048x256 .f32) (harg5 : arg5.IsWhole)
    (arg6 : Memref sig .tc .vmem S2x32x1x128 .f32) (harg6 : arg6.IsWhole)
    (arg7 : Memref sig .tc .vmem S2048x256 .f32) (harg7 : arg7.IsWhole)
    (arg8 : Memref sig .tc .vmem S2x32x128x128 .f32) (harg8 : arg8.IsWhole)
    (x0 : Vec Ideal S2048x256 .f32)
    (x1 : Vec Ideal S2048x256 .f32)
    (x2 : Vec Ideal S2048x256 .f32)
    (x3 : Vec Ideal S2x32x64x64 .f32)
    (x4 : Vec Ideal S2048x256 .f32)
    (x5 : Vec Ideal S2x32x1x128 .f32)
    (d : Vec Ideal S2048x256 .f32) :
    out0_A_7 (F := Ideal) c i arg1 harg1 arg2 harg2 arg3 harg3 arg4 harg4 arg5 harg5 arg6 harg6 arg7 harg7 arg8 harg8 x0 x1 x2 x3 x4 x5 = tiles 2 128 128 (fun h => state (headOf 256 2 x0 x1 x2 x3 x4 x5 d h)) := by
  funext y
  unfold out0_A_7
  refine View.read_writes_apply_of_pieces _ _ _ _ ?_ y (cover0_A_7 (F := Ideal) c i arg1 harg1 arg2 harg2 arg3 harg3 arg4 harg4 arg5 harg5 arg6 harg6 arg7 harg7 arg8 harg8 x0 x1 x2 x3 x4 x5 y)
  unfold kernelRun0_A
  exact st0_states c i arg1 harg1 arg2 harg2 arg3 harg3 arg4 harg4 arg5 harg5 arg6 harg6 arg7 harg7 arg8 harg8 x0 x1 x2 x3 x4 x5 d 32 (le_refl _)

end Cert.KernelIdeal.Hand

end
-- ==== Proof.KBwd.lean ====
/- The backward scan's run at one grid point, at the ideal instance: what its loop carries, and what it stores into each of
   its six blocks. -/
module

public import proofs.«01_k».proof.Proof.Gen.KernelIdeal.Frame
public import proofs.«01_k».proof.Proof.KRead

@[expose] public noncomputable section

set_option maxHeartbeats 1000000

namespace Cert.KernelIdeal.Hand

open Idealize.ShloMosaic Idealize.ShloMosaic.TcCoe Idealize.ShloMosaic.Tactic
open Idealize.SL Idealize.SL.RA
open Cert.KernelIdeal.Gen Cert.Gdn

/-- The first head's rectangle at trip `k` is that of chunk `31 - k`. -/
theorem k1_off2_at : ∀ k : Fin k1_t1_loop.trips, k1_off2 k = ![64 * (31 - k.val), 128 * 0] := by decide +kernel

/-- The second head's likewise. -/
theorem k1_off6_at : ∀ k : Fin k1_t1_loop.trips, k1_off6 k = ![64 * (31 - k.val), 128 * 1] := by decide +kernel

/-- The loop carries both heads' gradients of the state. -/
theorem st1_carry (c : Dev nD) (i : grid1.Coords)
    (arg1 : Memref sig .tc .vmem S2048x256 .f32) (harg1 : arg1.IsWhole)
    (arg2 : Memref sig .tc .vmem S2048x256 .f32) (harg2 : arg2.IsWhole)
    (arg3 : Memref sig .tc .vmem S2048x256 .f32) (harg3 : arg3.IsWhole)
    (arg4 : Memref sig .tc .vmem S2x32x64x64 .f32) (harg4 : arg4.IsWhole)
    (arg5 : Memref sig .tc .vmem S2048x256 .f32) (harg5 : arg5.IsWhole)
    (arg6 : Memref sig .tc .vmem S2x32x1x128 .f32) (harg6 : arg6.IsWhole)
    (arg7 : Memref sig .tc .vmem S2x32x128x128 .f32) (harg7 : arg7.IsWhole)
    (arg8 : Memref sig .tc .vmem S2048x256 .f32) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S2048x256 .f32) (harg11 : arg11.IsWhole)
    (arg12 : Memref sig .tc .vmem S2x32x64x64 .f32) (harg12 : arg12.IsWhole)
    (arg13 : Memref sig .tc .vmem S2048x256 .f32) (harg13 : arg13.IsWhole)
    (arg14 : Memref sig .tc .vmem S2x32x1x128 .f32) (harg14 : arg14.IsWhole)
    (x0 : Vec Ideal S2048x256 .f32)
    (x1 : Vec Ideal S2048x256 .f32)
    (x2 : Vec Ideal S2048x256 .f32)
    (x3 : Vec Ideal S2x32x64x64 .f32)
    (x4 : Vec Ideal S2048x256 .f32)
    (x5 : Vec Ideal S2x32x1x128 .f32)
    (x6 : Vec Ideal S2x32x128x128 .f32)
    (x7 : Vec Ideal S2048x256 .f32) : ∀ n : ℕ, n ≤ 32 →
    (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).1
      = (mat (dstate (headOf 256 2 x0 x1 x2 x3 x4 x5 x7 0) n), mat (dstate (headOf 256 2 x0 x1 x2 x3 x4 x5 x7 1) n))
  | 0, _ => by
    rw [st_k1_t1_zero]
    refine Prod.ext ?_ ?_ <;> (funext j; unfold k1_pay1; simp only [pointwise]; rfl)
  | n + 1, hn => by
    have hk : n < k1_t1_loop.trips := hn
    have ih := st1_carry c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 n (by omega)
    have hs := st_k1_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) ⟨n, hk⟩
    rw [hs, ih]
    dsimp only
    unfold tripR_k1_t1 trip_k1_t1
    dsimp only
    sl_unfold_run_names
    have rc := fun (m : Memref sig .tc .vmem S2048x256 .f32) (hm : m.IsWhole) x inb =>
      read_cols (m2 := m) hm x (k1_off2 ⟨n, hk⟩) inb (31 - n) 0 (by omega) (by omega) (k1_off2_at ⟨n, hk⟩)
    have rd := fun (m : Memref sig .tc .vmem S2048x256 .f32) (hm : m.IsWhole) x inb =>
      read_cols (m2 := m) hm x (k1_off6 ⟨n, hk⟩) inb (31 - n) 1 (by omega) (by omega) (k1_off6_at ⟨n, hk⟩)
    have rq := fun inb => read_tile harg4 x3 (k1_off3 ⟨n, hk⟩) inb (31 - n) 0 (by omega) (by omega) (k1_off3_eq ⟨n, hk⟩)
    have rr := fun inb => read_tile harg4 x3 (k1_off7 ⟨n, hk⟩) inb (31 - n) 1 (by omega) (by omega) (k1_off7_eq ⟨n, hk⟩)
    have rg := fun inb => read_tile harg6 x5 (k1_off4 ⟨n, hk⟩) inb (31 - n) 0 (by omega) (by omega) (k1_off4_eq ⟨n, hk⟩)
    have rh := fun inb => read_tile harg6 x5 (k1_off8 ⟨n, hk⟩) inb (31 - n) 1 (by omega) (by omega) (k1_off8_eq ⟨n, hk⟩)
    have rs := fun inb => read_tile harg7 x6 (k1_off1 ⟨n, hk⟩) inb (31 - n) 0 (by omega) (by omega) (k1_off1_eq ⟨n, hk⟩)
    have rt := fun inb => read_tile harg7 x6 (k1_off5 ⟨n, hk⟩) inb (31 - n) 1 (by omega) (by omega) (k1_off5_eq ⟨n, hk⟩)
    simp only [rc _ harg1, rc _ harg2, rc _ harg3, rc _ harg5, rc _ harg8, rd _ harg1, rd _ harg2, rd _ harg3, rd _ harg5, rd _ harg8, rq, rr, rg, rh, rs, rt]
    refine Prod.ext ?_ ?_
    · funext j
      dsimp only
      simp only [k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]
      simp only [pointwise]
      simp only [zero_add]
      rfl
    · funext j
      dsimp only
      simp only [k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]
      simp only [pointwise]
      simp only [zero_add]
      rfl

/-- Every store so far, into each of the six blocks of gradients, is of its chunk's gradient. -/
theorem st1_pieces (c : Dev nD) (i : grid1.Coords)
    (arg1 : Memref sig .tc .vmem S2048x256 .f32) (harg1 : arg1.IsWhole)
    (arg2 : Memref sig .tc .vmem S2048x256 .f32) (harg2 : arg2.IsWhole)
    (arg3 : Memref sig .tc .vmem S2048x256 .f32) (harg3 : arg3.IsWhole)
    (arg4 : Memref sig .tc .vmem S2x32x64x64 .f32) (harg4 : arg4.IsWhole)
    (arg5 : Memref sig .tc .vmem S2048x256 .f32) (harg5 : arg5.IsWhole)
    (arg6 : Memref sig .tc .vmem S2x32x1x128 .f32) (harg6 : arg6.IsWhole)
    (arg7 : Memref sig .tc .vmem S2x32x128x128 .f32) (harg7 : arg7.IsWhole)
    (arg8 : Memref sig .tc .vmem S2048x256 .f32) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S2048x256 .f32) (harg11 : arg11.IsWhole)
    (arg12 : Memref sig .tc .vmem S2x32x64x64 .f32) (harg12 : arg12.IsWhole)
    (arg13 : Memref sig .tc .vmem S2048x256 .f32) (harg13 : arg13.IsWhole)
    (arg14 : Memref sig .tc .vmem S2x32x1x128 .f32) (harg14 : arg14.IsWhole)
    (x0 : Vec Ideal S2048x256 .f32)
    (x1 : Vec Ideal S2048x256 .f32)
    (x2 : Vec Ideal S2048x256 .f32)
    (x3 : Vec Ideal S2x32x64x64 .f32)
    (x4 : Vec Ideal S2048x256 .f32)
    (x5 : Vec Ideal S2x32x1x128 .f32)
    (x6 : Vec Ideal S2x32x128x128 .f32)
    (x7 : Vec Ideal S2048x256 .f32) : ∀ n : ℕ, n ≤ 32 →
      (∀ p ∈ (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).2.1,
        ∀ j : p.1.shape.Idx, p.2 j = cols 256 (fun h => gradU (headOf 256 2 x0 x1 x2 x3 x4 x5 x7 h)) (p.1.emb j)) ∧
      (∀ p ∈ (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).2.2.1,
        ∀ j : p.1.shape.Idx, p.2 j = cols 256 (fun h => fun i => gradW (headOf 256 2 x0 x1 x2 x3 x4 x5 x7 h) (statesOf 2 x6 h i) i) (p.1.emb j)) ∧
      (∀ p ∈ (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).2.2.2.1,
        ∀ j : p.1.shape.Idx, p.2 j = cols 256 (fun h => fun i => gradQg (headOf 256 2 x0 x1 x2 x3 x4 x5 x7 h) (statesOf 2 x6 h i) i) (p.1.emb j)) ∧
      (∀ p ∈ (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).2.2.2.2.1,
        ∀ j : p.1.shape.Idx, p.2 j = tiles 2 64 64 (fun h => fun i => gradQk (headOf 256 2 x0 x1 x2 x3 x4 x5 x7 h) (statesOf 2 x6 h i) i) (p.1.emb j)) ∧
      (∀ p ∈ (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).2.2.2.2.2.1,
        ∀ j : p.1.shape.Idx, p.2 j = cols 256 (fun h => fun i => gradKd (headOf 256 2 x0 x1 x2 x3 x4 x5 x7 h) (statesOf 2 x6 h i) i) (p.1.emb j)) ∧
      (∀ p ∈ (st_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) n).2.2.2.2.2.2,
        ∀ j : p.1.shape.Idx, p.2 j = tiles 2 1 128 (fun h => fun i _ => gradG (headOf 256 2 x0 x1 x2 x3 x4 x5 x7 h) (statesOf 2 x6 h i) i) (p.1.emb j))
  | 0, _ => ⟨fun _ hp => absurd hp List.not_mem_nil, fun _ hp => absurd hp List.not_mem_nil,
      fun _ hp => absurd hp List.not_mem_nil, fun _ hp => absurd hp List.not_mem_nil,
      fun _ hp => absurd hp List.not_mem_nil, fun _ hp => absurd hp List.not_mem_nil⟩
  | n + 1, hn => by
    have hk : n < k1_t1_loop.trips := hn
    have hc := st1_carry c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 n (by omega)
    have ih := st1_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 n (by omega)
    have e : 31 - (31 - n) = n := by omega
    have rc := fun (m : Memref sig .tc .vmem S2048x256 .f32) (hm : m.IsWhole) x inb =>
      read_cols (m2 := m) hm x (k1_off2 ⟨n, hk⟩) inb (31 - n) 0 (by omega) (by omega) (k1_off2_at ⟨n, hk⟩)
    have rd := fun (m : Memref sig .tc .vmem S2048x256 .f32) (hm : m.IsWhole) x inb =>
      read_cols (m2 := m) hm x (k1_off6 ⟨n, hk⟩) inb (31 - n) 1 (by omega) (by omega) (k1_off6_at ⟨n, hk⟩)
    have rq := fun inb => read_tile harg4 x3 (k1_off3 ⟨n, hk⟩) inb (31 - n) 0 (by omega) (by omega) (k1_off3_eq ⟨n, hk⟩)
    have rr := fun inb => read_tile harg4 x3 (k1_off7 ⟨n, hk⟩) inb (31 - n) 1 (by omega) (by omega) (k1_off7_eq ⟨n, hk⟩)
    have rg := fun inb => read_tile harg6 x5 (k1_off4 ⟨n, hk⟩) inb (31 - n) 0 (by omega) (by omega) (k1_off4_eq ⟨n, hk⟩)
    have rh := fun inb => read_tile harg6 x5 (k1_off8 ⟨n, hk⟩) inb (31 - n) 1 (by omega) (by omega) (k1_off8_eq ⟨n, hk⟩)
    have rs := fun inb => read_tile harg7 x6 (k1_off1 ⟨n, hk⟩) inb (31 - n) 0 (by omega) (by omega) (k1_off1_eq ⟨n, hk⟩)
    have rt := fun inb => read_tile harg7 x6 (k1_off5 ⟨n, hk⟩) inb (31 - n) 1 (by omega) (by omega) (k1_off5_eq ⟨n, hk⟩)
    have ec := fun f inb => cols_emb f (k1_off2 ⟨n, hk⟩) inb (31 - n) 0 (by omega) (by omega) (k1_off2_at ⟨n, hk⟩)
    have ed := fun f inb => cols_emb f (k1_off6 ⟨n, hk⟩) inb (31 - n) 1 (by omega) (by omega) (k1_off6_at ⟨n, hk⟩)
    have eq := fun f inb => tiles_emb (a := 64) (b := 64) f (k1_off3 ⟨n, hk⟩) inb (31 - n) 0 (by omega) (by omega) (k1_off3_eq ⟨n, hk⟩)
    have er := fun f inb => tiles_emb (a := 64) (b := 64) f (k1_off7 ⟨n, hk⟩) inb (31 - n) 1 (by omega) (by omega) (k1_off7_eq ⟨n, hk⟩)
    have eg := fun f inb => tiles_emb (a := 1) (b := 128) f (k1_off4 ⟨n, hk⟩) inb (31 - n) 0 (by omega) (by omega) (k1_off4_eq ⟨n, hk⟩)
    have eh := fun f inb => tiles_emb (a := 1) (b := 128) f (k1_off8 ⟨n, hk⟩) inb (31 - n) 1 (by omega) (by omega) (k1_off8_eq ⟨n, hk⟩)
    have hs := st_k1_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14
        (harg1.unread x0) (harg2.unread x1) (harg3.unread x2) (harg4.unread x3) (harg5.unread x4) (harg6.unread x5) (harg7.unread x6) (harg8.unread x7) (k1_pay1, k1_pay1) ⟨n, hk⟩
    rw [hs, hc]
    refine ⟨fun p hp => (List.mem_append.mp hp).elim ?_ (ih.1 p), fun p hp => (List.mem_append.mp hp).elim ?_ (ih.2.1 p), fun p hp => (List.mem_append.mp hp).elim ?_ (ih.2.2.1 p), fun p hp => (List.mem_append.mp hp).elim ?_ (ih.2.2.2.1 p), fun p hp => (List.mem_append.mp hp).elim ?_ (ih.2.2.2.2.1 p), fun p hp => (List.mem_append.mp hp).elim ?_ (ih.2.2.2.2.2 p)⟩
    all_goals
      clear hs hc ih hp
      intro hp
      unfold tripL_k1_t1 trip_k1_t1 at hp
      dsimp only at hp
      simp only [List.mem_cons, List.not_mem_nil, or_false] at hp
      rcases hp with rfl | rfl
      all_goals
        intro j
        first
          | rw [ec]
          | rw [ed]
          | rw [eq]
          | rw [er]
          | rw [eg]
          | rw [eh]
        dsimp only
        sl_unfold_run_names
        simp only [rc _ harg1, rc _ harg2, rc _ harg3, rc _ harg5, rc _ harg8, rd _ harg1, rd _ harg2, rd _ harg3, rd _ harg5, rd _ harg8, rq, rr, rg, rh, rs, rt, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20]
        simp only [pointwise]
        try simp only [zero_add, zero_sub]
        simp only [gradU, gradW, gradQg, gradQk, gradKd, gradG, e]
        rfl

/-- What the backward scan leaves in its six blocks of gradients. -/
theorem out1_blocks (c : Dev nD) (i : grid1.Coords)
    (arg1 : Memref sig .tc .vmem S2048x256 .f32) (harg1 : arg1.IsWhole)
    (arg2 : Memref sig .tc .vmem S2048x256 .f32) (harg2 : arg2.IsWhole)
    (arg3 : Memref sig .tc .vmem S2048x256 .f32) (harg3 : arg3.IsWhole)
    (arg4 : Memref sig .tc .vmem S2x32x64x64 .f32) (harg4 : arg4.IsWhole)
    (arg5 : Memref sig .tc .vmem S2048x256 .f32) (harg5 : arg5.IsWhole)
    (arg6 : Memref sig .tc .vmem S2x32x1x128 .f32) (harg6 : arg6.IsWhole)
    (arg7 : Memref sig .tc .vmem S2x32x128x128 .f32) (harg7 : arg7.IsWhole)
    (arg8 : Memref sig .tc .vmem S2048x256 .f32) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S2048x256 .f32) (harg11 : arg11.IsWhole)
    (arg12 : Memref sig .tc .vmem S2x32x64x64 .f32) (harg12 : arg12.IsWhole)
    (arg13 : Memref sig .tc .vmem S2048x256 .f32) (harg13 : arg13.IsWhole)
    (arg14 : Memref sig .tc .vmem S2x32x1x128 .f32) (harg14 : arg14.IsWhole)
    (x0 : Vec Ideal S2048x256 .f32)
    (x1 : Vec Ideal S2048x256 .f32)
    (x2 : Vec Ideal S2048x256 .f32)
    (x3 : Vec Ideal S2x32x64x64 .f32)
    (x4 : Vec Ideal S2048x256 .f32)
    (x5 : Vec Ideal S2x32x1x128 .f32)
    (x6 : Vec Ideal S2x32x128x128 .f32)
    (x7 : Vec Ideal S2048x256 .f32) :
    out1_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = cols 256 (fun h => gradU (headOf 256 2 x0 x1 x2 x3 x4 x5 x7 h)) ∧
      out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = cols 256 (fun h => fun i => gradW (headOf 256 2 x0 x1 x2 x3 x4 x5 x7 h) (statesOf 2 x6 h i) i) ∧
      out1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = cols 256 (fun h => fun i => gradQg (headOf 256 2 x0 x1 x2 x3 x4 x5 x7 h) (statesOf 2 x6 h i) i) ∧
      out1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = tiles 2 64 64 (fun h => fun i => gradQk (headOf 256 2 x0 x1 x2 x3 x4 x5 x7 h) (statesOf 2 x6 h i) i) ∧
      out1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = cols 256 (fun h => fun i => gradKd (headOf 256 2 x0 x1 x2 x3 x4 x5 x7 h) (statesOf 2 x6 h i) i) ∧
      out1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = tiles 2 1 128 (fun h => fun i _ => gradG (headOf 256 2 x0 x1 x2 x3 x4 x5 x7 h) (statesOf 2 x6 h i) i) := by
  have h := st1_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 32 (le_refl _)
  refine ⟨?_, ?_, ?_, ?_, ?_, ?_⟩ <;> funext y
  · exact View.read_writes_apply_of_pieces _ _ _ _ (by unfold kernelRun1_A; exact h.1) y (cover1_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  · exact View.read_writes_apply_of_pieces _ _ _ _ (by unfold kernelRun1_A; exact h.2.1) y (cover1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  · exact View.read_writes_apply_of_pieces _ _ _ _ (by unfold kernelRun1_A; exact h.2.2.1) y (cover1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  · exact View.read_writes_apply_of_pieces _ _ _ _ (by unfold kernelRun1_A; exact h.2.2.2.1) y (cover1_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  · exact View.read_writes_apply_of_pieces _ _ _ _ (by unfold kernelRun1_A; exact h.2.2.2.2.1) y (cover1_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)
  · exact View.read_writes_apply_of_pieces _ _ _ _ (by unfold kernelRun1_A; exact h.2.2.2.2.2) y (cover1_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

end Cert.KernelIdeal.Hand

end
-- ==== Proof.KBlocks.lean ====
/- From a block of two heads to the array of eight: block `t` of the arrays holds heads `2 t` and `2 t + 1`. -/
module

public import proofs.«01_k».proof.Proof.KRead

@[expose] public noncomputable section

namespace Cert.KernelIdeal.Hand

open Idealize.ShloMosaic Cert.Gdn

/-- A placement of a block of two heads' columns as block `t` of the array. -/
def ColsAt (e : (⟨2, ![2048, 256]⟩ : Shape).Idx → (⟨2, ![2048, 1024]⟩ : Shape).Idx) (t : ℕ) : Prop :=
  ∀ y, (e y 0).val = (y 0).val ∧ (e y 1).val = t * 256 + (y 1).val

/-- A placement of a block of two heads' tiles as block `t` of the array. -/
def TilesAt {a b : ℕ} (e : (⟨4, ![2, 32, a, b]⟩ : Shape).Idx → (⟨4, ![8, 32, a, b]⟩ : Shape).Idx) (t : ℕ) : Prop :=
  ∀ y, (e y 0).val = t * 2 + (y 0).val ∧ (e y 1).val = (y 1).val ∧ (e y 2).val = (y 2).val ∧ (e y 3).val = (y 3).val

variable {t h : ℕ}

/-- The columns of a block's head are the columns of the array's head. -/
theorem ColsAt.ix {e} (he : ColsAt e t) (ht : t < 4) (hh : h < 2) (r : Fin 2048) (v : Fin 128) :
    e (ix2 r (col 256 h v)) = ix2 r (col 1024 (2 * t + h) v) := by
  refine idx2 _ _ _ (he _).1 ((he _).2.trans ?_)
  show t * 256 + (col 256 h v).val = _
  rw [col_val (by omega), col_val (by omega)]
  omega

/-- The tile of a block's head is the tile of the array's head. -/
theorem TilesAt.ix {a b : ℕ} {e} (he : TilesAt (a := a) (b := b) e t) (ht : t < 4) (hh : h < 2) (i : Fin 32) (p : Fin a) (q : Fin b) :
    e (ix4 (Fin.ofNat 2 h) i p q) = ix4 (Fin.ofNat 8 (2 * t + h)) i p q := by
  refine idx4 _ _ _ _ _ ((he _).1.trans ?_) (he _).2.1 (he _).2.2.1 (he _).2.2.2
  show t * 2 + h % 2 = (2 * t + h) % 8
  omega

/-- The block's head is the array's. -/
theorem head_block {e0 e1 e2 e4 e6} {e3} {e5} (h0 : ColsAt e0 t) (h1 : ColsAt e1 t) (h2 : ColsAt e2 t)
    (h3 : TilesAt (a := 64) (b := 64) e3 t) (h4 : ColsAt e4 t) (h5 : TilesAt (a := 1) (b := 128) e5 t) (h6 : ColsAt e6 t)
    (ht : t < 4) (hh : h < 2) (u w qg qk kd gl d) :
    headOf 256 2 (fun y => u (e0 y)) (fun y => w (e1 y)) (fun y => qg (e2 y)) (fun y => qk (e3 y)) (fun y => kd (e4 y))
        (fun y => gl (e5 y)) (fun y => d (e6 y)) h
      = headOf 1024 8 u w qg qk kd gl d (2 * t + h) := by
  unfold headOf
  simp only [h0.ix ht hh, h1.ix ht hh, h2.ix ht hh, h3.ix ht hh, h4.ix ht hh, h5.ix ht hh, h6.ix ht hh]

/-- The states a block holds are the array's. -/
theorem states_block {e} (he : TilesAt (a := 128) (b := 128) e t) (ht : t < 4) (hh : h < 2) (s) :
    statesOf 2 (fun y => s (e y)) h = statesOf 8 s (2 * t + h) := by
  unfold statesOf
  simp only [he.ix ht hh]

/-- A block of columns that agrees head by head with the array's columns. -/
theorem cols_block {e} (he : ColsAt e t) (f F : ℕ → ℕ → Mat 64 128) (hf : ∀ h, h < 2 → f h = F (2 * t + h)) (y) :
    cols 256 f y = cols 1024 F (e y) := by
  have hy : (y 1).val < 256 := (y 1).isLt
  have h1 : (e y 1).val / 128 = 2 * t + (y 1).val / 128 := by have := (he y).2; omega
  have h2 : Fin.ofNat 128 (e y 1).val = Fin.ofNat 128 (y 1).val :=
    Fin.ext (by show (e y 1).val % 128 = (y 1).val % 128; have := (he y).2; omega)
  unfold cols
  rw [h1, h2, (he y).1, hf _ (by omega)]

/-- A block of tiles that agrees head by head with the array's tiles. -/
theorem tiles_block {a b : ℕ} {e} (he : TilesAt (a := a) (b := b) e t) (f F : ℕ → ℕ → Mat a b)
    (hf : ∀ h, h < 2 → f h = F (2 * t + h)) (y) : tiles 2 a b f y = tiles 8 a b F (e y) := by
  have hy : (y 0).val < 2 := (y 0).isLt
  have h0 : (e y 0).val = 2 * t + (y 0).val := by have := (he y).1; omega
  have h2 : e y 2 = y 2 := Fin.ext (he y).2.2.1
  have h3 : e y 3 = y 3 := Fin.ext (he y).2.2.2
  unfold tiles
  rw [h0, (he y).2.1, h2, h3, hf _ hy]

end Cert.KernelIdeal.Hand

end
-- ==== Proof.KValue.lean ====
/- What the kernel's two calls leave in their arrays: the states of the forward call, and the six gradients of the
   backward call, block by block and head by head. -/
module

public import proofs.«01_k».proof.Proof.KFwd
public import proofs.«01_k».proof.Proof.KBwd
public import proofs.«01_k».proof.Proof.KBlocks
public import Idealize.ShloMosaic.Lib.Pipeline.ValueKit

@[expose] public noncomputable section

set_option maxHeartbeats 1000000

namespace Cert.KernelIdeal.Hand

open Idealize.ShloMosaic Idealize.ShloMosaic.TcCoe Idealize.ShloMosaic.Tactic
open Idealize.ShloMosaic.Pipeline
open Idealize.SL Idealize.SL.RA
open Cert.KernelIdeal.Gen Cert.Gdn

variable (V : (c : Dev nD) → (b : Ref sig .tc) → Buf (Elt Ideal) ((c : Thread nD τ).loc b))

/-- Where the forward call's blocks lie in their arrays. -/
theorem place0 (t : Fin cfg0.N) :
    ColsAt (win0_0.blk t).view.emb t.val
    ∧ ColsAt (win0_1.blk t).view.emb t.val
    ∧ ColsAt (win0_2.blk t).view.emb t.val
    ∧ TilesAt (a := 64) (b := 64) (win0_3.blk t).view.emb t.val
    ∧ ColsAt (win0_4.blk t).view.emb t.val
    ∧ TilesAt (a := 1) (b := 128) (win0_5.blk t).view.emb t.val
    ∧ TilesAt (a := 128) (b := 128) (win0_7.blk t).view.emb t.val := by
  have h : ∀ t : Fin cfg0.N,
      (win0_0.index t 0 = 0 ∧ win0_0.index t 1 = t.val)
      ∧ (win0_1.index t 0 = 0 ∧ win0_1.index t 1 = t.val)
      ∧ (win0_2.index t 0 = 0 ∧ win0_2.index t 1 = t.val)
      ∧ (win0_3.index t 0 = t.val ∧ win0_3.index t 1 = 0 ∧ win0_3.index t 2 = 0 ∧ win0_3.index t 3 = 0)
      ∧ (win0_4.index t 0 = 0 ∧ win0_4.index t 1 = t.val)
      ∧ (win0_5.index t 0 = t.val ∧ win0_5.index t 1 = 0 ∧ win0_5.index t 2 = 0 ∧ win0_5.index t 3 = 0)
      ∧ (win0_7.index t 0 = t.val ∧ win0_7.index t 1 = 0 ∧ win0_7.index t 2 = 0 ∧ win0_7.index t 3 = 0) := by decide +kernel
  obtain ⟨i0, i1, i2, i3, i4, i5, i7⟩ := h t
  unfold ColsAt TilesAt
  blk_simp
  simp only [i0, i1, i2, i3, i4, i5, i7, Nat.zero_mul, Nat.zero_add, and_self, implies_true]

/-- Where the backward call's blocks lie in their arrays. -/
theorem place1 (t : Fin cfg1.N) :
    ColsAt (win1_0.blk t).view.emb t.val
    ∧ ColsAt (win1_1.blk t).view.emb t.val
    ∧ ColsAt (win1_2.blk t).view.emb t.val
    ∧ TilesAt (a := 64) (b := 64) (win1_3.blk t).view.emb t.val
    ∧ ColsAt (win1_4.blk t).view.emb t.val
    ∧ TilesAt (a := 1) (b := 128) (win1_5.blk t).view.emb t.val
    ∧ TilesAt (a := 128) (b := 128) (win1_6.blk t).view.emb t.val
    ∧ ColsAt (win1_7.blk t).view.emb t.val
    ∧ ColsAt (win1_8.blk t).view.emb t.val
    ∧ ColsAt (win1_9.blk t).view.emb t.val
    ∧ ColsAt (win1_10.blk t).view.emb t.val
    ∧ TilesAt (a := 64) (b := 64) (win1_11.blk t).view.emb t.val
    ∧ ColsAt (win1_12.blk t).view.emb t.val
    ∧ TilesAt (a := 1) (b := 128) (win1_13.blk t).view.emb t.val := by
  have h : ∀ t : Fin cfg1.N,
      (win1_0.index t 0 = 0 ∧ win1_0.index t 1 = t.val)
      ∧ (win1_1.index t 0 = 0 ∧ win1_1.index t 1 = t.val)
      ∧ (win1_2.index t 0 = 0 ∧ win1_2.index t 1 = t.val)
      ∧ (win1_3.index t 0 = t.val ∧ win1_3.index t 1 = 0 ∧ win1_3.index t 2 = 0 ∧ win1_3.index t 3 = 0)
      ∧ (win1_4.index t 0 = 0 ∧ win1_4.index t 1 = t.val)
      ∧ (win1_5.index t 0 = t.val ∧ win1_5.index t 1 = 0 ∧ win1_5.index t 2 = 0 ∧ win1_5.index t 3 = 0)
      ∧ (win1_6.index t 0 = t.val ∧ win1_6.index t 1 = 0 ∧ win1_6.index t 2 = 0 ∧ win1_6.index t 3 = 0)
      ∧ (win1_7.index t 0 = 0 ∧ win1_7.index t 1 = t.val)
      ∧ (win1_8.index t 0 = 0 ∧ win1_8.index t 1 = t.val)
      ∧ (win1_9.index t 0 = 0 ∧ win1_9.index t 1 = t.val)
      ∧ (win1_10.index t 0 = 0 ∧ win1_10.index t 1 = t.val)
      ∧ (win1_11.index t 0 = t.val ∧ win1_11.index t 1 = 0 ∧ win1_11.index t 2 = 0 ∧ win1_11.index t 3 = 0)
      ∧ (win1_12.index t 0 = 0 ∧ win1_12.index t 1 = t.val)
      ∧ (win1_13.index t 0 = t.val ∧ win1_13.index t 1 = 0 ∧ win1_13.index t 2 = 0 ∧ win1_13.index t 3 = 0) := by decide +kernel
  obtain ⟨i0, i1, i2, i3, i4, i5, i6, i7, i8, i9, i10, i11, i12, i13⟩ := h t
  unfold ColsAt TilesAt
  blk_simp
  simp only [i0, i1, i2, i3, i4, i5, i6, i7, i8, i9, i10, i11, i12, i13, Nat.zero_mul, Nat.zero_add, and_self, implies_true]

/-- Head `h` of the seven arrays that the calls take. -/
abbrev heads (c : Dev nD) : ℕ → Head :=
  headOf 1024 8 (V c main_arg0) (V c main_arg1) (V c main_arg2) (V c main_arg3) (V c main_arg4) (V c main_arg5) (V c main_arg6)

/-- The states that the forward call leaves. -/
theorem arr0_states (c : Dev nD) :
    (dat0 (F := Ideal) V c).arrAt 7 cfg0.N = tiles 8 128 128 (fun h => state (heads V c h)) := by
  refine (dat0 (F := Ideal) V c).arrAt_eq_of_covers 7 _ (by decide +kernel) fun t hf y => ?_
  blk_simp
  rw [after0_7]
  obtain ⟨p0, p1, p2, p3, p4, p5, p7⟩ := place0 t
  refine (congrFun (out0_states c (grid0.coords t) _ _ _ _ _ _ _ _ _ _ _ _ _ _ _ _ (iblk0 V c 0 t) (iblk0 V c 1 t)
    (iblk0 V c 2 t) (iblk0 V c 3 t) (iblk0 V c 4 t) (iblk0 V c 5 t) (fun y => V c main_arg6 ((win0_0.blk t).view.emb y))) y).trans ?_
  refine tiles_block p7 _ _ (fun h hh => ?_) y
  exact congrArg state (head_block p0 p1 p2 p3 p4 p5 p0 t.isLt hh _ _ _ _ _ _ _)

/-- The block's head of the arrays, in the backward call. -/
theorem heads_block (c : Dev nD) (t : Fin cfg1.N) (h : ℕ) (hh : h < 2) :
    headOf 256 2 (iblk1 V c 0 t) (iblk1 V c 1 t) (iblk1 V c 2 t) (iblk1 V c 3 t) (iblk1 V c 4 t) (iblk1 V c 5 t) (iblk1 V c 7 t) h
      = heads V c (2 * t.val + h) := by
  obtain ⟨p0, p1, p2, p3, p4, p5, p6, p7, -⟩ := place1 t
  exact head_block p0 p1 p2 p3 p4 p5 p7 t.isLt hh _ _ _ _ _ _ _

/-- The states that the backward call's block of them holds. -/
theorem states_in (c : Dev nD) (t : Fin cfg1.N) (h : ℕ) (hh : h < 2) :
    statesOf 2 (iblk1 V c 6 t) h = statesOf 8 (V c main_v0_1) (2 * t.val + h) := by
  obtain ⟨p0, p1, p2, p3, p4, p5, p6, -⟩ := place1 t
  exact states_block p6 t.isLt hh _

/-- The six gradients that the backward call leaves, from the states handed to it. -/
theorem arr1_grads (c : Dev nD) :
    (dat1 (F := Ideal) V c).arrAt 8 cfg1.N = cols 1024 (fun h => gradU (heads V c h))
    ∧ (dat1 (F := Ideal) V c).arrAt 9 cfg1.N = cols 1024 (fun h => fun i => gradW (heads V c h) (statesOf 8 (V c main_v0_1) h i) i)
    ∧ (dat1 (F := Ideal) V c).arrAt 10 cfg1.N = cols 1024 (fun h => fun i => gradQg (heads V c h) (statesOf 8 (V c main_v0_1) h i) i)
    ∧ (dat1 (F := Ideal) V c).arrAt 11 cfg1.N = tiles 8 64 64 (fun h => fun i => gradQk (heads V c h) (statesOf 8 (V c main_v0_1) h i) i)
    ∧ (dat1 (F := Ideal) V c).arrAt 12 cfg1.N = cols 1024 (fun h => fun i => gradKd (heads V c h) (statesOf 8 (V c main_v0_1) h i) i)
    ∧ (dat1 (F := Ideal) V c).arrAt 13 cfg1.N = tiles 8 1 128 (fun h => fun i _ => gradG (heads V c h) (statesOf 8 (V c main_v0_1) h i) i) := by
  have hb := fun t : Fin cfg1.N => out1_blocks c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t)
    (iblk1 V c 0 t) (iblk1 V c 1 t) (iblk1 V c 2 t) (iblk1 V c 3 t) (iblk1 V c 4 t) (iblk1 V c 5 t) (iblk1 V c 6 t) (iblk1 V c 7 t)
  have hp := place1
  refine ⟨?_, ?_, ?_, ?_, ?_, ?_⟩
  · refine (dat1 (F := Ideal) V c).arrAt_eq_of_covers 8 _ (by decide +kernel) fun t hf y => ?_
    blk_simp
    rw [after1_8]
    refine (congrFun (hb t).1 y).trans (cols_block (hp t).2.2.2.2.2.2.2.2.1 _ _ (fun h hh => ?_) y)
    simp only [heads_block V c t h hh, states_in V c t h hh]
  · refine (dat1 (F := Ideal) V c).arrAt_eq_of_covers 9 _ (by decide +kernel) fun t hf y => ?_
    blk_simp
    rw [after1_9]
    refine (congrFun (hb t).2.1 y).trans (cols_block (hp t).2.2.2.2.2.2.2.2.2.1 _ _ (fun h hh => ?_) y)
    simp only [heads_block V c t h hh, states_in V c t h hh]
  · refine (dat1 (F := Ideal) V c).arrAt_eq_of_covers 10 _ (by decide +kernel) fun t hf y => ?_
    blk_simp
    rw [after1_10]
    refine (congrFun (hb t).2.2.1 y).trans (cols_block (hp t).2.2.2.2.2.2.2.2.2.2.1 _ _ (fun h hh => ?_) y)
    simp only [heads_block V c t h hh, states_in V c t h hh]
  · refine (dat1 (F := Ideal) V c).arrAt_eq_of_covers 11 _ (by decide +kernel) fun t hf y => ?_
    blk_simp
    rw [after1_11]
    refine (congrFun (hb t).2.2.2.1 y).trans (tiles_block (hp t).2.2.2.2.2.2.2.2.2.2.2.1 _ _ (fun h hh => ?_) y)
    simp only [heads_block V c t h hh, states_in V c t h hh]
  · refine (dat1 (F := Ideal) V c).arrAt_eq_of_covers 12 _ (by decide +kernel) fun t hf y => ?_
    blk_simp
    rw [after1_12]
    refine (congrFun (hb t).2.2.2.2.1 y).trans (cols_block (hp t).2.2.2.2.2.2.2.2.2.2.2.2.1 _ _ (fun h hh => ?_) y)
    simp only [heads_block V c t h hh, states_in V c t h hh]
  · refine (dat1 (F := Ideal) V c).arrAt_eq_of_covers 13 _ (by decide +kernel) fun t hf y => ?_
    blk_simp
    rw [after1_13]
    refine (congrFun (hb t).2.2.2.2.2 y).trans (tiles_block (hp t).2.2.2.2.2.2.2.2.2.2.2.2.2 _ _ (fun h hh => ?_) y)
    simp only [heads_block V c t h hh, states_in V c t h hh]

end Cert.KernelIdeal.Hand

end
-- ==== Proof.Grads.lean ====
/- The six gradients as functions of the seven arrays: what both programs are shown to leave. -/
module

public import proofs.«01_k».proof.Proof.Spec

@[expose] public noncomputable section

namespace Cert.Gdn

open Idealize.ShloMosaic

/-- Two arrays of columns are equal when their chunks are. -/
theorem cols_congr {f g : ℕ → ℕ → Mat 64 128} (h : ∀ a i, a < 8 → i < 32 → f a i = g a i) : cols 1024 f = cols 1024 g := by
  funext y
  have h0 : (y 0).val < 2048 := (y 0).isLt
  have h1 : (y 1).val < 1024 := (y 1).isLt
  unfold cols
  rw [h _ _ (by omega) (by omega)]

/-- Two arrays of tiles are equal when their tiles are. -/
theorem tiles_congr {p q : ℕ} {f g : ℕ → ℕ → Mat p q} (h : ∀ a i, a < 8 → i < 32 → f a i = g a i) : tiles 8 p q f = tiles 8 p q g := by
  funext y
  unfold tiles
  rw [h _ _ (y 0).isLt (y 1).isLt]

variable (D : ℕ → Head)

/-- The gradient of the values. -/
def allU : (⟨2, ![2048, 1024]⟩ : Shape).Idx → EReal := cols 1024 fun h => gradU (D h)
/-- The gradient of the correction's keys. -/
def allW : (⟨2, ![2048, 1024]⟩ : Shape).Idx → EReal := cols 1024 fun h i => gradW (D h) (state (D h) i) i
/-- The gradient of the scaled queries. -/
def allQg : (⟨2, ![2048, 1024]⟩ : Shape).Idx → EReal := cols 1024 fun h i => gradQg (D h) (state (D h) i) i
/-- The gradient of the attention of each chunk. -/
def allQk : (⟨4, ![8, 32, 64, 64]⟩ : Shape).Idx → EReal := tiles 8 64 64 fun h i => gradQk (D h) (state (D h) i) i
/-- The gradient of the decayed keys. -/
def allKd : (⟨2, ![2048, 1024]⟩ : Shape).Idx → EReal := cols 1024 fun h i => gradKd (D h) (state (D h) i) i
/-- The gradient of the decay. -/
def allG : (⟨4, ![8, 32, 1, 128]⟩ : Shape).Idx → EReal := tiles 8 1 128 fun h i _ => gradG (D h) (state (D h) i) i

end Cert.Gdn

end
-- ==== Proof.KRun.lean ====
/- The kernel's run: both calls terminate and leave the six gradients, the arguments unchanged. -/
module

public import proofs.«01_k».proof.Proof.KValue
public import proofs.«01_k».proof.Proof.Grads

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Gdn

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The two calls run one after the other, and every array that outlives them ends at what they leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

end Run

variable (m : (ℓ : Loc nD τ sig) → Buf (Elt Ideal) ℓ) (ρ : Dev nD → PrngReg)

/-- The heads of the argument arrays as launched. -/
abbrev headsOf (c : Dev nD) : ℕ → Head :=
  headOf 1024 8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The backward call reads the argument arrays as launched. -/
theorem heads_in (c : Dev nD) : heads (V1 m ρ) c = headsOf m c := by
  unfold heads headsOf
  congr 1 <;> exact W1_args m ρ c _ (by decide)

/-- The backward call reads the states that the forward call leaves. -/
theorem states_val (c : Dev nD) (h i : ℕ) (hh : h < 8) (hi : i < 32) :
    statesOf 8 (V1 m ρ c main_v0_1) h i = state (headsOf m c h) i := by
  have hs : V1 m ρ c main_v0_1 = tiles 8 128 128 (fun h => state (headsOf m c h)) :=
    (W1_arr m ρ c 7).trans (arr0_states (V0 m ρ) c)
  rw [hs]
  funext k v
  exact tiles_at 8 128 128 _ _ h i k v (Nat.mod_eq_of_lt hh) (Nat.mod_eq_of_lt hi) rfl rfl

/-- The six results. -/
theorem results (c : Dev nD) :
    W2 m ρ c (Proc.devRef .tc main_v1_0) = allU (headsOf m c)
    ∧ W2 m ρ c (Proc.devRef .tc main_v1_1) = allW (headsOf m c)
    ∧ W2 m ρ c (Proc.devRef .tc main_v1_2) = allQg (headsOf m c)
    ∧ W2 m ρ c (Proc.devRef .tc main_v1_3) = allQk (headsOf m c)
    ∧ W2 m ρ c (Proc.devRef .tc main_v1_4) = allKd (headsOf m c)
    ∧ W2 m ρ c (Proc.devRef .tc main_v1_5) = allG (headsOf m c) := by
  obtain ⟨h8, h9, h10, h11, h12, h13⟩ := arr1_grads (V1 m ρ) c
  rw [heads_in] at h8 h9 h10 h11 h12 h13
  refine ⟨(W2_arr m ρ c 8).trans h8, (W2_arr m ρ c 9).trans (h9.trans ?_), (W2_arr m ρ c 10).trans (h10.trans ?_),
    (W2_arr m ρ c 11).trans (h11.trans ?_), (W2_arr m ρ c 12).trans (h12.trans ?_), (W2_arr m ρ c 13).trans (h13.trans ?_)⟩
  · exact cols_congr fun h i hh hi => by rw [states_val m ρ c h i hh hi]
  · exact cols_congr fun h i hh hi => by rw [states_val m ρ c h i hh hi]
  · exact tiles_congr fun h i hh hi => by rw [states_val m ρ c h i hh hi]
  · exact cols_congr fun h i hh hi => by rw [states_val m ρ c h i hh hi]
  · exact tiles_congr fun h i hh hi => by rw [states_val m ρ c h i hh hi]

/-- The kernel leaves the six gradients and its arguments unchanged. -/
theorem run_grads : θ_run (defs (F := Ideal)) (onTc (τ := τ) (main (F := Ideal))) ⟨m, fun _ => 0, ρ⟩ (fun r => ∀ c : Dev nD,
      r.2.mem ((c.tc : Thread nD τ).loc main_v1_0) = allU (headsOf m c)
      ∧ r.2.mem ((c.tc : Thread nD τ).loc main_v1_1) = allW (headsOf m c)
      ∧ r.2.mem ((c.tc : Thread nD τ).loc main_v1_2) = allQg (headsOf m c)
      ∧ r.2.mem ((c.tc : Thread nD τ).loc main_v1_3) = allQk (headsOf m c)
      ∧ r.2.mem ((c.tc : Thread nD τ).loc main_v1_4) = allKd (headsOf m c)
      ∧ r.2.mem ((c.tc : Thread nD τ).loc main_v1_5) = allG (headsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono ?_ (run m ρ)
  intro r h c
  obtain ⟨h8, h9, h10, h11, h12, h13⟩ := results m ρ c
  exact ⟨(h c _ (mem_uc main_v1_0 (by decide))).trans h8,
    (h c _ (mem_uc main_v1_1 (by decide))).trans h9,
    (h c _ (mem_uc main_v1_2 (by decide))).trans h10,
    (h c _ (mem_uc main_v1_3 (by decide))).trans h11,
    (h c _ (mem_uc main_v1_4 (by decide))).trans h12,
    (h c _ (mem_uc main_v1_5 (by decide))).trans h13,
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c),
    (h c _ (mem_uc main_arg3 (by decide))).trans (W2_main_arg3 m ρ c),
    (h c _ (mem_uc main_arg4 (by decide))).trans (W2_main_arg4 m ρ c),
    (h c _ (mem_uc main_arg5 (by decide))).trans (W2_main_arg5 m ρ c),
    (h c _ (mem_uc main_arg6 (by decide))).trans (W2_main_arg6 m ρ c)⟩

end Cert.KernelIdeal.Hand

end

end
-- ==== Proof.RefSlabs.lean ====
/- A loop that keeps its chunks stacked along the leading axis: one slab taken out at the loop's index, and one put in. -/
module

public import Idealize.ShloMosaic.Lib.Pointwise
public import Idealize.ShloMosaic.Lib.DynamicIndex
public import Idealize.ShloMosaic.Lib.ValueLayout
public import proofs.«01_k».proof.Proof.Spec

@[expose] public noncomputable section

namespace Cert.Gdn

open Idealize.ShloMosaic

variable {α : Type} {a b c : ℕ}

/-- A stack of 32 slabs. -/
abbrev Stk (a b c : ℕ) : Shape := ⟨4, ![32, a, b, c]⟩
/-- A stack of one slab. -/
abbrev One (a b c : ℕ) : Shape := ⟨4, ![1, a, b, c]⟩
/-- A slab. -/
abbrev Slb (a b c : ℕ) : Shape := ⟨3, ![a, b, c]⟩

/-- Slab `k` of a stack. -/
def slab (k : ℕ) (x : (Stk a b c).Idx → α) : (Slb a b c).Idx → α := fun j => x (ix4 (Fin.ofNat 32 k) (j 0) (j 1) (j 2))

/-- The stack with slab `k` replaced. -/
def putSlab (k : ℕ) (x : (Stk a b c).Idx → α) (u : (Slb a b c).Idx → α) : (Stk a b c).Idx → α :=
  fun y => if (y 0).val = k then u (ix3 (y 1) (y 2) (y 3)) else x y

/-- An index with three given coordinates reads as `ix3`. -/
theorem idx3 {k m n : ℕ} (y : (⟨3, ![k, m, n]⟩ : Shape).Idx) (a : Fin k) (b : Fin m) (c : Fin n)
    (h0 : (y 0).val = a.val) (h1 : (y 1).val = b.val) (h2 : (y 2).val = c.val) : y = ix3 a b c := by
  funext p
  match p with
  | ⟨0, _⟩ => exact Fin.ext h0
  | ⟨1, _⟩ => exact Fin.ext h1
  | ⟨2, _⟩ => exact Fin.ext h2

/-- The start of one slab is not moved by the clamp. -/
theorem slab_start (start : Fin 4 → ℤ) (hr : (One a b c).rank = (Stk a b c).rank) (k : ℕ) (hk : k < 32) (h0 : start 0 = k)
    (h1 : start 1 = 0) (h2 : start 2 = 0) (h3 : start 3 = 0) (n : Fin 4) :
    Host.clampedStart (Stk a b c) (One a b c) hr start n = (![k, 0, 0, 0] : Fin 4 → ℕ) n := by
  match n with
  | ⟨0, _⟩ => exact Host.clampedStart_of_le hr start 0 k h0 (show k + 1 ≤ 32 by omega)
  | ⟨1, _⟩ => exact Host.clampedStart_of_le hr start 1 0 h1 (show 0 + a ≤ a by omega)
  | ⟨2, _⟩ => exact Host.clampedStart_of_le hr start 2 0 h2 (show 0 + b ≤ b by omega)
  | ⟨3, _⟩ => exact Host.clampedStart_of_le hr start 3 0 h3 (show 0 + c ≤ c by omega)

/-- A slice of one slab, its unit axis dropped, is the slab. -/
theorem slice_slab (x : (Stk a b c).Idx → α) (start : Fin 4 → ℤ) (h : (Stk a b c).Slices (fun _ => 0) (One a b c))
    (hc : (One a b c).ShapeCasts (Slb a b c)) (k : ℕ) (hk : k < 32) (h0 : start 0 = k) (h1 : start 1 = 0) (h2 : start 2 = 0) (h3 : start 3 = 0) :
    shapeCast (Slb a b c) (Host.dynamicSlice (One a b c) x start h) hc = slab k x := by
  funext j
  have hj : j = ValueIdx.ix3 (j 0) (j 1) (j 2) := ValueIdx.eq_ix3 j
  refine (congrArg _ hj).trans ((ValueIdx.shapeCast_1abc_abc_apply _ hc _ _ _).trans ?_)
  rw [Host.dynamicSlice_apply]
  have hs := slab_start start h.1 k hk h0 h1 h2 h3
  refine congrArg x (idx4 _ _ _ _ _ ?_ ?_ ?_ ?_)
  · show Host.clampedStart (Stk a b c) (One a b c) _ start 0 + 0 = k % 32
    rw [hs]
    exact (Nat.mod_eq_of_lt hk).symm
  · show Host.clampedStart (Stk a b c) (One a b c) _ start 1 + (j 0).val = _
    rw [hs]
    exact Nat.zero_add _
  · show Host.clampedStart (Stk a b c) (One a b c) _ start 2 + _ = _
    rw [hs]
    exact Nat.zero_add _
  · show Host.clampedStart (Stk a b c) (One a b c) _ start 3 + _ = _
    rw [hs]
    exact Nat.zero_add _

/-- An update of one slab. -/
theorem update_slab (x : (Stk a b c).Idx → α) (u : (One a b c).Idx → α) (start : Fin 4 → ℤ) (h : (Stk a b c).Slices (fun _ => 0) (One a b c))
    (w : (Slb a b c).Idx → α) (hw : ∀ j : (One a b c).Idx, u j = w (ix3 (j 1) (j 2) (j 3)))
    (k : ℕ) (hk : k < 32) (h0 : start 0 = k) (h1 : start 1 = 0) (h2 : start 2 = 0) (h3 : start 3 = 0) :
    Host.dynamicUpdateSlice x u start h = putSlab k x w := by
  funext y
  have hs := slab_start start h.1 k hk h0 h1 h2 h3
  rw [Host.dynamicUpdateSlice_apply]
  unfold putSlab
  by_cases hy : (y 0).val = k
  · rw [if_pos hy, dif_pos, hw]
    · refine congrArg w (idx3 _ _ _ _ ?_ ?_ ?_)
      · show (y 1).val - Host.clampedStart (Stk a b c) (One a b c) _ start 1 = _
        rw [hs]
        exact Nat.sub_zero _
      · show (y 2).val - Host.clampedStart (Stk a b c) (One a b c) _ start 2 = _
        rw [hs]
        exact Nat.sub_zero _
      · show (y 3).val - Host.clampedStart (Stk a b c) (One a b c) _ start 3 = _
        rw [hs]
        exact Nat.sub_zero _
    · intro n
      rw [hs]
      match n with
      | ⟨0, _⟩ => exact ⟨hy.ge, show (y 0).val < k + 1 by omega⟩
      | ⟨1, _⟩ => exact ⟨Nat.zero_le _, show (y 1).val < 0 + a from (Nat.zero_add a).symm ▸ (y 1).isLt⟩
      | ⟨2, _⟩ => exact ⟨Nat.zero_le _, show (y 2).val < 0 + b from (Nat.zero_add b).symm ▸ (y 2).isLt⟩
      | ⟨3, _⟩ => exact ⟨Nat.zero_le _, show (y 3).val < 0 + c from (Nat.zero_add c).symm ▸ (y 3).isLt⟩
  · rw [if_neg hy, dif_neg]
    intro hin
    have := hin 0
    rw [hs] at this
    have h1 : k ≤ (y 0).val := this.1
    have h2 : (y 0).val < k + 1 := this.2
    omega

end Cert.Gdn

end
-- ==== Proof.RefRead.lean ====
/- The two loops' own lists of operations read as values: what one stretch leaves in the tensor it computes. -/
module

public import proofs.«01_k».proof.Proof.RefRun
public import proofs.«01_k».proof.Proof.RefSlabs

@[expose] public section

set_option maxRecDepth 100000
set_option maxHeartbeats 2000000

noncomputable section

namespace Cert.ReferenceIdeal.Hand

open Cert.ReferenceIdeal Cert.ReferenceIdeal.Gen Cert.Gdn
open Idealize.ShloMosaic Idealize.ShloMosaic.TcCoe
open Idealize.ShloMosaic.StableHlo

/-- The value of a loop's counter after `k` trips, read signed. -/
theorem ctr_toInt (k : ℕ) (hk : k < 32) : (Scf.iv 0#32 1#32 k).toInt = (k : ℤ) := by
  interval_cases k <;> rfl

variable (V : Valuation τ sig (Elt Ideal))

theorem while0Ops0_val (k : ℕ) (hk : k < 32) (hc : V (Proc.devRef .tc main_v14_6) = fun _ => Scf.iv 0#32 1#32 k) :
    after while0Ops0 V (Proc.devRef .tc main_while0b_v38) = slab k (V (Proc.devRef .tc main_v14_0)) := by
  after_results
  exact slice_slab (V (Proc.devRef .tc main_v14_0)) _ sliceFits_S32x8x64x128_S1x8x64x128 shapeCasts_S1x8x64x128_S8x64x128 k hk
    ((congrArg BitVec.toInt (congrFun hc _)).trans (ctr_toInt k hk)) rfl rfl rfl

theorem while0Ops0_1_val (k : ℕ) (hk : k < 32) (hc : V (Proc.devRef .tc main_v14_6) = fun _ => Scf.iv 0#32 1#32 k) :
    after while0Ops0_1 V (Proc.devRef .tc main_while0b_v39) = slab k (V (Proc.devRef .tc main_v14_1)) := by
  after_results
  exact slice_slab (V (Proc.devRef .tc main_v14_1)) _ sliceFits_S32x8x64x128_S1x8x64x128 shapeCasts_S1x8x64x128_S8x64x128 k hk
    ((congrArg BitVec.toInt (congrFun hc _)).trans (ctr_toInt k hk)) rfl rfl rfl

theorem while0Ops0_2_val (k : ℕ) (hk : k < 32) (hc : V (Proc.devRef .tc main_v14_6) = fun _ => Scf.iv 0#32 1#32 k) :
    after while0Ops0_2 V (Proc.devRef .tc main_while0b_v40) = slab k (V (Proc.devRef .tc main_v14_2)) := by
  after_results
  exact slice_slab (V (Proc.devRef .tc main_v14_2)) _ sliceFits_S32x8x64x128_S1x8x64x128 shapeCasts_S1x8x64x128_S8x64x128 k hk
    ((congrArg BitVec.toInt (congrFun hc _)).trans (ctr_toInt k hk)) rfl rfl rfl

theorem while0Ops0_3_val (k : ℕ) (hk : k < 32) (hc : V (Proc.devRef .tc main_v14_6) = fun _ => Scf.iv 0#32 1#32 k) :
    after while0Ops0_3 V (Proc.devRef .tc main_while0b_v41) = slab k (V (Proc.devRef .tc main_v14_3)) := by
  after_results
  exact slice_slab (V (Proc.devRef .tc main_v14_3)) _ sliceFits_S32x8x64x64_S1x8x64x64 shapeCasts_S1x8x64x64_S8x64x64 k hk
    ((congrArg BitVec.toInt (congrFun hc _)).trans (ctr_toInt k hk)) rfl rfl rfl

theorem while0Ops0_4_val (k : ℕ) (hk : k < 32) (hc : V (Proc.devRef .tc main_v14_6) = fun _ => Scf.iv 0#32 1#32 k) :
    after while0Ops0_4 V (Proc.devRef .tc main_while0b_v42) = slab k (V (Proc.devRef .tc main_v14_4)) := by
  after_results
  exact slice_slab (V (Proc.devRef .tc main_v14_4)) _ sliceFits_S32x8x64x128_S1x8x64x128 shapeCasts_S1x8x64x128_S8x64x128 k hk
    ((congrArg BitVec.toInt (congrFun hc _)).trans (ctr_toInt k hk)) rfl rfl rfl

theorem while0Ops0_5_val (k : ℕ) (hk : k < 32) (hc : V (Proc.devRef .tc main_v14_6) = fun _ => Scf.iv 0#32 1#32 k) :
    after while0Ops0_5 V (Proc.devRef .tc main_while0b_v43) = slab k (V (Proc.devRef .tc main_v14_5)) := by
  after_results
  exact slice_slab (V (Proc.devRef .tc main_v14_5)) _ sliceFits_S32x8x1x128_S1x8x1x128 shapeCasts_S1x8x1x128_S8x1x128 k hk
    ((congrArg BitVec.toInt (congrFun hc _)).trans (ctr_toInt k hk)) rfl rfl rfl

theorem while0Ops0_7_val (k : ℕ) (hk : k < 32) (hc : V (Proc.devRef .tc main_v14_6) = fun _ => Scf.iv 0#32 1#32 k) :
    after while0Ops0_7 V (Proc.devRef .tc main_while0b_v53) = putSlab k (V (Proc.devRef .tc main_v14_8)) (V (Proc.devRef .tc main_while0b_v48)) := by
  after_results
  refine update_slab (V (Proc.devRef .tc main_v14_8)) (broadcastInDim S1x8x64x128 ![1, 2, 3] bcast_S8x64x128_S1x8x64x128_1_2_3 (V (Proc.devRef .tc main_while0b_v48))) _ updateFits_S32x8x64x128_S1x8x64x128 (V (Proc.devRef .tc main_while0b_v48))
    (fun j => congrArg (V (Proc.devRef .tc main_while0b_v48)) (idx3 _ _ _ _ rfl rfl rfl)) k hk ?_ ?_ ?_ ?_
  · exact (congrArg BitVec.toInt (congrFun hc _)).trans (ctr_toInt k hk)
  all_goals rfl

theorem while0Ops0_8_val (k : ℕ) (hk : k < 32) (hc : V (Proc.devRef .tc main_v14_6) = fun _ => Scf.iv 0#32 1#32 k) :
    after while0Ops0_8 V (Proc.devRef .tc main_while0b_v54) = putSlab k (V (Proc.devRef .tc main_v14_9)) (V (Proc.devRef .tc main_v14_7)) := by
  after_results
  refine update_slab (V (Proc.devRef .tc main_v14_9)) (broadcastInDim S1x8x128x128 ![1, 2, 3] bcast_S8x128x128_S1x8x128x128_1_2_3 (V (Proc.devRef .tc main_v14_7))) _ updateFits_S32x8x128x128_S1x8x128x128 (V (Proc.devRef .tc main_v14_7))
    (fun j => congrArg (V (Proc.devRef .tc main_v14_7)) (idx3 _ _ _ _ rfl rfl rfl)) k hk ?_ ?_ ?_ ?_
  · exact (congrArg BitVec.toInt (congrFun hc _)).trans (ctr_toInt k hk)
  all_goals rfl

theorem while0Ops0_9_val (k : ℕ) (hk : k < 32) (hc : V (Proc.devRef .tc main_v14_6) = fun _ => Scf.iv 0#32 1#32 k) :
    after while0Ops0_9 V (Proc.devRef .tc main_while0b_v55) = putSlab k (V (Proc.devRef .tc main_v14_10)) (V (Proc.devRef .tc main_while0b_v45)) := by
  after_results
  refine update_slab (V (Proc.devRef .tc main_v14_10)) (broadcastInDim S1x8x64x128 ![1, 2, 3] bcast_S8x64x128_S1x8x64x128_1_2_3 (V (Proc.devRef .tc main_while0b_v45))) _ updateFits_S32x8x64x128_S1x8x64x128 (V (Proc.devRef .tc main_while0b_v45))
    (fun j => congrArg (V (Proc.devRef .tc main_while0b_v45)) (idx3 _ _ _ _ rfl rfl rfl)) k hk ?_ ?_ ?_ ?_
  · exact (congrArg BitVec.toInt (congrFun hc _)).trans (ctr_toInt k hk)
  all_goals rfl

theorem while1Ops0_1_val (k : ℕ) (hk : k < 32) (hc : V (Proc.devRef .tc main_while1b_v39) = fun _ => Scf.iv 0#32 1#32 k) :
    after while1Ops0_1 V (Proc.devRef .tc main_while1b_v40) = slab k (V (Proc.devRef .tc main_v27_0)) := by
  after_results
  exact slice_slab (V (Proc.devRef .tc main_v27_0)) _ sliceFits_S32x8x64x128_S1x8x64x128 shapeCasts_S1x8x64x128_S8x64x128 k hk
    ((congrArg BitVec.toInt (congrFun hc _)).trans (ctr_toInt k hk)) rfl rfl rfl

theorem while1Ops0_2_val (k : ℕ) (hk : k < 32) (hc : V (Proc.devRef .tc main_while1b_v39) = fun _ => Scf.iv 0#32 1#32 k) :
    after while1Ops0_2 V (Proc.devRef .tc main_while1b_v41) = slab k (V (Proc.devRef .tc main_v27_1)) := by
  after_results
  exact slice_slab (V (Proc.devRef .tc main_v27_1)) _ sliceFits_S32x8x128x128_S1x8x128x128 shapeCasts_S1x8x128x128_S8x128x128 k hk
    ((congrArg BitVec.toInt (congrFun hc _)).trans (ctr_toInt k hk)) rfl rfl rfl

theorem while1Ops0_3_val (k : ℕ) (hk : k < 32) (hc : V (Proc.devRef .tc main_while1b_v39) = fun _ => Scf.iv 0#32 1#32 k) :
    after while1Ops0_3 V (Proc.devRef .tc main_while1b_v42) = slab k (V (Proc.devRef .tc main_v27_2)) := by
  after_results
  exact slice_slab (V (Proc.devRef .tc main_v27_2)) _ sliceFits_S32x8x64x128_S1x8x64x128 shapeCasts_S1x8x64x128_S8x64x128 k hk
    ((congrArg BitVec.toInt (congrFun hc _)).trans (ctr_toInt k hk)) rfl rfl rfl

theorem while1Ops0_4_val (k : ℕ) (hk : k < 32) (hc : V (Proc.devRef .tc main_while1b_v39) = fun _ => Scf.iv 0#32 1#32 k) :
    after while1Ops0_4 V (Proc.devRef .tc main_while1b_v43) = slab k (V (Proc.devRef .tc main_v27_3)) := by
  after_results
  exact slice_slab (V (Proc.devRef .tc main_v27_3)) _ sliceFits_S32x8x64x128_S1x8x64x128 shapeCasts_S1x8x64x128_S8x64x128 k hk
    ((congrArg BitVec.toInt (congrFun hc _)).trans (ctr_toInt k hk)) rfl rfl rfl

theorem while1Ops0_5_val (k : ℕ) (hk : k < 32) (hc : V (Proc.devRef .tc main_while1b_v39) = fun _ => Scf.iv 0#32 1#32 k) :
    after while1Ops0_5 V (Proc.devRef .tc main_while1b_v44) = slab k (V (Proc.devRef .tc main_v27_4)) := by
  after_results
  exact slice_slab (V (Proc.devRef .tc main_v27_4)) _ sliceFits_S32x8x64x128_S1x8x64x128 shapeCasts_S1x8x64x128_S8x64x128 k hk
    ((congrArg BitVec.toInt (congrFun hc _)).trans (ctr_toInt k hk)) rfl rfl rfl

theorem while1Ops0_6_val (k : ℕ) (hk : k < 32) (hc : V (Proc.devRef .tc main_while1b_v39) = fun _ => Scf.iv 0#32 1#32 k) :
    after while1Ops0_6 V (Proc.devRef .tc main_while1b_v45) = slab k (V (Proc.devRef .tc main_v27_5)) := by
  after_results
  exact slice_slab (V (Proc.devRef .tc main_v27_5)) _ sliceFits_S32x8x64x64_S1x8x64x64 shapeCasts_S1x8x64x64_S8x64x64 k hk
    ((congrArg BitVec.toInt (congrFun hc _)).trans (ctr_toInt k hk)) rfl rfl rfl

theorem while1Ops0_7_val (k : ℕ) (hk : k < 32) (hc : V (Proc.devRef .tc main_while1b_v39) = fun _ => Scf.iv 0#32 1#32 k) :
    after while1Ops0_7 V (Proc.devRef .tc main_while1b_v46) = slab k (V (Proc.devRef .tc main_v27_6)) := by
  after_results
  exact slice_slab (V (Proc.devRef .tc main_v27_6)) _ sliceFits_S32x8x1x128_S1x8x1x128 shapeCasts_S1x8x1x128_S8x1x128 k hk
    ((congrArg BitVec.toInt (congrFun hc _)).trans (ctr_toInt k hk)) rfl rfl rfl

theorem while1Ops0_8_val (k : ℕ) (hk : k < 32) (hc : V (Proc.devRef .tc main_while1b_v39) = fun _ => Scf.iv 0#32 1#32 k) :
    after while1Ops0_8 V (Proc.devRef .tc main_while1b_v47) = slab k (V (Proc.devRef .tc main_v27_7)) := by
  after_results
  exact slice_slab (V (Proc.devRef .tc main_v27_7)) _ sliceFits_S32x8x64x128_S1x8x64x128 shapeCasts_S1x8x64x128_S8x64x128 k hk
    ((congrArg BitVec.toInt (congrFun hc _)).trans (ctr_toInt k hk)) rfl rfl rfl

theorem while1Ops0_10_val (k : ℕ) (hk : k < 32) (hc : V (Proc.devRef .tc main_while1b_v39) = fun _ => Scf.iv 0#32 1#32 k) :
    after while1Ops0_10 V (Proc.devRef .tc main_while1b_v70) = putSlab k (V (Proc.devRef .tc main_v27_10)) (V (Proc.devRef .tc main_while1b_v59)) := by
  after_results
  refine update_slab (V (Proc.devRef .tc main_v27_10)) (broadcastInDim S1x8x64x128 ![1, 2, 3] bcast_S8x64x128_S1x8x64x128_1_2_3 (V (Proc.devRef .tc main_while1b_v59))) _ updateFits_S32x8x64x128_S1x8x64x128 (V (Proc.devRef .tc main_while1b_v59))
    (fun j => congrArg (V (Proc.devRef .tc main_while1b_v59)) (idx3 _ _ _ _ rfl rfl rfl)) k hk ?_ ?_ ?_ ?_
  · exact (congrArg BitVec.toInt (congrFun hc _)).trans (ctr_toInt k hk)
  all_goals rfl

theorem while1Ops0_11_val (k : ℕ) (hk : k < 32) (hc : V (Proc.devRef .tc main_while1b_v39) = fun _ => Scf.iv 0#32 1#32 k) :
    after while1Ops0_11 V (Proc.devRef .tc main_while1b_v71) = putSlab k (V (Proc.devRef .tc main_v27_11)) (V (Proc.devRef .tc main_while1b_v69)) := by
  after_results
  refine update_slab (V (Proc.devRef .tc main_v27_11)) (broadcastInDim S1x8x64x128 ![1, 2, 3] bcast_S8x64x128_S1x8x64x128_1_2_3 (V (Proc.devRef .tc main_while1b_v69))) _ updateFits_S32x8x64x128_S1x8x64x128 (V (Proc.devRef .tc main_while1b_v69))
    (fun j => congrArg (V (Proc.devRef .tc main_while1b_v69)) (idx3 _ _ _ _ rfl rfl rfl)) k hk ?_ ?_ ?_ ?_
  · exact (congrArg BitVec.toInt (congrFun hc _)).trans (ctr_toInt k hk)
  all_goals rfl

theorem while1Ops0_12_val (k : ℕ) (hk : k < 32) (hc : V (Proc.devRef .tc main_while1b_v39) = fun _ => Scf.iv 0#32 1#32 k) :
    after while1Ops0_12 V (Proc.devRef .tc main_while1b_v72) = putSlab k (V (Proc.devRef .tc main_v27_12)) (V (Proc.devRef .tc main_while1b_v64)) := by
  after_results
  refine update_slab (V (Proc.devRef .tc main_v27_12)) (broadcastInDim S1x8x64x128 ![1, 2, 3] bcast_S8x64x128_S1x8x64x128_1_2_3 (V (Proc.devRef .tc main_while1b_v64))) _ updateFits_S32x8x64x128_S1x8x64x128 (V (Proc.devRef .tc main_while1b_v64))
    (fun j => congrArg (V (Proc.devRef .tc main_while1b_v64)) (idx3 _ _ _ _ rfl rfl rfl)) k hk ?_ ?_ ?_ ?_
  · exact (congrArg BitVec.toInt (congrFun hc _)).trans (ctr_toInt k hk)
  all_goals rfl

theorem while1Ops0_13_val (k : ℕ) (hk : k < 32) (hc : V (Proc.devRef .tc main_while1b_v39) = fun _ => Scf.iv 0#32 1#32 k) :
    after while1Ops0_13 V (Proc.devRef .tc main_while1b_v73) = putSlab k (V (Proc.devRef .tc main_v27_13)) (V (Proc.devRef .tc main_while1b_v60)) := by
  after_results
  refine update_slab (V (Proc.devRef .tc main_v27_13)) (broadcastInDim S1x8x64x64 ![1, 2, 3] bcast_S8x64x64_S1x8x64x64_1_2_3 (V (Proc.devRef .tc main_while1b_v60))) _ updateFits_S32x8x64x64_S1x8x64x64 (V (Proc.devRef .tc main_while1b_v60))
    (fun j => congrArg (V (Proc.devRef .tc main_while1b_v60)) (idx3 _ _ _ _ rfl rfl rfl)) k hk ?_ ?_ ?_ ?_
  · exact (congrArg BitVec.toInt (congrFun hc _)).trans (ctr_toInt k hk)
  all_goals rfl

theorem while1Ops0_14_val (k : ℕ) (hk : k < 32) (hc : V (Proc.devRef .tc main_while1b_v39) = fun _ => Scf.iv 0#32 1#32 k) :
    after while1Ops0_14 V (Proc.devRef .tc main_while1b_v74) = putSlab k (V (Proc.devRef .tc main_v27_14)) (V (Proc.devRef .tc main_while1b_v51)) := by
  after_results
  refine update_slab (V (Proc.devRef .tc main_v27_14)) (broadcastInDim S1x8x64x128 ![1, 2, 3] bcast_S8x64x128_S1x8x64x128_1_2_3 (V (Proc.devRef .tc main_while1b_v51))) _ updateFits_S32x8x64x128_S1x8x64x128 (V (Proc.devRef .tc main_while1b_v51))
    (fun j => congrArg (V (Proc.devRef .tc main_while1b_v51)) (idx3 _ _ _ _ rfl rfl rfl)) k hk ?_ ?_ ?_ ?_
  · exact (congrArg BitVec.toInt (congrFun hc _)).trans (ctr_toInt k hk)
  all_goals rfl

theorem while1Ops0_15_val (k : ℕ) (hk : k < 32) (hc : V (Proc.devRef .tc main_while1b_v39) = fun _ => Scf.iv 0#32 1#32 k) :
    after while1Ops0_15 V (Proc.devRef .tc main_while1b_v75) = putSlab k (V (Proc.devRef .tc main_v27_15)) (V (Proc.devRef .tc main_while1b_v54)) := by
  after_results
  refine update_slab (V (Proc.devRef .tc main_v27_15)) (broadcastInDim S1x8x1x128 ![1, 2, 3] bcast_S8x1x128_S1x8x1x128_1_2_3 (V (Proc.devRef .tc main_while1b_v54))) _ updateFits_S32x8x1x128_S1x8x1x128 (V (Proc.devRef .tc main_while1b_v54))
    (fun j => congrArg (V (Proc.devRef .tc main_while1b_v54)) (idx3 _ _ _ _ rfl (Nat.lt_one_iff.mp (j 2).isLt).symm rfl)) k hk ?_ ?_ ?_ ?_
  · exact (congrArg BitVec.toInt (congrFun hc _)).trans (ctr_toInt k hk)
  all_goals rfl

end Cert.ReferenceIdeal.Hand

end

end
-- ==== Proof.RefStacks.lean ====
/- Stacks of chunks as arrays of the heads' matrices, and stacks filled chunk by chunk. -/
module

public import proofs.«01_k».proof.Proof.RefSlabs

@[expose] public noncomputable section

namespace Cert.Gdn

open Idealize.ShloMosaic

variable {a b c : ℕ}

/-- The stack of the chunks' matrices `f h i`, head after head within a chunk. -/
def stk (f : ℕ → ℕ → Mat b c) : (Stk a b c).Idx → EReal := fun y => f (y 1).val (y 0).val (y 2) (y 3)

/-- Chunk `k`'s matrices. -/
def slb (f : ℕ → ℕ → Mat b c) (k : ℕ) : (Slb a b c).Idx → EReal := fun j => f (j 0).val k (j 1) (j 2)

theorem slab_stk (f : ℕ → ℕ → Mat b c) {k : ℕ} (hk : k < 32) : slab k (stk (a := a) f) = slb f k := by
  funext j
  show f (j 0).val (k % 32) (j 1) (j 2) = _
  rw [Nat.mod_eq_of_lt hk]
  rfl

/-- The first `k` chunks of a stack, zeros after. -/
def upTo (k : ℕ) (x : (Stk a b c).Idx → EReal) : (Stk a b c).Idx → EReal := fun y => if (y 0).val < k then x y else 0

/-- The last `r` chunks of a stack, zeros before. -/
def downTo (r : ℕ) (x : (Stk a b c).Idx → EReal) : (Stk a b c).Idx → EReal := fun y => if 32 - r ≤ (y 0).val then x y else 0

theorem upTo_zero (x : (Stk a b c).Idx → EReal) : upTo 0 x = fun _ => 0 := by
  funext y
  exact if_neg (Nat.not_lt_zero _)

theorem upTo_all (x : (Stk a b c).Idx → EReal) : upTo 32 x = x := by
  funext y
  exact if_pos (show (y 0).val < 32 from (y 0).isLt)

theorem downTo_zero (x : (Stk a b c).Idx → EReal) : downTo 0 x = fun _ => 0 := by
  funext y
  have h : (y 0).val < 32 := (y 0).isLt
  exact if_neg (by omega)

theorem downTo_all (x : (Stk a b c).Idx → EReal) : downTo 32 x = x := by
  funext y
  exact if_pos (by omega)

/-- The slab put at its own place, at an entry of that place. -/
theorem slb_at (f : ℕ → ℕ → Mat b c) (k : ℕ) (y : (Stk a b c).Idx) (h : (y 0).val = k) :
    slb (a := a) f k (ix3 (y 1) (y 2) (y 3)) = stk f y := by
  subst h
  rfl

theorem put_upTo (f : ℕ → ℕ → Mat b c) (k : ℕ) : putSlab k (upTo k (stk (a := a) f)) (slb f k) = upTo (k + 1) (stk f) := by
  funext y
  unfold putSlab upTo
  by_cases h : (y 0).val = k
  · rw [if_pos h, if_pos (by omega), slb_at f k y h]
  · rw [if_neg h]
    by_cases h' : (y 0).val < k
    · rw [if_pos h', if_pos (by omega)]
    · rw [if_neg h', if_neg (by omega)]

theorem put_downTo (f : ℕ → ℕ → Mat b c) (r : ℕ) (hr : r < 32) :
    putSlab (31 - r) (downTo r (stk (a := a) f)) (slb f (31 - r)) = downTo (r + 1) (stk f) := by
  funext y
  have hy : (y 0).val < 32 := (y 0).isLt
  unfold putSlab downTo
  by_cases h : (y 0).val = 31 - r
  · rw [if_pos h, if_pos (by omega), slb_at f _ y h]
  · rw [if_neg h]
    by_cases h' : 32 - r ≤ (y 0).val
    · rw [if_pos h', if_pos (by omega)]
    · rw [if_neg h', if_neg (by omega)]

end Cert.Gdn

end
-- ==== Proof.RefLoop0.lean ====
/- The reference's forward loop: the states before the chunks, and the chunks' corrected values. -/
module

public import proofs.«01_k».proof.Proof.RefRead
public import proofs.«01_k».proof.Proof.Finite
public import proofs.«01_k».proof.Proof.RefStacks

@[expose] public section

set_option maxRecDepth 100000
set_option maxHeartbeats 2000000

noncomputable section

namespace Cert.ReferenceIdeal.Hand

open Cert.ReferenceIdeal Cert.ReferenceIdeal.Gen Cert.Gdn
open Idealize.ShloMosaic Idealize.ShloMosaic.TcCoe
open Idealize.ShloMosaic.StableHlo

variable (V : Valuation τ sig (Elt Ideal)) (D : ℕ → Head)

/-- The chunk's own operations. -/
theorem while0_step (k : ℕ) (hU : V (Proc.devRef .tc main_while0b_v38) = slb (fun h => (D h).U) k) (hW : V (Proc.devRef .tc main_while0b_v39) = slb (fun h => (D h).W) k)
    (hK : V (Proc.devRef .tc main_while0b_v42) = slb (fun h => (D h).Kd) k) (hG : V (Proc.devRef .tc main_while0b_v43) = slb (fun h i _ => (D h).G i) k)
    (hS : V (Proc.devRef .tc main_v14_7) = slb (fun h => state (D h)) k) :
    after while0Ops0_6 V (Proc.devRef .tc main_while0b_v45) = slb (fun h i => vnew (D h) (state (D h) i) i) k
    ∧ after while0Ops0_6 V (Proc.devRef .tc main_while0b_v52) = slb (fun h => state (D h)) (k + 1) := by
  constructor
  · after_results
    rw [hU, hW, hS]
    funext j
    simp only [pointwise, zero_add]
    rfl
  · after_results
    rw [hU, hW, hS, hK, hG]
    funext j
    simp only [pointwise, zero_add]
    rfl

/-- The carried tensors of the next trip. -/
theorem while0_next : after while0Ops0_10 V (Proc.devRef .tc main_v14_7) = V (Proc.devRef .tc main_while0b_v52)
    ∧ after while0Ops0_10 V (Proc.devRef .tc main_v14_9) = V (Proc.devRef .tc main_while0b_v54)
    ∧ after while0Ops0_10 V (Proc.devRef .tc main_v14_10) = V (Proc.devRef .tc main_while0b_v55) := by
  refine ⟨?_, ?_, ?_⟩ <;> (after_results; rfl)

/-- The arrays the forward loop reads, as stacks of the heads' chunks. -/
structure In0 : Prop where
  u : V (Proc.devRef .tc main_v14_0) = stk (fun h => (D h).U)
  w : V (Proc.devRef .tc main_v14_1) = stk (fun h => (D h).W)
  kd : V (Proc.devRef .tc main_v14_4) = stk (fun h => (D h).Kd)
  g : V (Proc.devRef .tc main_v14_5) = stk (fun h i _ => (D h).G i)

/-- What the forward loop carries before trip `k`. -/
structure Carry0 (k : ℕ) : Prop where
  s : V (Proc.devRef .tc main_v14_7) = slb (fun h => state (D h)) k
  ss : V (Proc.devRef .tc main_v14_9) = upTo k (stk (fun h => state (D h)))
  vn : V (Proc.devRef .tc main_v14_10) = upTo k (stk (fun h i => vnew (D h) (state (D h) i) i))

variable {V D}

/-- One trip of the forward loop. -/
theorem trip0 (k : ℕ) (hk : k < 32) (hc : V (Proc.devRef .tc main_v14_6) = fun _ => Scf.iv 0#32 1#32 k) (hI : In0 V D) (hC : Carry0 V D k) :
    Carry0 (afterL body0 (after cond0 V)) D (k + 1) := by
  simp only [afterL_cons, afterL_nil]
  have xc : after while0Ops0_5 (after while0Ops0_4 (after while0Ops0_3 (after while0Ops0_2 (after while0Ops0_1 (after while0Ops0 (after cond0 V)))))) (Proc.devRef .tc main_v14_6) = fun _ => Scf.iv 0#32 1#32 k := by
    rw [while0Ops0_5_keep _ (by decide), while0Ops0_4_keep _ (by decide), while0Ops0_3_keep _ (by decide), while0Ops0_2_keep _ (by decide), while0Ops0_1_keep _ (by decide), while0Ops0_keep _ (by decide), cond0_keep _ (by decide), hc]
  have x7 : after while0Ops0_5 (after while0Ops0_4 (after while0Ops0_3 (after while0Ops0_2 (after while0Ops0_1 (after while0Ops0 (after cond0 V)))))) (Proc.devRef .tc main_v14_7) = slb (fun h => state (D h)) k := by
    rw [while0Ops0_5_keep _ (by decide), while0Ops0_4_keep _ (by decide), while0Ops0_3_keep _ (by decide), while0Ops0_2_keep _ (by decide), while0Ops0_1_keep _ (by decide), while0Ops0_keep _ (by decide), cond0_keep _ (by decide), hC.s]
  have x9 : after while0Ops0_5 (after while0Ops0_4 (after while0Ops0_3 (after while0Ops0_2 (after while0Ops0_1 (after while0Ops0 (after cond0 V)))))) (Proc.devRef .tc main_v14_9) = upTo k (stk (fun h => state (D h))) := by
    rw [while0Ops0_5_keep _ (by decide), while0Ops0_4_keep _ (by decide), while0Ops0_3_keep _ (by decide), while0Ops0_2_keep _ (by decide), while0Ops0_1_keep _ (by decide), while0Ops0_keep _ (by decide), cond0_keep _ (by decide), hC.ss]
  have x10 : after while0Ops0_5 (after while0Ops0_4 (after while0Ops0_3 (after while0Ops0_2 (after while0Ops0_1 (after while0Ops0 (after cond0 V)))))) (Proc.devRef .tc main_v14_10) = upTo k (stk (fun h i => vnew (D h) (state (D h) i) i)) := by
    rw [while0Ops0_5_keep _ (by decide), while0Ops0_4_keep _ (by decide), while0Ops0_3_keep _ (by decide), while0Ops0_2_keep _ (by decide), while0Ops0_1_keep _ (by decide), while0Ops0_keep _ (by decide), cond0_keep _ (by decide), hC.vn]
  have xU : after while0Ops0_5 (after while0Ops0_4 (after while0Ops0_3 (after while0Ops0_2 (after while0Ops0_1 (after while0Ops0 (after cond0 V)))))) (Proc.devRef .tc main_while0b_v38) = slb (fun h => (D h).U) k := by
    rw [while0Ops0_5_keep _ (by decide), while0Ops0_4_keep _ (by decide), while0Ops0_3_keep _ (by decide), while0Ops0_2_keep _ (by decide), while0Ops0_1_keep _ (by decide), while0Ops0_val _ k hk (by rw [cond0_keep _ (by decide), hc]), cond0_keep _ (by decide), hI.u, slab_stk _ hk]
  have xW : after while0Ops0_5 (after while0Ops0_4 (after while0Ops0_3 (after while0Ops0_2 (after while0Ops0_1 (after while0Ops0 (after cond0 V)))))) (Proc.devRef .tc main_while0b_v39) = slb (fun h => (D h).W) k := by
    rw [while0Ops0_5_keep _ (by decide), while0Ops0_4_keep _ (by decide), while0Ops0_3_keep _ (by decide), while0Ops0_2_keep _ (by decide), while0Ops0_1_val _ k hk (by rw [while0Ops0_keep _ (by decide), cond0_keep _ (by decide), hc]), while0Ops0_keep _ (by decide), cond0_keep _ (by decide), hI.w, slab_stk _ hk]
  have xK : after while0Ops0_5 (after while0Ops0_4 (after while0Ops0_3 (after while0Ops0_2 (after while0Ops0_1 (after while0Ops0 (after cond0 V)))))) (Proc.devRef .tc main_while0b_v42) = slb (fun h => (D h).Kd) k := by
    rw [while0Ops0_5_keep _ (by decide), while0Ops0_4_val _ k hk (by rw [while0Ops0_3_keep _ (by decide), while0Ops0_2_keep _ (by decide), while0Ops0_1_keep _ (by decide), while0Ops0_keep _ (by decide), cond0_keep _ (by decide), hc]), while0Ops0_3_keep _ (by decide), while0Ops0_2_keep _ (by decide), while0Ops0_1_keep _ (by decide), while0Ops0_keep _ (by decide), cond0_keep _ (by decide), hI.kd, slab_stk _ hk]
  have xG : after while0Ops0_5 (after while0Ops0_4 (after while0Ops0_3 (after while0Ops0_2 (after while0Ops0_1 (after while0Ops0 (after cond0 V)))))) (Proc.devRef .tc main_while0b_v43) = slb (fun h i _ => (D h).G i) k := by
    rw [while0Ops0_5_val _ k hk (by rw [while0Ops0_4_keep _ (by decide), while0Ops0_3_keep _ (by decide), while0Ops0_2_keep _ (by decide), while0Ops0_1_keep _ (by decide), while0Ops0_keep _ (by decide), cond0_keep _ (by decide), hc]), while0Ops0_4_keep _ (by decide), while0Ops0_3_keep _ (by decide), while0Ops0_2_keep _ (by decide), while0Ops0_1_keep _ (by decide), while0Ops0_keep _ (by decide), cond0_keep _ (by decide), hI.g, slab_stk _ hk]
  generalize after while0Ops0_5 (after while0Ops0_4 (after while0Ops0_3 (after while0Ops0_2 (after while0Ops0_1 (after while0Ops0 (after cond0 V)))))) = X at xc x7 x9 x10 xU xW xK xG ⊢
  obtain ⟨hv, hs⟩ := while0_step X D k xU xW xK xG x7
  refine ⟨?_, ?_, ?_⟩
  · rw [(while0_next _).1, while0Ops0_9_keep _ (by decide), while0Ops0_8_keep _ (by decide), while0Ops0_7_keep _ (by decide), hs]
  · rw [(while0_next _).2.1, while0Ops0_9_keep _ (by decide), while0Ops0_8_val _ k hk (by rw [while0Ops0_7_keep _ (by decide), while0Ops0_6_keep _ (by decide), xc]), while0Ops0_7_keep _ (by decide), while0Ops0_6_keep _ (by decide), while0Ops0_7_keep _ (by decide), while0Ops0_6_keep _ (by decide), x7, x9,
      put_upTo]
  · rw [(while0_next _).2.2, while0Ops0_9_val _ k hk (by rw [while0Ops0_8_keep _ (by decide), while0Ops0_7_keep _ (by decide), while0Ops0_6_keep _ (by decide), xc]), while0Ops0_8_keep _ (by decide), while0Ops0_7_keep _ (by decide), while0Ops0_6_keep _ (by decide), while0Ops0_8_keep _ (by decide), while0Ops0_7_keep _ (by decide), hv, x10, put_upTo]

end Cert.ReferenceIdeal.Hand

end

end
-- ==== Proof.RefLoop1.lean ====
/- The reference's backward loop: the gradients, chunk by chunk from the last, for heads whose entries are real. -/
module

public import proofs.«01_k».proof.Proof.RefRead
public import proofs.«01_k».proof.Proof.Finite
public import proofs.«01_k».proof.Proof.RefStacks

@[expose] public section

set_option maxRecDepth 100000
set_option maxHeartbeats 2000000

noncomputable section

namespace Cert.ReferenceIdeal.Hand

open Cert.ReferenceIdeal Cert.ReferenceIdeal.Gen Cert.Gdn
open Idealize.ShloMosaic Idealize.ShloMosaic.TcCoe
open Idealize.ShloMosaic.StableHlo

variable (V : Valuation τ sig (Elt Ideal)) (D : ℕ → Head)

/-- The chunk's own operations, at chunk `31 - r`. -/
theorem while1_step (hD : ∀ h, (D h).Real) (r : ℕ) (hr : r < 32)
    (x40 : V (Proc.devRef .tc main_while1b_v40) = slb (fun h => (D h).Do) (31 - r))
    (x41 : V (Proc.devRef .tc main_while1b_v41) = slb (fun h => state (D h)) (31 - r))
    (x42 : V (Proc.devRef .tc main_while1b_v42) = slb (fun h => (D h).W) (31 - r))
    (x43 : V (Proc.devRef .tc main_while1b_v43) = slb (fun h => (D h).Qg) (31 - r))
    (x44 : V (Proc.devRef .tc main_while1b_v44) = slb (fun h i => vnew (D h) (state (D h) i) i) (31 - r))
    (x45 : V (Proc.devRef .tc main_while1b_v45) = slb (fun h => (D h).Qk) (31 - r))
    (x46 : V (Proc.devRef .tc main_while1b_v46) = slb (fun h i _ => (D h).G i) (31 - r))
    (x47 : V (Proc.devRef .tc main_while1b_v47) = slb (fun h => (D h).Kd) (31 - r))
    (xS : V (Proc.devRef .tc main_v27_9) = slb (fun h => dstate (D h)) r) :
    after while1Ops0_9 V (Proc.devRef .tc main_while1b_v59) = slb (fun h => gradU (D h)) (31 - r)
    ∧ after while1Ops0_9 V (Proc.devRef .tc main_while1b_v69) = slb (fun h i => gradW (D h) (state (D h) i) i) (31 - r)
    ∧ after while1Ops0_9 V (Proc.devRef .tc main_while1b_v64) = slb (fun h i => gradQg (D h) (state (D h) i) i) (31 - r)
    ∧ after while1Ops0_9 V (Proc.devRef .tc main_while1b_v60) = slb (fun h i => gradQk (D h) (state (D h) i) i) (31 - r)
    ∧ after while1Ops0_9 V (Proc.devRef .tc main_while1b_v51) = slb (fun h i => gradKd (D h) (state (D h) i) i) (31 - r)
    ∧ after while1Ops0_9 V (Proc.devRef .tc main_while1b_v54) = slb (fun h i _ => gradG (D h) (state (D h) i) i) (31 - r)
    ∧ after while1Ops0_9 V (Proc.devRef .tc main_while1b_v68) = slb (fun h => dstate (D h)) (r + 1) := by
  have e : 31 - (31 - r) = r := by omega
  refine ⟨?_, ?_, ?_, ?_, ?_, ?_, ?_⟩
  · after_results
    rw [xS, x40, x45, x47]
    funext j
    simp only [pointwise, zero_add]
    exact (dvnew_comm _ _ _ _).trans (congrFun (congrFun (gradU_rev r hr).symm _) _)
  · after_results
    rw [xS, x40, x41, x45, x47]
    funext j
    simp only [pointwise, zero_add]
    refine Eq.trans (Finset.sum_congr rfl fun v _ => congrArg (- · * _) (dvnew_comm _ _ _ _)) ?_
    exact (hD _).gradW_eq r hr _ _
  · after_results
    rw [x40, x41]
    funext j
    simp only [pointwise, zero_add]
    rfl
  · after_results
    rw [x40, x44]
    funext j
    simp only [pointwise, zero_add]
    rfl
  · after_results
    rw [xS, x44]
    funext j
    simp only [pointwise, zero_add]
    exact gradKd_rev _ r hr _ _
  · after_results
    rw [xS, x41]
    funext j
    simp only [pointwise, zero_add]
    exact gradG_rev _ r hr _
  · after_results
    rw [xS, x40, x42, x43, x45, x46, x47]
    funext j
    simp only [pointwise, zero_add]
    refine Eq.trans (congrArg (_ + ·) (Finset.sum_congr rfl fun c _ => congrArg (- · * _) (dvnew_comm _ _ _ _))) ?_
    exact (hD _).dstate_succ r _ _

/-- The carried tensors of the next trip. -/
theorem while1_next : after while1Ops0_16 V (Proc.devRef .tc main_v27_9) = V (Proc.devRef .tc main_while1b_v68)
    ∧ after while1Ops0_16 V (Proc.devRef .tc main_v27_10) = V (Proc.devRef .tc main_while1b_v70)
    ∧ after while1Ops0_16 V (Proc.devRef .tc main_v27_11) = V (Proc.devRef .tc main_while1b_v71)
    ∧ after while1Ops0_16 V (Proc.devRef .tc main_v27_12) = V (Proc.devRef .tc main_while1b_v72)
    ∧ after while1Ops0_16 V (Proc.devRef .tc main_v27_13) = V (Proc.devRef .tc main_while1b_v73)
    ∧ after while1Ops0_16 V (Proc.devRef .tc main_v27_14) = V (Proc.devRef .tc main_while1b_v74)
    ∧ after while1Ops0_16 V (Proc.devRef .tc main_v27_15) = V (Proc.devRef .tc main_while1b_v75) := by
  refine ⟨?_, ?_, ?_, ?_, ?_, ?_, ?_⟩ <;> (after_results; rfl)

/-- The index word of trip `r`. -/
theorem index_word : ∀ r : Fin 32, 32#32 - Scf.iv 0#32 1#32 r.val - 1#32 = Scf.iv 0#32 1#32 (31 - r.val) := by decide +kernel

/-- The chunk that trip `r` takes. -/
theorem while1_index (r : ℕ) (hr : r < 32) (hc : V (Proc.devRef .tc main_v27_8) = fun _ => Scf.iv 0#32 1#32 r) :
    after while1Ops0 V (Proc.devRef .tc main_while1b_v39) = fun _ => Scf.iv 0#32 1#32 (31 - r) := by
  after_results
  rw [hc]
  funext j
  exact index_word ⟨r, hr⟩

/-- The arrays the backward loop reads, as stacks of the heads' chunks. -/
structure In1 : Prop where
  dout : V (Proc.devRef .tc main_v27_0) = stk (fun h => (D h).Do)
  st : V (Proc.devRef .tc main_v27_1) = stk (fun h => state (D h))
  w : V (Proc.devRef .tc main_v27_2) = stk (fun h => (D h).W)
  qg : V (Proc.devRef .tc main_v27_3) = stk (fun h => (D h).Qg)
  vn : V (Proc.devRef .tc main_v27_4) = stk (fun h i => vnew (D h) (state (D h) i) i)
  qk : V (Proc.devRef .tc main_v27_5) = stk (fun h => (D h).Qk)
  g : V (Proc.devRef .tc main_v27_6) = stk (fun h i _ => (D h).G i)
  kd : V (Proc.devRef .tc main_v27_7) = stk (fun h => (D h).Kd)

/-- What the backward loop carries before trip `r`. -/
structure Carry1 (r : ℕ) : Prop where
  ds : V (Proc.devRef .tc main_v27_9) = slb (fun h => dstate (D h)) r
  du : V (Proc.devRef .tc main_v27_10) = downTo r (stk (fun h => gradU (D h)))
  dw : V (Proc.devRef .tc main_v27_11) = downTo r (stk (fun h i => gradW (D h) (state (D h) i) i))
  dqg : V (Proc.devRef .tc main_v27_12) = downTo r (stk (fun h i => gradQg (D h) (state (D h) i) i))
  dqk : V (Proc.devRef .tc main_v27_13) = downTo r (stk (fun h i => gradQk (D h) (state (D h) i) i))
  dkd : V (Proc.devRef .tc main_v27_14) = downTo r (stk (fun h i => gradKd (D h) (state (D h) i) i))
  dg : V (Proc.devRef .tc main_v27_15) = downTo r (stk (fun h i _ => gradG (D h) (state (D h) i) i))

variable {V D}

/-- One trip of the backward loop. -/
theorem trip1 (hD : ∀ h, (D h).Real) (r : ℕ) (hr : r < 32) (hc : V (Proc.devRef .tc main_v27_8) = fun _ => Scf.iv 0#32 1#32 r) (hI : In1 V D) (hC : Carry1 V D r) :
    Carry1 (afterL body1 (after cond1 V)) D (r + 1) := by
  simp only [afterL_cons, afterL_nil]
  have hi : 31 - r < 32 := by omega
  have hx : after while1Ops0 (after cond1 V) (Proc.devRef .tc main_while1b_v39) = fun _ => Scf.iv 0#32 1#32 (31 - r) :=
    while1_index _ r hr (by rw [cond1_keep _ (by decide), hc])
  have xc : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v39) = fun _ => Scf.iv 0#32 1#32 (31 - r) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), hx]
  have x40 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v40) = slb (fun h => (D h).Do) (31 - r) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_val _ _ hi (by rw [hx]), while1Ops0_keep _ (by decide), cond1_keep _ (by decide), hI.dout, slab_stk _ hi]
  have x41 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v41) = slb (fun h => state (D h)) (31 - r) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_val _ _ hi (by rw [while1Ops0_1_keep _ (by decide), hx]), while1Ops0_1_keep _ (by decide), while1Ops0_keep _ (by decide), cond1_keep _ (by decide), hI.st, slab_stk _ hi]
  have x42 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v42) = slb (fun h => (D h).W) (31 - r) := by
    rw [while1Ops0_8_keep _ (by decide), while1Ops0_7_keep _ (by decide), while1Ops0_6_keep _ (by decide), while1Ops0_5_keep _ (by decide), while1Ops0_4_keep _ (by decide), while1Ops0_3_val _ _ hi (by rw [while1Ops0_2_keep _ (by decide), while1Ops0_1_keep _ (by decide), hx]), while1Ops0_2_keep _ (by decide), while1Ops0_1_keep _ (by decide), while1Ops0_keep _ (by decide), cond1_keep _ (by decide), hI.w, slab_stk _ hi]
  have x43 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v43) = slb (fun h => (D h).Qg) (31 - r) := by
    rw [while1Ops0_8_keep _ (by decide), while1Ops0_7_keep _ (by decide), while1Ops0_6_keep _ (by decide), while1Ops0_5_keep _ (by decide), while1Ops0_4_val _ _ hi (by rw [while1Ops0_3_keep _ (by decide), while1Ops0_2_keep _ (by decide), while1Ops0_1_keep _ (by decide), hx]), while1Ops0_3_keep _ (by decide), while1Ops0_2_keep _ (by decide), while1Ops0_1_keep _ (by decide), while1Ops0_keep _ (by decide), cond1_keep _ (by decide), hI.qg, slab_stk _ hi]
  have x44 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v44) = slb (fun h i => vnew (D h) (state (D h) i) i) (31 - r) := by
    rw [while1Ops0_8_keep _ (by decide), while1Ops0_7_keep _ (by decide), while1Ops0_6_keep _ (by decide), while1Ops0_5_val _ _ hi (by rw [while1Ops0_4_keep _ (by decide), while1Ops0_3_keep _ (by decide), while1Ops0_2_keep _ (by decide), while1Ops0_1_keep _ (by decide), hx]), while1Ops0_4_keep _ (by decide), while1Ops0_3_keep _ (by decide), while1Ops0_2_keep _ (by decide), while1Ops0_1_keep _ (by decide), while1Ops0_keep _ (by decide), cond1_keep _ (by decide), hI.vn, slab_stk _ hi]
  have x45 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v45) = slb (fun h => (D h).Qk) (31 - r) := by
    rw [while1Ops0_8_keep _ (by decide), while1Ops0_7_keep _ (by decide), while1Ops0_6_val _ _ hi (by rw [while1Ops0_5_keep _ (by decide), while1Ops0_4_keep _ (by decide), while1Ops0_3_keep _ (by decide), while1Ops0_2_keep _ (by decide), while1Ops0_1_keep _ (by decide), hx]), while1Ops0_5_keep _ (by decide), while1Ops0_4_keep _ (by decide), while1Ops0_3_keep _ (by decide), while1Ops0_2_keep _ (by decide), while1Ops0_1_keep _ (by decide), while1Ops0_keep _ (by decide), cond1_keep _ (by decide), hI.qk, slab_stk _ hi]
  have x46 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v46) = slb (fun h i _ => (D h).G i) (31 - r) := by
    rw [while1Ops0_8_keep _ (by decide), while1Ops0_7_val _ _ hi (by rw [while1Ops0_6_keep _ (by decide), while1Ops0_5_keep _ (by decide), while1Ops0_4_keep _ (by decide), while1Ops0_3_keep _ (by decide), while1Ops0_2_keep _ (by decide), while1Ops0_1_keep _ (by decide), hx]), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hI.g, slab_stk _ hi]
  have x47 : after while1Ops0_8 (after while1Ops0_7 (after while1Ops0_6 (after while1Ops0_5 (after while1Ops0_4 (after while1Ops0_3 (after while1Ops0_2 (after while1Ops0_1 (after while1Ops0 (after cond1 V))))))))) (Proc.devRef .tc main_while1b_v47) = slb (fun h => (D h).Kd) (31 - r) := by
    rw [while1Ops0_8_val _ _ hi (by rw [while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), hx]), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hI.kd, slab_stk _ hi]
  have xS : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_9) = slb (fun h => dstate (D h)) r := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.ds]
  have y10 : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_10) = downTo r (stk (fun h => gradU (D h))) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.du]
  have y11 : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_11) = downTo r (stk (fun h i => gradW (D h) (state (D h) i) i)) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.dw]
  have y12 : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_12) = downTo r (stk (fun h i => gradQg (D h) (state (D h) i) i)) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.dqg]
  have y13 : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_13) = downTo r (stk (fun h i => gradQk (D h) (state (D h) i) i)) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.dqk]
  have y14 : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_14) = downTo r (stk (fun h i => gradKd (D h) (state (D h) i) i)) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.dkd]
  have y15 : after while1Ops0_8 (after while1Ops0_7 (after while1Ops0_6 (after while1Ops0_5 (after while1Ops0_4 (after while1Ops0_3 (after while1Ops0_2 (after while1Ops0_1 (after while1Ops0 (after cond1 V))))))))) (Proc.devRef .tc main_v27_15) = downTo r (stk (fun h i _ => gradG (D h) (state (D h) i) i)) := by
    rw [while1Ops0_8_keep _ (by decide), while1Ops0_7_keep _ (by decide), while1Ops0_6_keep _ (by decide), while1Ops0_5_keep _ (by decide), while1Ops0_4_keep _ (by decide), while1Ops0_3_keep _ (by decide), while1Ops0_2_keep _ (by decide), while1Ops0_1_keep _ (by decide), while1Ops0_keep _ (by decide), cond1_keep _ (by decide), hC.dg]
  generalize after while1Ops0_8 (after while1Ops0_7 (after while1Ops0_6 (after while1Ops0_5 (after while1Ops0_4 (after while1Ops0_3 (after while1Ops0_2 (after while1Ops0_1 (after while1Ops0 (after cond1 V))))))))) = X at xc x40 x41 x42 x43 x44 x45 x46 x47 xS y10 y11 y12 y13 y14 y15 ⊢
  obtain ⟨z10, z11, z12, z13, z14, z15, zS⟩ := while1_step X D hD r hr x40 x41 x42 x43 x44 x45 x46 x47 xS
  obtain ⟨n9, n10, n11, n12, n13, n14, n15⟩ := while1_next (after while1Ops0_15 (after while1Ops0_14 (after while1Ops0_13 (after while1Ops0_12
    (after while1Ops0_11 (after while1Ops0_10 (after while1Ops0_9 X)))))))
  refine ⟨?_, ?_, ?_, ?_, ?_, ?_, ?_⟩
  · rw [n9, while1Ops0_15_keep _ (by decide), while1Ops0_14_keep _ (by decide), while1Ops0_13_keep _ (by decide), while1Ops0_12_keep _ (by decide), while1Ops0_11_keep _ (by decide), while1Ops0_10_keep _ (by decide), zS]
  · rw [n10, while1Ops0_15_keep _ (by decide), while1Ops0_14_keep _ (by decide), while1Ops0_13_keep _ (by decide), while1Ops0_12_keep _ (by decide), while1Ops0_11_keep _ (by decide), while1Ops0_10_val _ _ hi (by rw [while1Ops0_9_keep _ (by decide), xc]), while1Ops0_9_keep _ (by decide), y10, z10, put_downTo _ r hr]
  · rw [n11, while1Ops0_15_keep _ (by decide), while1Ops0_14_keep _ (by decide), while1Ops0_13_keep _ (by decide), while1Ops0_12_keep _ (by decide), while1Ops0_11_val _ _ hi (by rw [while1Ops0_10_keep _ (by decide), while1Ops0_9_keep _ (by decide), xc]), while1Ops0_10_keep _ (by decide), while1Ops0_9_keep _ (by decide), y11, while1Ops0_10_keep _ (by decide), z11, put_downTo _ r hr]
  · rw [n12, while1Ops0_15_keep _ (by decide), while1Ops0_14_keep _ (by decide), while1Ops0_13_keep _ (by decide), while1Ops0_12_val _ _ hi (by rw [while1Ops0_11_keep _ (by decide), while1Ops0_10_keep _ (by decide), while1Ops0_9_keep _ (by decide), xc]), while1Ops0_11_keep _ (by decide), while1Ops0_10_keep _ (by decide), while1Ops0_9_keep _ (by decide), y12, while1Ops0_11_keep _ (by decide), while1Ops0_10_keep _ (by decide), z12, put_downTo _ r hr]
  · rw [n13, while1Ops0_15_keep _ (by decide), while1Ops0_14_keep _ (by decide), while1Ops0_13_val _ _ hi (by rw [while1Ops0_12_keep _ (by decide), while1Ops0_11_keep _ (by decide), while1Ops0_10_keep _ (by decide), while1Ops0_9_keep _ (by decide), xc]), while1Ops0_12_keep _ (by decide), while1Ops0_11_keep _ (by decide), while1Ops0_10_keep _ (by decide), while1Ops0_9_keep _ (by decide), y13, while1Ops0_12_keep _ (by decide), while1Ops0_11_keep _ (by decide), while1Ops0_10_keep _ (by decide), z13, put_downTo _ r hr]
  · rw [n14, while1Ops0_15_keep _ (by decide), while1Ops0_14_val _ _ hi (by rw [while1Ops0_13_keep _ (by decide), while1Ops0_12_keep _ (by decide), while1Ops0_11_keep _ (by decide), while1Ops0_10_keep _ (by decide), while1Ops0_9_keep _ (by decide), xc]), while1Ops0_13_keep _ (by decide), while1Ops0_12_keep _ (by decide), while1Ops0_11_keep _ (by decide), while1Ops0_10_keep _ (by decide), while1Ops0_9_keep _ (by decide), y14, while1Ops0_13_keep _ (by decide), while1Ops0_12_keep _ (by decide), while1Ops0_11_keep _ (by decide), while1Ops0_10_keep _ (by decide), z14, put_downTo _ r hr]
  · rw [n15, while1Ops0_15_val _ _ hi (by rw [while1Ops0_14_keep _ (by decide), while1Ops0_13_keep _ (by decide), while1Ops0_12_keep _ (by decide), while1Ops0_11_keep _ (by decide), while1Ops0_10_keep _ (by decide), while1Ops0_9_keep _ (by decide), xc]), while1Ops0_14_keep _ (by decide), while1Ops0_13_keep _ (by decide), while1Ops0_12_keep _ (by decide), while1Ops0_11_keep _ (by decide), while1Ops0_10_keep _ (by decide), while1Ops0_9_keep _ (by decide), y15, while1Ops0_14_keep _ (by decide), while1Ops0_13_keep _ (by decide), while1Ops0_12_keep _ (by decide), while1Ops0_11_keep _ (by decide), while1Ops0_10_keep _ (by decide), z15, put_downTo _ r hr]

end Cert.ReferenceIdeal.Hand

end

end
-- ==== Proof.RefValue.lean ====
/- The reference's results: the arguments laid out by chunk and head, the two loops from end to end, and the gradients laid
   out as the arguments are. -/
module

public import proofs.«01_k».proof.Proof.RefLoop0
public import proofs.«01_k».proof.Proof.RefLoop1
public import proofs.«01_k».proof.Proof.Grads

@[expose] public section

set_option maxRecDepth 100000
set_option maxHeartbeats 2000000

noncomputable section

namespace Cert.ReferenceIdeal.Hand

open Cert.ReferenceIdeal Cert.ReferenceIdeal.Gen Cert.Gdn
open Idealize.ShloMosaic Idealize.ShloMosaic.TcCoe
open Idealize.ShloMosaic.StableHlo

/-! ## Layouts -/

/-- Rows and columns split by chunk and head, the heads put before the rows. -/
theorem split_stk (x : S2048x1024.Idx → EReal) :
    transpose S32x8x64x128 [0, 2, 1, 3] (shapeCast S32x64x8x128 x shapeCasts_S2048x1024_S32x64x8x128) transposes_S32x64x8x128_S32x8x64x128_0_2_1_3
      = stk fun h i c v => x (ix2 (row i c) (col 1024 h v)) := by
  funext y
  have h0 : (y 0).val < 32 := (y 0).isLt
  have h1 : (y 1).val < 8 := (y 1).isLt
  have h2 : (y 2).val < 64 := (y 2).isLt
  have h3 : (y 3).val < 128 := (y 3).isLt
  simp only [pointwise]
  refine congrArg x (idx2 _ _ _ ?_ ?_)
  · refine Eq.trans ?_ (row_val h0 _).symm
    show (y 0).val * 64 + (y 2).val = 64 * (y 0).val + (y 2).val
    omega
  · refine Eq.trans ?_ (col_val (C := 1024) (h := (y 1).val) (by omega) (y 3)).symm
    show (y 1).val * 128 + (y 3).val = 128 * (y 1).val + (y 3).val
    omega

/-- Chunks before heads. -/
theorem swap_stk (a b : ℕ) (x : (⟨4, ![8, 32, a, b]⟩ : Shape).Idx → EReal) (h : (⟨4, ![8, 32, a, b]⟩ : Shape).Transposes [1, 0, 2, 3] (Stk 8 a b)) :
    transpose (Stk 8 a b) [1, 0, 2, 3] x h = stk fun h i p q => x (ix4 (Fin.ofNat 8 h) (Fin.ofNat 32 i) p q) := by
  funext y
  exact congrArg x (idx4 _ _ _ _ _ (Nat.mod_eq_of_lt (y 1).isLt).symm (Nat.mod_eq_of_lt (y 0).isLt).symm rfl rfl)

/-- The gradients' chunks and heads merged back into rows and columns. -/
theorem merge_cols (f : ℕ → ℕ → Mat 64 128) :
    shapeCast S2048x1024 (transpose S32x64x8x128 [0, 2, 1, 3] (stk (a := 8) f : S32x8x64x128.Idx → EReal) transposes_S32x8x64x128_S32x64x8x128_0_2_1_3) shapeCasts_S32x64x8x128_S2048x1024
      = cols 1024 f := by
  funext y
  simp only [pointwise]
  rfl

/-- Heads before chunks. -/
theorem swap_tiles (a b : ℕ) (f : ℕ → ℕ → Mat a b) (h : (Stk 8 a b).Transposes [1, 0, 2, 3] ⟨4, ![8, 32, a, b]⟩) :
    transpose ⟨4, ![8, 32, a, b]⟩ [1, 0, 2, 3] (stk (a := 8) f) h = tiles 8 a b f := by
  funext y
  rfl

/-! ## The arguments -/

/-- The heads of the arrays that a valuation holds in the reference's arguments. -/
abbrev headsAt (V : Valuation τ sig (Elt Ideal)) : ℕ → Head :=
  headOf 1024 8 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))

variable (V : Valuation τ sig (Elt Ideal))

/-- The first stretch lays out the arguments. -/
theorem entry_args :
    after hostOps0 V (Proc.devRef .tc main_v14_0) = stk (fun h => (headsAt V h).U)
    ∧ after hostOps0 V (Proc.devRef .tc main_v3) = stk (fun h => (headsAt V h).W)
    ∧ after hostOps0 V (Proc.devRef .tc main_v5) = stk (fun h => (headsAt V h).Qg)
    ∧ after hostOps0 V (Proc.devRef .tc main_v6) = stk (fun h => (headsAt V h).Qk)
    ∧ after hostOps0 V (Proc.devRef .tc main_v8) = stk (fun h => (headsAt V h).Kd)
    ∧ after hostOps0 V (Proc.devRef .tc main_v9) = stk (fun h i _ => (headsAt V h).G i)
    ∧ after hostOps0 V (Proc.devRef .tc main_v14_1) = stk (fun h => (headsAt V h).W)
    ∧ after hostOps0 V (Proc.devRef .tc main_v14_4) = stk (fun h => (headsAt V h).Kd)
    ∧ after hostOps0 V (Proc.devRef .tc main_v14_5) = stk (fun h i _ => (headsAt V h).G i) := by
  have hG := swap_stk 1 128 (V (Proc.devRef .tc main_arg5)) transposes_S8x32x1x128_S32x8x1x128_1_0_2_3
  have e : ∀ q : Fin 1, q = 0 := fun q => Subsingleton.elim _ _
  have hG' : transpose (Stk 8 1 128) [1, 0, 2, 3] (V (Proc.devRef .tc main_arg5)) transposes_S8x32x1x128_S32x8x1x128_1_0_2_3 = stk (fun h i _ => (headsAt V h).G i) := by
    rw [hG]
    funext y
    exact congrArg (fun q => V (Proc.devRef .tc main_arg5) (ix4 (Fin.ofNat 8 (y 1).val) (Fin.ofNat 32 (y 0).val) q (y 3))) (e (y 2))
  refine ⟨?_, ?_, ?_, ?_, ?_, ?_, ?_, ?_, ?_⟩
  · after_results; exact split_stk _
  · after_results; exact split_stk _
  · after_results; exact split_stk _
  · after_results; exact swap_stk 64 64 _ _
  · after_results; exact split_stk _
  · after_results; exact hG'
  · after_results; exact split_stk _
  · after_results; exact split_stk _
  · after_results; exact hG'

/-- A broadcast zero is zero everywhere. -/
theorem zeros_at (S : Shape) (d : Fin S_.rank → Fin S.rank) (h : S_.BroadcastsInDim S d) (j : S.Idx) :
    broadcastInDim S d h (constant (F := Ideal) S_ .f32 0x00000000#32) j = (0 : EReal) := by
  simp only [pointwise]

/-- The forward loop starts from the zero state with nothing stacked. -/
theorem entry_carry0 (D : ℕ → Head) : Carry0 (after hostOps0 V) D 0 := by
  refine ⟨?_, ?_, ?_⟩
  · after_results
    funext j
    exact zeros_at _ _ _ _
  · rw [upTo_zero]
    after_results
    funext j
    exact zeros_at _ _ _ _
  · rw [upTo_zero]
    after_results
    funext j
    exact zeros_at _ _ _ _

/-- The backward loop starts from the zero gradient with nothing stacked. -/
theorem entry_carry1 (D : ℕ → Head) : Carry1 (after hostOps0_1 V) D 0 := by
  refine ⟨?_, ?_, ?_, ?_, ?_, ?_, ?_⟩
  · after_results
    funext j
    exact zeros_at _ _ _ _
  all_goals
    rw [downTo_zero]
    after_results
    funext j
    exact zeros_at _ _ _ _

/-- What the second stretch hands the backward loop. -/
theorem entry_in1 :
    after hostOps0_1 V (Proc.devRef .tc main_v27_0) = stk (fun h => (headsAt V h).Do)
    ∧ after hostOps0_1 V (Proc.devRef .tc main_v27_1) = V (Proc.devRef .tc main_v14_9)
    ∧ after hostOps0_1 V (Proc.devRef .tc main_v27_2) = V (Proc.devRef .tc main_v3)
    ∧ after hostOps0_1 V (Proc.devRef .tc main_v27_3) = V (Proc.devRef .tc main_v5)
    ∧ after hostOps0_1 V (Proc.devRef .tc main_v27_4) = V (Proc.devRef .tc main_v14_10)
    ∧ after hostOps0_1 V (Proc.devRef .tc main_v27_5) = V (Proc.devRef .tc main_v6)
    ∧ after hostOps0_1 V (Proc.devRef .tc main_v27_6) = V (Proc.devRef .tc main_v9)
    ∧ after hostOps0_1 V (Proc.devRef .tc main_v27_7) = V (Proc.devRef .tc main_v8) := by
  refine ⟨?_, ?_, ?_, ?_, ?_, ?_, ?_, ?_⟩
  · after_results; exact split_stk _
  all_goals (after_results; rfl)

/-! ## The run -/

variable (m : (ℓ : Loc nD τ sig) → Buf (Elt Ideal) ℓ)

/-- The heads of the arguments as launched. -/
abbrev headsOf (c : Dev nD) : ℕ → Head := headsAt (StableHlo.launchContents m c)

theorem in0 (c : Dev nD) (k : ℕ) : In0 (at0 m k c) (headsOf m c) := by
  obtain ⟨hu, -, -, -, -, -, hw, hk, hg⟩ := entry_args (StableHlo.launchContents m c)
  refine ⟨?_, ?_, ?_, ?_⟩
  · rw [at0_keep m c (by decide) (by decide) k]; exact hu
  · rw [at0_keep m c (by decide) (by decide) k]; exact hw
  · rw [at0_keep m c (by decide) (by decide) k]; exact hk
  · rw [at0_keep m c (by decide) (by decide) k]; exact hg

theorem carry0 (c : Dev nD) : ∀ k, k ≤ 32 → Carry0 (at0 m k c) (headsOf m c) k
  | 0, _ => entry_carry0 _ _
  | k + 1, h => trip0 k (by omega) (at0_ctr m c k) (in0 m c k) (carry0 c k (by omega))

theorem in1 (c : Dev nD) (k : ℕ) : In1 (at1 m k c) (headsOf m c) := by
  obtain ⟨-, hw, hqg, hqk, hkd, hg, -⟩ := entry_args (StableHlo.launchContents m c)
  obtain ⟨e0, e1, e2, e3, e4, e5, e6, e7⟩ := entry_in1 (after cond0 (at0 m 32 c))
  have hC := carry0 m c 32 (le_refl _)
  refine ⟨?_, ?_, ?_, ?_, ?_, ?_, ?_, ?_⟩
  · rw [at1_keep m c (by decide) (by decide) k, ent1, e0]
    refine congrArg (fun x : S2048x1024.Idx → EReal => stk (a := 8) fun h i c v => x (ix2 (row i c) (col 1024 h v))) ?_
    exact (cond0_keep _ (by decide)).trans ((at0_keep m c (b := main_arg6) (by decide) (by decide) 32).trans (hostOps0_keep _ (by decide)))
  · rw [at1_keep m c (by decide) (by decide) k, ent1, e1, cond0_keep _ (by decide), hC.ss, upTo_all]
  · rw [at1_keep m c (by decide) (by decide) k, ent1, e2, cond0_keep _ (by decide), at0_keep m c (by decide) (by decide)]; exact hw
  · rw [at1_keep m c (by decide) (by decide) k, ent1, e3, cond0_keep _ (by decide), at0_keep m c (by decide) (by decide)]; exact hqg
  · rw [at1_keep m c (by decide) (by decide) k, ent1, e4, cond0_keep _ (by decide), hC.vn, upTo_all]
  · rw [at1_keep m c (by decide) (by decide) k, ent1, e5, cond0_keep _ (by decide), at0_keep m c (by decide) (by decide)]; exact hqk
  · rw [at1_keep m c (by decide) (by decide) k, ent1, e6, cond0_keep _ (by decide), at0_keep m c (by decide) (by decide)]; exact hg
  · rw [at1_keep m c (by decide) (by decide) k, ent1, e7, cond0_keep _ (by decide), at0_keep m c (by decide) (by decide)]; exact hkd

theorem carry1 (c : Dev nD) (hD : ∀ h, (headsOf m c h).Real) : ∀ r, r ≤ 32 → Carry1 (at1 m r c) (headsOf m c) r
  | 0, _ => entry_carry1 _ _
  | r + 1, h => trip1 hD r (by omega) (at1_ctr m c r) (in1 m c r) (carry1 c hD r (by omega))

/-- The reference's six results, for arguments whose entries are real. -/
theorem results (c : Dev nD) (hD : ∀ h, (headsOf m c h).Real) :
    fin m c (Proc.devRef .tc main_v37) = allU (headsOf m c)
    ∧ fin m c (Proc.devRef .tc main_v35) = allW (headsOf m c)
    ∧ fin m c (Proc.devRef .tc main_v33) = allQg (headsOf m c)
    ∧ fin m c (Proc.devRef .tc main_v31) = allQk (headsOf m c)
    ∧ fin m c (Proc.devRef .tc main_v30) = allKd (headsOf m c)
    ∧ fin m c (Proc.devRef .tc main_v28) = allG (headsOf m c) := by
  obtain ⟨-, h10, h11, h12, h13, h14, h15⟩ := carry1 m c hD 32 (le_refl _)
  rw [downTo_all] at h10 h11 h12 h13 h14 h15
  unfold fin
  refine ⟨?_, ?_, ?_, ?_, ?_, ?_⟩
  · after_results
    rw [h10]
    exact merge_cols _
  · after_results
    rw [h11]
    exact merge_cols _
  · after_results
    rw [h12]
    exact merge_cols _
  · after_results
    rw [h13]
    exact swap_tiles 64 64 _ _
  · after_results
    rw [h14]
    exact merge_cols _
  · after_results
    rw [h15]
    exact swap_tiles 1 128 _ _

/-- The reference leaves the six gradients of its arguments, which it leaves unchanged. -/
theorem run_grads (ρ : Dev nD → PrngReg) (hD : ∀ c h, (headsOf m c h).Real) :
    θ_run (defs (F := Ideal)) (onTc (τ := τ) (main (F := Ideal))) ⟨m, fun _ => 0, ρ⟩ (fun r => ∀ c : Dev nD,
      r.2.mem ((c.tc : Thread nD τ).loc main_v37) = allU (headsOf m c)
      ∧ r.2.mem ((c.tc : Thread nD τ).loc main_v35) = allW (headsOf m c)
      ∧ r.2.mem ((c.tc : Thread nD τ).loc main_v33) = allQg (headsOf m c)
      ∧ r.2.mem ((c.tc : Thread nD τ).loc main_v31) = allQk (headsOf m c)
      ∧ r.2.mem ((c.tc : Thread nD τ).loc main_v30) = allKd (headsOf m c)
      ∧ r.2.mem ((c.tc : Thread nD τ).loc main_v28) = allG (headsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono ?_ (run_fold m ρ)
  intro r h c
  obtain ⟨h0, h1, h2, h3, h4, h5⟩ := results m c (hD c)
  exact ⟨(h c _ rfl).trans h0, (h c _ rfl).trans h1, (h c _ rfl).trans h2, (h c _ rfl).trans h3, (h c _ rfl).trans h4, (h c _ rfl).trans h5,
    (h c _ rfl).trans (fin_arg0 m c), (h c _ rfl).trans (fin_arg1 m c), (h c _ rfl).trans (fin_arg2 m c),
    (h c _ rfl).trans (fin_arg3 m c), (h c _ rfl).trans (fin_arg4 m c), (h c _ rfl).trans (fin_arg5 m c), (h c _ rfl).trans (fin_arg6 m c)⟩

end Cert.ReferenceIdeal.Hand

end

end
-- ==== Proof.lean ====
/-
  The proof of `Cert.Claim`: the two frames of the kernel, the reference's frame, the idealization's own claim, and the six
  gradients that both programs leave; and the same of the convolutional network's calls and of the forgetting attention.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefFrame
public import proofs.«01_k».proof.Proof.Pre
public import proofs.«01_k».proof.Proof.MmValue
public import proofs.«01_k».proof.Proof.ConvValue
public import proofs.«01_k».proof.Proof.FoxValue
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.KRun
public import proofs.«01_k».proof.Proof.RefValue

@[expose] public section

noncomputable section

namespace Cert.Proof

open Idealize.ShloMosaic Idealize.ShloMosaic.TcCoe Idealize.SL.Sem Cert.Gdn

/-- The kernel and the reference leave the same six gradients. -/
theorem algebraic : algebraic_KernelIdeal_ReferenceIdeal_pre_finite := by
  intro m ρ m' ρ' hpre hagree
  have heads : ∀ c, Cert.ReferenceIdeal.Hand.headsOf m' c = Cert.KernelIdeal.Hand.headsOf m c := by
    intro c
    obtain ⟨h0, h1, h2, h3, h4, h5, h6⟩ := hagree c
    show headOf 1024 8 _ _ _ _ _ _ _ = headOf 1024 8 _ _ _ _ _ _ _
    exact congr (congr (congr (congr (congr (congr (congrArg (headOf 1024 8) h0) h1) h2) h3) h4) h5) h6
  refine ⟨fun c => allU (Cert.KernelIdeal.Hand.headsOf m c), fun c => allW (Cert.KernelIdeal.Hand.headsOf m c),
    fun c => allQg (Cert.KernelIdeal.Hand.headsOf m c), fun c => allQk (Cert.KernelIdeal.Hand.headsOf m c),
    fun c => allKd (Cert.KernelIdeal.Hand.headsOf m c), fun c => allG (Cert.KernelIdeal.Hand.headsOf m c),
    Cert.KernelIdeal.Hand.run_grads m ρ, ?_⟩
  refine (θ_run (Cert.ReferenceIdeal.defs (F := Ideal)) _ _).mono ?_ (Cert.ReferenceIdeal.Hand.run_grads m' ρ' fun c h => by
    rw [heads c]
    exact Cert.Pre_finite.Hand.heads_real _ _ _ _ _ _ _ (hpre c) h)
  intro r h c
  have e := h c
  rw [heads c] at e
  exact e

/-- The certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Hand.facts, Cert.Pre_finite10.Hand.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Hand.frame m ρ, fun m ρ _ => Cert.ReferenceIdeal.Hand.frame m ρ,
    fun m ρ _ => Cert.Kernel2.Gen.frame m ρ, fun m ρ _ => Cert.Kernel2Ideal.Gen.frame m ρ, Cert.Reference2Ideal.Hand.frame,
    fun m ρ _ => Cert.Kernel3.Gen.frame m ρ, fun m ρ _ => Cert.Kernel3Ideal.Gen.frame m ρ, Cert.Reference3Ideal.Hand.frame,
    fun m ρ _ => Cert.Kernel4.Gen.frame m ρ, fun m ρ _ => Cert.Kernel4Ideal.Gen.frame m ρ, Cert.Reference4Ideal.Hand.frame,
    fun m ρ _ => Cert.Kernel5.Gen.frame m ρ, fun m ρ _ => Cert.Kernel5Ideal.Gen.frame m ρ, Cert.Reference5Ideal.Hand.frame,
    fun m ρ _ => Cert.Kernel6.Gen.frame m ρ, fun m ρ _ => Cert.Kernel6Ideal.Gen.frame m ρ, Cert.Reference6Ideal.Hand.frame,
    fun m ρ _ => Cert.Kernel7.Gen.frame m ρ, fun m ρ _ => Cert.Kernel7Ideal.Gen.frame m ρ, Cert.Reference7Ideal.Hand.frame,
    fun m ρ _ => Cert.Kernel8.Gen.frame m ρ, fun m ρ _ => Cert.Kernel8Ideal.Gen.frame m ρ, Cert.Reference8Ideal.Hand.frame,
    fun m ρ _ => Cert.Kernel9.Gen.frame m ρ, fun m ρ _ => Cert.Kernel9Ideal.Gen.frame m ρ, Cert.Reference9Ideal.Hand.frame,
    fun m ρ _ => Cert.Kernel10.Gen.frame m ρ, fun m ρ _ => Cert.Kernel10Ideal.Gen.frame m ρ, fun m ρ _ => Cert.Kernel10Ideal.Gen.frame m ρ,
    fun m ρ _ => Cert.Reference10Ideal.Hand.frame m ρ, fun m ρ _ => Cert.Reference10Ideal.Hand.frame m ρ,
    trivial, algebraic,
    trivial, Cert.Reference2Ideal.Hand.algebraic,
    trivial, Cert.Reference3Ideal.Hand.algebraic,
    trivial, Cert.Reference4Ideal.Hand.algebraic,
    trivial, Cert.Reference5Ideal.Hand.algebraic,
    trivial, Cert.Reference6Ideal.Hand.algebraic,
    trivial, Cert.Reference7Ideal.Hand.algebraic,
    trivial, Cert.Reference8Ideal.Hand.algebraic,
    trivial, Cert.Reference9Ideal.Hand.algebraic,
    trivial, Cert.Reference10Ideal.Hand.algebraic⟩

end Cert.Proof

end
